-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def preserves_Kernel_KernelIdeal : Prop :=
  IdealRules.named_const.Statement Cert.KernelIdeal.κ "gelu_k" .f32 0x3D372713#32 ((8943 / 200000 : ℝ) : EReal)
  ∧ IdealRules.named_const.Statement Cert.KernelIdeal.κ "gelu_3k" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v11) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v36) = v0 c
          ∧ r.2.mem ((c.tc : Thread Cert.Reference16Ideal.nD Cert.Reference16Ideal.τ).loc Cert.Reference16Ideal.main_v37) = v1 c
          ∧ r.2.mem ((c.tc : Thread Cert.Reference16Ideal.nD Cert.Reference16Ideal.τ).loc Cert.Reference16Ideal.main_v38) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  IdealRules.named_const.Statement Cert.Kernel17Ideal.κ "gelu_k" .f32 0x3D372713#32 ((8943 / 200000 : ℝ) : EReal)
  ∧ IdealRules.named_const.Statement Cert.Kernel17Ideal.κ "gelu_3k" .f32 0x3E095D4F#32 ((26829 / 200000 : ℝ) : EReal)

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)) (v2 : (c : Dev Cert.Kernel17Ideal.nD) → Buf (Elt Ideal) ((c.tc : Thread Cert.Kernel17Ideal.nD Cert.Kernel17Ideal.τ).loc Cert.Kernel17Ideal.main_v2_2)) (v3 : (c : Dev Cert.Kernel17Ideal.nD) → Buf (Elt Ideal) ((c.tc : Thread Cert.Kernel17Ideal.nD Cert.Kernel17Ideal.τ).loc Cert.Kernel17Ideal.main_v2_3)) (v4 : (c : Dev Cert.Kernel17Ideal.nD) → Buf (Elt Ideal) ((c.tc : Thread Cert.Kernel17Ideal.nD Cert.Kernel17Ideal.τ).loc Cert.Kernel17Ideal.main_v2_4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_v2_2) = v2 c
          ∧ r.2.mem ((c.tc : Thread Cert.Kernel17Ideal.nD Cert.Kernel17Ideal.τ).loc Cert.Kernel17Ideal.main_v2_3) = v3 c
          ∧ r.2.mem ((c.tc : Thread Cert.Kernel17Ideal.nD Cert.Kernel17Ideal.τ).loc Cert.Kernel17Ideal.main_v2_4) = v4 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v67) = v0 c
          ∧ r.2.mem ((c.tc : Thread Cert.Reference17Ideal.nD Cert.Reference17Ideal.τ).loc Cert.Reference17Ideal.main_v68) = v1 c
          ∧ r.2.mem ((c.tc : Thread Cert.Reference17Ideal.nD Cert.Reference17Ideal.τ).loc Cert.Reference17Ideal.main_v47) = v2 c
          ∧ r.2.mem ((c.tc : Thread Cert.Reference17Ideal.nD Cert.Reference17Ideal.τ).loc Cert.Reference17Ideal.main_v45) = v3 c
          ∧ r.2.mem ((c.tc : Thread Cert.Reference17Ideal.nD Cert.Reference17Ideal.τ).loc Cert.Reference17Ideal.main_v66) = v4 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v8_0)) (v1 : (c : Dev Cert.Kernel18Ideal.nD) → Buf (Elt Ideal) ((c.tc : Thread Cert.Kernel18Ideal.nD Cert.Kernel18Ideal.τ).loc Cert.Kernel18Ideal.main_v8_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v8_0) = v0 c
          ∧ r.2.mem ((c.tc : Thread Cert.Kernel18Ideal.nD Cert.Kernel18Ideal.τ).loc Cert.Kernel18Ideal.main_v8_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v21) = v0 c
          ∧ r.2.mem ((c.tc : Thread Cert.Reference18Ideal.nD Cert.Reference18Ideal.τ).loc Cert.Reference18Ideal.main_v22) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel15_Kernel15Ideal : Prop :=
  IdealRules.named_const.Statement Cert.Kernel15Ideal.κ "gelu_k" .f32 0x3D372713#32 ((8943 / 200000 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v29) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel19_Kernel19Ideal : Prop :=
  IdealRules.named_const.Statement Cert.Kernel19Ideal.κ "gelu_k" .f32 0x3D372713#32 ((8943 / 200000 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v41) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_v15) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel15 : Cert.Kernel15.Facts) (hKernel15Ideal : Cert.Kernel15Ideal.Facts) (hReference15Ideal : Cert.Reference15Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite17 : Cert.Pre_finite17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal (hKernel18Ideal := hKernel18Ideal) (hReference18Ideal := hReference18Ideal)
    ∧ preserves_Kernel15_Kernel15Ideal
    ∧ algebraic_Kernel15Ideal_Reference15Ideal (hKernel15Ideal := hKernel15Ideal) (hReference15Ideal := hReference15Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S4096x12288 : Shape := ⟨2, ![4096, 12288]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S_ : Shape := ⟨0, ![]⟩

class Facts : Prop where
  bitsLt_bf16_f32 : FTy.bits .bf16 < FTy.bits .f32
  bcast_S_S4096x12288 : S_.BroadcastsInDim S4096x12288 (![] : Fin 0 → Fin S4096x12288.rank)
  reducesTo_S4096x12288_S_d0_1 : S4096x12288.ReducesTo [0, 1] S_
  h_S_ : 0 < S_.numel
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .bf16) (main_v14 : IVec S_ 1) (main_v15 : FVec F S8x128 .f32) (main_v16 : FVec F S8x128 .f32) : IVec S_ 1 :=
  let main_v17 : IVec S8x128 1 := cmpf .olt main_v15 main_v16
  let main_c_5 : IVec S_ 1 := constantI S_ 1 1#1
  let main_v18 : IVec S_ 1 := (fun x v => Host.reduce IntOp.andi x v reducesTo_S8x128_S_d0_1 h_S_) main_v17 main_c_5
  let main_v19 : IVec S_ 1 := andi main_v14 main_v18
  let main_v20 : FVec F S4096x1024 .f32 := (extf .f32 · bitsLt_bf16_f32) main_arg4
  let main_v21 : FVec F S4096x1024 .f32 := Host.absf main_v20
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v19 main_v24
  main_v25

def fn {F : FTy → Type} [FloatOps F] (main_arg0 : FVec F S4096x12288 .bf16) (main_arg1 : FVec F S1024 .f32) (main_arg2 : FVec F S8x128x128 .f32) (main_arg3 : FVec F S8x128 .f32) (main_arg4 : FVec F S4096x1024 .bf16) : IVec S_ 1 :=
  let main_v0 : FVec F S4096x12288 .f32 := (extf .f32 · bitsLt_bf16_f32) main_arg0
  let main_v1 : FVec F S4096x12288 .f32 := Host.absf main_v0
  let main_cst : FVec F S_ .f32 := constant S_ .f32 0x7F800000#32
  let main_v2 : FVec F S4096x12288 .f32 := broadcastInDim S4096x12288 ![] bcast_S_S4096x12288 main_cst
  let main_v3 : IVec S4096x12288 1 := cmpf .olt main_v1 main_v2
  let main_c : IVec S_ 1 := constantI S_ 1 1#1
  let main_v4 : IVec S_ 1 := (fun x v => Host.reduce IntOp.andi x v reducesTo_S4096x12288_S_d0_1 h_S_) main_v3 main_c
  let main_v5 : FVec F S1024 .f32 := Host.absf main_arg1
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_c_1 : IVec S_ 1 := constantI S_ 1 1#1
  let main_v8 : IVec S_ 1 := (fun x v => Host.reduce IntOp.andi x v reducesTo_S1024_S_d0 h_S_) main_v7 main_c_1
  let main_v9 : IVec S_ 1 := andi main_v4 main_v8
  let main_v10 : FVec F S8x128x128 .f32 := Host.absf main_arg2
  let main_cst_2 : FVec F S_ .f32 := constant S_ .f32 0x7F800000#32
  let main_v11 : FVec F S8x128x128 .f32 := broadcastInDim S8x128x128 ![] bcast_S_S8x128x128 main_cst_2
  let main_v12 : IVec S8x128x128 1 := cmpf .olt main_v10 main_v11
  let main_c_3 : IVec S_ 1 := constantI S_ 1 1#1
  let main_v13 : IVec S_ 1 := (fun x v => Host.reduce IntOp.andi x v reducesTo_S8x128x128_S_d0_1_2 h_S_) main_v12 main_c_3
  let main_v14 : IVec S_ 1 := andi main_v9 main_v13
  let main_v15 : FVec F S8x128 .f32 := Host.absf main_arg3
  let main_cst_4 : FVec F S_ .f32 := constant S_ .f32 0x7F800000#32
  let main_v16 : FVec F S8x128 .f32 := broadcastInDim S8x128 ![] bcast_S_S8x128 main_cst_4
  fn_part1 (F := F) main_arg4 main_v14 main_v15 main_v16
-- ==== Pre_finite17.lean ====
abbrev S4096x1024 : Shape := ⟨2, ![4096, 1024]⟩
abbrev S4096x12288 : Shape := ⟨2, ![4096, 12288]⟩
abbrev S1x1024 : Shape := ⟨2, ![1, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x12288 : S_.BroadcastsInDim S4096x12288 (![] : Fin 0 → Fin S4096x12288.rank)
  reducesTo_S4096x12288_S_d0_1 : S4096x12288.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1x1024 .f32) (main_arg5 : FVec F S4096x1024 .bf16) (main_v14 : IVec S_ 1) (main_v15 : FVec F S1024x1024 .f32) (main_v16 : FVec F S1024x1024 .f32) : IVec S_ 1 :=
  let main_v17 : IVec S1024x1024 1 := cmpf .olt main_v15 main_v16
  let main_c_5 : IVec S_ 1 := constantI S_ 1 1#1
  let main_v18 : IVec S_ 1 := (fun x v => Host.reduce IntOp.andi x v reducesTo_S1024x1024_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S4096x1024 .f32 := (extf .f32 · bitsLt_bf16_f32) main_arg5
  let main_v26 : FVec F S4096x1024 .f32 := Host.absf main_v25
  let main_cst_8 : FVec F S_ .f32 := constant S_ .f32 0x7F800000#32
  let main_v27 : FVec F S4096x1024 .f32 := broadcastInDim S4096x1024 ![] bcast_S_S4096x1024 main_cst_8
  let main_v28 : IVec S4096x1024 1 := cmpf .olt main_v26 main_v27
  let main_c_9 : IVec S_ 1 := constantI S_ 1 1#1
  let main_v29 : IVec S_ 1 := (fun x v => Host.reduce IntOp.andi x v reducesTo_S4096x1024_S_d0_1 h_S_) main_v28 main_c_9
  let main_v30 : IVec S_ 1 := andi main_v24 main_v29
  main_v30

def fn {F : FTy → Type} [FloatOps F] (main_arg0 : FVec F S4096x1024 .f32) (main_arg1 : FVec F S4096x12288 .bf16) (main_arg2 : FVec F S1x1024 .f32) (main_arg3 : FVec F S1024x1024 .f32) (main_arg4 : FVec F S1x1024 .f32) (main_arg5 : FVec F S4096x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x12288 .f32 := (extf .f32 · bitsLt_bf16_f32) main_arg1
  let main_v5 : FVec F S4096x12288 .f32 := Host.absf main_v4
  let main_cst_0 : FVec F S_ .f32 := constant S_ .f32 0x7F800000#32
  let main_v6 : FVec F S4096x12288 .f32 := broadcastInDim S4096x12288 ![] bcast_S_S4096x12288 main_cst_0
  let main_v7 : IVec S4096x12288 1 := cmpf .olt main_v5 main_v6
  let main_c_1 : IVec S_ 1 := constantI S_ 1 1#1
  let main_v8 : IVec S_ 1 := (fun x v => Host.reduce IntOp.andi x v reducesTo_S4096x12288_S_d0_1 h_S_) main_v7 main_c_1
  let main_v9 : IVec S_ 1 := andi main_v3 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S1024x1024 .f32 := Host.absf main_arg3
  let main_cst_4 : FVec F S_ .f32 := constant S_ .f32 0x7F800000#32
  let main_v16 : FVec F S1024x1024 .f32 := broadcastInDim S1024x1024 ![] bcast_S_S1024x1024 main_cst_4
  fn_part1 (F := F) main_arg4 main_arg5 main_v14 main_v15 main_v16
-- ==== Kernel.lean ====
abbrev S4096x12288 : Shape := ⟨2, ![4096, 12288]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S1x1024 : Shape := ⟨2, ![1, 1024]⟩
abbrev S8x128x1 : Shape := ⟨3, ![8, 128, 1]⟩
abbrev S4096x2048 : Shape := ⟨2, ![4096, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 12
  | .vmem => 15
  | .smem => 0
  | _ => 0

abbrev bufTy : (tb : Table) → Fin (tcTables nBuf tb) → BufTy
  | .hbm, ⟨0, _⟩ => ⟨S4096x12288, .bf16⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S4096x1024, .bf16⟩
  | .hbm, ⟨5, _⟩ => ⟨S1x1024, .f32⟩
  | .hbm, ⟨6, _⟩ => ⟨S8x128x128, .f32⟩
  | .hbm, ⟨7, _⟩ => ⟨S8x128x1, .f32⟩
  | .hbm, ⟨8, _⟩ => ⟨S4096x2048, .bf16⟩
  | .hbm, ⟨9, _⟩ => ⟨S1x1024, .f32⟩
  | .hbm, ⟨10, _⟩ => ⟨S8x128x128, .f32⟩
  | .hbm, ⟨11, _⟩ => ⟨S8x128x1, .f32⟩
  | .local _ .vmem, ⟨0, _⟩ => ⟨S256x2048, .bf16⟩
  | .local _ .vmem, ⟨1, _⟩ => ⟨S256x2048, .bf16⟩
  | .local _ .vmem, ⟨2, _⟩ => ⟨S1x1024, .f32⟩
  | .local _ .vmem, ⟨3, _⟩ => ⟨S8x128x128, .f32⟩
  | .local _ .vmem, ⟨4, _⟩ => ⟨S8x128x128, .f32⟩
  | .local _ .vmem, ⟨5, _⟩ => ⟨S8x128x1, .f32⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S1x1024, .f32⟩
  | .local _ .vmem, ⟨11, _⟩ => ⟨S8x128x128, .f32⟩
  | .local _ .vmem, ⟨12, _⟩ => ⟨S8x128x1, .f32⟩
  | .local _ .vmem, ⟨13, _⟩ => ⟨S256x1024, .f32⟩
  | .local _ .vmem, ⟨14, _⟩ => ⟨S256x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== ReferenceIdeal.lean ====
abbrev S4096x12288 : Shape := ⟨2, ![4096, 12288]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S128x128 : Shape := ⟨2, ![128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S8x128x1 : Shape := ⟨3, ![8, 128, 1]⟩

abbrev nBuf : Space → Nat
  | .hbm => 141
  | .vmem => 0
  | .smem => 0
  | _ => 0

abbrev hbmTy0_0 (i : Nat) : BufTy := match i % 128 with
  | 0 => ⟨S4096x12288, .bf16⟩
  | 1 => ⟨S1024, .f32⟩
  | 2 => ⟨S8x128x128, .f32⟩
  | 3 => ⟨S8x128, .f32⟩
  | 4 => ⟨S4096x1024, .bf16⟩
  | 5 => ⟨S4096x2048, .bf16⟩
  | 6 => ⟨S4096x2048, .f32⟩
  | 7 => ⟨S_, .f32⟩
  | 8 => ⟨S_, .f32⟩
  | 9 => ⟨S_, .f32⟩
  | 10 => ⟨S4096x2048, .f32⟩
  | 11 => ⟨S4096x2048, .f32⟩
  | 12 => ⟨S4096x2048, .f32⟩
  | 13 => ⟨S_, .f32⟩
  | 14 => ⟨S4096x2048, .f32⟩
  | 15 => ⟨S4096x2048, .f32⟩
  | 16 => ⟨S4096x2048, .f32⟩
  | 17 => ⟨S4096x2048, .f32⟩
  | 18 => ⟨S4096x2048, .f32⟩
  | 19 => ⟨S_, .f32⟩
  | 20 => ⟨S4096x2048, .f32⟩
  | 21 => ⟨S4096x2048, .f32⟩
  | 22 => ⟨S4096x2048, .f32⟩
  | 23 => ⟨S_, .f32⟩
  | 24 => ⟨S4096x2048, .f32⟩
  | 25 => ⟨S4096x2048, .f32⟩
  | 26 => ⟨S_, .f32⟩
  | 27 => ⟨S4096x2048, .f32⟩
  | 28 => ⟨S4096x2048, .f32⟩
  | 29 => ⟨S4096x2048, .f32⟩
  | 30 => ⟨S_, .f32⟩
  | 31 => ⟨S4096x2048, .f32⟩
  | 32 => ⟨S4096x2048, .f32⟩
  | 33 => ⟨S_, .f32⟩
  | 34 => ⟨S4096x2048, .f32⟩
  | 35 => ⟨S4096x2048, .f32⟩
  | 36 => ⟨S4096x2048, .f32⟩
  | 37 => ⟨S4096x1024, .f32⟩
  | 38 => ⟨S4096x1024, .f32⟩
  | 39 => ⟨S4096x1024, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1024, .f32⟩
  | 55 => ⟨S4096x1024, .f32⟩
  | 56 => ⟨S1x1024, .f32⟩
  | 57 => ⟨S4096x1024, .f32⟩
  | 58 => ⟨S4096x1024, .f32⟩
  | 59 => ⟨S32x128x8x128, .f32⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S8x128x128, .i1⟩
  | 67 => ⟨S_, .f32⟩
  | 68 => ⟨S8x128x128, .f32⟩
  | 69 => ⟨S8x128x128, .f32⟩
  | 70 => ⟨S_, .f32⟩
  | 71 => ⟨S8x128x128, .f32⟩
  | 72 => ⟨S8x32x128x128, .f32⟩
  | 73 => ⟨S32x128x8x128, .f32⟩
  | 74 => ⟨S128x8, .f32⟩
  | 75 => ⟨S1x128x8x1, .f32⟩
  | 76 => ⟨S32x128x8x128, .f32⟩
  | 77 => ⟨S32x128x8x128, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S32x128x8x128, .f32⟩
  | 84 => ⟨S_, .f32⟩
  | 85 => ⟨S128x8, .f32⟩
  | 86 => ⟨S1x128x8x1, .f32⟩
  | 87 => ⟨S_, .f32⟩
  | 88 => ⟨S128x8, .f32⟩
  | 89 => ⟨S8x128, .f32⟩
  | 90 => ⟨S8x32x128x128, .f32⟩
  | 91 => ⟨S8x128x128, .f32⟩
  | 92 => ⟨S8x32x128x128, .f32⟩
  | 93 => ⟨S32x128x8x128, .f32⟩
  | 94 => ⟨S_, .f32⟩
  | 95 => ⟨S8x128x128, .f32⟩
  | 96 => ⟨S8x128x128, .f32⟩
  | 97 => ⟨S4096x1024, .f32⟩
  | 98 => ⟨S4096x1024, .f32⟩
  | 99 => ⟨S_, .f32⟩
  | 100 => ⟨S1024, .f32⟩
  | 101 => ⟨S1x1024, .f32⟩
  | 102 => ⟨S4096x1024, .f32⟩
  | 103 => ⟨S4096x1024, .f32⟩
  | 104 => ⟨S_, .f32⟩
  | 105 => ⟨S1024, .f32⟩
  | 106 => ⟨S4096x1024, .f32⟩
  | 107 => ⟨S_, .f32⟩
  | 108 => ⟨S4096, .f32⟩
  | 109 => ⟨S4096x1, .f32⟩
  | 110 => ⟨S4096x1024, .f32⟩
  | 111 => ⟨S4096x1024, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x2048, .f32⟩
  | 124 => ⟨S4096x2048, .f32⟩
  | 125 => ⟨S4096x2048, .f32⟩
  | 126 => ⟨S_, .f32⟩
  | 127 => ⟨S4096x2048, .f32⟩
  | _ => ⟨S4096x12288, .bf16⟩

abbrev hbmTy0_1 (i : Nat) : BufTy := match i % 128 with
  | 0 => ⟨S4096x2048, .f32⟩
  | 1 => ⟨S4096x2048, .f32⟩
  | 2 => ⟨S_, .f32⟩
  | 3 => ⟨S4096x2048, .f32⟩
  | 4 => ⟨S4096x2048, .f32⟩
  | 5 => ⟨S4096x2048, .f32⟩
  | 6 => ⟨S4096x2048, .f32⟩
  | 7 => ⟨S4096x2048, .f32⟩
  | 8 => ⟨S4096x2048, .f32⟩
  | 9 => ⟨S4096x2048, .f32⟩
  | 10 => ⟨S4096x2048, .bf16⟩
  | 11 => ⟨S1x1024, .f32⟩
  | 12 => ⟨S8x128x1, .f32⟩
  | _ => ⟨S4096x12288, .bf16⟩

abbrev hbmTy (i : Nat) : BufTy := match i / 128 with
  | 0 => hbmTy0_0 i
  | 1 => hbmTy0_1 i
  | _ => ⟨S4096x12288, .bf16⟩

abbrev bufTy : (tb : Table) → Fin (tcTables nBuf tb) → BufTy
  | .hbm, ⟨i, _⟩ => hbmTy i
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v43_1 : Ref sig .tc := ⟨.hbm, 66, rfl⟩
abbrev main_call0_cst : Ref sig .tc := ⟨.hbm, 67, rfl⟩
abbrev main_call0_v6 : Ref sig .tc := ⟨.hbm, 68, rfl⟩
abbrev main_v43_0 : Ref sig .tc := ⟨.hbm, 69, rfl⟩
abbrev main_call0_cst_0 : Ref sig .tc := ⟨.hbm, 70, rfl⟩
abbrev main_v43_2 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call1_cst : Ref sig .tc := ⟨.hbm, 94, rfl⟩
abbrev main_call1_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_cst_15 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_16 : Ref sig .tc := ⟨.hbm, 113, rfl⟩
abbrev main_v78 : Ref sig .tc := ⟨.hbm, 114, rfl⟩
abbrev main_v79 : Ref sig .tc := ⟨.hbm, 115, rfl⟩
abbrev main_cst_17 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩

abbrev nD : Nat := 1
abbrev τ : Topo := Topo.v7x

variable {F : FTy → Type} [FloatOps F]
-- ==== Kernel2.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S1x8192x2048 : Shape := ⟨3, ![1, 8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S8192x2048, .bf16⟩
  | .hbm, ⟨8, _⟩ => ⟨S1x8192x2048, .bf16⟩
  | .hbm, ⟨9, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x2048, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel3.lean ====
abbrev S4096x8192 : Shape := ⟨2, ![4096, 8192]⟩
abbrev S4096x2048 : Shape := ⟨2, ![4096, 2048]⟩
abbrev S_ : Shape := ⟨0, ![]⟩
abbrev S8192x4096 : Shape := ⟨2, ![8192, 4096]⟩
abbrev S8192x2048 : Shape := ⟨2, ![8192, 2048]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S4096x8192, .bf16⟩
  | .hbm, ⟨6, _⟩ => ⟨S8192x4096, .bf16⟩
  | .hbm, ⟨7, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S4096x2048 : Shape := ⟨2, ![4096, 2048]⟩
abbrev S4096x8192 : Shape := ⟨2, ![4096, 8192]⟩
abbrev S2048x4096 : Shape := ⟨2, ![2048, 4096]⟩
abbrev S8x2048x1024 : Shape := ⟨3, ![8, 2048, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x4096, .bf16⟩
  | .hbm, ⟨3, _⟩ => ⟨S8x2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8x1024, .f32⟩
  | .hbm, ⟨10, _⟩ => ⟨S8x2048x1024, .f32⟩
  | .hbm, ⟨11, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x8192 : Shape := ⟨2, ![4096, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1x8x2048x1024 : Shape := ⟨4, ![1, 8, 2048, 1024]⟩
abbrev S4096x2048 : Shape := ⟨2, ![4096, 2048]⟩
abbrev S1024x1024 : Shape := ⟨2, ![1024, 1024]⟩
abbrev S1x1x1024x1024 : Shape := ⟨4, ![1, 1, 1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S1x8x2048x1024, .bf16⟩
  | .hbm, ⟨6, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x8192, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x2048 : Shape := ⟨2, ![4096, 2048]⟩
abbrev S4096x12288 : Shape := ⟨2, ![4096, 12288]⟩
abbrev S2048x4096 : Shape := ⟨2, ![2048, 4096]⟩
abbrev S8x2048x1536 : Shape := ⟨3, ![8, 2048, 1536]⟩
abbrev S1024x1024 : Shape := ⟨2, ![1024, 1024]⟩
abbrev S1024x768 : Shape := ⟨2, ![1024, 768]⟩
abbrev S1x1024x768 : Shape := ⟨3, ![1, 1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x12288, .bf16⟩
  | .hbm, ⟨2, _⟩ => ⟨S2048x4096, .bf16⟩
  | .hbm, ⟨3, _⟩ => ⟨S8x2048x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S4096x12288 : Shape := ⟨2, ![4096, 12288]⟩
abbrev S_ : Shape := ⟨0, ![]⟩
abbrev S2048x12288 : Shape := ⟨2, ![2048, 12288]⟩
abbrev S12288x2048 : Shape := ⟨2, ![12288, 2048]⟩
abbrev S2048x8x1536 : Shape := ⟨3, ![2048, 8, 1536]⟩
abbrev S8x2048x1536 : Shape := ⟨3, ![8, 2048, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x12288, .bf16⟩
  | .hbm, ⟨2, _⟩ => ⟨S_, .f32⟩
  | .hbm, ⟨3, _⟩ => ⟨S2048x12288, .f32⟩
  | .hbm, ⟨4, _⟩ => ⟨S4096x2048, .f32⟩
  | .hbm, ⟨5, _⟩ => ⟨S4096x12288, .f32⟩
  | .hbm, ⟨6, _⟩ => ⟨S4096x12288, .f32⟩
  | .hbm, ⟨7, _⟩ => ⟨S12288x2048, .f32⟩
  | .hbm, ⟨8, _⟩ => ⟨S2048x12288, .f32⟩
  | .hbm, ⟨9, _⟩ => ⟨S2048x8x1536, .f32⟩
  | .hbm, ⟨10, _⟩ => ⟨S8x2048x1536, .f32⟩
  | .hbm, ⟨11, _⟩ => ⟨S8x2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x12288 : Shape := ⟨2, ![4096, 12288]⟩
abbrev S2048x12288 : Shape := ⟨2, ![2048, 12288]⟩
abbrev S2048x8x1536 : Shape := ⟨3, ![2048, 8, 1536]⟩
abbrev S8x2048x1536 : Shape := ⟨3, ![8, 2048, 1536]⟩
abbrev S1x8x2048x1536 : Shape := ⟨4, ![1, 8, 2048, 1536]⟩
abbrev S4096x2048 : Shape := ⟨2, ![4096, 2048]⟩
abbrev S1024x768 : Shape := ⟨2, ![1024, 768]⟩
abbrev S1x1x1024x768 : Shape := ⟨4, ![1, 1, 1024, 768]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S2048x12288, .f32⟩
  | .hbm, ⟨2, _⟩ => ⟨S2048x12288, .bf16⟩
  | .hbm, ⟨3, _⟩ => ⟨S2048x8x1536, .bf16⟩
  | .hbm, ⟨4, _⟩ => ⟨S8x2048x1536, .bf16⟩
  | .hbm, ⟨5, _⟩ => ⟨S1x8x2048x1536, .bf16⟩
  | .hbm, ⟨6, _⟩ => ⟨S4096x2048, .f32⟩
  | .local _ .vmem, ⟨0, _⟩ => ⟨S1024x768, .bf16⟩
  | .local _ .vmem, ⟨1, _⟩ => ⟨S1024x768, .bf16⟩
  | .local _ .vmem, ⟨2, _⟩ => ⟨S1x1x1024x768, .bf16⟩
  | .local _ .vmem, ⟨3, _⟩ => ⟨S1x1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x12288 : Shape := ⟨2, ![4096, 12288]⟩
abbrev S2048x12288 : Shape := ⟨2, ![2048, 12288]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S2048x12288, .f32⟩
  | .hbm, ⟨2, _⟩ => ⟨S_, .f32⟩
  | .hbm, ⟨3, _⟩ => ⟨S4096x2048, .f32⟩
  | .hbm, ⟨4, _⟩ => ⟨S4096x12288, .f32⟩
  | .hbm, ⟨5, _⟩ => ⟨S4096x12288, .f32⟩
  | .hbm, ⟨6, _⟩ => ⟨S4096x2048, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S1x8192x2048 : Shape := ⟨3, ![1, 8192, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 10
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S8192x2048, .bf16⟩
  | .hbm, ⟨8, _⟩ => ⟨S1x8192x2048, .bf16⟩
  | .hbm, ⟨9, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x2048, .f32⟩
  | .hbm, ⟨8, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel9.lean ====
abbrev S4096x2048 : Shape := ⟨2, ![4096, 2048]⟩
abbrev S2048x12288 : Shape := ⟨2, ![2048, 12288]⟩
abbrev S2048x8x1536 : Shape := ⟨3, ![2048, 8, 1536]⟩
abbrev S8x2048x1536 : Shape := ⟨3, ![8, 2048, 1536]⟩
abbrev S1x8x2048x1536 : Shape := ⟨4, ![1, 8, 2048, 1536]⟩
abbrev S4096x12288 : Shape := ⟨2, ![4096, 12288]⟩
abbrev S1024x2048 : Shape := ⟨2, ![1024, 2048]⟩
abbrev S1x1x2048x768 : Shape := ⟨4, ![1, 1, 2048, 768]⟩
abbrev S1024x768 : Shape := ⟨2, ![1024, 768]⟩
abbrev S2048x768 : Shape := ⟨2, ![2048, 768]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .f32⟩
  | .hbm, ⟨2, _⟩ => ⟨S2048x12288, .bf16⟩
  | .hbm, ⟨3, _⟩ => ⟨S2048x8x1536, .bf16⟩
  | .hbm, ⟨4, _⟩ => ⟨S8x2048x1536, .bf16⟩
  | .hbm, ⟨5, _⟩ => ⟨S1x8x2048x1536, .bf16⟩
  | .hbm, ⟨6, _⟩ => ⟨S4096x12288, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S1024x768, .bf16⟩
  | .local _ .vmem, ⟨5, _⟩ => ⟨S1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x12288 : Shape := ⟨2, ![2048, 12288]⟩
abbrev S4096x12288 : Shape := ⟨2, ![4096, 12288]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .f32⟩
  | .hbm, ⟨2, _⟩ => ⟨S4096x2048, .f32⟩
  | .hbm, ⟨3, _⟩ => ⟨S4096x12288, .f32⟩
  | .hbm, ⟨4, _⟩ => ⟨S4096x12288, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1x8x2048x1024 : Shape := ⟨4, ![1, 8, 2048, 1024]⟩
abbrev S4096x8192 : Shape := ⟨2, ![4096, 8192]⟩
abbrev S8192x4096 : Shape := ⟨2, ![8192, 4096]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S1x8x2048x1024, .bf16⟩
  | .hbm, ⟨6, _⟩ => ⟨S4096x8192, .bf16⟩
  | .hbm, ⟨7, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S8192x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S1x2048x2048, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x2048 : Shape := ⟨2, ![4096, 2048]⟩
abbrev S2048x4096 : Shape := ⟨2, ![2048, 4096]⟩
abbrev S2048x2048 : Shape := ⟨2, ![2048, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x4096, .bf16⟩
  | .hbm, ⟨3, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048x2048, .bf16⟩
  | .hbm, ⟨4, _⟩ => ⟨S1x2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S4096x1024 : Shape := ⟨2, ![4096, 1024]⟩
abbrev S4096x2048 : Shape := ⟨2, ![4096, 2048]⟩
abbrev S8x3x1024x256 : Shape := ⟨4, ![8, 3, 1024, 256]⟩
abbrev S1024x1024 : Shape := ⟨2, ![1024, 1024]⟩
abbrev S1024x256 : Shape := ⟨2, ![1024, 256]⟩
abbrev S1x1x1024x256 : Shape := ⟨4, ![1, 1, 1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x3x1024x256, .bf16⟩
  | .hbm, ⟨3, _⟩ => ⟨S8x3x1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1x1x1024x256, .bf16⟩
  | .local _ .vmem, ⟨5, _⟩ => ⟨S1x1x1024x256, .bf16⟩
  | .local _ .vmem, ⟨6, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S4096x2048 : Shape := ⟨2, ![4096, 2048]⟩
abbrev S8x3x1024x256 : Shape := ⟨4, ![8, 3, 1024, 256]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩
abbrev S8x1x1024x256 : Shape := ⟨4, ![8, 1, 1024, 256]⟩
abbrev S8x2x1024x256 : Shape := ⟨4, ![8, 2, 1024, 256]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x3x1024x256, .bf16⟩
  | .hbm, ⟨3, _⟩ => ⟨S_, .f32⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S1024x8x256, .f32⟩
  | .hbm, ⟨11, _⟩ => ⟨S8x1024x256, .f32⟩
  | .hbm, ⟨12, _⟩ => ⟨S8x1024x256, .bf16⟩
  | .hbm, ⟨13, _⟩ => ⟨S8x1x1024x256, .bf16⟩
  | .hbm, ⟨14, _⟩ => ⟨S8x2x1024x256, .bf16⟩
  | .hbm, ⟨15, _⟩ => ⟨S8x3x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel16.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference16Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel17.lean ====
abbrev S4096x1024 : Shape := ⟨2, ![4096, 1024]⟩
abbrev S4096x12288 : Shape := ⟨2, ![4096, 12288]⟩
abbrev S1x1024 : Shape := ⟨2, ![1, 1024]⟩
abbrev S1024x1024 : Shape := ⟨2, ![1024, 1024]⟩
abbrev S1x1024x1024 : Shape := ⟨3, ![1, 1024, 1024]⟩
abbrev S512x1024 : Shape := ⟨2, ![512, 1024]⟩
abbrev S1024 : Shape := ⟨1, ![1024]⟩

abbrev nBuf : Space → Nat
  | .hbm => 13
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x12288, .bf16⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S4096x1024, .bf16⟩
  | .hbm, ⟨6, _⟩ => ⟨S1024x1024, .bf16⟩
  | .hbm, ⟨7, _⟩ => ⟨S1x1024x1024, .bf16⟩
  | .hbm, ⟨8, _⟩ => ⟨S4096x1024, .bf16⟩
  | .hbm, ⟨9, _⟩ => ⟨S4096x1024, .bf16⟩
  | .hbm, ⟨10, _⟩ => ⟨S1024x1024, .f32⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024x1024, .bf16⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .f32⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel17Ideal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== Reference17Ideal.lean ====
abbrev S4096x1024 : Shape := ⟨2, ![4096, 1024]⟩
abbrev S4096x12288 : Shape := ⟨2, ![4096, 12288]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x12288, .bf16⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S4096x1024, .bf16⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S1024x1024, .f32⟩
  | .hbm, ⟨65, _⟩ => ⟨S1024x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S4096x1024, .bf16⟩
  | .hbm, ⟨89, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== Kernel18.lean ====
abbrev S4096x1024 : Shape := ⟨2, ![4096, 1024]⟩
abbrev S3x1024x2048 : Shape := ⟨3, ![3, 1024, 2048]⟩
abbrev S4096x12288 : Shape := ⟨2, ![4096, 12288]⟩
abbrev S3x2048 : Shape := ⟨2, ![3, 2048]⟩
abbrev S3x1024x8x256 : Shape := ⟨4, ![3, 1024, 8, 256]⟩
abbrev S3x8x1024x256 : Shape := ⟨4, ![3, 8, 1024, 256]⟩
abbrev S8x3x1024x256 : Shape := ⟨4, ![8, 3, 1024, 256]⟩
abbrev S1x8x3x1024x256 : Shape := ⟨5, ![1, 8, 3, 1024, 256]⟩
abbrev S3x8x256 : Shape := ⟨3, ![3, 8, 256]⟩
abbrev S8x3x256 : Shape := ⟨3, ![8, 3, 256]⟩
abbrev S1x8x3x256 : Shape := ⟨4, ![1, 8, 3, 256]⟩
abbrev S4096x2048 : Shape := ⟨2, ![4096, 2048]⟩
abbrev S2048x4096 : Shape := ⟨2, ![2048, 4096]⟩
abbrev S512x1024 : Shape := ⟨2, ![512, 1024]⟩
abbrev S1x1x3x1024x256 : Shape := ⟨5, ![1, 1, 3, 1024, 256]⟩
abbrev S512x256 : Shape := ⟨2, ![512, 256]⟩
abbrev S1x1x3x256 : Shape := ⟨4, ![1, 1, 3, 256]⟩
abbrev S256x512 : Shape := ⟨2, ![256, 512]⟩
abbrev S1x1x1x256 : Shape := ⟨4, ![1, 1, 1, 256]⟩
abbrev S1x256 : Shape := ⟨2, ![1, 256]⟩
abbrev S1x1x1x1024x256 : Shape := ⟨5, ![1, 1, 1, 1024, 256]⟩
abbrev S1024x256 : Shape := ⟨2, ![1024, 256]⟩

abbrev nBuf : Space → Nat
  | .hbm => 16
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S3x1024x2048, .f32⟩
  | .hbm, ⟨4, _⟩ => ⟨S4096x12288, .bf16⟩
  | .hbm, ⟨5, _⟩ => ⟨S3x2048, .f32⟩
  | .hbm, ⟨6, _⟩ => ⟨S3x1024x2048, .bf16⟩
  | .hbm, ⟨7, _⟩ => ⟨S3x1024x8x256, .bf16⟩
  | .hbm, ⟨8, _⟩ => ⟨S3x8x1024x256, .bf16⟩
  | .hbm, ⟨9, _⟩ => ⟨S8x3x1024x256, .bf16⟩
  | .hbm, ⟨10, _⟩ => ⟨S1x8x3x1024x256, .bf16⟩
  | .hbm, ⟨11, _⟩ => ⟨S3x8x256, .f32⟩
  | .hbm, ⟨12, _⟩ => ⟨S8x3x256, .f32⟩
  | .hbm, ⟨13, _⟩ => ⟨S1x8x3x256, .f32⟩
  | .hbm, ⟨14, _⟩ => ⟨S4096x2048, .bf16⟩
  | .hbm, ⟨15, _⟩ => ⟨S2048x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1x3x1024x256, .bf16⟩
  | .local _ .vmem, ⟨7, _⟩ => ⟨S1x1x3x1024x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S1x1x3x256, .f32⟩
  | .local _ .vmem, ⟨15, _⟩ => ⟨S1x1x3x256, .f32⟩
  | .local _ .vmem, ⟨16, _⟩ => ⟨S512x256, .bf16⟩
  | .local _ .vmem, ⟨17, _⟩ => ⟨S512x256, .bf16⟩
  | .local _ .vmem, ⟨18, _⟩ => ⟨S256x512, .bf16⟩
  | .local _ .vmem, ⟨19, _⟩ => ⟨S256x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x3x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference18Ideal.lean ====
abbrev S4096x1024 : Shape := ⟨2, ![4096, 1024]⟩
abbrev S3x1024x2048 : Shape := ⟨3, ![3, 1024, 2048]⟩
abbrev S4096x12288 : Shape := ⟨2, ![4096, 12288]⟩
abbrev S3x2048 : Shape := ⟨2, ![3, 2048]⟩
abbrev S4096x6144 : Shape := ⟨2, ![4096, 6144]⟩
abbrev S4096x3x2048 : Shape := ⟨3, ![4096, 3, 2048]⟩
abbrev S1x3x2048 : Shape := ⟨3, ![1, 3, 2048]⟩
abbrev S_ : Shape := ⟨0, ![]⟩
abbrev S4096x1x1024 : Shape := ⟨3, ![4096, 1, 1024]⟩
abbrev S4096x3x1024 : Shape := ⟨3, ![4096, 3, 1024]⟩
abbrev S3x2048x4096 : Shape := ⟨3, ![3, 2048, 4096]⟩
abbrev S4096x2048 : Shape := ⟨2, ![4096, 2048]⟩
abbrev S2048x4096 : Shape := ⟨2, ![2048, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S3x1024x2048, .f32⟩
  | .hbm, ⟨4, _⟩ => ⟨S4096x12288, .bf16⟩
  | .hbm, ⟨5, _⟩ => ⟨S3x2048, .f32⟩
  | .hbm, ⟨6, _⟩ => ⟨S4096x6144, .bf16⟩
  | .hbm, ⟨7, _⟩ => ⟨S4096x6144, .f32⟩
  | .hbm, ⟨8, _⟩ => ⟨S4096x3x2048, .f32⟩
  | .hbm, ⟨9, _⟩ => ⟨S1x3x2048, .f32⟩
  | .hbm, ⟨10, _⟩ => ⟨S4096x3x2048, .f32⟩
  | .hbm, ⟨11, _⟩ => ⟨S4096x3x2048, .f32⟩
  | .hbm, ⟨12, _⟩ => ⟨S4096x3x2048, .f32⟩
  | .hbm, ⟨13, _⟩ => ⟨S4096x3x2048, .f32⟩
  | .hbm, ⟨14, _⟩ => ⟨S_, .f32⟩
  | .hbm, ⟨15, _⟩ => ⟨S4096x3x2048, .f32⟩
  | .hbm, ⟨16, _⟩ => ⟨S4096x3x2048, .f32⟩
  | .hbm, ⟨17, _⟩ => ⟨S_, .f32⟩
  | .hbm, ⟨18, _⟩ => ⟨S4096x3x2048, .f32⟩
  | .hbm, ⟨19, _⟩ => ⟨S4096x3x2048, .f32⟩
  | .hbm, ⟨20, _⟩ => ⟨S4096x1x1024, .bf16⟩
  | .hbm, ⟨21, _⟩ => ⟨S4096x1x1024, .bf16⟩
  | .hbm, ⟨22, _⟩ => ⟨S4096x1x1024, .bf16⟩
  | .hbm, ⟨23, _⟩ => ⟨S4096x3x1024, .bf16⟩
  | .hbm, ⟨24, _⟩ => ⟨S4096x3x1024, .f32⟩
  | .hbm, ⟨25, _⟩ => ⟨S3x2048x4096, .f32⟩
  | .hbm, ⟨26, _⟩ => ⟨S4096x3x2048, .f32⟩
  | .hbm, ⟨27, _⟩ => ⟨S4096x3x2048, .f32⟩
  | .hbm, ⟨28, _⟩ => ⟨S_, .f32⟩
  | .hbm, ⟨29, _⟩ => ⟨S4096x2048, .f32⟩
  | .hbm, ⟨30, _⟩ => ⟨S4096x2048, .bf16⟩
  | .hbm, ⟨31, _⟩ => ⟨S2048x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel15.lean ====
abbrev S4096x1024 : Shape := ⟨2, ![4096, 1024]⟩
abbrev S4096x12288 : Shape := ⟨2, ![4096, 12288]⟩
abbrev S1x1024 : Shape := ⟨2, ![1, 1024]⟩
abbrev S1024x1024 : Shape := ⟨2, ![1024, 1024]⟩
abbrev S1x1024x1024 : Shape := ⟨3, ![1, 1024, 1024]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x12288, .bf16⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S1024x1024, .bf16⟩
  | .hbm, ⟨6, _⟩ => ⟨S1x1024x1024, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024x1024, .bf16⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel15Ideal.lean ====
variable {F : FTy → Type} [FloatOps F] [Named F]
def κ : String → Option EReal := fun
  | "gelu_k" => some ((8943 / 200000 : ℝ) : EReal)
  | _ => none
-- ==== Reference15Ideal.lean ====
abbrev S4096x1024 : Shape := ⟨2, ![4096, 1024]⟩
abbrev S4096x12288 : Shape := ⟨2, ![4096, 12288]⟩
abbrev S1x1024 : Shape := ⟨2, ![1, 1024]⟩
abbrev S1024x1024 : Shape := ⟨2, ![1024, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x12288, .bf16⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel19.lean ====
abbrev S4096x12288 : Shape := ⟨2, ![4096, 12288]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S8x128x1 : Shape := ⟨3, ![8, 128, 1]⟩
abbrev S4096x1024 : Shape := ⟨2, ![4096, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩

abbrev nBuf : Space → Nat
  | .hbm => 7
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S1x1024, .f32⟩
  | .hbm, ⟨5, _⟩ => ⟨S8x128x1, .f32⟩
  | .hbm, ⟨6, _⟩ => ⟨S4096x1024, .bf16⟩
  | .local _ .vmem, ⟨0, _⟩ => ⟨S256x2048, .bf16⟩
  | .local _ .vmem, ⟨1, _⟩ => ⟨S256x2048, .bf16⟩
  | .local _ .vmem, ⟨2, _⟩ => ⟨S1x1024, .f32⟩
  | .local _ .vmem, ⟨3, _⟩ => ⟨S8x128x128, .f32⟩
  | .local _ .vmem, ⟨4, _⟩ => ⟨S8x128x1, .f32⟩
  | .local _ .vmem, ⟨5, _⟩ => ⟨S256x1024, .bf16⟩
  | .local _ .vmem, ⟨6, _⟩ => ⟨S256x1024, .bf16⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel19Ideal.lean ====
variable {F : FTy → Type} [FloatOps F] [Named F]
def κ : String → Option EReal := fun
  | "gelu_k" => some ((8943 / 200000 : ℝ) : EReal)
  | _ => none
-- ==== Reference19Ideal.lean ====
abbrev S4096x12288 : Shape := ⟨2, ![4096, 12288]⟩
abbrev S1024 : Shape := ⟨1, ![1024]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩
abbrev S4096x1024 : Shape := ⟨2, ![4096, 1024]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S128x128 : Shape := ⟨2, ![128, 128]⟩
abbrev S8x32x128x128 : Shape := ⟨4, ![8, 32, 128, 128]⟩
abbrev S128x8 : Shape := ⟨2, ![128, 8]⟩
abbrev S1x128x8x1 : Shape := ⟨4, ![1, 128, 8, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S4096x2048, .bf16⟩
  | .hbm, ⟨5, _⟩ => ⟨S4096x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S32x128x8x128, .f32⟩
  | .hbm, ⟨44, _⟩ => ⟨S128x128, .i32⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S8x128x128, .i1⟩
  | .hbm, ⟨51, _⟩ => ⟨S_, .f32⟩
  | .hbm, ⟨52, _⟩ => ⟨S8x128x128, .f32⟩
  | .hbm, ⟨53, _⟩ => ⟨S8x128x128, .f32⟩
  | .hbm, ⟨54, _⟩ => ⟨S8x32x128x128, .f32⟩
  | .hbm, ⟨55, _⟩ => ⟨S32x128x8x128, .f32⟩
  | .hbm, ⟨56, _⟩ => ⟨S128x8, .f32⟩
  | .hbm, ⟨57, _⟩ => ⟨S1x128x8x1, .f32⟩
  | .hbm, ⟨58, _⟩ => ⟨S32x128x8x128, .f32⟩
  | .hbm, ⟨59, _⟩ => ⟨S32x128x8x128, .f32⟩
  | .hbm, ⟨60, _⟩ => ⟨S4096x1024, .f32⟩
  | .hbm, ⟨61, _⟩ => ⟨S4096x1024, .f32⟩
  | .hbm, ⟨62, _⟩ => ⟨S4096x1024, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_cst : Ref sig .tc := ⟨.hbm, 51, rfl⟩
abbrev main_call0_v6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Kernel20.lean ====
abbrev S4096x2048 : Shape := ⟨2, ![4096, 2048]⟩
abbrev S2048 : Shape := ⟨1, ![2048]⟩
abbrev S1x2048 : Shape := ⟨2, ![1, 2048]⟩
abbrev S2048x4096 : Shape := ⟨2, ![2048, 4096]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .hbm, ⟨4, _⟩ => ⟨S2048x4096, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference20Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x4096 : Shape := ⟨2, ![2048, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | .hbm, ⟨19, _⟩ => ⟨S2048x4096, .f32⟩
  | .hbm, ⟨20, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Prod.Frames.lean ====
module

public import proofs.«01_k».proof.Defs
public import proofs.«01_k».proof.Proof.Gen.Kernel2Ideal.Frame
public import proofs.«01_k».proof.Proof.Gen.Kernel3Ideal.Frame
public import proofs.«01_k».proof.Proof.Gen.Kernel4Ideal.Frame
public import proofs.«01_k».proof.Proof.Gen.Kernel5Ideal.Frame
public import proofs.«01_k».proof.Proof.Gen.Kernel6Ideal.Frame
public import proofs.«01_k».proof.Proof.Gen.Kernel7Ideal.Frame
public import proofs.«01_k».proof.Proof.Gen.Kernel8Ideal.Frame
public import proofs.«01_k».proof.Proof.Gen.Kernel9Ideal.Frame
public import proofs.«01_k».proof.Proof.Gen.Kernel10Ideal.Frame
public import proofs.«01_k».proof.Proof.Gen.Kernel11Ideal.Frame
public import proofs.«01_k».proof.Proof.Gen.Kernel12Ideal.Frame
public import proofs.«01_k».proof.Proof.Gen.Kernel13Ideal.Frame
public import proofs.«01_k».proof.Proof.Gen.Kernel14Ideal.Frame
public import proofs.«01_k».proof.Proof.Gen.Kernel16Ideal.Frame
public import proofs.«01_k».proof.Proof.Gen.Kernel18Ideal.Frame
public import proofs.«01_k».proof.Proof.Gen.Kernel20Ideal.Frame

/-!
# The frames of the programs as printed

Each further kernel's program has one text at both readings, so its run, which holds over any float values, is taken
from the one and read over bits for the other: the facts are the same propositions, and the labels' bodies are equal.
-/

@[expose] public section

noncomputable section

namespace Cert.Prod

open Idealize.ShloMosaic Idealize.SL.Sem

instance facts2 : Cert.Kernel2.Facts where
  toFacts₀ := { Cert.Kernel2Ideal.Gen.facts₀ with }

theorem defs2 : Cert.Kernel2.defs (F := Bits) = Cert.Kernel2Ideal.defs (F := Bits) :=
  congrArg (Pipeline.defs (Cert.Kernel2Ideal.pcfgs (F := Bits))) (show Cert.Kernel2.defs₀ (F := Bits) = Cert.Kernel2Ideal.defs₀ (F := Bits) from
    congrArg Defs.onTc (funext fun l => funext fun x => match l, x with | 0, (_, _) => rfl))

theorem frame2 : Cert.quiescent_Kernel2 := fun m ρ _ => by
  rw [defs2]
  exact Cert.Kernel2Ideal.Gen.frame (F := Bits) m ρ

instance facts3 : Cert.Kernel3.Facts where
  toFacts₀ := { Cert.Kernel3Ideal.Gen.facts₀ with }

theorem defs3 : Cert.Kernel3.defs (F := Bits) = Cert.Kernel3Ideal.defs (F := Bits) :=
  congrArg (Pipeline.defs (Cert.Kernel3Ideal.pcfgs (F := Bits))) (show Cert.Kernel3.defs₀ (F := Bits) = Cert.Kernel3Ideal.defs₀ (F := Bits) from
    congrArg Defs.onTc (funext fun l => funext fun x => match l, x with | 0, (_, _) => rfl))

theorem frame3 : Cert.quiescent_Kernel3 := fun m ρ _ => by
  rw [defs3]
  exact Cert.Kernel3Ideal.Gen.frame (F := Bits) m ρ

instance facts4 : Cert.Kernel4.Facts where
  toFacts₀ := { Cert.Kernel4Ideal.Gen.facts₀ with }

theorem defs4 : Cert.Kernel4.defs (F := Bits) = Cert.Kernel4Ideal.defs (F := Bits) :=
  congrArg (Pipeline.defs (Cert.Kernel4Ideal.pcfgs (F := Bits))) (show Cert.Kernel4.defs₀ (F := Bits) = Cert.Kernel4Ideal.defs₀ (F := Bits) from
    congrArg Defs.onTc (funext fun l => funext fun x => match l, x with | 0, (_, _) => rfl))

theorem frame4 : Cert.quiescent_Kernel4 := fun m ρ _ => by
  rw [defs4]
  exact Cert.Kernel4Ideal.Gen.frame (F := Bits) m ρ

instance facts5 : Cert.Kernel5.Facts where
  toFacts₀ := { Cert.Kernel5Ideal.Gen.facts₀ with }

theorem defs5 : Cert.Kernel5.defs (F := Bits) = Cert.Kernel5Ideal.defs (F := Bits) :=
  congrArg (Pipeline.defs (Cert.Kernel5Ideal.pcfgs (F := Bits))) (show Cert.Kernel5.defs₀ (F := Bits) = Cert.Kernel5Ideal.defs₀ (F := Bits) from
    congrArg Defs.onTc (funext fun l => funext fun x => match l, x with | 0, (_, _) => rfl))

theorem frame5 : Cert.quiescent_Kernel5 := fun m ρ _ => by
  rw [defs5]
  exact Cert.Kernel5Ideal.Gen.frame (F := Bits) m ρ

instance facts6 : Cert.Kernel6.Facts where
  toFacts₀ := { Cert.Kernel6Ideal.Gen.facts₀ with }

theorem defs6 : Cert.Kernel6.defs (F := Bits) = Cert.Kernel6Ideal.defs (F := Bits) :=
  congrArg (Pipeline.defs (Cert.Kernel6Ideal.pcfgs (F := Bits))) (show Cert.Kernel6.defs₀ (F := Bits) = Cert.Kernel6Ideal.defs₀ (F := Bits) from
    congrArg Defs.onTc (funext fun l => funext fun x => match l, x with | 0, (_, _) => rfl))

theorem frame6 : Cert.quiescent_Kernel6 := fun m ρ _ => by
  rw [defs6]
  exact Cert.Kernel6Ideal.Gen.frame (F := Bits) m ρ

instance facts7 : Cert.Kernel7.Facts where
  toFacts₀ := { Cert.Kernel7Ideal.Gen.facts₀ with }

theorem defs7 : Cert.Kernel7.defs (F := Bits) = Cert.Kernel7Ideal.defs (F := Bits) :=
  congrArg (Pipeline.defs (Cert.Kernel7Ideal.pcfgs (F := Bits))) (show Cert.Kernel7.defs₀ (F := Bits) = Cert.Kernel7Ideal.defs₀ (F := Bits) from
    congrArg Defs.onTc (funext fun l => funext fun x => match l, x with | 0, (_, _) => rfl))

theorem frame7 : Cert.quiescent_Kernel7 := fun m ρ _ => by
  rw [defs7]
  exact Cert.Kernel7Ideal.Gen.frame (F := Bits) m ρ

instance facts8 : Cert.Kernel8.Facts where
  toFacts₀ := { Cert.Kernel8Ideal.Gen.facts₀ with }

theorem defs8 : Cert.Kernel8.defs (F := Bits) = Cert.Kernel8Ideal.defs (F := Bits) :=
  congrArg (Pipeline.defs (Cert.Kernel8Ideal.pcfgs (F := Bits))) (show Cert.Kernel8.defs₀ (F := Bits) = Cert.Kernel8Ideal.defs₀ (F := Bits) from
    congrArg Defs.onTc (funext fun l => funext fun x => match l, x with | 0, (_, _) => rfl))

theorem frame8 : Cert.quiescent_Kernel8 := fun m ρ _ => by
  rw [defs8]
  exact Cert.Kernel8Ideal.Gen.frame (F := Bits) m ρ

instance facts9 : Cert.Kernel9.Facts where
  toFacts₀ := { Cert.Kernel9Ideal.Gen.facts₀ with }

theorem defs9 : Cert.Kernel9.defs (F := Bits) = Cert.Kernel9Ideal.defs (F := Bits) :=
  congrArg (Pipeline.defs (Cert.Kernel9Ideal.pcfgs (F := Bits))) (show Cert.Kernel9.defs₀ (F := Bits) = Cert.Kernel9Ideal.defs₀ (F := Bits) from
    congrArg Defs.onTc (funext fun l => funext fun x => match l, x with | 0, (_, _) => rfl))

theorem frame9 : Cert.quiescent_Kernel9 := fun m ρ _ => by
  rw [defs9]
  exact Cert.Kernel9Ideal.Gen.frame (F := Bits) m ρ

instance facts10 : Cert.Kernel10.Facts where
  toFacts₀ := { Cert.Kernel10Ideal.Gen.facts₀ with }

theorem defs10 : Cert.Kernel10.defs (F := Bits) = Cert.Kernel10Ideal.defs (F := Bits) :=
  congrArg (Pipeline.defs (Cert.Kernel10Ideal.pcfgs (F := Bits))) (show Cert.Kernel10.defs₀ (F := Bits) = Cert.Kernel10Ideal.defs₀ (F := Bits) from
    congrArg Defs.onTc (funext fun l => funext fun x => match l, x with | 0, (_, _) => rfl))

theorem frame10 : Cert.quiescent_Kernel10 := fun m ρ _ => by
  rw [defs10]
  exact Cert.Kernel10Ideal.Gen.frame (F := Bits) m ρ

instance facts11 : Cert.Kernel11.Facts where
  toFacts₀ := { Cert.Kernel11Ideal.Gen.facts₀ with }

theorem defs11 : Cert.Kernel11.defs (F := Bits) = Cert.Kernel11Ideal.defs (F := Bits) :=
  congrArg (Pipeline.defs (Cert.Kernel11Ideal.pcfgs (F := Bits))) (show Cert.Kernel11.defs₀ (F := Bits) = Cert.Kernel11Ideal.defs₀ (F := Bits) from
    congrArg Defs.onTc (funext fun l => funext fun x => match l, x with | 0, (_, _) => rfl))

theorem frame11 : Cert.quiescent_Kernel11 := fun m ρ _ => by
  rw [defs11]
  exact Cert.Kernel11Ideal.Gen.frame (F := Bits) m ρ

instance facts12 : Cert.Kernel12.Facts where
  toFacts₀ := { Cert.Kernel12Ideal.Gen.facts₀ with }

theorem defs12 : Cert.Kernel12.defs (F := Bits) = Cert.Kernel12Ideal.defs (F := Bits) :=
  congrArg (Pipeline.defs (Cert.Kernel12Ideal.pcfgs (F := Bits))) (show Cert.Kernel12.defs₀ (F := Bits) = Cert.Kernel12Ideal.defs₀ (F := Bits) from
    congrArg Defs.onTc (funext fun l => funext fun x => match l, x with | 0, (_, _) => rfl))

theorem frame12 : Cert.quiescent_Kernel12 := fun m ρ _ => by
  rw [defs12]
  exact Cert.Kernel12Ideal.Gen.frame (F := Bits) m ρ

instance facts13 : Cert.Kernel13.Facts where
  toFacts₀ := { Cert.Kernel13Ideal.Gen.facts₀ with }

theorem defs13 : Cert.Kernel13.defs (F := Bits) = Cert.Kernel13Ideal.defs (F := Bits) :=
  congrArg (Pipeline.defs (Cert.Kernel13Ideal.pcfgs (F := Bits))) (show Cert.Kernel13.defs₀ (F := Bits) = Cert.Kernel13Ideal.defs₀ (F := Bits) from
    congrArg Defs.onTc (funext fun l => funext fun x => match l, x with | 0, (_, _) => rfl))

theorem frame13 : Cert.quiescent_Kernel13 := fun m ρ _ => by
  rw [defs13]
  exact Cert.Kernel13Ideal.Gen.frame (F := Bits) m ρ

instance facts14 : Cert.Kernel14.Facts where
  toFacts₀ := { Cert.Kernel14Ideal.Gen.facts₀ with }

theorem defs14 : Cert.Kernel14.defs (F := Bits) = Cert.Kernel14Ideal.defs (F := Bits) :=
  congrArg (Pipeline.defs (Cert.Kernel14Ideal.pcfgs (F := Bits))) (show Cert.Kernel14.defs₀ (F := Bits) = Cert.Kernel14Ideal.defs₀ (F := Bits) from
    congrArg Defs.onTc (funext fun l => funext fun x => match l, x with | 0, (_, _) => rfl))

theorem frame14 : Cert.quiescent_Kernel14 := fun m ρ _ => by
  rw [defs14]
  exact Cert.Kernel14Ideal.Gen.frame (F := Bits) m ρ

instance facts16 : Cert.Kernel16.Facts where
  toFacts₀ := { Cert.Kernel16Ideal.Gen.facts₀ with }

theorem defs16 : Cert.Kernel16.defs (F := Bits) = Cert.Kernel16Ideal.defs (F := Bits) :=
  congrArg (Pipeline.defs (Cert.Kernel16Ideal.pcfgs (F := Bits))) (show Cert.Kernel16.defs₀ (F := Bits) = Cert.Kernel16Ideal.defs₀ (F := Bits) from
    congrArg Defs.onTc (funext fun l => funext fun x => match l, x with | 0, (_, _) => rfl))

theorem frame16 : Cert.quiescent_Kernel16 := fun m ρ _ => by
  rw [defs16]
  exact Cert.Kernel16Ideal.Gen.frame (F := Bits) m ρ

instance facts18 : Cert.Kernel18.Facts where
  toFacts₀ := { Cert.Kernel18Ideal.Gen.facts₀ with }

theorem defs18 : Cert.Kernel18.defs (F := Bits) = Cert.Kernel18Ideal.defs (F := Bits) :=
  congrArg (Pipeline.defs (Cert.Kernel18Ideal.pcfgs (F := Bits))) (show Cert.Kernel18.defs₀ (F := Bits) = Cert.Kernel18Ideal.defs₀ (F := Bits) from
    congrArg Defs.onTc (funext fun l => funext fun x => match l, x with | 0, (_, _) => rfl))

theorem frame18 : Cert.quiescent_Kernel18 := fun m ρ _ => by
  rw [defs18]
  exact Cert.Kernel18Ideal.Gen.frame (F := Bits) m ρ

instance facts20 : Cert.Kernel20.Facts where
  toFacts₀ := { Cert.Kernel20Ideal.Gen.facts₀ with }

theorem defs20 : Cert.Kernel20.defs (F := Bits) = Cert.Kernel20Ideal.defs (F := Bits) :=
  congrArg (Pipeline.defs (Cert.Kernel20Ideal.pcfgs (F := Bits))) (show Cert.Kernel20.defs₀ (F := Bits) = Cert.Kernel20Ideal.defs₀ (F := Bits) from
    congrArg Defs.onTc (funext fun l => funext fun x => match l, x with | 0, (_, _) => rfl))

theorem frame20 : Cert.quiescent_Kernel20 := fun m ρ _ => by
  rw [defs20]
  exact Cert.Kernel20Ideal.Gen.frame (F := Bits) m ρ

end Cert.Prod

end
-- ==== Proof.Gmlp.Pieces.lean ====
module

public import Idealize.ShloMosaic.Lib.Pipeline.Value
public import Idealize.ShloMosaic.Lib.Pointwise

/-!
# Lists of stores, read back

A block is written by a list of stores, newest first.  Two patterns occur in the gradient of the gating unit:
a scratch of 256 × 1024 filled by sixteen tiles of 128 × 128, and an accumulator of eight slabs in which every
slab is updated twice (once per chunk of 128 rows).  Both lists are named here by recursion, and what they
leave is read at an index.
-/

@[expose] public section

noncomputable section

namespace Cert.Gmlp

open Idealize.ShloMosaic

variable {Val : EltTy → Type} [∀ e, Nonempty (Val e)] {e : EltTy}

/-! ## Eight slabs, each updated twice -/

/-- Slab `g` of an array of eight slabs. -/
abbrev slab (K g : ℕ) (h : g < 8) : Rect ⟨3, ![8, 128, K]⟩ :=
  Rect.unit ![g, 0, 0] ![1, 128, K] (by
    intro a; match a with
    | ⟨0, _⟩ => exact h
    | ⟨1, _⟩ => exact le_refl 128
    | ⟨2, _⟩ => exact (Nat.zero_add K).le)

/-- One slab's contents. -/
abbrev SlabVal (Val : EltTy → Type) (K : ℕ) (e : EltTy) := (⟨3, ![1, 128, K]⟩ : Shape).Idx → Val e

/-- The stores of the first `n` slabs over `base`: slab `g` is read (`first`), updated by chunk 0, stored, read
again and updated by chunk 1. -/
def accL (K : ℕ) (base : List (View.Piece Val ⟨3, ![8, 128, K]⟩ e))
    (first : (g : ℕ) → g < 8 → List (View.Piece Val ⟨3, ![8, 128, K]⟩ e) → SlabVal Val K e)
    (again : (g : ℕ) → g < 8 → List (View.Piece Val ⟨3, ![8, 128, K]⟩ e) → SlabVal Val K e)
    (upd : (g : ℕ) → g < 8 → Fin 2 → SlabVal Val K e → SlabVal Val K e) :
    (n : ℕ) → n ≤ 8 → List (View.Piece Val ⟨3, ![8, 128, K]⟩ e)
  | 0, _ => base
  | n + 1, hn =>
    (⟨slab K n hn, upd n hn 1 (again n hn
        (⟨slab K n hn, upd n hn 0 (first n hn (accL K base first again upd n (Nat.le_of_succ_le hn)))⟩
          :: accL K base first again upd n (Nat.le_of_succ_le hn)))⟩)
      :: (⟨slab K n hn, upd n hn 0 (first n hn (accL K base first again upd n (Nat.le_of_succ_le hn)))⟩)
      :: accL K base first again upd n (Nat.le_of_succ_le hn)

/-- An index of another slab is not in slab `g`. -/
theorem not_mem_slab {K g : ℕ} {h : g < 8} {a : Fin 8} (b : Fin 128) (c : Fin K) (hne : a.val ≠ g) :
    ix3 a b c ∉ (slab K g h).set := by
  intro hm
  have := (Rect.mem_set_unit.mp hm) 0
  have h1 : g ≤ a.val := this.1
  have h2 : a.val < g + 1 := this.2
  omega

/-- A store of slab `g` leaves the other slabs as they were. -/
theorem canon_slab_skip {K g : ℕ} (h : g < 8) (w : SlabVal Val K e) (L : List (View.Piece Val ⟨3, ![8, 128, K]⟩ e))
    {a : Fin 8} (b : Fin 128) (c : Fin K) (hne : a.val ≠ g) :
    View.canon ((⟨slab K g h, w⟩ : View.Piece Val ⟨3, ![8, 128, K]⟩ e) :: L) (ix3 a b c) = View.canon L (ix3 a b c) :=
  View.canon_cons_of_not_mem (⟨slab K g h, w⟩ : View.Piece Val ⟨3, ![8, 128, K]⟩ e) L (not_mem_slab (h := h) b c hne)

/-- Slab `g` puts its local index `(0, b, c)` at `(g, b, c)`. -/
theorem slab_emb {K g : ℕ} (h : g < 8) (b : Fin 128) (c : Fin K) :
    (slab K g h).emb (ix3 (n0 := 1) 0 b c) = ix3 (⟨g, h⟩ : Fin 8) b c := by
  funext i
  match i with
  | ⟨0, _⟩ => exact Fin.ext (show g + 1 * 0 = g by omega)
  | ⟨1, _⟩ => exact Fin.ext (show 0 + 1 * b.val = b.val by omega)
  | ⟨2, _⟩ => exact Fin.ext (show 0 + 1 * c.val = c.val by omega)

/-- A read of the rectangle stored last reads the stored value. -/
theorem readCov_head {sig : RefSig} {κ : Kind} {sp : Space} {s : Shape} (v : View sig κ sp s e) (r : Rect s)
    (w : r.shape.Idx → Val e) (L : List (View.Piece Val s e)) :
    v.readCov (⟨r, w⟩ :: L) r.toLoadRect = w :=
  funext fun x => View.read_writes_cons_emb v v.junk r w L x

section
variable {K : ℕ} {base : List (View.Piece Val ⟨3, ![8, 128, K]⟩ e)}
  {first again : (g : ℕ) → g < 8 → List (View.Piece Val ⟨3, ![8, 128, K]⟩ e) → SlabVal Val K e}
  {upd : (g : ℕ) → g < 8 → Fin 2 → SlabVal Val K e → SlabVal Val K e}

/-- One step of the list. -/
theorem accL_succ (n : ℕ) (hn : n + 1 ≤ 8) :
    accL K base first again upd (n + 1) hn
      = (⟨slab K n hn, upd n hn 1 (again n hn
          (⟨slab K n hn, upd n hn 0 (first n hn (accL K base first again upd n (Nat.le_of_succ_le hn)))⟩
            :: accL K base first again upd n (Nat.le_of_succ_le hn)))⟩)
        :: (⟨slab K n hn, upd n hn 0 (first n hn (accL K base first again upd n (Nat.le_of_succ_le hn)))⟩)
        :: accL K base first again upd n (Nat.le_of_succ_le hn) := rfl

/-- A slab not reached yet holds what `base` left. -/
theorem canon_accL_ge (n : ℕ) (hn : n ≤ 8) (g : Fin 8) (b : Fin 128) (c : Fin K) (h : n ≤ g.val) :
    View.canon (accL K base first again upd n hn) (ix3 g b c) = View.canon base (ix3 g b c) := by
  induction n with
  | zero => rfl
  | succ n ih =>
    rw [accL_succ]
    generalize hL : accL K base first again upd n (Nat.le_of_succ_le hn) = L at *
    rw [canon_slab_skip _ _ _ _ _ (by omega), canon_slab_skip _ _ _ _ _ (by omega), ← hL]
    exact ih _ (by omega)

/-- A slab already reached holds its two updates of what `first` read. -/
theorem canon_accL_lt (hag : ∀ g hg w L, again g hg (⟨slab K g hg, w⟩ :: L) = w)
    (n : ℕ) (hn : n ≤ 8) (g : Fin 8) (b : Fin 128) (c : Fin K) (h : g.val < n) :
    View.canon (accL K base first again upd n hn) (ix3 g b c)
      = upd g.val g.isLt 1 (upd g.val g.isLt 0
          (first g.val g.isLt (accL K base first again upd g.val g.isLt.le))) (ix3 0 b c) := by
  induction n with
  | zero => exact absurd h (Nat.not_lt_zero _)
  | succ n ih =>
    rw [accL_succ]
    by_cases hg : g.val = n
    · obtain ⟨g, hg8⟩ := g
      obtain rfl : g = n := hg
      rw [hag, ← slab_emb hg8 b c, View.canon_cons_emb]
    · rw [canon_slab_skip _ _ _ _ _ hg, canon_slab_skip _ _ _ _ _ hg]
      exact ih _ (by omega)

end

/-! ## Sixteen tiles -/

/-- The tile of chunk `c` (rows) and group `g` (columns). -/
abbrev tile (c : Fin 2) (g : ℕ) (h : g < 8) : Rect ⟨2, ![256, 1024]⟩ :=
  Rect.unit ![128 * c.val, 128 * g] ![128, 128] (by
    intro a; match a with
    | ⟨0, _⟩ => exact (show 128 * c.val + 128 ≤ 256 by omega)
    | ⟨1, _⟩ => exact (show 128 * g + 128 ≤ 1024 by omega))

/-- The stores of the first `n` groups' tiles. -/
def scrL (f : (g : ℕ) → g < 8 → Fin 2 → (⟨2, ![128, 128]⟩ : Shape).Idx → Val e) :
    (n : ℕ) → n ≤ 8 → List (View.Piece Val ⟨2, ![256, 1024]⟩ e)
  | 0, _ => []
  | n + 1, hn => ⟨tile 1 n hn, f n hn 1⟩ :: ⟨tile 0 n hn, f n hn 0⟩ :: scrL f n (Nat.le_of_succ_le hn)

theorem tile_emb (c : Fin 2) {g : ℕ} (h : g < 8) (q k : Fin 128) :
    (tile c g h).emb (ix2 q k)
      = ix2 (⟨128 * c.val + q.val, by omega⟩ : Fin 256) (⟨128 * g + k.val, by omega⟩ : Fin 1024) := by
  funext i
  match i with
  | ⟨0, _⟩ => exact Fin.ext (show 128 * c.val + 1 * q.val = _ by simp)
  | ⟨1, _⟩ => exact Fin.ext (show 128 * g + 1 * k.val = _ by simp)

theorem tile_mem (c : Fin 2) {g : ℕ} (h : g < 8) (q k : Fin 128) :
    ix2 (⟨128 * c.val + q.val, by omega⟩ : Fin 256) (⟨128 * g + k.val, by omega⟩ : Fin 1024) ∈ (tile c g h).set := by
  rw [← tile_emb c h q k]
  exact Rect.mem_set_unit.mpr fun a => ⟨by simp [Rect.emb, Rect.unit], by
    have := ((ix2 q k : (⟨2, ![128, 128]⟩ : Shape).Idx) a).isLt
    match a with
    | ⟨0, _⟩ => exact (show 128 * c.val + 1 * q.val < 128 * c.val + 128 by omega)
    | ⟨1, _⟩ => exact (show 128 * g + 1 * k.val < 128 * g + 128 by omega)⟩

/-- Every row of the 256 is a row of one of the two chunks, every column one of a group. -/
theorem row_split (r : Fin 256) : ∃ (c : Fin 2) (q : Fin 128), r = ⟨128 * c.val + q.val, by omega⟩ :=
  ⟨⟨r.val / 128, by omega⟩, ⟨r.val % 128, by omega⟩, Fin.ext (by simp; omega)⟩

theorem col_split (j : Fin 1024) : ∃ (g : Fin 8) (k : Fin 128), j = ⟨128 * g.val + k.val, by omega⟩ :=
  ⟨⟨j.val / 128, by omega⟩, ⟨j.val % 128, by omega⟩, Fin.ext (by simp; omega)⟩

theorem scrL_cover (f : (g : ℕ) → g < 8 → Fin 2 → (⟨2, ![128, 128]⟩ : Shape).Idx → Val e) :
    ∀ (n : ℕ) (hn : n ≤ 8) (c : Fin 2) (g : ℕ) (hg : g < 8) (q k : Fin 128), g < n →
      ∃ p ∈ scrL f n hn, ix2 (⟨128 * c.val + q.val, by omega⟩ : Fin 256) (⟨128 * g + k.val, by omega⟩ : Fin 1024) ∈ p.1.set
  | 0, _, _, _, _, _, _, h => absurd h (Nat.not_lt_zero _)
  | n + 1, hn, c, g, hg, q, k, h => by
    by_cases hgn : g = n
    · subst hgn
      match c with
      | 0 => exact ⟨_, List.mem_cons_of_mem _ List.mem_cons_self, tile_mem 0 hg q k⟩
      | 1 => exact ⟨_, List.mem_cons_self, tile_mem 1 hg q k⟩
    · obtain ⟨p, hp, hm⟩ := scrL_cover f n (Nat.le_of_succ_le hn) c g hg q k (by omega)
      exact ⟨p, List.mem_cons_of_mem _ (List.mem_cons_of_mem _ hp), hm⟩

theorem scrL_agree (f : (g : ℕ) → g < 8 → Fin 2 → (⟨2, ![128, 128]⟩ : Shape).Idx → Val e)
    (G : (⟨2, ![256, 1024]⟩ : Shape).Idx → Val e)
    (hG : ∀ g hg c q k, f g hg c (ix2 q k)
      = G (ix2 (⟨128 * c.val + q.val, by omega⟩ : Fin 256) (⟨128 * g + k.val, by omega⟩ : Fin 1024))) :
    ∀ (n : ℕ) (hn : n ≤ 8), ∀ p ∈ scrL f n hn, ∀ x : p.1.shape.Idx, p.2 x = G (p.1.emb x)
  | 0, _, p, hp, _ => absurd hp List.not_mem_nil
  | n + 1, hn, p, hp, x => by
    rcases List.mem_cons.mp hp with rfl | hp
    · obtain ⟨q, k, rfl⟩ : ∃ (q k : Fin 128), x = ix2 q k := ⟨x 0, x 1, eq_ix2 x⟩
      exact (hG n hn 1 q k).trans (congrArg G (tile_emb 1 hn q k).symm)
    rcases List.mem_cons.mp hp with rfl | hp
    · obtain ⟨q, k, rfl⟩ : ∃ (q k : Fin 128), x = ix2 q k := ⟨x 0, x 1, eq_ix2 x⟩
      exact (hG n hn 0 q k).trans (congrArg G (tile_emb 0 hn q k).symm)
    exact scrL_agree f G hG n _ p hp x

/-- The scratch read whole after its sixteen tiles is the array of which every tile is the part at its place. -/
theorem readCov_scrL {sig : RefSig} {κ : Kind} {sp : Space} (v : View sig κ sp ⟨2, ![256, 1024]⟩ e)
    (f : (g : ℕ) → g < 8 → Fin 2 → (⟨2, ![128, 128]⟩ : Shape).Idx → Val e)
    (G : (⟨2, ![256, 1024]⟩ : Shape).Idx → Val e)
    (hG : ∀ g hg c q k, f g hg c (ix2 q k)
      = G (ix2 (⟨128 * c.val + q.val, by omega⟩ : Fin 256) (⟨128 * g + k.val, by omega⟩ : Fin 1024)))
    {off : Fin 2 → ℕ} (hoff : off = fun _ => 0) (inb : ∀ a, off a + (![256, 1024] : Fin 2 → ℕ) a ≤ (![256, 1024] : Fin 2 → ℕ) a) :
    v.readCov (scrL f 8 le_rfl) (Rect.unit (s := ⟨2, ![256, 1024]⟩) off ![256, 1024] inb).toLoadRect = G := by
  have hc : ∀ y : (⟨2, ![256, 1024]⟩ : Shape).Idx, ∃ p ∈ scrL f 8 le_rfl, y ∈ p.1.set := by
    intro y
    obtain ⟨a, b, rfl⟩ : ∃ (a : Fin 256) (b : Fin 1024), y = ix2 a b := ⟨y 0, y 1, eq_ix2 y⟩
    obtain ⟨c, q, rfl⟩ := row_split a
    obtain ⟨g, k, rfl⟩ := col_split b
    exact scrL_cover f 8 le_rfl c g.val g.isLt q k g.isLt
  rw [View.readCov_eq_canon_ld _ _ _ hc]
  have : View.canon (scrL f 8 le_rfl) = G :=
    funext fun y => View.canon_apply_of_pieces G _ (scrL_agree f G hG 8 le_rfl) y (hc y)
  rw [this]
  exact View.ld_unit_zero (S := ⟨2, ![256, 1024]⟩) hoff inb G

end Cert.Gmlp
-- ==== Proof.Prod.Base.lean ====
module

public import proofs.«01_k».proof.Proof.Gmlp.Pieces
public import Idealize.ShloMosaic.Lib.WholeRead
public import Idealize.ShloMosaic.Lib.VecWindow
public import Idealize.ShloMosaic.PureOps.Ideal.Laws

/-!
# Products accumulated block by block

What the products of the training step share: a block that is stored whole is read back as stored, an
accumulator that is reset at the start of a run of points holds a partial sum, and a sum taken in blocks is
the sum over the whole axis.
-/

@[expose] public section

noncomputable section

namespace Cert.Prod

open Idealize.ShloMosaic

section
variable {Val : EltTy → Type} [∀ e, Nonempty (Val e)] {e : EltTy}

/-- A block loaded whole from the buffer that holds it. -/
theorem load_full {sig : RefSig} {κ : Kind} {sp : Space} {S : Shape} {arg : Memref sig κ sp S e} (harg : arg.IsWhole)
    {off : Fin S.rank → ℕ} (h : off = fun _ => 0) (inb : ∀ a, off a + S.size a ≤ S.size a) (x : S.Idx → Val e) :
    arg.view.readAt Val (Rect.unit off S.size inb).toLoadRect (harg.unread x) = x :=
  funext fun y => (Memref.IsWhole.readAt_unread harg x (Rect.unit off S.size inb).toLoadRect y).trans
    (congrFun (View.ld_unit_zero (S := S) h inb x) y)

end

/-- An accumulator reset every `n` points holds the partial sum of its run. -/
theorem acc_sum {N n : ℕ} (s : (t : ℕ) → t < N → EReal) (P : ℕ → EReal)
    (h0 : ∀ t h, t % n = 0 → s t h = 0 + P t)
    (h1 : ∀ t h, t % n ≠ 0 → s t h = s (t - 1) (Nat.lt_of_le_of_lt (Nat.sub_le _ _) h) + P t) (q : ℕ) :
    ∀ (j : ℕ) (_ : j < n) (h : n * q + j < N), s (n * q + j) h = ∑ i ∈ Finset.range (j + 1), P (n * q + i)
  | 0, _, h => by
    rw [h0 _ h (by rw [Nat.add_zero, Nat.mul_mod_right]), zero_add, Finset.sum_range_one]
  | j + 1, hj, h => by
    rw [h1 _ h (by rw [Nat.mul_add_mod, Nat.mod_eq_of_lt hj]; omega), Finset.sum_range_succ]
    exact congrArg (· + _) (acc_sum s P h0 h1 q j (by omega) (by omega))

/-- The positive part. -/
def relu {S : Shape} (a : S.Idx → EReal) : S.Idx → EReal := fun i => max (a i) 0

theorem relu_host {S S0 : Shape} {dims : Fin S0.rank → Fin S.rank} (h : S0.BroadcastsInDim S dims) (a : FVec Ideal S .f32) :
    maximumf a (broadcastInDim S dims h (constant (F := Ideal) S0 .f32 0x00000000#32)) = relu a :=
  funext fun i => congrArg (max (a i)) Ideal.ofBits_zero_f32

/-- The index at `n` of an axis, wrapping round. -/
abbrev md (K : ℕ) [NeZero K] (n : ℕ) : Fin K := ⟨n % K, Nat.mod_lt _ (NeZero.pos K)⟩

/-- The sum over an axis cut into `n` blocks of `b`. -/
theorem sum_blocks {n b K : ℕ} [NeZero K] (hK : K = n * b) (g : Fin K → EReal) :
    ∑ j ∈ Finset.range n, ∑ k : Fin b, g (md K (b * j + k.val)) = ∑ k, g k := by
  rw [Finset.sum_range fun j => ∑ k : Fin b, g (md K (b * j + k.val)),
    ← Fintype.sum_prod_type' fun (j : Fin n) (k : Fin b) => g (md K (b * j.val + k.val))]
  refine Fintype.sum_equiv (finProdFinEquiv.trans (finCongr hK.symm)) _ _ fun x => congrArg g (Fin.ext ?_)
  have h := (finProdFinEquiv x).isLt
  show (b * x.1.val + x.2.val) % K = (finProdFinEquiv x).val
  rw [show b * x.1.val + x.2.val = (finProdFinEquiv x).val by rw [finProdFinEquiv_apply_val]; ring]
  exact Nat.mod_eq_of_lt (hK ▸ h)

end Cert.Prod

end
-- ==== Proof.Prod.Gate.lean ====
module

public import proofs.«01_k».proof.Proof.Prod.Base

/-!
# The logistic function

The kernel's form takes `exp(-|x|)`, so that the exponential never grows; the plain form is `1 / (1 + exp(-x))`.
-/

@[expose] public section

noncomputable section

namespace Cert.Prod

open Idealize.ShloMosaic

/-- The plain form. -/
def sgm (x : EReal) : EReal := Ideal.div 1 (1 + Ideal.exp (-x))

/-- The kernel's form. -/
def gate (x : EReal) : EReal := Ideal.div (if 0 ≤ x then 1 else Ideal.exp (0 - max x (-x))) (1 + Ideal.exp (0 - max x (-x)))

theorem gate_eq (x : EReal) : gate x = sgm x := by
  unfold gate sgm
  induction x with
  | bot =>
    rw [if_neg (by simp)]
    show Ideal.div (Ideal.exp (0 - max ⊥ (-⊥))) (1 + Ideal.exp (0 - max ⊥ (-⊥))) = Ideal.div 1 (1 + Ideal.exp (-⊥))
    rw [EReal.neg_bot, max_eq_right bot_le, zero_sub, EReal.neg_top]
    show Ideal.div 0 (1 + 0) = Ideal.div 1 (1 + ⊤)
    rw [add_zero, show (1 : EReal) + ⊤ = ⊤ from EReal.coe_add_top 1, Ideal.div, Ideal.div, if_neg one_ne_zero, if_neg EReal.top_ne_zero, zero_mul,
      EReal.inv_top, mul_zero]
  | top =>
    rw [if_pos le_top, EReal.neg_top, max_eq_left bot_le, zero_sub, EReal.neg_top]
  | coe r =>
    have hmax : max (r : EReal) (-(r : EReal)) = ((|r| : ℝ) : EReal) := by
      rw [← EReal.coe_neg]
      exact (EReal.coe_strictMono.monotone.map_max (a := r) (b := -r)).symm
    have hc : ∀ s : ℝ, (1 : EReal) + Ideal.exp (s : EReal) = ((1 + Real.exp s : ℝ) : EReal) := fun s => by
      rw [EReal.coe_add]; rfl
    have hp : ∀ s : ℝ, (1 + Real.exp s : ℝ) ≠ 0 := fun s => by have := Real.exp_pos s; positivity
    rw [hmax, zero_sub, ← EReal.coe_neg, ← EReal.coe_neg, hc, hc, Ideal.div_coe (hp _), Ideal.div_coe (hp _)]
    by_cases h : 0 ≤ r
    · rw [if_pos (by exact_mod_cast h), abs_of_nonneg h]
    · rw [if_neg (by exact_mod_cast h), abs_of_neg (not_le.1 h), neg_neg]
      show ((Real.exp r : ℝ) : EReal) * _ = _
      rw [← EReal.coe_mul, one_mul, EReal.coe_eq_coe_iff, Real.exp_neg]
      have := Real.exp_pos r
      field_simp
      ring

/-- The logistic of a real number is a real number. -/
theorem sgm_real (r : ℝ) : ∃ s : ℝ, sgm (r : EReal) = (s : EReal) := by
  have hp : (1 + Real.exp (-r) : ℝ) ≠ 0 := by have := Real.exp_pos (-r); positivity
  refine ⟨1 * (1 / (1 + Real.exp (-r))), ?_⟩
  unfold sgm
  rw [← EReal.coe_neg, show (1 : EReal) + Ideal.exp ((-r : ℝ) : EReal) = ((1 + Real.exp (-r) : ℝ) : EReal) by rw [EReal.coe_add]; rfl, Ideal.div_coe hp,
    EReal.coe_mul]
  rfl

end Cert.Prod

end
-- ==== Proof.Gmlp.Block.lean ====
module

public import proofs.«01_k».proof.Proof.Gen.KernelIdeal.Frame
public import proofs.«01_k».proof.Proof.Gmlp.Pieces

/-!
# What one grid point stores

One grid point handles 256 rows: two chunks of 128.  The tiles it stores in its two scratches and the updates it
makes to the eight slabs of the weights' and the biases' gradients are named here by chunk and group, and the lists
of stores that the run found are these lists.
-/

@[expose] public section

set_option maxRecDepth 16384

noncomputable section

namespace Cert.Gmlp

open Cert.KernelIdeal Cert.KernelIdeal.Gen Idealize.ShloMosaic Idealize.ShloMosaic.TcCoe

/-- The part of a 256 × 1024 block at chunk `c` and group `g` lies inside it. -/
theorem tileSlices (c : Fin 2) (g : ℕ) (h : g < 8) : S256x1024.Slices ![128 * c.val, 128 * g] S128x128 :=
  ⟨rfl, fun a => match a with
    | ⟨0, _⟩ => (show 128 * c.val + 128 ≤ 256 by omega)
    | ⟨1, _⟩ => (show 128 * g + 128 ≤ 1024 by omega)⟩

/-- The part of a 256 × 1024 block at chunk `c` and group `g`. -/
def cut (A : FVec Ideal S256x1024 .f32) (c : Fin 2) (g : ℕ) (h : g < 8) : FVec Ideal S128x128 .f32 :=
  extractStridedSlice S128x128 ![128 * c.val, 128 * g] A (tileSlices c g h)

section Tiles
variable (X0 : Vec Ideal S256x2048 .bf16) (X1 : Vec Ideal S1x1024 .f32) (X5 : Vec Ideal S256x1024 .bf16)

/-- The normalised second half of the block, with its gain. -/
def vnV : FVec Ideal S256x1024 .f32 := k0_pay15 (k0_pay10 X0) (k0_pay11 X0) X1

/-- The product of the cotangent with the first half, one tile. -/
def dmV (c : Fin 2) (g : ℕ) (h : g < 8) : FVec Ideal S128x128 .f32 :=
  mulf (cut (k0_pay16 X5) c g h) (cut (k0_pay9 X0) c g h)

/-- One tile of the normalised second half, as the matrix unit takes it. -/
def vnT (c : Fin 2) (g : ℕ) (h : g < 8) : FVec Ideal S128x128 .bf16 := truncf .bf16 (cut (vnV X0 X1) c g h) bitsLt_bf16_f32

/-- One tile of `dmV`, as the matrix unit takes it. -/
def dmT (c : Fin 2) (g : ℕ) (h : g < 8) : FVec Ideal S128x128 .bf16 := truncf .bf16 (dmV X0 X5 c g h) bitsLt_bf16_f32

/-- One tile of the first half's cotangent. -/
def duTile (wg : Vec Ideal S1x128x128 .f32) (bg : Vec Ideal S1x128x1 .f32) (g : ℕ) (h : g < 8) (c : Fin 2) : FVec Ideal S128x128 .f32 :=
  shapeCast S128x128 (mulf (cut (k0_pay16 X5) c g h)
    (addf (matmul dot_S128x128_S128x128_S128x128_1_0_0_1_n_n none (k0_pay18 wg) (vnT X0 X1 c g h) (constant S128x128 .f32 0x00000000#32))
      (broadcastTo S128x128 (shapeCast S128x1 bg shapeCasts_S1x128x1_S128x1) broadcasts_S128x1_S128x128))) shapeCasts_S128x128_S128x128

/-- One tile of the normalised half's cotangent. -/
def dvnTile (wtg : Vec Ideal S1x128x128 .f32) (g : ℕ) (h : g < 8) (c : Fin 2) : FVec Ideal S128x128 .f32 :=
  k0_pay26 (k0_pay19 wtg) (dmT X0 X5 c g h)

/-- The update of one slab of the weights' gradient by one chunk. -/
def dwUpd (g : ℕ) (h : g < 8) (c : Fin 2) (prev : Vec Ideal S1x128x128 .f32) : Vec Ideal S1x128x128 .f32 :=
  k0_pay27 k0_pay17 (vnT X0 X1 c g h) (dmT X0 X5 c g h) prev

/-- The update of one slab of the biases' gradient by one chunk. -/
def dbUpd (g : ℕ) (h : g < 8) (c : Fin 2) (prev : Vec Ideal S1x128x1 .f32) : Vec Ideal S1x128x1 .f32 :=
  k0_pay28 (dmV X0 X5 c g h) prev

end Tiles

section Runs
variable (c : Dev nD) (i : grid0.Coords) (arg1 : Memref sig .tc .vmem S256x2048 .bf16) (harg1 : arg1.IsWhole) (arg2 : Memref sig .tc .vmem S1x1024 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x1 .f32) (harg5 : arg5.IsWhole) (arg6 : Memref sig .tc .vmem S256x1024 .bf16) (harg6 : arg6.IsWhole) (arg7 : Memref sig .tc .vmem S256x2048 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S8x128x1 .f32) (harg10 : arg10.IsWhole) (arg11 : Memref sig .tc .vmem S256x1024 .f32) (harg11 : arg11.IsWhole) (arg12 : Memref sig .tc .vmem S256x1024 .f32) (harg12 : arg12.IsWhole)
  (x0 : Vec Ideal S256x2048 .bf16) (x1 : Vec Ideal S1x1024 .f32) (x2 : Vec Ideal S8x128x128 .f32) (x3 : Vec Ideal S8x128x128 .f32) (x4 : Vec Ideal S8x128x1 .f32) (x5 : Vec Ideal S256x1024 .bf16)
  (xo7 : Vec Ideal S1x1024 .f32) (xo8 : Vec Ideal S8x128x128 .f32) (xo9 : Vec Ideal S8x128x1 .f32)

/-- The block of the projection, as loaded. -/
abbrev ld0 : Vec Ideal S256x2048 .bf16 :=
  View.readAt (Elt Ideal) arg1.view (Rect.unit ![0, 0] S256x2048.size inb_S256x2048_S256x2048_0_0).toLoadRect (harg1.unread x0)

/-- The gain, as loaded. -/
abbrev ld1 : Vec Ideal S1x1024 .f32 :=
  View.readAt (Elt Ideal) arg2.view (Rect.unit ![0, 0] S1x1024.size inb_S1x1024_S1x1024_0_0).toLoadRect (harg2.unread x1)

/-- The block of the cotangent, as loaded. -/
abbrev ld5 : Vec Ideal S256x1024 .bf16 :=
  View.readAt (Elt Ideal) arg6.view (Rect.unit ![0, 0] S256x1024.size inb_S256x1024_S256x1024_0_0).toLoadRect (harg6.unread x5)

/-- One slab of an array of eight square slabs, as loaded. -/
abbrev ldW (a : Memref sig .tc .vmem S8x128x128 .f32) (ha : a.IsWhole) (x : Vec Ideal S8x128x128 .f32) (g : ℕ) (h : g < 8) :
    Vec Ideal S1x128x128 .f32 :=
  View.readAt (Elt Ideal) a.view (slab 128 g h).toLoadRect (ha.unread x)

/-- One slab of an array of eight columns, as loaded. -/
abbrev ldB (a : Memref sig .tc .vmem S8x128x1 .f32) (ha : a.IsWhole) (x : Vec Ideal S8x128x1 .f32) (g : ℕ) (h : g < 8) :
    Vec Ideal S1x128x1 .f32 :=
  View.readAt (Elt Ideal) a.view (slab 1 g h).toLoadRect (ha.unread x)

/-- The scratch of the first half's cotangent, read whole. -/
abbrev duScr : Vec Ideal S256x1024 .f32 :=
  arg11.view.readCov (scrL (fun g h cc => duTile (ld0 arg1 harg1 x0) (ld1 arg2 harg2 x1) (ld5 arg6 harg6 x5) (ldW arg3 harg3 x2 g h) (ldB arg5 harg5 x4 g h) g h cc) 8 le_rfl)
    (Rect.unit ![0, 0] S256x1024.size inb_S256x1024_S256x1024_0_0).toLoadRect

/-- The scratch of the normalised half's cotangent, read whole. -/
abbrev dvnScr : Vec Ideal S256x1024 .f32 :=
  arg12.view.readCov (scrL (fun g h cc => dvnTile (ld0 arg1 harg1 x0) (ld5 arg6 harg6 x5) (ldW arg4 harg4 x3 g h) g h cc) 8 le_rfl)
    (Rect.unit ![0, 0] S256x1024.size inb_S256x1024_S256x1024_0_0).toLoadRect

/-- At the first point, the stores of the gradient of the two halves. -/
theorem duvList_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).1
      = [⟨Rect.unit ![0, 1024] S256x1024.size inb_S256x2048_S256x1024_0_1024, k0_pay1 (k0_pay8 (ld0 arg1 harg1 x0)) (k0_pay178 (k0_pay12 (k0_pay11 (ld0 arg1 harg1 x0))) (k0_pay13 (k0_pay10 (ld0 arg1 harg1 x0)) (k0_pay11 (ld0 arg1 harg1 x0))) (k0_pay14 (ld1 arg2 harg2 x1)) (dvnScr arg1 harg1 arg4 harg4 arg6 harg6 arg12 x0 x3 x5))⟩,
          ⟨Rect.unit ![0, 0] S256x1024.size inb_S256x2048_S256x1024_0_0, k0_pay179 (k0_pay8 (ld0 arg1 harg1 x0)) (duScr arg1 harg1 arg2 harg2 arg3 harg3 arg5 harg5 arg6 harg6 arg11 x0 x1 x2 x4 x5)⟩] := rfl

/-- At the first point, the stores of the gain's gradient. -/
theorem dgList_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.1
      = [⟨Rect.unit ![0, 0] S1x1024.size inb_S1x1024_S1x1024_0_0, k0_pay177 (k0_pay13 (k0_pay10 (ld0 arg1 harg1 x0)) (k0_pay11 (ld0 arg1 harg1 x0))) (dvnScr arg1 harg1 arg4 harg4 arg6 harg6 arg12 x0 x3 x5) (arg8.view.readCov [⟨Rect.unit ![0, 0] S1x1024.size inb_S1x1024_S1x1024_0_0, k0_pay2 (F := Ideal)⟩] (Rect.unit ![0, 0] S1x1024.size inb_S1x1024_S1x1024_0_0).toLoadRect)⟩, ⟨Rect.unit ![0, 0] S1x1024.size inb_S1x1024_S1x1024_0_0, k0_pay2 (F := Ideal)⟩] := rfl

/-- At the first point, the stores of the weights' gradient. -/
theorem dwList_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.1
      = accL 128 [⟨Rect.unit ![0, 0, 0] S8x128x128.size inb_S8x128x128_S8x128x128_0_0_0, k0_pay3 (F := Ideal)⟩] (fun g h L => arg9.view.readCov L (slab 128 g h).toLoadRect)
          (fun g h L => arg9.view.readCov L (slab 128 g h).toLoadRect) (dwUpd (ld0 arg1 harg1 x0) (ld1 arg2 harg2 x1) (ld5 arg6 harg6 x5)) 8 le_rfl := rfl

/-- At the first point, the stores of the biases' gradient. -/
theorem dbList_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.1
      = accL 1 [⟨Rect.unit ![0, 0, 0] S8x128x1.size inb_S8x128x1_S8x128x1_0_0_0, k0_pay4 (F := Ideal)⟩] (fun g h L => arg10.view.readCov L (slab 1 g h).toLoadRect)
          (fun g h L => arg10.view.readCov L (slab 1 g h).toLoadRect) (dbUpd (ld0 arg1 harg1 x0) (ld5 arg6 harg6 x5)) 8 le_rfl := rfl

/-- At a later point, the stores of the gradient of the two halves. -/
theorem duvList_B (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9).1
      = [⟨Rect.unit ![0, 1024] S256x1024.size inb_S256x2048_S256x1024_0_1024, k0_pay1 (k0_pay8 (ld0 arg1 harg1 x0)) (k0_pay178 (k0_pay12 (k0_pay11 (ld0 arg1 harg1 x0))) (k0_pay13 (k0_pay10 (ld0 arg1 harg1 x0)) (k0_pay11 (ld0 arg1 harg1 x0))) (k0_pay14 (ld1 arg2 harg2 x1)) (dvnScr arg1 harg1 arg4 harg4 arg6 harg6 arg12 x0 x3 x5))⟩,
          ⟨Rect.unit ![0, 0] S256x1024.size inb_S256x2048_S256x1024_0_0, k0_pay179 (k0_pay8 (ld0 arg1 harg1 x0)) (duScr arg1 harg1 arg2 harg2 arg3 harg3 arg5 harg5 arg6 harg6 arg11 x0 x1 x2 x4 x5)⟩] := rfl

/-- At a later point, the stores of the gain's gradient. -/
theorem dgList_B (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9).2.1
      = [⟨Rect.unit ![0, 0] S1x1024.size inb_S1x1024_S1x1024_0_0, k0_pay177 (k0_pay13 (k0_pay10 (ld0 arg1 harg1 x0)) (k0_pay11 (ld0 arg1 harg1 x0))) (dvnScr arg1 harg1 arg4 harg4 arg6 harg6 arg12 x0 x3 x5) (View.readAt (Elt Ideal) arg8.view (Rect.unit ![0, 0] S1x1024.size inb_S1x1024_S1x1024_0_0).toLoadRect (harg8.unread xo7))⟩] := rfl

/-- At a later point, the stores of the weights' gradient. -/
theorem dwList_B (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9).2.2.1
      = accL 128 [] (fun g h _ => ldW arg9 harg9 xo8 g h)
          (fun g h L => arg9.view.readCov L (slab 128 g h).toLoadRect) (dwUpd (ld0 arg1 harg1 x0) (ld1 arg2 harg2 x1) (ld5 arg6 harg6 x5)) 8 le_rfl := rfl

/-- At a later point, the stores of the biases' gradient. -/
theorem dbList_B (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9).2.2.2.1
      = accL 1 [] (fun g h _ => ldB arg10 harg10 xo9 g h)
          (fun g h L => arg10.view.readCov L (slab 1 g h).toLoadRect) (dbUpd (ld0 arg1 harg1 x0) (ld5 arg6 harg6 x5)) 8 le_rfl := rfl

end Runs

end Cert.Gmlp
-- ==== Proof.Gmlp.Spec.lean ====
module

public import Idealize.ShloMosaic.Lib.Pointwise
public import proofs.«01_k».proof.KernelIdeal

/-!
# The gradient of the gating unit, as mathematics

The gating unit takes rows of 2048 numbers, passes them through the tanh form of gelu, splits each row in halves
`u` and `v`, normalises `v` to unit mean square (with a gain), mixes the rows of each chunk of 128 by a lower
triangular matrix per group of 128 columns, adds a bias per row, and multiplies by `u`.  The functions below are its
values and their gradients over the extended reals, for one chunk of 128 rows: `X q j` is the chunk's input, `Y q j`
the cotangent of its output, `G` the gain, `W g` the matrix of group `g`, `B g` its bias.
-/

@[expose] public section

noncomputable section

namespace Cert.Gmlp

open Idealize.ShloMosaic

/-- Column `k` of group `g`. -/
def col (g : Fin 8) (k : Fin 128) : Fin 1024 := ⟨128 * g.val + k.val, by omega⟩

/-- The group of a column. -/
def grp (j : Fin 1024) : Fin 8 := ⟨j.val / 128, by omega⟩

theorem grp_col (g : Fin 8) (k : Fin 128) : grp (col g k) = g := Fin.ext (by simp only [grp, col]; omega)

/-- A column of the first half of a row. -/
def lo (j : Fin 1024) : Fin 2048 := ⟨j.val, by omega⟩

/-- A column of the second half of a row. -/
def hi (j : Fin 1024) : Fin 2048 := ⟨1024 + j.val, by omega⟩

/-- The constant of gelu's cubic term, a rational. -/
abbrev kG : EReal := Named.named (F := Ideal) Cert.KernelIdeal.κ "gelu_k" (φ := .f32) 0x3D372713#32
/-- Three times it. -/
abbrev kG3 : EReal := Named.named (F := Ideal) Cert.KernelIdeal.κ "gelu_3k" (φ := .f32) 0x3E095D4F#32
/-- The scale of gelu's tanh argument: the word that both programs hold. -/
abbrev cG : EReal := Ideal.ofBits .f32 0x3F4C422A#32
abbrev half : EReal := Ideal.ofBits .f32 0x3F000000#32
/-- The width of a half row. -/
abbrev width : EReal := Ideal.ofBits .f32 0x44800000#32
/-- The normalisation's small number. -/
abbrev eps : EReal := Ideal.ofBits .f32 0x358637BD#32

/-- gelu's tanh. -/
def th (x : EReal) : EReal := Ideal.tanh (cG * (x + kG * (x * x * x)))

/-- gelu. -/
def gelu (x : EReal) : EReal := half * x * (1 + th x)

/-- gelu's derivative. -/
def geluGrad (x : EReal) : EReal :=
  half * (1 + th x) + half * x * (1 - th x * th x) * (cG * (1 + kG3 * (x * x)))

section Row
variable (X : Fin 2048 → EReal) (G : Fin 1024 → EReal)

/-- The first half of a row after gelu. -/
def uR (j : Fin 1024) : EReal := gelu (X (lo j))
/-- The second half of a row after gelu. -/
def vR (j : Fin 1024) : EReal := gelu (X (hi j))
/-- One over the root mean square of the second half. -/
def rstd : EReal := Ideal.rsqrt (Ideal.div (∑ j, vR X j * vR X j) width + eps)
/-- The second half, normalised. -/
def vhat (j : Fin 1024) : EReal := vR X j * rstd X
/-- The second half, normalised, with its gain. -/
def vn (j : Fin 1024) : EReal := vhat X j * G j
end Row

section Chunk
variable (X : Fin 128 → Fin 2048 → EReal) (Y : Fin 128 → Fin 1024 → EReal) (G : Fin 1024 → EReal)
  (W : Fin 8 → Fin 128 → Fin 128 → EReal) (B : Fin 8 → Fin 128 → EReal)

/-- What the mixing gives at row `q` and column `j`. -/
def mixed (q : Fin 128) (j : Fin 1024) : EReal :=
  (∑ s : Fin 128, (if s.val ≤ q.val then W (grp j) q s else 0) * vn (X s) G j) + B (grp j) q
/-- The cotangent of the mixing's result. -/
def dm (q : Fin 128) (j : Fin 1024) : EReal := Y q j * uR (X q) j
/-- The cotangent of the first half. -/
def du (q : Fin 128) (j : Fin 1024) : EReal := Y q j * mixed X G W B q j
/-- The cotangent of the normalised second half. -/
def dvn (q : Fin 128) (j : Fin 1024) : EReal :=
  ∑ a : Fin 128, (if q.val ≤ a.val then W (grp j) a q else 0) * dm X Y a j
/-- The chunk's part of the matrices' gradient. -/
def dw (g : Fin 8) (t s : Fin 128) : EReal :=
  if s.val ≤ t.val then ∑ k : Fin 128, dm X Y t (col g k) * vn (X s) G (col g k) else 0
/-- The chunk's part of the biases' gradient. -/
def db (g : Fin 8) (t : Fin 128) : EReal := ∑ k : Fin 128, dm X Y t (col g k)
/-- The row's part of the gain's gradient. -/
def dg (q : Fin 128) (j : Fin 1024) : EReal := dvn X Y W q j * vhat (X q) j
/-- The cotangent of the second half before the normalisation. -/
def dv (q : Fin 128) (j : Fin 1024) : EReal :=
  rstd (X q) * (dvn X Y W q j * G j
    - vhat (X q) j * Ideal.div (∑ l, dvn X Y W q l * G l * vhat (X q) l) width)
/-- The gradient of the input's first half. -/
def dLo (q : Fin 128) (j : Fin 1024) : EReal := du X Y G W B q j * geluGrad (X q (lo j))
/-- The gradient of the input's second half. -/
def dHi (q : Fin 128) (j : Fin 1024) : EReal := dv X Y G W q j * geluGrad (X q (hi j))
end Chunk

end Cert.Gmlp
-- ==== Proof.Gmlp.Tiles.lean ====
module

public import proofs.«01_k».proof.Proof.Gmlp.Block
public import proofs.«01_k».proof.Proof.Gmlp.Spec

/-!
# The tiles, read at an index

What one grid point computes, entry by entry, in the words of the mathematics.
-/

@[expose] public section

set_option maxRecDepth 16384

noncomputable section

namespace Cert.Gmlp

open Cert.KernelIdeal Cert.KernelIdeal.Gen Idealize.ShloMosaic Idealize.ShloMosaic.TcCoe

/-- Row `q` of chunk `c` of a block of 256 rows. -/
def brow (c : Fin 2) (q : Fin 128) : Fin 256 := ⟨128 * c.val + q.val, by omega⟩

/-- Chunk `c` of the block of inputs. -/
def chX (X0 : Vec Ideal S256x2048 .bf16) (c : Fin 2) : Fin 128 → Fin 2048 → EReal := fun q j => X0 (ix2 (brow c q) j)
/-- Chunk `c` of the block of cotangents. -/
def chY (X5 : Vec Ideal S256x1024 .bf16) (c : Fin 2) : Fin 128 → Fin 1024 → EReal := fun q j => X5 (ix2 (brow c q) j)
/-- The gain. -/
def gV (X1 : Vec Ideal S1x1024 .f32) : Fin 1024 → EReal := fun j => X1 (ix2 0 j)
/-- The matrices. -/
def wV (X2 : Vec Ideal S8x128x128 .f32) : Fin 8 → Fin 128 → Fin 128 → EReal := fun g t s => X2 (ix3 g t s)
/-- The biases. -/
def bV (X4 : Vec Ideal S8x128x1 .f32) : Fin 8 → Fin 128 → EReal := fun g t => X4 (ix3 g t 0)

variable (X0 : Vec Ideal S256x2048 .bf16) (X1 : Vec Ideal S1x1024 .f32) (X5 : Vec Ideal S256x1024 .bf16)

/-- The mask of the lower triangle. -/
theorem select_sge (t s : Fin 128) (a b : EReal) :
    Scalar.select (IntOp.cmpi CmpIPredicate.sge (BitVec.ofNat 32 t.val) (BitVec.ofNat 32 s.val)) a b
      = if s.val ≤ t.val then a else b := by
  have h : ∀ t s : Fin 128, IntOp.cmpi CmpIPredicate.sge (BitVec.ofNat 32 t.val) (BitVec.ofNat 32 s.val)
      = if s.val ≤ t.val then 1#1 else 0#1 := by decide +kernel
  rw [h t s]
  split <;> rfl

/-- The mask of the upper triangle. -/
theorem select_sle (t s : Fin 128) (a b : EReal) :
    Scalar.select (IntOp.cmpi CmpIPredicate.sle (BitVec.ofNat 32 t.val) (BitVec.ofNat 32 s.val)) a b
      = if t.val ≤ s.val then a else b := by
  have h : ∀ t s : Fin 128, IntOp.cmpi CmpIPredicate.sle (BitVec.ofNat 32 t.val) (BitVec.ofNat 32 s.val)
      = if t.val ≤ s.val then 1#1 else 0#1 := by decide +kernel
  rw [h t s]
  split <;> rfl

theorem pay7_apply (r : Fin 256) (j : Fin 2048) : k0_pay7 X0 (ix2 r j) = gelu (X0 (ix2 r j)) := by
  pointwise [k0_pay7, k0_pay6, k0_pay5]
  rfl

theorem pay8_apply (r : Fin 256) (j : Fin 2048) : k0_pay8 X0 (ix2 r j) = geluGrad (X0 (ix2 r j)) := by
  pointwise [k0_pay8, k0_pay6, k0_pay5]
  rfl

theorem pay9_apply (c : Fin 2) (q : Fin 128) (j : Fin 1024) : k0_pay9 X0 (ix2 (brow c q) j) = uR (chX X0 c q) j := by
  pointwise [k0_pay9]
  simp only [pay7_apply]
  rfl

theorem pay10_apply (c : Fin 2) (q : Fin 128) (j : Fin 1024) : k0_pay10 X0 (ix2 (brow c q) j) = vR (chX X0 c q) j := by
  pointwise [k0_pay10]
  simp only [pay7_apply]
  rfl

theorem pay12_apply (c : Fin 2) (q : Fin 128) (z : Fin 1) :
    k0_pay12 (k0_pay11 X0) (ix2 (brow c q) z) = rstd (chX X0 c q) := by
  pointwise [k0_pay12, k0_pay11]
  simp only [pay10_apply]
  rfl

theorem pay13_apply (c : Fin 2) (q : Fin 128) (j : Fin 1024) :
    k0_pay13 (k0_pay10 X0) (k0_pay11 X0) (ix2 (brow c q) j) = vhat (chX X0 c q) j := by
  pointwise [k0_pay13]
  simp only [pay10_apply, pay12_apply]
  rfl

theorem vnV_apply (c : Fin 2) (q : Fin 128) (j : Fin 1024) :
    vnV X0 X1 (ix2 (brow c q) j) = vn (chX X0 c q) (gV X1) j := by
  pointwise [vnV, k0_pay15, k0_pay14]
  simp only [pay13_apply]
  rfl

theorem cut_apply (A : FVec Ideal S256x1024 .f32) (c : Fin 2) (g : ℕ) (h : g < 8) (q k : Fin 128) :
    cut A c g h (ix2 q k) = A (ix2 (brow c q) (col ⟨g, h⟩ k)) := by
  unfold cut
  pointwise
  rfl

theorem dmV_apply (c : Fin 2) (g : ℕ) (h : g < 8) (q k : Fin 128) :
    dmV X0 X5 c g h (ix2 q k) = dm (chX X0 c) (chY X5 c) q (col ⟨g, h⟩ k) := by
  unfold dmV
  pointwise [k0_pay16]
  simp only [cut_apply, pay9_apply]
  rfl

theorem vnT_apply (c : Fin 2) (g : ℕ) (h : g < 8) (q k : Fin 128) :
    vnT X0 X1 c g h (ix2 q k) = vn (chX X0 c q) (gV X1) (col ⟨g, h⟩ k) := by
  unfold vnT
  pointwise
  rw [cut_apply, vnV_apply]

theorem dmT_apply (c : Fin 2) (g : ℕ) (h : g < 8) (q k : Fin 128) :
    dmT X0 X5 c g h (ix2 q k) = dm (chX X0 c) (chY X5 c) q (col ⟨g, h⟩ k) := by
  unfold dmT
  pointwise
  rw [dmV_apply]

/-- The lower triangle of a slab. -/
theorem pay18_apply (w : Vec Ideal S1x128x128 .f32) (t s : Fin 128) :
    k0_pay18 w (ix2 t s) = if s.val ≤ t.val then w (ix3 0 t s) else 0 := by
  pointwise [k0_pay18, k0_pay17]
  rw [select_sge]

theorem pay19_apply (w : Vec Ideal S1x128x128 .f32) (t s : Fin 128) :
    k0_pay19 w (ix2 t s) = if t.val ≤ s.val then w (ix3 0 t s) else 0 := by
  pointwise [k0_pay19]
  rw [select_sle]

theorem duTile_apply (wg : Vec Ideal S1x128x128 .f32) (bg : Vec Ideal S1x128x1 .f32) (c : Fin 2) (g : ℕ) (h : g < 8) (q k : Fin 128)
    (W : Fin 8 → Fin 128 → Fin 128 → EReal) (B : Fin 8 → Fin 128 → EReal)
    (hw : ∀ t s, wg (ix3 0 t s) = W ⟨g, h⟩ t s) (hb : ∀ t, bg (ix3 0 t 0) = B ⟨g, h⟩ t) :
    duTile X0 X1 X5 wg bg g h c (ix2 q k) = du (chX X0 c) (chY X5 c) (gV X1) W B q (col ⟨g, h⟩ k) := by
  unfold duTile
  pointwise [k0_pay16]
  simp only [cut_apply, pay18_apply, vnT_apply, hw]
  rw [hb]
  unfold du mixed
  rw [grp_col]
  rfl

theorem dvnTile_apply (wtg : Vec Ideal S1x128x128 .f32) (c : Fin 2) (g : ℕ) (h : g < 8) (q k : Fin 128)
    (W : Fin 8 → Fin 128 → Fin 128 → EReal) (hw : ∀ t s, wtg (ix3 0 t s) = W ⟨g, h⟩ s t) :
    dvnTile X0 X5 wtg g h c (ix2 q k) = dvn (chX X0 c) (chY X5 c) W q (col ⟨g, h⟩ k) := by
  unfold dvnTile
  pointwise [k0_pay26]
  simp only [pay19_apply, dmT_apply, hw]
  unfold dvn
  rw [grp_col]

theorem dwUpd_apply (c : Fin 2) (g : ℕ) (h : g < 8) (prev : Vec Ideal S1x128x128 .f32) (t s : Fin 128) :
    dwUpd X0 X1 X5 g h c prev (ix3 0 t s)
      = prev (ix3 0 t s) + dw (chX X0 c) (chY X5 c) (gV X1) ⟨g, h⟩ t s := by
  unfold dwUpd
  pointwise [k0_pay27, k0_pay17]
  simp only [dmT_apply, vnT_apply]
  rw [select_sge]
  rfl

theorem dbUpd_apply (c : Fin 2) (g : ℕ) (h : g < 8) (prev : Vec Ideal S1x128x1 .f32) (t : Fin 128) :
    dbUpd X0 X5 g h c prev (ix3 0 t 0) = prev (ix3 0 t 0) + db (chX X0 c) (chY X5 c) ⟨g, h⟩ t := by
  unfold dbUpd
  pointwise [k0_pay28]
  simp only [dmV_apply]
  rfl

end Cert.Gmlp
-- ==== Proof.Gmlp.Point.lean ====
module

public import proofs.«01_k».proof.Proof.Gmlp.Tiles
public import Idealize.ShloMosaic.Lib.WholeRead

/-!
# What one grid point leaves

The contents of the four output blocks after one grid point, entry by entry.  The first point starts the three
accumulated gradients from zero; a later point adds to what the point before left.
-/

@[expose] public section

set_option maxRecDepth 16384

noncomputable section

namespace Cert.Gmlp

open Cert.KernelIdeal Cert.KernelIdeal.Gen Idealize.ShloMosaic Idealize.ShloMosaic.TcCoe

/-- A sum over the rows of a block, by chunks. -/
theorem sum_brow (f : Fin 256 → EReal) : ∑ r, f r = ∑ q, f (brow 0 q) + ∑ q, f (brow 1 q) :=
  (Fin.sum_univ_add (a := 128) (b := 128) f).trans
    (congr (congrArg _ (Finset.sum_congr rfl fun q _ => congrArg f (Fin.ext (by show q.val = 128 * 0 + q.val; omega))))
      (Finset.sum_congr rfl fun q _ => congrArg f (Fin.ext (by show 128 + q.val = 128 * 1 + q.val; omega))))

section Pays
variable (X0 : Vec Ideal S256x2048 .bf16) (X1 : Vec Ideal S1x1024 .f32) (X5 : Vec Ideal S256x1024 .bf16)
  (G : Fin 1024 → EReal) (W : Fin 8 → Fin 128 → Fin 128 → EReal) (B : Fin 8 → Fin 128 → EReal) (D : Vec Ideal S256x1024 .f32)

/-- The gain's gradient, from the gathered cotangent. -/
theorem pay177_apply (prev : Vec Ideal S1x1024 .f32) (hD : ∀ c q j, D (ix2 (brow c q) j) = dvn (chX X0 c) (chY X5 c) W q j)
    (j : Fin 1024) :
    k0_pay177 (k0_pay13 (k0_pay10 X0) (k0_pay11 X0)) D prev (ix2 0 j)
      = prev (ix2 0 j) + (∑ q, dg (chX X0 0) (chY X5 0) W q j + ∑ q, dg (chX X0 1) (chY X5 1) W q j) := by
  pointwise [k0_pay177]
  rw [sum_brow]
  simp only [pay13_apply, hD]
  rfl

/-- The stored gradient of a row's first half. -/
theorem pay179_apply (hD : ∀ c q j, D (ix2 (brow c q) j) = du (chX X0 c) (chY X5 c) G W B q j) (c : Fin 2) (q : Fin 128)
    (j : Fin 1024) :
    k0_pay179 (k0_pay8 X0) D (ix2 (brow c q) j) = dLo (chX X0 c) (chY X5 c) G W B q j := by
  pointwise [k0_pay179]
  simp only [pay8_apply, hD]
  rfl

/-- The stored gradient of a row's second half. -/
theorem pay1_apply (hD : ∀ c q j, D (ix2 (brow c q) j) = dvn (chX X0 c) (chY X5 c) W q j) (c : Fin 2) (q : Fin 128)
    (j : Fin 1024) :
    k0_pay1 (k0_pay8 X0) (k0_pay178 (k0_pay12 (k0_pay11 X0)) (k0_pay13 (k0_pay10 X0) (k0_pay11 X0)) (k0_pay14 X1) D) (ix2 (brow c q) j)
      = dHi (chX X0 c) (chY X5 c) (gV X1) W q j := by
  pointwise [k0_pay1, k0_pay178, k0_pay14]
  simp only [pay8_apply, pay12_apply, pay13_apply, hD]
  rfl
end Pays

/-- The rectangles of the two halves of a block of rows. -/
theorem lo_emb (r : Fin 256) (j : Fin 1024) :
    (Rect.unit (s := S256x2048) ![0, 0] S256x1024.size inb_S256x2048_S256x1024_0_0).emb (ix2 r j) = ix2 r (lo j) := by
  funext a
  match a with
  | ⟨0, _⟩ => exact Fin.ext (show 0 + 1 * r.val = r.val by omega)
  | ⟨1, _⟩ => exact Fin.ext (show 0 + 1 * j.val = j.val by omega)

theorem hi_emb (r : Fin 256) (j : Fin 1024) :
    (Rect.unit (s := S256x2048) ![0, 1024] S256x1024.size inb_S256x2048_S256x1024_0_1024).emb (ix2 r j) = ix2 r (hi j) := by
  funext a
  match a with
  | ⟨0, _⟩ => exact Fin.ext (show 0 + 1 * r.val = r.val by omega)
  | ⟨1, _⟩ => exact Fin.ext (show 1024 + 1 * j.val = 1024 + j.val by omega)

/-- Two stores, of the second half over the first, read back: the first half; -/
theorem halves_lo (a b : Vec Ideal S256x1024 .bf16) (r : Fin 256) (j : Fin 1024) :
    View.canon [(⟨Rect.unit ![0, 1024] S256x1024.size inb_S256x2048_S256x1024_0_1024, b⟩ : View.Piece (Elt Ideal) S256x2048 .bf16),
      ⟨Rect.unit ![0, 0] S256x1024.size inb_S256x2048_S256x1024_0_0, a⟩] (ix2 r (lo j)) = a (ix2 r j) := by
  rw [View.canon_cons_of_not_mem _ _ (by
    rw [Rect.mem_set_unit]; intro h; have := (h 1).1; have h2 : 1024 ≤ j.val := this; omega)]
  rw [← lo_emb]
  exact View.canon_cons_emb _ _ _ _

/-- and the second half. -/
theorem halves_hi (a b : Vec Ideal S256x1024 .bf16) (r : Fin 256) (j : Fin 1024) :
    View.canon [(⟨Rect.unit ![0, 1024] S256x1024.size inb_S256x2048_S256x1024_0_1024, b⟩ : View.Piece (Elt Ideal) S256x2048 .bf16),
      ⟨Rect.unit ![0, 0] S256x1024.size inb_S256x2048_S256x1024_0_0, a⟩] (ix2 r (hi j)) = b (ix2 r j) := by
  rw [← hi_emb]
  exact View.canon_cons_emb _ _ _ _

section Runs
variable (dev : Dev nD) (i : grid0.Coords) (arg1 : Memref sig .tc .vmem S256x2048 .bf16) (harg1 : arg1.IsWhole) (arg2 : Memref sig .tc .vmem S1x1024 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x1 .f32) (harg5 : arg5.IsWhole) (arg6 : Memref sig .tc .vmem S256x1024 .bf16) (harg6 : arg6.IsWhole) (arg7 : Memref sig .tc .vmem S256x2048 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S8x128x1 .f32) (harg10 : arg10.IsWhole) (arg11 : Memref sig .tc .vmem S256x1024 .f32) (harg11 : arg11.IsWhole) (arg12 : Memref sig .tc .vmem S256x1024 .f32) (harg12 : arg12.IsWhole)
  (x0 : Vec Ideal S256x2048 .bf16) (x1 : Vec Ideal S1x1024 .f32) (x2 : Vec Ideal S8x128x128 .f32) (x3 : Vec Ideal S8x128x128 .f32) (x4 : Vec Ideal S8x128x1 .f32) (x5 : Vec Ideal S256x1024 .bf16)
  (xo7 : Vec Ideal S1x1024 .f32) (xo8 : Vec Ideal S8x128x128 .f32) (xo9 : Vec Ideal S8x128x1 .f32)

/-- A load of a whole block reads it. -/
theorem ld0_eq : ld0 arg1 harg1 x0 = x0 :=
  by
  funext y
  refine (Memref.IsWhole.readAt_unread harg1 x0 (Rect.unit ![0, 0] S256x2048.size inb_S256x2048_S256x2048_0_0).toLoadRect y).trans ?_
  exact congrFun (View.ld_unit_zero (S := S256x2048) (by decide) inb_S256x2048_S256x2048_0_0 x0) y

theorem ld1_eq : ld1 arg2 harg2 x1 = x1 :=
  by
  funext y
  refine (Memref.IsWhole.readAt_unread harg2 x1 (Rect.unit ![0, 0] S1x1024.size inb_S1x1024_S1x1024_0_0).toLoadRect y).trans ?_
  exact congrFun (View.ld_unit_zero (S := S1x1024) (by decide) inb_S1x1024_S1x1024_0_0 x1) y

theorem ld5_eq : ld5 arg6 harg6 x5 = x5 :=
  by
  funext y
  refine (Memref.IsWhole.readAt_unread harg6 x5 (Rect.unit ![0, 0] S256x1024.size inb_S256x1024_S256x1024_0_0).toLoadRect y).trans ?_
  exact congrFun (View.ld_unit_zero (S := S256x1024) (by decide) inb_S256x1024_S256x1024_0_0 x5) y

theorem ldW_apply (a : Memref sig .tc .vmem S8x128x128 .f32) (ha : a.IsWhole) (x : Vec Ideal S8x128x128 .f32) (g : ℕ) (h : g < 8)
    (t s : Fin 128) : ldW a ha x g h (ix3 0 t s) = x (ix3 ⟨g, h⟩ t s) :=
  (Memref.IsWhole.readAt_unread ha x _ _).trans (congrArg x (slab_emb h t s))

theorem ldB_apply (a : Memref sig .tc .vmem S8x128x1 .f32) (ha : a.IsWhole) (x : Vec Ideal S8x128x1 .f32) (g : ℕ) (h : g < 8)
    (t : Fin 128) : ldB a ha x g h (ix3 0 t 0) = x (ix3 ⟨g, h⟩ t 0) :=
  (Memref.IsWhole.readAt_unread ha x _ _).trans (congrArg x (slab_emb h t 0))

/-- A function of a row and a column of a block of 256 rows, by chunks. -/
def byChunk (f : Fin 2 → Fin 128 → Fin 1024 → EReal) : Vec Ideal S256x1024 .f32 := fun y =>
  f ⟨(y 0).val / 128, by have : (y 0).val < 256 := (y 0).isLt; omega⟩ ⟨(y 0).val % 128, by omega⟩ (y 1)

theorem byChunk_apply (f : Fin 2 → Fin 128 → Fin 1024 → EReal) (c : Fin 2) (q : Fin 128) (j : Fin 1024) :
    byChunk f (ix2 (brow c q) j) = f c q j := by
  have key : ∀ (a : Fin 2) (b : Fin 128), a = c → b = q → f a b j = f c q j := by rintro _ _ rfl rfl; rfl
  exact key _ _ (Fin.ext (by show (128 * c.val + q.val) / 128 = c.val; omega))
    (Fin.ext (by show (128 * c.val + q.val) % 128 = q.val; omega))

/-- The first half's cotangent, gathered. -/
theorem duScr_apply (c : Fin 2) (q : Fin 128) (j : Fin 1024) :
    duScr arg1 harg1 arg2 harg2 arg3 harg3 arg5 harg5 arg6 harg6 arg11 x0 x1 x2 x4 x5 (ix2 (brow c q) j)
      = du (chX x0 c) (chY x5 c) (gV x1) (wV x2) (bV x4) q j := by
  rw [← byChunk_apply (fun c => du (chX x0 c) (chY x5 c) (gV x1) (wV x2) (bV x4))]
  refine congrFun (readCov_scrL arg11.view _ _ ?_ (by decide) _) _
  intro g h c q k
  rw [ld0_eq, ld1_eq, ld5_eq, duTile_apply (W := wV x2) (B := bV x4)]
  · exact (byChunk_apply (fun c => du (chX x0 c) (chY x5 c) (gV x1) (wV x2) (bV x4)) c q (col ⟨g, h⟩ k)).symm
  · exact fun t s => ldW_apply arg3 harg3 x2 g h t s
  · exact fun t => ldB_apply arg5 harg5 x4 g h t

/-- The normalised half's cotangent, gathered. -/
theorem dvnScr_apply (hT : ∀ g a b, x3 (ix3 g a b) = x2 (ix3 g b a)) (c : Fin 2) (q : Fin 128) (j : Fin 1024) :
    dvnScr arg1 harg1 arg4 harg4 arg6 harg6 arg12 x0 x3 x5 (ix2 (brow c q) j)
      = dvn (chX x0 c) (chY x5 c) (wV x2) q j := by
  rw [← byChunk_apply (fun c => dvn (chX x0 c) (chY x5 c) (wV x2))]
  refine congrFun (readCov_scrL arg12.view _ _ ?_ (by decide) _) _
  intro g h c q k
  rw [ld0_eq, ld5_eq, dvnTile_apply (W := wV x2)]
  · exact (byChunk_apply (fun c => dvn (chX x0 c) (chY x5 c) (wV x2)) c q (col ⟨g, h⟩ k)).symm
  · exact fun t s => (ldW_apply arg4 harg4 x3 g h t s).trans (hT _ _ _)

theorem outA_dw (hc0 : cond0_0 i) (g : Fin 8) (t s : Fin 128) :
    out0_A_8 dev i arg1 harg1 arg2 harg2 arg3 harg3 arg4 harg4 arg5 harg5 arg6 harg6 arg7 harg7 arg8 harg8 arg9 harg9 arg10 harg10 arg11 harg11 arg12 harg12 hc0 x0 x1 x2 x3 x4 x5 (ix3 g t s)
      = 0 + dw (chX x0 0) (chY x5 0) (gV x1) g t s + dw (chX x0 1) (chY x5 1) (gV x1) g t s := by
  refine (congrFun (View.read_writes_eq_canon VO0_8 VO0_8.junk _ (cover0_A_8 dev i arg1 harg1 arg2 harg2 arg3 harg3 arg4 harg4 arg5 harg5 arg6 harg6 arg7 harg7 arg8 harg8 arg9 harg9 arg10 harg10 arg11 harg11 arg12 harg12 hc0 x0 x1 x2 x3 x4 x5)) _).trans ?_
  rw [dwList_A, canon_accL_lt (fun g h w L => readCov_head _ _ w L) 8 le_rfl g _ _ g.isLt, ld0_eq, ld1_eq, ld5_eq, dwUpd_apply, dwUpd_apply]
  congr 2
  refine (congrFun (View.readCov_eq_canon' _ _ _) _).trans ?_
  show View.canon _ ((slab 128 g.val g.isLt).emb _) = 0
  rw [slab_emb, canon_accL_ge _ _ _ _ _ le_rfl, View.canon_unit_zero (by decide)]
  pointwise [k0_pay3]

theorem outA_db (hc0 : cond0_0 i) (g : Fin 8) (t : Fin 128) :
    out0_A_9 dev i arg1 harg1 arg2 harg2 arg3 harg3 arg4 harg4 arg5 harg5 arg6 harg6 arg7 harg7 arg8 harg8 arg9 harg9 arg10 harg10 arg11 harg11 arg12 harg12 hc0 x0 x1 x2 x3 x4 x5 (ix3 g t 0)
      = 0 + db (chX x0 0) (chY x5 0) g t + db (chX x0 1) (chY x5 1) g t := by
  refine (congrFun (View.read_writes_eq_canon VO0_9 VO0_9.junk _ (cover0_A_9 dev i arg1 harg1 arg2 harg2 arg3 harg3 arg4 harg4 arg5 harg5 arg6 harg6 arg7 harg7 arg8 harg8 arg9 harg9 arg10 harg10 arg11 harg11 arg12 harg12 hc0 x0 x1 x2 x3 x4 x5)) _).trans ?_
  rw [dbList_A, canon_accL_lt (fun g h w L => readCov_head _ _ w L) 8 le_rfl g _ _ g.isLt, ld0_eq, ld5_eq, dbUpd_apply, dbUpd_apply]
  congr 2
  refine (congrFun (View.readCov_eq_canon' _ _ _) _).trans ?_
  show View.canon _ ((slab 1 g.val g.isLt).emb _) = 0
  rw [slab_emb, canon_accL_ge _ _ _ _ _ le_rfl, View.canon_unit_zero (by decide)]
  pointwise [k0_pay4]

theorem outB_dw (hc0 : ¬cond0_0 i) (g : Fin 8) (t s : Fin 128) :
    out0_B_8 dev i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 (ix3 g t s)
      = xo8 (ix3 g t s) + dw (chX x0 0) (chY x5 0) (gV x1) g t s + dw (chX x0 1) (chY x5 1) (gV x1) g t s := by
  refine (congrFun (View.read_writes_eq_canon VO0_8 VO0_8.junk _ (cover0_B_8 dev i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9)) _).trans ?_
  rw [dwList_B, canon_accL_lt (fun g h w L => readCov_head _ _ w L) 8 le_rfl g _ _ g.isLt, ld0_eq, ld1_eq, ld5_eq, dwUpd_apply, dwUpd_apply]
  rw [ldW_apply]

theorem outB_db (hc0 : ¬cond0_0 i) (g : Fin 8) (t : Fin 128) :
    out0_B_9 dev i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 (ix3 g t 0)
      = xo9 (ix3 g t 0) + db (chX x0 0) (chY x5 0) g t + db (chX x0 1) (chY x5 1) g t := by
  refine (congrFun (View.read_writes_eq_canon VO0_9 VO0_9.junk _ (cover0_B_9 dev i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9)) _).trans ?_
  rw [dbList_B, canon_accL_lt (fun g h w L => readCov_head _ _ w L) 8 le_rfl g _ _ g.isLt, ld0_eq, ld5_eq, dbUpd_apply, dbUpd_apply]
  rw [ldB_apply]

theorem outA_dg (hc0 : cond0_0 i) (hT : ∀ g a b, x3 (ix3 g a b) = x2 (ix3 g b a)) (j : Fin 1024) :
    out0_A_7 dev i arg1 harg1 arg2 harg2 arg3 harg3 arg4 harg4 arg5 harg5 arg6 harg6 arg7 harg7 arg8 harg8 arg9 harg9 arg10 harg10 arg11 harg11 arg12 harg12 hc0 x0 x1 x2 x3 x4 x5 (ix2 0 j)
      = 0 + (∑ q, dg (chX x0 0) (chY x5 0) (wV x2) q j + ∑ q, dg (chX x0 1) (chY x5 1) (wV x2) q j) := by
  refine (congrFun (View.read_writes_eq_canon VO0_7 VO0_7.junk _ (cover0_A_7 dev i arg1 harg1 arg2 harg2 arg3 harg3 arg4 harg4 arg5 harg5 arg6 harg6 arg7 harg7 arg8 harg8 arg9 harg9 arg10 harg10 arg11 harg11 arg12 harg12 hc0 x0 x1 x2 x3 x4 x5)) _).trans ?_
  rw [dgList_A, View.canon_cons_unit_zero (by decide), ld0_eq, pay177_apply (X5 := x5) (W := wV x2) _ _ _ (dvnScr_apply _ _ _ _ _ _ _ _ _ _ _ hT)]
  congr 1
  rw [View.readCov_unit_zero _ (by decide)]
  pointwise [k0_pay2]

theorem outA_lo (hc0 : cond0_0 i) (c : Fin 2) (q : Fin 128) (j : Fin 1024) :
    out0_A_6 dev i arg1 harg1 arg2 harg2 arg3 harg3 arg4 harg4 arg5 harg5 arg6 harg6 arg7 harg7 arg8 harg8 arg9 harg9 arg10 harg10 arg11 harg11 arg12 harg12 hc0 x0 x1 x2 x3 x4 x5 (ix2 (brow c q) (lo j)) = dLo (chX x0 c) (chY x5 c) (gV x1) (wV x2) (bV x4) q j := by
  refine (congrFun (View.read_writes_eq_canon VO0_6 VO0_6.junk _ (cover0_A_6 dev i arg1 harg1 arg2 harg2 arg3 harg3 arg4 harg4 arg5 harg5 arg6 harg6 arg7 harg7 arg8 harg8 arg9 harg9 arg10 harg10 arg11 harg11 arg12 harg12 hc0 x0 x1 x2 x3 x4 x5)) _).trans ?_
  rw [duvList_A, halves_lo, ld0_eq, pay179_apply _ x5 _ _ _ _ (duScr_apply _ _ _ _ _ _ _ _ _ _ _ _ _ _ _ _)]

theorem outA_hi (hc0 : cond0_0 i) (hT : ∀ g a b, x3 (ix3 g a b) = x2 (ix3 g b a)) (c : Fin 2) (q : Fin 128) (j : Fin 1024) :
    out0_A_6 dev i arg1 harg1 arg2 harg2 arg3 harg3 arg4 harg4 arg5 harg5 arg6 harg6 arg7 harg7 arg8 harg8 arg9 harg9 arg10 harg10 arg11 harg11 arg12 harg12 hc0 x0 x1 x2 x3 x4 x5 (ix2 (brow c q) (hi j)) = dHi (chX x0 c) (chY x5 c) (gV x1) (wV x2) q j := by
  refine (congrFun (View.read_writes_eq_canon VO0_6 VO0_6.junk _ (cover0_A_6 dev i arg1 harg1 arg2 harg2 arg3 harg3 arg4 harg4 arg5 harg5 arg6 harg6 arg7 harg7 arg8 harg8 arg9 harg9 arg10 harg10 arg11 harg11 arg12 harg12 hc0 x0 x1 x2 x3 x4 x5)) _).trans ?_
  rw [duvList_A, halves_hi, ld0_eq, ld1_eq, pay1_apply _ _ x5 _ _ (dvnScr_apply _ _ _ _ _ _ _ _ _ _ _ hT)]

theorem outB_dg (hc0 : ¬cond0_0 i) (hT : ∀ g a b, x3 (ix3 g a b) = x2 (ix3 g b a)) (j : Fin 1024) :
    out0_B_7 dev i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 (ix2 0 j)
      = xo7 (ix2 0 j) + (∑ q, dg (chX x0 0) (chY x5 0) (wV x2) q j + ∑ q, dg (chX x0 1) (chY x5 1) (wV x2) q j) := by
  refine (congrFun (View.read_writes_eq_canon VO0_7 VO0_7.junk _ (cover0_B_7 dev i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9)) _).trans ?_
  rw [dgList_B, View.canon_cons_unit_zero (by decide), ld0_eq, pay177_apply (X5 := x5) (W := wV x2) _ _ _ (dvnScr_apply _ _ _ _ _ _ _ _ _ _ _ hT)]
  congr 1
  exact (Memref.IsWhole.readAt_unread harg8 xo7 (Rect.unit ![0, 0] S1x1024.size inb_S1x1024_S1x1024_0_0).toLoadRect _).trans
    (congrFun (View.ld_unit_zero (S := S1x1024) (by decide) inb_S1x1024_S1x1024_0_0 xo7) _)

theorem outB_lo (hc0 : ¬cond0_0 i) (c : Fin 2) (q : Fin 128) (j : Fin 1024) :
    out0_B_6 dev i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 (ix2 (brow c q) (lo j)) = dLo (chX x0 c) (chY x5 c) (gV x1) (wV x2) (bV x4) q j := by
  refine (congrFun (View.read_writes_eq_canon VO0_6 VO0_6.junk _ (cover0_B_6 dev i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9)) _).trans ?_
  rw [duvList_B, halves_lo, ld0_eq, pay179_apply _ x5 _ _ _ _ (duScr_apply _ _ _ _ _ _ _ _ _ _ _ _ _ _ _ _)]

theorem outB_hi (hc0 : ¬cond0_0 i) (hT : ∀ g a b, x3 (ix3 g a b) = x2 (ix3 g b a)) (c : Fin 2) (q : Fin 128) (j : Fin 1024) :
    out0_B_6 dev i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9 (ix2 (brow c q) (hi j)) = dHi (chX x0 c) (chY x5 c) (gV x1) (wV x2) q j := by
  refine (congrFun (View.read_writes_eq_canon VO0_6 VO0_6.junk _ (cover0_B_6 dev i arg1 harg1 arg2 harg2 arg3 harg3 arg4 harg4 arg5 harg5 arg6 harg6 arg7 harg7 arg8 harg8 arg9 harg9 arg10 harg10 arg11 harg11 arg12 harg12 hc0 x0 x1 x2 x3 x4 x5 xo7 xo8 xo9)) _).trans ?_
  rw [duvList_B, halves_hi, ld0_eq, ld1_eq, pay1_apply _ _ x5 _ _ (dvnScr_apply _ _ _ _ _ _ _ _ _ _ _ hT)]

end Runs

end Cert.Gmlp
-- ==== Proof.Gmlp.Blocks.lean ====
module

public import proofs.«01_k».proof.Proof.Gmlp.Point
public import proofs.«01_k».proof.Proof.Gen.KernelIdeal.Value
public import Idealize.ShloMosaic.Lib.Claim

/-!
# The blocks that the grid points read

Grid point `t` reads the rows `256 t, …, 256 t + 255` of the input and of the cotangent: the chunks `2 t` and `2 t + 1` of
128 rows.  The gain, the matrices and the biases are read whole at every point.
-/

@[expose] public section

set_option maxRecDepth 16384

noncomputable section

namespace Cert.Gmlp

open Cert.KernelIdeal Cert.KernelIdeal.Gen Idealize.ShloMosaic Idealize.ShloMosaic.TcCoe Idealize.SL.Sem

/-- Row `q` of chunk `n`. -/
def crow (n : ℕ) (q : Fin 128) : Fin 4096 := ⟨(128 * n + q.val) % 4096, by omega⟩

/-- A column of the mixer's part of the projection. -/
def pcol (j : Fin 2048) : Fin 12288 := ⟨j.val, by omega⟩

/-- Chunk `n` of the mixer's part of the projection. -/
def cX (P : Vec Ideal S4096x12288 .bf16) (n : ℕ) : Fin 128 → Fin 2048 → EReal := fun q j => P (ix2 (crow n q) (pcol j))
/-- Chunk `n` of the cotangent. -/
def cY (Y : Vec Ideal S4096x1024 .bf16) (n : ℕ) : Fin 128 → Fin 1024 → EReal := fun q j => Y (ix2 (crow n q) j)
/-- The gain. -/
def gA (G : Vec Ideal S1024 .f32) : Fin 1024 → EReal := fun j => G (ix1 j)
/-- The biases. -/
def bA (B : Vec Ideal S8x128 .f32) : Fin 8 → Fin 128 → EReal := fun g t => B (ix2 g t)

variable (m : (ℓ : Loc nD τ sig) → Buf (Elt Ideal) ℓ) (d : Dev nD)

/-- The arguments of the launch. -/
abbrev aP : Vec Ideal S4096x12288 .bf16 := m ((d : Thread nD τ).loc main_arg0)
abbrev aG : Vec Ideal S1024 .f32 := m ((d : Thread nD τ).loc main_arg1)
abbrev aW : Vec Ideal S8x128x128 .f32 := m ((d : Thread nD τ).loc main_arg2)
abbrev aB : Vec Ideal S8x128 .f32 := m ((d : Thread nD τ).loc main_arg3)
abbrev aY : Vec Ideal S4096x1024 .bf16 := m ((d : Thread nD τ).loc main_arg4)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = 0 ∧ win0_3.index t 1 = 0 ∧ win0_3.index t 2 = 0 := by decide +kernel
theorem index4 : ∀ t : Fin grid0.N, win0_4.index t 0 = 0 ∧ win0_4.index t 1 = 0 ∧ win0_4.index t 2 = 0 := by decide +kernel
theorem index5 : ∀ t : Fin grid0.N, win0_5.index t 0 = t.val ∧ win0_5.index t 1 = 0 := by decide +kernel

theorem N16 (t : Fin cfg0.N) : t.val < 16 := lt_of_lt_of_eq t.isLt (show cfg0.N = 16 from N_0)

theorem iblk0 (t : Fin cfg0.N) (k : Fin 2) : chX (iblk m d 0 t) k = cX (aP m d) (2 * t.val + k.val) := by
  funext q j
  have ht := N16 t
  have hi := index0 t
  unfold chX cX iblk
  rw [View.read_apply]
  show V m d main_arg0 _ = _
  rw [V_main_arg0]
  refine congrArg (aP m d) (funext fun a => ?_)
  match a with
  | ⟨0, _⟩ => exact Fin.ext (show win0_0.index t 0 * 256 + 1 * (128 * k.val + q.val) = (128 * (2 * t.val + k.val) + q.val) % 4096 by rw [hi.1]; omega)
  | ⟨1, _⟩ => exact Fin.ext (show win0_0.index t 1 * 2048 + 1 * j.val = j.val by rw [hi.2]; omega)

theorem iblk5 (t : Fin cfg0.N) (k : Fin 2) : chY (iblk m d 5 t) k = cY (aY m d) (2 * t.val + k.val) := by
  funext q j
  have ht := N16 t
  have hi := index5 t
  unfold chY cY iblk
  rw [View.read_apply]
  show V m d main_arg4 _ = _
  rw [V_main_arg4]
  refine congrArg (aY m d) (funext fun a => ?_)
  match a with
  | ⟨0, _⟩ => exact Fin.ext (show win0_5.index t 0 * 256 + 1 * (128 * k.val + q.val) = (128 * (2 * t.val + k.val) + q.val) % 4096 by rw [hi.1]; omega)
  | ⟨1, _⟩ => exact Fin.ext (show win0_5.index t 1 * 1024 + 1 * j.val = j.val by rw [hi.2]; omega)

theorem iblk2 (t : Fin cfg0.N) (g : Fin 8) (a b : Fin 128) :
    (iblk m d 2 t : Vec Ideal S8x128x128 .f32) (ix3 g a b) = aW m d (ix3 g a b) := by
  have hi := index2 t
  unfold iblk
  rw [View.read_apply]
  show V m d main_arg2 _ = _
  rw [V_main_arg2]
  refine congrArg (aW m d) (funext fun x => ?_)
  match x with
  | ⟨0, _⟩ => exact Fin.ext (show win0_2.index t 0 * 8 + 1 * g.val = g.val by rw [hi.1]; omega)
  | ⟨1, _⟩ => exact Fin.ext (show win0_2.index t 1 * 128 + 1 * a.val = a.val by rw [hi.2.1]; omega)
  | ⟨2, _⟩ => exact Fin.ext (show win0_2.index t 2 * 128 + 1 * b.val = b.val by rw [hi.2.2]; omega)

theorem iblkW (t : Fin cfg0.N) : wV (iblk m d 2 t) = fun g a b => aW m d (ix3 g a b) :=
  funext fun g => funext fun a => funext fun b => iblk2 m d t g a b

theorem V1 : V m d main_v0 = broadcastInDim S1x1024 ![1] bcast_S1024_S1x1024_1 (aG m d) := by entry_read; rfl
theorem V3 : V m d main_v1 = transpose S8x128x128 [0, 2, 1] (aW m d) transposes_S8x128x128_S8x128x128_0_2_1 := by entry_read; rfl
theorem V4 : V m d main_v2 = broadcastInDim S8x128x1 ![0, 1] bcast_S8x128_S8x128x1_0_1 (aB m d) := by entry_read; rfl

theorem iblk1 (t : Fin cfg0.N) : gV (iblk m d 1 t) = gA (aG m d) := by
  funext j
  have hi := index1 t
  unfold gV gA iblk
  rw [View.read_apply]
  show V m d main_v0 _ = _
  rw [V1]
  have e : ((cfg0.win 1).blk t).view.emb (ix2 (0 : Fin 1) j) = (ix2 (0 : Fin 1) j : S1x1024.Idx) := funext fun x => by
    match x with
    | ⟨0, _⟩ => exact Fin.ext (show win0_1.index t 0 * 1 + 1 * 0 = 0 by rw [hi.1])
    | ⟨1, _⟩ => exact Fin.ext (show win0_1.index t 1 * 1024 + 1 * j.val = j.val by rw [hi.2]; omega)
  refine (congrArg (broadcastInDim S1x1024 ![1] bcast_S1024_S1x1024_1 (aG m d)) e).trans ?_
  pointwise
  try rfl

theorem iblk3 (t : Fin cfg0.N) (g : Fin 8) (a b : Fin 128) :
    (iblk m d 3 t : Vec Ideal S8x128x128 .f32) (ix3 g a b) = (iblk m d 2 t : Vec Ideal S8x128x128 .f32) (ix3 g b a) := by
  rw [iblk2]
  have hi := index3 t
  unfold iblk
  rw [View.read_apply]
  show V m d main_v1 _ = _
  rw [V3]
  have e : ((cfg0.win 3).blk t).view.emb (ix3 g a b) = (ix3 g a b : S8x128x128.Idx) := funext fun x => by
    match x with
    | ⟨0, _⟩ => exact Fin.ext (show win0_3.index t 0 * 8 + 1 * g.val = g.val by rw [hi.1]; omega)
    | ⟨1, _⟩ => exact Fin.ext (show win0_3.index t 1 * 128 + 1 * a.val = a.val by rw [hi.2.1]; omega)
    | ⟨2, _⟩ => exact Fin.ext (show win0_3.index t 2 * 128 + 1 * b.val = b.val by rw [hi.2.2]; omega)
  refine (congrArg (transpose S8x128x128 [0, 2, 1] (aW m d) transposes_S8x128x128_S8x128x128_0_2_1) e).trans ?_
  pointwise
  try rfl

theorem iblk4 (t : Fin cfg0.N) : bV (iblk m d 4 t) = bA (aB m d) := by
  funext g k
  have hi := index4 t
  unfold bV bA iblk
  rw [View.read_apply]
  show V m d main_v2 _ = _
  rw [V4]
  have e : ((cfg0.win 4).blk t).view.emb (ix3 g k (0 : Fin 1)) = (ix3 g k (0 : Fin 1) : S8x128x1.Idx) := funext fun x => by
    match x with
    | ⟨0, _⟩ => exact Fin.ext (show win0_4.index t 0 * 8 + 1 * g.val = g.val by rw [hi.1]; omega)
    | ⟨1, _⟩ => exact Fin.ext (show win0_4.index t 1 * 128 + 1 * k.val = k.val by rw [hi.2.1]; omega)
    | ⟨2, _⟩ => exact Fin.ext (show win0_4.index t 2 * 1 + 1 * 0 = 0 by rw [hi.2.2])
  refine (congrArg (broadcastInDim S8x128x1 ![0, 1] bcast_S8x128_S8x128x1_0_1 (aB m d)) e).trans ?_
  pointwise
  try rfl

end Cert.Gmlp
-- ==== Proof.Gmlp.Arrays.lean ====
module

public import proofs.«01_k».proof.Proof.Gmlp.Blocks

/-!
# The four arrays that the kernel leaves

Every result is named over the arguments: the gradient of the projection by chunks of 128 rows, and the three gradients of
the parameters as sums over the 32 chunks.
-/

@[expose] public section

set_option maxRecDepth 16384

noncomputable section

namespace Cert.Gmlp

open Cert.KernelIdeal Cert.KernelIdeal.Gen Idealize.ShloMosaic Idealize.ShloMosaic.TcCoe Idealize.SL.Sem

section Results
variable (P : Vec Ideal S4096x12288 .bf16) (G : Vec Ideal S1024 .f32) (W : Vec Ideal S8x128x128 .f32) (B : Vec Ideal S8x128 .f32)
  (Y : Vec Ideal S4096x1024 .bf16)

/-- The matrices as a function of group, row and column. -/
def wA : Fin 8 → Fin 128 → Fin 128 → EReal := fun g a b => W (ix3 g a b)

/-- The gradient of the matrices: the chunks' parts, summed. -/
def dwSum (g : Fin 8) (t s : Fin 128) : EReal := ∑ n ∈ Finset.range 32, dw (cX P n) (cY Y n) (gA G) g t s
/-- The gradient of the biases. -/
def dbSum (g : Fin 8) (t : Fin 128) : EReal := ∑ n ∈ Finset.range 32, db (cX P n) (cY Y n) g t
/-- The gradient of the gain. -/
def dgSum (j : Fin 1024) : EReal := ∑ n ∈ Finset.range 32, ∑ q, dg (cX P n) (cY Y n) (wA W) q j

/-- The gradient of the projection: row `128 n + q` is row `q` of chunk `n`. -/
def duvAt (r : Fin 4096) (x : Fin 2048) : EReal :=
  if h : x.val < 1024 then
    dLo (cX P (r.val / 128)) (cY Y (r.val / 128)) (gA G) (wA W) (bA B) ⟨r.val % 128, by omega⟩ ⟨x.val, h⟩
  else dHi (cX P (r.val / 128)) (cY Y (r.val / 128)) (gA G) (wA W) ⟨r.val % 128, by omega⟩ ⟨x.val - 1024, by omega⟩
end Results

variable (m : (ℓ : Loc nD τ sig) → Buf (Elt Ideal) ℓ) (d : Dev nD)

/-- A running sum that starts with the terms 0 and 1 and takes two more at every step. -/
theorem sum_step (f : ℕ → EReal) (n : ℕ) :
    ∑ k ∈ Finset.range (2 * (n + 1 + 1)), f k
      = ∑ k ∈ Finset.range (2 * (n + 1)), f k + f (2 * (n + 1) + 0) + f (2 * (n + 1) + 1) := by
  rw [show 2 * (n + 1 + 1) = 2 * (n + 1) + 1 + 1 by ring, Finset.sum_range_succ, Finset.sum_range_succ]; rfl

theorem sum_start (f : ℕ → EReal) : ∑ k ∈ Finset.range (2 * (0 + 1)), f k = 0 + f (2 * 0 + 0) + f (2 * 0 + 1) := by
  simp [Finset.sum_range_succ]

theorem notA (n : ℕ) (h : n + 1 < cfg0.N) : ¬(⟨n + 1, h⟩ : Fin cfg0.N).val % 16 = 0 := by
  have := N16 ⟨n + 1, h⟩
  dsimp only at this ⊢
  omega

/-! The components of what a point leaves, at the first point and at a later one. -/

theorem comp6_A (t : Fin cfg0.N) (h0 : t.val % 16 = 0) : (outsAt0 m d t.val t.isLt).1
    = out0_A_6 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m d 0 t) (iblk m d 1 t) (iblk m d 2 t) (iblk m d 3 t) (iblk m d 4 t) (iblk m d 5 t) := by
  rw [outsAt0_A m d t h0]

theorem comp6_B (t : Fin cfg0.N) (h0 : ¬t.val % 16 = 0) : (outsAt0 m d t.val t.isLt).1
    = out0_B_6 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m d 0 t) (iblk m d 1 t) (iblk m d 2 t) (iblk m d 3 t) (iblk m d 4 t) (iblk m d 5 t) (outsAt0 m d (t.val - 1) (Nat.lt_of_le_of_lt (Nat.sub_le _ _) t.isLt)).2.1 (outsAt0 m d (t.val - 1) (Nat.lt_of_le_of_lt (Nat.sub_le _ _) t.isLt)).2.2.1 (outsAt0 m d (t.val - 1) (Nat.lt_of_le_of_lt (Nat.sub_le _ _) t.isLt)).2.2.2 := by
  rw [outsAt0_B m d t h0]

theorem comp7_A (t : Fin cfg0.N) (h0 : t.val % 16 = 0) : (outsAt0 m d t.val t.isLt).2.1
    = out0_A_7 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m d 0 t) (iblk m d 1 t) (iblk m d 2 t) (iblk m d 3 t) (iblk m d 4 t) (iblk m d 5 t) := by
  rw [outsAt0_A m d t h0]

theorem comp7_B (t : Fin cfg0.N) (h0 : ¬t.val % 16 = 0) : (outsAt0 m d t.val t.isLt).2.1
    = out0_B_7 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m d 0 t) (iblk m d 1 t) (iblk m d 2 t) (iblk m d 3 t) (iblk m d 4 t) (iblk m d 5 t) (outsAt0 m d (t.val - 1) (Nat.lt_of_le_of_lt (Nat.sub_le _ _) t.isLt)).2.1 (outsAt0 m d (t.val - 1) (Nat.lt_of_le_of_lt (Nat.sub_le _ _) t.isLt)).2.2.1 (outsAt0 m d (t.val - 1) (Nat.lt_of_le_of_lt (Nat.sub_le _ _) t.isLt)).2.2.2 := by
  rw [outsAt0_B m d t h0]

theorem comp8_A (t : Fin cfg0.N) (h0 : t.val % 16 = 0) : (outsAt0 m d t.val t.isLt).2.2.1
    = out0_A_8 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m d 0 t) (iblk m d 1 t) (iblk m d 2 t) (iblk m d 3 t) (iblk m d 4 t) (iblk m d 5 t) := by
  rw [outsAt0_A m d t h0]

theorem comp8_B (t : Fin cfg0.N) (h0 : ¬t.val % 16 = 0) : (outsAt0 m d t.val t.isLt).2.2.1
    = out0_B_8 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m d 0 t) (iblk m d 1 t) (iblk m d 2 t) (iblk m d 3 t) (iblk m d 4 t) (iblk m d 5 t) (outsAt0 m d (t.val - 1) (Nat.lt_of_le_of_lt (Nat.sub_le _ _) t.isLt)).2.1 (outsAt0 m d (t.val - 1) (Nat.lt_of_le_of_lt (Nat.sub_le _ _) t.isLt)).2.2.1 (outsAt0 m d (t.val - 1) (Nat.lt_of_le_of_lt (Nat.sub_le _ _) t.isLt)).2.2.2 := by
  rw [outsAt0_B m d t h0]

theorem comp9_A (t : Fin cfg0.N) (h0 : t.val % 16 = 0) : (outsAt0 m d t.val t.isLt).2.2.2
    = out0_A_9 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m d 0 t) (iblk m d 1 t) (iblk m d 2 t) (iblk m d 3 t) (iblk m d 4 t) (iblk m d 5 t) := by
  rw [outsAt0_A m d t h0]

theorem comp9_B (t : Fin cfg0.N) (h0 : ¬t.val % 16 = 0) : (outsAt0 m d t.val t.isLt).2.2.2
    = out0_B_9 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m d 0 t) (iblk m d 1 t) (iblk m d 2 t) (iblk m d 3 t) (iblk m d 4 t) (iblk m d 5 t) (outsAt0 m d (t.val - 1) (Nat.lt_of_le_of_lt (Nat.sub_le _ _) t.isLt)).2.1 (outsAt0 m d (t.val - 1) (Nat.lt_of_le_of_lt (Nat.sub_le _ _) t.isLt)).2.2.1 (outsAt0 m d (t.val - 1) (Nat.lt_of_le_of_lt (Nat.sub_le _ _) t.isLt)).2.2.2 := by
  rw [outsAt0_B m d t h0]

/-- The matrices' gradient: the first point, -/
theorem first8 (g : Fin 8) (a b : Fin 128) (t : Fin cfg0.N) (h0 : t.val % 16 = 0) :
    (outsAt0 m d t.val t.isLt).2.2.1 (ix3 g a b)
      = 0 + dw (cX (aP m d) (2 * t.val + 0)) (cY (aY m d) (2 * t.val + 0)) (gA (aG m d)) g a b + dw (cX (aP m d) (2 * t.val + 1)) (cY (aY m d) (2 * t.val + 1)) (gA (aG m d)) g a b := by
  rw [comp8_A m d t h0, outA_dw, iblk0, iblk0, iblk5, iblk5, iblk1]
  rfl

/-- and a later one. -/
theorem later8 (g : Fin 8) (a b : Fin 128) (t : Fin cfg0.N) (h0 : ¬t.val % 16 = 0) :
    (outsAt0 m d t.val t.isLt).2.2.1 (ix3 g a b)
      = (outsAt0 m d (t.val - 1) (Nat.lt_of_le_of_lt (Nat.sub_le _ _) t.isLt)).2.2.1 (ix3 g a b) + dw (cX (aP m d) (2 * t.val + 0)) (cY (aY m d) (2 * t.val + 0)) (gA (aG m d)) g a b + dw (cX (aP m d) (2 * t.val + 1)) (cY (aY m d) (2 * t.val + 1)) (gA (aG m d)) g a b := by
  rw [comp8_B m d t h0, outB_dw, iblk0, iblk0, iblk5, iblk5, iblk1]
  rfl

/-- The running sum after point `n`. -/
theorem acc8 (g : Fin 8) (a b : Fin 128) : ∀ (n : ℕ) (h : n < cfg0.N), (outsAt0 m d n h).2.2.1 (ix3 g a b)
    = ∑ k ∈ Finset.range (2 * (n + 1)), dw (cX (aP m d) k) (cY (aY m d) k) (gA (aG m d)) g a b
  | 0, h => (first8 m d g a b ⟨0, h⟩ rfl).trans (sum_start fun k => dw (cX (aP m d) k) (cY (aY m d) k) (gA (aG m d)) g a b).symm
  | n + 1, h => by
    have e := later8 m d g a b ⟨n + 1, h⟩ (notA n h)
    have ih := acc8 g a b n (Nat.lt_of_succ_lt h)
    rw [sum_step (fun k => dw (cX (aP m d) k) (cY (aY m d) k) (gA (aG m d)) g a b), ← ih]
    exact e

/-- The biases' gradient: the first point, -/
theorem first9 (g : Fin 8) (a : Fin 128) (t : Fin cfg0.N) (h0 : t.val % 16 = 0) :
    (outsAt0 m d t.val t.isLt).2.2.2 (ix3 g a 0)
      = 0 + db (cX (aP m d) (2 * t.val + 0)) (cY (aY m d) (2 * t.val + 0)) g a + db (cX (aP m d) (2 * t.val + 1)) (cY (aY m d) (2 * t.val + 1)) g a := by
  rw [comp9_A m d t h0, outA_db, iblk0, iblk0, iblk5, iblk5]
  rfl

/-- and a later one. -/
theorem later9 (g : Fin 8) (a : Fin 128) (t : Fin cfg0.N) (h0 : ¬t.val % 16 = 0) :
    (outsAt0 m d t.val t.isLt).2.2.2 (ix3 g a 0)
      = (outsAt0 m d (t.val - 1) (Nat.lt_of_le_of_lt (Nat.sub_le _ _) t.isLt)).2.2.2 (ix3 g a 0) + db (cX (aP m d) (2 * t.val + 0)) (cY (aY m d) (2 * t.val + 0)) g a + db (cX (aP m d) (2 * t.val + 1)) (cY (aY m d) (2 * t.val + 1)) g a := by
  rw [comp9_B m d t h0, outB_db, iblk0, iblk0, iblk5, iblk5]
  rfl

/-- The running sum after point `n`. -/
theorem acc9 (g : Fin 8) (a : Fin 128) : ∀ (n : ℕ) (h : n < cfg0.N), (outsAt0 m d n h).2.2.2 (ix3 g a 0)
    = ∑ k ∈ Finset.range (2 * (n + 1)), db (cX (aP m d) k) (cY (aY m d) k) g a
  | 0, h => (first9 m d g a ⟨0, h⟩ rfl).trans (sum_start fun k => db (cX (aP m d) k) (cY (aY m d) k) g a).symm
  | n + 1, h => by
    have e := later9 m d g a ⟨n + 1, h⟩ (notA n h)
    have ih := acc9 g a n (Nat.lt_of_succ_lt h)
    rw [sum_step (fun k => db (cX (aP m d) k) (cY (aY m d) k) g a), ← ih]
    exact e

/-- The gain's gradient: the first point, -/
theorem first7 (j : Fin 1024) (t : Fin cfg0.N) (h0 : t.val % 16 = 0) :
    (outsAt0 m d t.val t.isLt).2.1 (ix2 0 j)
      = 0 + (∑ q, dg (cX (aP m d) (2 * t.val + 0)) (cY (aY m d) (2 * t.val + 0)) (wA (aW m d)) q j) + (∑ q, dg (cX (aP m d) (2 * t.val + 1)) (cY (aY m d) (2 * t.val + 1)) (wA (aW m d)) q j) := by
  rw [comp7_A m d t h0, outA_dg (hT := iblk3 m d t), iblk0, iblk0, iblk5, iblk5, iblkW, ← add_assoc]
  rfl

/-- and a later one. -/
theorem later7 (j : Fin 1024) (t : Fin cfg0.N) (h0 : ¬t.val % 16 = 0) :
    (outsAt0 m d t.val t.isLt).2.1 (ix2 0 j)
      = (outsAt0 m d (t.val - 1) (Nat.lt_of_le_of_lt (Nat.sub_le _ _) t.isLt)).2.1 (ix2 0 j) + (∑ q, dg (cX (aP m d) (2 * t.val + 0)) (cY (aY m d) (2 * t.val + 0)) (wA (aW m d)) q j) + (∑ q, dg (cX (aP m d) (2 * t.val + 1)) (cY (aY m d) (2 * t.val + 1)) (wA (aW m d)) q j) := by
  rw [comp7_B m d t h0, outB_dg (hT := iblk3 m d t), iblk0, iblk0, iblk5, iblk5, iblkW, ← add_assoc]
  rfl

/-- The running sum after point `n`. -/
theorem acc7 (j : Fin 1024) : ∀ (n : ℕ) (h : n < cfg0.N), (outsAt0 m d n h).2.1 (ix2 0 j)
    = ∑ k ∈ Finset.range (2 * (n + 1)), (∑ q, dg (cX (aP m d) k) (cY (aY m d) k) (wA (aW m d)) q j)
  | 0, h => (first7 m d j ⟨0, h⟩ rfl).trans (sum_start fun k => (∑ q, dg (cX (aP m d) k) (cY (aY m d) k) (wA (aW m d)) q j)).symm
  | n + 1, h => by
    have e := later7 m d j ⟨n + 1, h⟩ (notA n h)
    have ih := acc7 j n (Nat.lt_of_succ_lt h)
    rw [sum_step (fun k => (∑ q, dg (cX (aP m d) k) (cY (aY m d) k) (wA (aW m d)) q j)), ← ih]
    exact e

/-- The gradient of the projection after point `t`, first half. -/
theorem at6_lo (t : Fin cfg0.N) (k : Fin 2) (q : Fin 128) (j : Fin 1024) :
    (outsAt0 m d t.val t.isLt).1 (ix2 (brow k q) (lo j)) = dLo (cX (aP m d) (2 * t.val + k.val)) (cY (aY m d) (2 * t.val + k.val)) (gA (aG m d)) (wA (aW m d)) (bA (aB m d)) q j := by
  by_cases h0 : t.val % 16 = 0
  · rw [comp6_A m d t h0, outA_lo, iblk0, iblk5, iblk1, iblkW, iblk4]
    rfl
  · rw [comp6_B m d t h0, outB_lo, iblk0, iblk5, iblk1, iblkW, iblk4]
    rfl

/-- The gradient of the projection after point `t`, second half. -/
theorem at6_hi (t : Fin cfg0.N) (k : Fin 2) (q : Fin 128) (j : Fin 1024) :
    (outsAt0 m d t.val t.isLt).1 (ix2 (brow k q) (hi j)) = dHi (cX (aP m d) (2 * t.val + k.val)) (cY (aY m d) (2 * t.val + k.val)) (gA (aG m d)) (wA (aW m d)) q j := by
  by_cases h0 : t.val % 16 = 0
  · rw [comp6_A m d t h0, outA_hi (hT := iblk3 m d t), iblk0, iblk5, iblk1, iblkW]
    rfl
  · rw [comp6_B m d t h0, outB_hi (hT := iblk3 m d t), iblk0, iblk5, iblk1, iblkW]
    rfl

/-- The results, as contents of the arrays. -/
def res6 : Buf (Elt Ideal) ((d : Thread nD τ).loc main_v3_0) :=
  fun y : S4096x2048.Idx => duvAt (aP m d) (aG m d) (aW m d) (aB m d) (aY m d) (y 0) (y 1)
def res7 : Buf (Elt Ideal) ((d : Thread nD τ).loc main_v3_1) := fun y : S1x1024.Idx => dgSum (aP m d) (aW m d) (aY m d) (y 1)
def res8 : Buf (Elt Ideal) ((d : Thread nD τ).loc main_v3_2) := fun y : S8x128x128.Idx => dwSum (aP m d) (aG m d) (aY m d) (y 0) (y 1) (y 2)
def res9 : Buf (Elt Ideal) ((d : Thread nD τ).loc main_v3_3) := fun y : S8x128x1.Idx => dbSum (aP m d) (aY m d) (y 0) (y 1)

end Cert.Gmlp
-- ==== Proof.Gmlp.Ref.lean ====
module

public import proofs.«01_k».proof.Proof.Gmlp.Arrays
public import proofs.«01_k».proof.Proof.Gen.ReferenceIdeal.Read
public import Idealize.ShloMosaic.Lib.TwoAxisContraction
public import Idealize.ShloMosaic.Lib.IdealHost

/-!
# The reference's values, read as the gradient of the gating unit

Row `128 n + q` of every array of rows is row `q` of chunk `n`.  The reference's operations, read at such a row, are the
functions of `Spec`.
-/

@[expose] public section

set_option maxRecDepth 16384

noncomputable section

namespace Cert.Gmlp

open Cert.ReferenceIdeal Cert.ReferenceIdeal.Read Idealize.ShloMosaic Idealize.ShloMosaic.TcCoe Idealize.SL.Sem

variable (P : Vec Ideal S4096x12288 .bf16) (G : Vec Ideal S1024 .f32) (W : Vec Ideal S8x128x128 .f32) (B : Vec Ideal S8x128 .f32)
  (Y : Vec Ideal S4096x1024 .bf16) (n : ℕ) (q : Fin 128)

/-- The quotient that the reference writes for gelu's constant is the constant. -/
theorem kG_eq : kG = ((8943 / 200000 : ℝ) : EReal) := by simp [kG, Named.named, Cert.KernelIdeal.κ]
theorem kG3_eq : kG3 = ((26829 / 200000 : ℝ) : EReal) := by simp [kG3, Named.named, Cert.KernelIdeal.κ]

theorem c44715 : Ideal.ofBits .f32 0x472EAB00#32 = ((44715 : ℝ) : EReal) := by
  simp [Ideal.ofBits, Ideal.ieee, -EReal.coe_mul]; norm_num
theorem c1e6 : Ideal.ofBits .f32 0x49742400#32 = ((1000000 : ℝ) : EReal) := by
  simp [Ideal.ofBits, Ideal.ieee, -EReal.coe_mul]; norm_num

theorem kG_div : Ideal.div (Ideal.ofBits .f32 0x472EAB00#32) (Ideal.ofBits .f32 0x49742400#32) = kG := by
  rw [c44715, c1e6, Ideal.div_coe (by norm_num), kG_eq, ← EReal.coe_mul]; norm_num

theorem r_v1 (x : Fin 2048) : val_main_v1 (F := Ideal) P (ix2 (crow n q) x) = cX P n q x := by
  rw [val_main_v1_apply, val_main_v0_apply]
  exact congrArg P (funext fun a => match a with | ⟨0, _⟩ => rfl | ⟨1, _⟩ => rfl)

theorem r_v13 (x : Fin 2048) : val_main_v13 (F := Ideal) P (ix2 (crow n q) x) = th (cX P n q x) := by
  rw [val_main_v13_apply, val_main_v12_apply, val_main_v11_apply, val_main_v10_apply, val_main_v9_apply, val_main_v8_apply,
    val_main_v2_apply, val_main_v4_apply, val_main_v3_apply, r_v1]
  show Ideal.tanh (cG * (_ + Ideal.div (Ideal.ofBits .f32 0x472EAB00#32) (Ideal.ofBits .f32 0x49742400#32) * _)) = _
  rw [kG_div]; rfl

/-- Half of one plus gelu's tanh. -/
theorem r_v22 (x : Fin 2048) :
    val_main_v22 (F := Ideal) P (ix2 (crow n q) x) = half * (1 + th (cX P n q x)) := by
  rw [val_main_v22_apply, val_main_v21_apply, val_main_v20_apply, val_main_v19_apply, r_v13]
  show half * (Ideal.ofBits .f32 0x3F800000#32 + _) = _
  rw [Ideal.ofBits_one_f32]

theorem r_v23 (x : Fin 2048) : val_main_v23 (F := Ideal) P (ix2 (crow n q) x) = gelu (cX P n q x) := by
  rw [val_main_v23_apply, r_v22, r_v1]
  show _ * (half * _) = half * _ * _
  rw [mul_left_comm, mul_assoc]

theorem r_v18 (x : Fin 2048) : val_main_v18 (F := Ideal) P (ix2 (crow n q) x)
    = (1 + th (cX P n q x)) * (1 - th (cX P n q x)) := by
  rw [val_main_v18_apply, val_main_v15_apply, val_main_v17_apply, val_main_v14_apply, val_main_v16_apply, r_v13]
  show (Ideal.ofBits .f32 0x3F800000#32 + _) * (Ideal.ofBits .f32 0x3F800000#32 - _) = _
  rw [Ideal.ofBits_one_f32]

theorem r_v24 (j : Fin 1024) : val_main_v24 (F := Ideal) P (ix2 (crow n q) j) = uR (cX P n q) j := by
  rw [val_main_v24_apply, show idx_main_v24 (ix2 (crow n q) j) = ix2 (crow n q) (lo j) from
    funext fun a => match a with | ⟨0, _⟩ => rfl | ⟨1, _⟩ => rfl, r_v23]; rfl
theorem r_v25 (j : Fin 1024) : val_main_v25 (F := Ideal) P (ix2 (crow n q) j) = vR (cX P n q) j := by
  rw [val_main_v25_apply, show idx_main_v25 (ix2 (crow n q) j) = ix2 (crow n q) (hi j) from
    funext fun a => match a with | ⟨0, _⟩ => rfl | ⟨1, _⟩ => rfl, r_v23]; rfl

/-- The mean square of a row's second half, with the small number. -/
def msq (X : Fin 2048 → EReal) : EReal := Ideal.div (∑ j, vR X j * vR X j) width + eps

theorem r_v32 (i : Fin 1) : val_main_v32 (F := Ideal) P (ix2 (crow n q) i) = msq (cX P n q) := by
  rw [val_main_v32_apply, val_main_v30_apply, val_main_v28_apply, val_main_v27_apply]
  show Ideal.div (Ideal.ofBits .f32 0x00000000#32 + _) width + eps = _
  rw [Ideal.ofBits_zero_f32, zero_add]
  unfold msq
  refine congrArg (fun z => Ideal.div z width + eps) (Finset.sum_congr rfl fun k _ => ?_)
  rw [show idx_main_v27 (idx_main_v28 (ix2 (crow n q) i)) k = ix2 (crow n q) k from
    funext fun a => match a with | ⟨0, _⟩ => rfl | ⟨1, _⟩ => rfl, val_main_v26_apply, r_v25]; rfl

theorem r_v33 (i : Fin 1) : val_main_v33 (F := Ideal) P (ix2 (crow n q) i) = rstd (cX P n q) := by
  rw [val_main_v33_apply, r_v32]; rfl

/-- Minus half the normaliser's third power. -/
def nhalf (X : Fin 2048 → EReal) : EReal := Ideal.ofBits .f32 0xBF000000#32 * Ideal.div (rstd X) (msq X)

theorem r_v36 (i : Fin 1) : val_main_v36 (F := Ideal) P (ix2 (crow n q) i) = nhalf (cX P n q) := by
  rw [val_main_v36_apply, val_main_v34_apply, val_main_v35_apply, r_v33, r_v32]; rfl

theorem r_v38 (j : Fin 1024) : val_main_v38 (F := Ideal) P (ix2 (crow n q) j) = vhat (cX P n q) j := by
  rw [val_main_v38_apply, val_main_v37_apply, r_v25, show idx_main_v37 (ix2 (crow n q) j) = ix2 (crow n q) 0 from
    funext fun a => match a with | ⟨0, _⟩ => rfl | ⟨1, _⟩ => rfl, r_v33]; rfl

theorem r_v41 (j : Fin 1024) : val_main_v41 (F := Ideal) P G (ix2 (crow n q) j) = vn (cX P n q) (gA G) j := by
  rw [val_main_v41_apply, val_main_v40_apply, val_main_v39_apply, r_v38]
  exact congrArg (fun z => _ * G z) (funext fun a => match a with | ⟨0, _⟩ => rfl)

theorem col_grp (j : Fin 1024) : col (grp j) ⟨j.val % 128, by omega⟩ = j := Fin.ext (by simp only [grp, col]; omega)

variable (N : Fin 32) (g : Fin 8) (k : Fin 128)

theorem r_v42 : val_main_v42 (F := Ideal) P G (ix4 N q g k) = vn (cX P N.val q) (gA G) (col g k) := by
  rw [val_main_v42_apply, show idx_main_v42 (ix4 N q g k) = ix2 (crow N.val q) (col g k) from
    funext fun a => match a with
      | ⟨0, _⟩ => Fin.ext (show (((N.val * 128 + q.val) * 8 + g.val) * 128 + k.val) / 1024 = (128 * N.val + q.val) % 4096 by omega)
      | ⟨1, _⟩ => Fin.ext (show (((N.val * 128 + q.val) * 8 + g.val) * 128 + k.val) % 1024 = 128 * g.val + k.val by omega), r_v41]

theorem sge_nat (a b : Fin 128) :
    IntOp.cmpi .sge (IntOp.addi (BitVec.ofNat 32 a.val) 0#32) (BitVec.ofNat 32 b.val) = if b.val ≤ a.val then 1#1 else 0#1 := by
  revert a b; decide +kernel

theorem r_mask (a b : Fin 128) : val_main_v43_1 (F := Ideal) (ix3 g a b) = if b.val ≤ a.val then 1#1 else 0#1 := by
  rw [val_main_v43_1_apply, val_main_call0_v4_apply, val_main_call0_v2_apply, val_main_call0_v0_apply, val_main_call0_v1_apply,
    val_main_call0_c_apply, val_main_call0_v3_apply]
  exact sge_nat a b

theorem r_v43 (a b : Fin 128) : val_main_v43_0 (F := Ideal) W (ix3 g a b) = if b.val ≤ a.val then wA W g a b else 0 := by
  rw [val_main_v43_0_apply, r_mask, val_main_call0_v6_apply, val_main_call0_cst_apply]
  show Scalar.select _ _ (Ideal.ofBits .f32 0x00000000#32) = _
  rw [Ideal.ofBits_zero_f32]
  by_cases h : b.val ≤ a.val
  · rw [if_pos h, if_pos h]; rfl
  · rw [if_neg h, if_neg h]; rfl

end Cert.Gmlp
-- ==== Proof.Gmlp.Mix.lean ====
module

public import proofs.«01_k».proof.Proof.Gmlp.Ref

/-!
# The reference's mixing and its gradients, by chunks

The reference regroups the rows as 32 chunks of 128 rows and the columns as 8 groups of 128.  Its contractions over one
chunk are those of `Spec`; its sums over all chunks are sums over the chunks of what `Spec` names.
-/

@[expose] public section

set_option maxRecDepth 16384

noncomputable section

namespace Cert.Gmlp

open Cert.ReferenceIdeal Cert.ReferenceIdeal.Read Idealize.ShloMosaic Idealize.ShloMosaic.TcCoe Idealize.SL.Sem

variable (P : Vec Ideal S4096x12288 .bf16) (G : Vec Ideal S1024 .f32) (W : Vec Ideal S8x128x128 .f32) (B : Vec Ideal S8x128 .f32)
  (Y : Vec Ideal S4096x1024 .bf16) (N : Fin 32) (q : Fin 128) (g : Fin 8) (k : Fin 128) (j : Fin 1024)

theorem r_v44 (t : Fin 128) : val_main_v44 (F := Ideal) P G W (ix4 g N k t)
    = ∑ s : Fin 128, (if s.val ≤ t.val then wA W g t s else 0) * vn (cX P N.val s) (gA G) (col g k) := by
  rw [val_main_v44_apply]
  refine Finset.sum_congr rfl fun s _ => ?_
  rw [show lidx_main_v44 (ix4 g N k t) s = ix4 N s g k from
      funext fun a => match a with | ⟨0, _⟩ => rfl | ⟨1, _⟩ => rfl | ⟨2, _⟩ => rfl | ⟨3, _⟩ => rfl,
    show ridx_main_v44 (ix4 g N k t) s = ix3 g t s from
      funext fun a => match a with | ⟨0, _⟩ => rfl | ⟨1, _⟩ => rfl | ⟨2, _⟩ => rfl, r_v42, r_v43, mul_comm]

/-- Where the reshape to rows reads: row `128 N + q`, column `128 g + k`. -/
theorem ix_rows (i : S32x128x8x128.Idx)
    (h0 : (i 0).val = ((crow N.val q).val * 1024 + j.val) / 131072) (h1 : (i 1).val = ((crow N.val q).val * 1024 + j.val) / 1024 % 128)
    (h2 : (i 2).val = ((crow N.val q).val * 1024 + j.val) / 128 % 8) (h3 : (i 3).val = ((crow N.val q).val * 1024 + j.val) % 128) :
    i = ix4 N q (grp j) ⟨j.val % 128, by omega⟩ := by
  have hc : (crow N.val q).val = 128 * N.val + q.val := by show (128 * N.val + q.val) % 4096 = _; omega
  rw [hc] at h0 h1 h2 h3
  funext a
  match a with
  | ⟨0, _⟩ => exact Fin.ext (show (i 0).val = N.val by omega)
  | ⟨1, _⟩ => exact Fin.ext (show (i 1).val = q.val by omega)
  | ⟨2, _⟩ => exact Fin.ext (show (i 2).val = j.val / 128 by omega)
  | ⟨3, _⟩ => exact Fin.ext (show (i 3).val = j.val % 128 by omega)

theorem r_v50 : val_main_v50 (F := Ideal) P G W B (ix2 (crow N.val q) j)
    = mixed (cX P N.val) (gA G) (wA W) (bA B) q j := by
  rw [val_main_v50_apply, ix_rows N q j (idx_main_v50 (ix2 (crow N.val q) j)) rfl rfl rfl rfl, val_main_v49_apply, val_main_v45_apply, val_main_v48_apply,
    val_main_v47_apply, val_main_v46_apply]
  rw [show ∀ i, idx_main_v45 (ix4 N q (grp j) i) = ix4 (grp j) N i q from fun i =>
      funext fun a => match a with | ⟨0, _⟩ => rfl | ⟨1, _⟩ => rfl | ⟨2, _⟩ => rfl | ⟨3, _⟩ => rfl, r_v44, col_grp]
  exact congrArg (fun z => _ + B z) (funext fun a => match a with | ⟨0, _⟩ => rfl | ⟨1, _⟩ => rfl)

theorem r_v52 : val_main_v52 (F := Ideal) Y (ix2 (crow N.val q) j) = cY Y N.val q j := rfl

theorem r_v53 : val_main_v53 (F := Ideal) P Y (ix2 (crow N.val q) j) = dm (cX P N.val) (cY Y N.val) q j := by
  rw [val_main_v53_apply, r_v24, r_v52]; exact mul_comm _ _

theorem r_v54 : val_main_v54 (F := Ideal) P G W B Y (ix2 (crow N.val q) j)
    = du (cX P N.val) (cY Y N.val) (gA G) (wA W) (bA B) q j := by
  rw [val_main_v54_apply, r_v52, r_v50]; rfl

theorem r_v55 : val_main_v55 (F := Ideal) P Y (ix4 N q g k) = dm (cX P N.val) (cY Y N.val) q (col g k) := by
  rw [val_main_v55_apply, show idx_main_v55 (ix4 N q g k) = ix2 (crow N.val q) (col g k) from
    funext fun a => match a with
      | ⟨0, _⟩ => Fin.ext (show (((N.val * 128 + q.val) * 8 + g.val) * 128 + k.val) / 1024 = (128 * N.val + q.val) % 4096 by omega)
      | ⟨1, _⟩ => Fin.ext (show (((N.val * 128 + q.val) * 8 + g.val) * 128 + k.val) % 1024 = 128 * g.val + k.val by omega), r_v53]

/-- A sum over the first and the last of four axes. -/
theorem sum_outer (n0 n3 : ℕ) (h : (⟨4, ![n0, 128, 8, n3]⟩ : Shape).ReducesTo [0, 3] ⟨2, ![128, 8]⟩)
    (x : (⟨4, ![n0, 128, 8, n3]⟩ : Shape).Idx → EReal) (init : EReal) :
    Ideal.hostReduceAdd h x init (ix2 q g) = init + ∑ a : Fin n0, ∑ b : Fin n3, x (ix4 a q g b) := by
  unfold Ideal.hostReduceAdd
  refine congrArg (init + ·) ?_
  rw [← Finset.sum_product' Finset.univ Finset.univ fun a b => x (ix4 a q g b)]
  have key : ∀ i, h.drop i = ix2 q g → i = ix4 (i 0) q g (i 3) := by
    intro i e
    have e1 : (i 1).val = q.val := congrArg Fin.val (congrFun e 0)
    have e2 : (i 2).val = g.val := congrArg Fin.val (congrFun e 1)
    funext a
    match a with
    | ⟨0, _⟩ => rfl
    | ⟨1, _⟩ => exact Fin.ext e1
    | ⟨2, _⟩ => exact Fin.ext e2
    | ⟨3, _⟩ => rfl
  refine Finset.sum_nbij' (fun i => (i 0, i 3)) (fun p => ix4 p.1 q g p.2) ?_ ?_ ?_ ?_ ?_
  · intro i _; exact Finset.mem_product.2 ⟨Finset.mem_univ _, Finset.mem_univ _⟩
  · intro p _
    refine Finset.mem_filter.2 ⟨Finset.mem_univ _, funext fun a => ?_⟩
    match a with
    | ⟨0, _⟩ => rfl
    | ⟨1, _⟩ => rfl
  · intro i hi; exact (key i (Finset.mem_filter.1 hi).2).symm
  · intro p _; rfl
  · intro i hi; exact congrArg x (key i (Finset.mem_filter.1 hi).2)

theorem r_v56 : val_main_v56 (F := Ideal) P Y (ix2 q g) = dbSum P Y g q := by
  unfold val_main_v56
  simp only [Host.reduceAdd, Ideal.hostReduceAdd_def]
  rw [sum_outer q g 32 128]
  show Ideal.ofBits .f32 0x00000000#32 + _ = _
  rw [Ideal.ofBits_zero_f32, zero_add]
  unfold dbSum
  rw [Finset.sum_range]
  refine Finset.sum_congr rfl fun a _ => Finset.sum_congr rfl fun b _ => ?_
  rw [r_v55]

theorem r_v59 : val_main_v59 (F := Ideal) P Y (ix2 g q) = dbSum P Y g q := by
  rw [val_main_v59_apply, show idx_main_v59 (ix2 g q) = ix2 q g from
    funext fun a => match a with | ⟨0, _⟩ => rfl | ⟨1, _⟩ => rfl]
  unfold val_main_v58
  simp only [Host.reduceAdd, Ideal.hostReduceAdd_def]
  rw [sum_outer q g 1 1]
  show Ideal.ofBits .f32 0x00000000#32 + _ = _
  rw [Ideal.ofBits_zero_f32, zero_add, Fin.sum_univ_one, Fin.sum_univ_one, val_main_v57_apply,
    show idx_main_v57 (ix4 0 q g 0) = ix2 q g from funext fun a => match a with
      | ⟨0, _⟩ => Fin.ext (show (((0 * 128 + q.val) * 8 + g.val) * 1 + 0) / 8 = q.val by omega)
      | ⟨1, _⟩ => Fin.ext (show (((0 * 128 + q.val) * 8 + g.val) * 1 + 0) % 8 = g.val by omega), r_v56]

theorem r_v60 (a : Fin 128) : val_main_v60 (F := Ideal) P Y (ix4 g N k a) = dm (cX P N.val) (cY Y N.val) a (col g k) := by
  rw [val_main_v60_apply, show idx_main_v60 (ix4 g N k a) = ix4 N a g k from
    funext fun a => match a with | ⟨0, _⟩ => rfl | ⟨1, _⟩ => rfl | ⟨2, _⟩ => rfl | ⟨3, _⟩ => rfl, r_v55]

theorem r_v62 (s : Fin 128) : val_main_v62 (F := Ideal) P W Y (ix4 g N k s)
    = ∑ a : Fin 128, (if s.val ≤ a.val then wA W g a s else 0) * dm (cX P N.val) (cY Y N.val) a (col g k) := by
  rw [val_main_v62_apply]
  refine Finset.sum_congr rfl fun a _ => ?_
  rw [show lidx_main_v62 (ix4 g N k s) a = ix4 g N k a from
      funext fun a => match a with | ⟨0, _⟩ => rfl | ⟨1, _⟩ => rfl | ⟨2, _⟩ => rfl | ⟨3, _⟩ => rfl,
    show ridx_main_v62 (ix4 g N k s) a = ix3 g a s from
      funext fun a => match a with | ⟨0, _⟩ => rfl | ⟨1, _⟩ => rfl | ⟨2, _⟩ => rfl, r_v60, r_v43, mul_comm]

theorem r_v65 : val_main_v65 (F := Ideal) P W Y (ix2 (crow N.val q) j)
    = dvn (cX P N.val) (cY Y N.val) (wA W) q j := by
  rw [val_main_v65_apply, ix_rows N q j (idx_main_v65 (ix2 (crow N.val q) j)) rfl rfl rfl rfl, val_main_v63_apply,
    show ∀ i, idx_main_v63 (ix4 N q (grp j) i) = ix4 (grp j) N i q from fun i =>
      funext fun a => match a with | ⟨0, _⟩ => rfl | ⟨1, _⟩ => rfl | ⟨2, _⟩ => rfl | ⟨3, _⟩ => rfl, r_v62, col_grp]
  rfl

theorem lhs61 (t s : Fin 128) (c : dot_S8x32x128x128_S32x128x8x128_S8x128x128_12_03_3_1_0_2.contr.Idx) :
    dot_S8x32x128x128_S32x128x8x128_S8x128x128_12_03_3_1_0_2.lhsIdx (ix3 g t s) c
      = ix4 g ⟨(c ⟨0, by decide⟩).val, (c ⟨0, by decide⟩).isLt⟩ ⟨(c ⟨1, by decide⟩).val, (c ⟨1, by decide⟩).isLt⟩ t := by
  funext a
  match a with
  | ⟨0, _⟩ => rfl
  | ⟨1, _⟩ => rfl
  | ⟨2, _⟩ => rfl
  | ⟨3, _⟩ => rfl

theorem rhs61 (t s : Fin 128) (c : dot_S8x32x128x128_S32x128x8x128_S8x128x128_12_03_3_1_0_2.contr.Idx) :
    dot_S8x32x128x128_S32x128x8x128_S8x128x128_12_03_3_1_0_2.rhsIdx (ix3 g t s) c
      = ix4 ⟨(c ⟨0, by decide⟩).val, (c ⟨0, by decide⟩).isLt⟩ s g ⟨(c ⟨1, by decide⟩).val, (c ⟨1, by decide⟩).isLt⟩ := by
  funext a
  match a with
  | ⟨0, _⟩ => rfl
  | ⟨1, _⟩ => rfl
  | ⟨2, _⟩ => rfl
  | ⟨3, _⟩ => rfl

theorem r_v61 (t s : Fin 128) : val_main_v61 (F := Ideal) P G Y (ix3 g t s)
    = ∑ M : Fin 32, ∑ k : Fin 128, dm (cX P M.val) (cY Y M.val) t (col g k) * vn (cX P M.val s) (gA G) (col g k) := by
  unfold val_main_v61
  simp only [Host.dotGeneral]
  rw [Ideal.dotGeneral_apply, ValueIdx.sum_contr2 dot_S8x32x128x128_S32x128x8x128_S8x128x128_12_03_3_1_0_2 32 128 rfl rfl rfl]
  refine Finset.sum_congr rfl fun M _ => Finset.sum_congr rfl fun k _ => ?_
  rw [lhs61, rhs61]
  exact congrArg₂ (· * ·) (r_v60 P Y M g k t) (r_v42 P G s M g k)

theorem r_v64 (t s : Fin 128) : val_main_v64 (F := Ideal) P G Y (ix3 g t s) = dwSum P G Y g t s := by
  rw [val_main_v64_apply, r_mask, r_v61, val_main_call1_v0_apply, val_main_call1_cst_apply]
  show Scalar.select _ _ (Ideal.ofBits .f32 0x00000000#32) = _
  rw [Ideal.ofBits_zero_f32]
  unfold dwSum dw
  rw [Finset.sum_range]
  by_cases h : s.val ≤ t.val
  · simp only [if_pos h]; rfl
  · simp only [if_neg h, Finset.sum_const_zero]; rfl

/-- The rows, as 32 chunks of 128. -/
def rowsEquiv : Fin 32 × Fin 128 ≃ Fin 4096 where
  toFun p := crow p.1.val p.2
  invFun r := (⟨r.val / 128, by omega⟩, ⟨r.val % 128, by omega⟩)
  left_inv p := by
    obtain ⟨a, b⟩ := p
    exact Prod.ext (Fin.ext (show (128 * a.val + b.val) % 4096 / 128 = a.val by omega))
      (Fin.ext (show (128 * a.val + b.val) % 4096 % 128 = b.val by omega))
  right_inv r := Fin.ext (show (128 * (r.val / 128) + r.val % 128) % 4096 = r.val by omega)

theorem sum_rows (f : Fin 4096 → EReal) : ∑ r, f r = ∑ n ∈ Finset.range 32, ∑ q, f (crow n q) := by
  rw [← Equiv.sum_comp rowsEquiv, Fintype.sum_prod_type, Finset.sum_range]; rfl

theorem r_v67 : val_main_v67 (F := Ideal) P W Y (ix1 j) = dgSum P W Y j := by
  rw [val_main_v67_apply]
  show Ideal.ofBits .f32 0x00000000#32 + _ = _
  rw [Ideal.ofBits_zero_f32, zero_add, sum_rows]
  unfold dgSum
  rw [Finset.sum_range, Finset.sum_range]
  refine Finset.sum_congr rfl fun M _ => Finset.sum_congr rfl fun q _ => ?_
  rw [show idx_main_v67 (ix1 j) (crow M.val q) = ix2 (crow M.val q) j from
    funext fun a => match a with | ⟨0, _⟩ => rfl | ⟨1, _⟩ => rfl, val_main_v66_apply, r_v38, r_v65]
  exact mul_comm _ _

theorem r_v100 (i : Fin 1) : val_main_v100 (F := Ideal) P W Y (ix2 i j) = dgSum P W Y j := by
  rw [val_main_v100_apply, show idx_main_v100 (ix2 i j) = ix1 j from funext fun a => match a with | ⟨0, _⟩ => rfl,
    val_main_v71_apply]
  show Ideal.ofBits .f32 0x00000000#32 + _ = _
  rw [Ideal.ofBits_zero_f32, zero_add, Fin.sum_univ_one, val_main_v68_apply]
  rw [show idx_main_v68 (idx_main_v71 (ix1 j) 0) = ix1 j from funext fun a => match a with
    | ⟨0, _⟩ => Fin.ext (show 0 * 1024 + j.val = j.val by omega), r_v67]

theorem r_v101 (i : Fin 1) : val_main_v101 (F := Ideal) P Y (ix3 g q i) = dbSum P Y g q := by
  rw [val_main_v101_apply, show idx_main_v101 (ix3 g q i) = ix2 g q from
    funext fun a => match a with | ⟨0, _⟩ => rfl | ⟨1, _⟩ => rfl, r_v59]

/-! ## The gradient of the input, as the reference writes it -/

/-- The cotangent of the second half before the normalisation, in the reference's form. -/
def dvRef (X : Fin 128 → Fin 2048 → EReal) (Y : Fin 128 → Fin 1024 → EReal) (G : Fin 1024 → EReal)
    (W : Fin 8 → Fin 128 → Fin 128 → EReal) (q : Fin 128) (j : Fin 1024) : EReal :=
  let c := Ideal.div ((∑ l, vR (X q) l * (dvn X Y W q l * G l)) * nhalf (X q)) width
  dvn X Y W q j * G j * rstd (X q) + vR (X q) j * c + c * vR (X q) j

/-- Gelu's gradient times a cotangent, in the reference's form. -/
def gradRef (x d : EReal) : EReal :=
  let c := cG * (half * (x * d) * ((1 + th x) * (1 - th x)))
  d * (half * (1 + th x)) + c + kG * c * (Ideal.ofBits .f32 0x40400000#32 * (x * x))

theorem r_v70 : val_main_v70 (F := Ideal) P G W Y (ix2 (crow N.val q) j)
    = dvn (cX P N.val) (cY Y N.val) (wA W) q j * gA G j := by
  rw [val_main_v70_apply, r_v65, val_main_v69_apply, val_main_v39_apply]
  exact congrArg (fun z => _ * G z) (funext fun a => match a with | ⟨0, _⟩ => rfl)

theorem r_v85 : val_main_v85 (F := Ideal) P G W Y (ix2 (crow N.val q) j)
    = dvRef (cX P N.val) (cY Y N.val) (gA G) (wA W) q j := by
  have e75 : idx_main_v75 (ix2 (crow N.val q) j) = ix2 (crow N.val q) 0 :=
    funext fun a => match a with | ⟨0, _⟩ => rfl | ⟨1, _⟩ => rfl
  have e81 : idx_main_v80 (idx_main_v81 (ix2 (crow N.val q) j)) 0 = ix2 (crow N.val q) 0 :=
    funext fun a => match a with | ⟨0, _⟩ => rfl | ⟨1, _⟩ => rfl
  have e74 : idx_main_v74 (ix2 (crow N.val q) 0) = ix1 (crow N.val q) :=
    funext fun a => match a with | ⟨0, _⟩ => Fin.ext (show (crow N.val q).val * 1 + 0 = (crow N.val q).val by omega)
  have e73 : ∀ l, idx_main_v73 (ix1 (crow N.val q)) l = ix2 (crow N.val q) l := fun l =>
    funext fun a => match a with | ⟨0, _⟩ => rfl | ⟨1, _⟩ => rfl
  have h81 : val_main_v81 (F := Ideal) P G W Y (ix2 (crow N.val q) j)
      = Ideal.div ((∑ l, vR (cX P N.val q) l * (dvn (cX P N.val) (cY Y N.val) (wA W) q l * gA G l)) * nhalf (cX P N.val q)) width := by
    rw [val_main_v81_apply, val_main_v80_apply]
    show Ideal.ofBits .f32 0x00000000#32 + _ = _
    rw [Ideal.ofBits_zero_f32, zero_add, Fin.sum_univ_one, e81, val_main_v79_apply, val_main_v77_apply, r_v36, val_main_v74_apply,
      e74, val_main_v73_apply]
    show Ideal.div ((Ideal.ofBits .f32 0x00000000#32 + _) * _) width = _
    rw [Ideal.ofBits_zero_f32, zero_add]
    refine congrArg (fun z => Ideal.div (z * _) width) (Finset.sum_congr rfl fun l _ => ?_)
    rw [e73, val_main_v72_apply, r_v25, r_v70]; rfl
  rw [val_main_v85_apply, val_main_v83_apply, val_main_v76_apply, val_main_v82_apply, val_main_v84_apply, h81, r_v25, r_v70,
    val_main_v75_apply, e75, r_v33]
  rfl

/-- The joined cotangent of gelu's result. -/
theorem r_v86_lo : val_main_v86 (F := Ideal) P G W B Y (ix2 (crow N.val q) (lo j))
    = du (cX P N.val) (cY Y N.val) (gA G) (wA W) (bA B) q j := by
  rw [← r_v54]
  unfold val_main_v86
  exact concatenate_pair_apply_left (s₁ := S4096x1024) (s₂ := S4096x1024) (1 : Fin S4096x2048.rank) _ _ _ (ix2 (crow N.val q) (lo j)) rfl (ix2 (crow N.val q) j)
    (fun a => match a with | ⟨0, _⟩ => rfl | ⟨1, _⟩ => rfl)

theorem r_v86_hi : val_main_v86 (F := Ideal) P G W B Y (ix2 (crow N.val q) (hi j))
    = dvRef (cX P N.val) (cY Y N.val) (gA G) (wA W) q j := by
  rw [← r_v85]
  unfold val_main_v86
  exact concatenate_pair_apply_right (s₁ := S4096x1024) (s₂ := S4096x1024) (1 : Fin S4096x2048.rank) _ _ _ (ix2 (crow N.val q) (hi j)) rfl rfl (ix2 (crow N.val q) j)
    (fun a => match a with | ⟨0, _⟩ => fun _ => rfl | ⟨1, _⟩ => fun h => absurd rfl h)
    (show j.val + 1024 = 1024 + j.val by omega)

theorem r_v99 (x : Fin 2048) : val_main_v99 (F := Ideal) P G W B Y (ix2 (crow N.val q) x)
    = gradRef (cX P N.val q x) (val_main_v86 (F := Ideal) P G W B Y (ix2 (crow N.val q) x)) := by
  rw [val_main_v99_apply, val_main_v98_apply, val_main_v94_apply, val_main_v97_apply, val_main_v96_apply, val_main_v95_apply,
    val_main_v93_apply, val_main_v92_apply, val_main_v91_apply, val_main_v90_apply, val_main_v89_apply, val_main_v88_apply,
    val_main_v87_apply, val_main_v7_apply, val_main_v6_apply, val_main_v5_apply, val_main_v2_apply, r_v1, r_v18, r_v22]
  show _ + _ + Ideal.div (Ideal.ofBits .f32 0x472EAB00#32) (Ideal.ofBits .f32 0x49742400#32) * _ * _ = _
  rw [kG_div]; rfl

end Cert.Gmlp
-- ==== Proof.Prod.GluBlock.lean ====
module

public import proofs.«01_k».proof.Proof.Prod.Base
public import proofs.«01_k».proof.Proof.Prod.Gate
public import proofs.«01_k».proof.Proof.Gmlp.Mix
public import proofs.«01_k».proof.Proof.Gmlp.Ref
public import proofs.«01_k».proof.Proof.Gen.Kernel17Ideal.Value
public import Idealize.ShloMosaic.Lib.ValueIdx

/-!
# One block of the output gate's gradient

The gate is `gelu(y) · sigmoid(gelu(y) · w + b)` of a row `y`, with the cotangent `o`: a row's cotangents, and what the
kernel stores at a block of 512 rows.
-/

@[expose] public section

set_option maxRecDepth 16384

noncomputable section

namespace Cert.Prod.Glu

open Cert.Kernel17Ideal Cert.Kernel17Ideal.Gen Idealize.ShloMosaic Idealize.ShloMosaic.TcCoe Idealize.SL.Sem
open Cert.Gmlp (gelu geluGrad th kG kG3 cG half)

/-! ## One row -/

section
variable (y o : Fin 1024 → EReal) (w : Fin 1024 → Fin 1024 → EReal) (b : Fin 1024 → EReal) (j : Fin 1024)

/-- The sigmoid, and the cotangents of its argument, of gelu, and of gelu's argument. -/
def gs : EReal := sgm ((∑ k, gelu (y k) * w k j) + b j)
def gz : EReal := o j * gelu (y j) * gs y w b j * (1 - gs y w b j)
def ge : EReal := o j * gs y w b j + ∑ k, gz y o w b k * w j k
def gd : EReal := ge y o w b j * geluGrad (y j)
end

/-! ## One block -/

section
variable (x0 : Vec Ideal S512x1024 .f32) (x1 : Vec Ideal S512x1024 .bf16) (x2 : Vec Ideal S1x1024 .f32) (x3 : Vec Ideal S1x1024x1024 .bf16) (x4 : Vec Ideal S1x1024 .f32) (x5 : Vec Ideal S512x1024 .bf16) (acc : Vec Ideal S1x1024 .f32) (accw : Vec Ideal S1024x1024 .f32)

/-- The block's gelu, its gradient, and the cotangents. -/
def bg : FVec Ideal S512x1024 .f32 := k0_pay12 (F := Ideal) x1 x2 x0
def bq : FVec Ideal S512x1024 .f32 := k0_pay17 (F := Ideal) (k0_pay13 (F := Ideal) x1 x2 x0) (k0_pay14 (F := Ideal) x1 x2 x0) (k0_pay15 (F := Ideal) x1 x2 x0) (k0_pay16 (F := Ideal))
def bz : FVec Ideal S512x1024 .f32 := k0_pay22 (F := Ideal) (bg x0 x1 x2) x3 x4 x5
def be : FVec Ideal S512x1024 .f32 := k0_pay24 (F := Ideal) (bg x0 x1 x2) x3 x4 x5

/-- What the kernel stores. -/
def o6 : Vec Ideal S512x1024 .bf16 := k0_pay4 (F := Ideal) (bq x0 x1 x2) (be x0 x1 x2 x3 x4 x5)
def o7 : Vec Ideal S512x1024 .bf16 := k0_pay5 (F := Ideal) x2 (bq x0 x1 x2) (be x0 x1 x2 x3 x4 x5)
def o8 : Vec Ideal S1024x1024 .f32 := k0_pay25 (F := Ideal) (bg x0 x1 x2) x3 x4 x5 accw
def o9 : Vec Ideal S1x1024 .f32 := k0_pay1 (F := Ideal) (bz x0 x1 x2 x3 x4 x5) acc
def o10 : Vec Ideal S1x1024 .f32 := k0_pay3 (F := Ideal) (k0_pay9 (F := Ideal) x1) (bq x0 x1 x2) (be x0 x1 x2 x3 x4 x5) acc
end

section
variable (x0 : Vec Ideal S512x1024 .f32) (x1 : Vec Ideal S512x1024 .bf16) (x2 : Vec Ideal S1x1024 .f32) (x3 : Vec Ideal S1x1024x1024 .bf16) (x4 : Vec Ideal S1x1024 .f32) (x5 : Vec Ideal S512x1024 .bf16) (acc : Vec Ideal S1x1024 .f32) (accw : Vec Ideal S1024x1024 .f32) (r : Fin 512) (j k : Fin 1024)

/-- The block's rows, its matrix and its biases. -/
abbrev yb (r : Fin 512) : Fin 1024 → EReal := fun j => x0 (ix2 r j) + x2 (ix2 0 j) * x1 (ix2 r j)
abbrev ob (r : Fin 512) : Fin 1024 → EReal := fun j => x5 (ix2 r j)
abbrev wb : Fin 1024 → Fin 1024 → EReal := fun k j => x3 (ix3 0 k j)
abbrev bb : Fin 1024 → EReal := fun j => x4 (ix2 0 j)

theorem k17 : (Named.named (F := Ideal) Cert.Kernel17Ideal.κ "gelu_k" (φ := .f32) 0x3D372713#32 : EReal) = kG := by
  rw [Cert.Gmlp.kG_eq]; simp [Named.named, Cert.Kernel17Ideal.κ]
theorem k17' : (Named.named (F := Ideal) Cert.Kernel17Ideal.κ "gelu_3k" (φ := .f32) 0x3E095D4F#32 : EReal) = kG3 := by
  rw [Cert.Gmlp.kG3_eq]; simp [Named.named, Cert.Kernel17Ideal.κ]

theorem pay10_apply : k0_pay10 (F := Ideal) x1 x2 x0 (ix2 r j) = yb x0 x1 x2 r j := by
  pointwise [k0_pay10, k0_pay9]

theorem pay11_apply : k0_pay11 (F := Ideal) x1 x2 x0 (ix2 r j) = th (yb x0 x1 x2 r j) := by
  unfold th
  rw [← k17, ← pay10_apply, cG]; rfl

theorem bg_apply : bg x0 x1 x2 (ix2 r j) = gelu (yb x0 x1 x2 r j) := by
  unfold gelu
  rw [← pay11_apply, ← pay10_apply, half, ← Ideal.ofBits_one_f32]; rfl

theorem bq_apply : bq x0 x1 x2 (ix2 r j) = geluGrad (yb x0 x1 x2 r j) := by
  unfold geluGrad
  rw [← pay11_apply, ← pay10_apply, ← k17', half, cG, ← Ideal.ofBits_one_f32]; rfl

theorem pay20_apply (g : FVec Ideal S512x1024 .f32) :
    k0_pay20 (F := Ideal) g x3 x4 (ix2 r j) = sgm ((∑ k : Fin 1024, g (ix2 r k) * x3 (ix3 0 k j)) + x4 (ix2 0 j)) := by
  rw [← gate_eq]
  unfold gate
  pointwise [k0_pay20, k0_pay18, k0_pay19]
  rfl

theorem bs_apply : k0_pay20 (F := Ideal) (bg x0 x1 x2) x3 x4 (ix2 r j) = gs (yb x0 x1 x2 r) (wb x3) (bb x4) j := by
  rw [pay20_apply, gs]
  simp only [bg_apply]

theorem bz_apply : bz x0 x1 x2 x3 x4 x5 (ix2 r j) = gz (yb x0 x1 x2 r) (ob x5 r) (wb x3) (bb x4) j := by
  rw [gz, ← bs_apply, ← bg_apply, ← Ideal.ofBits_one_f32]; rfl

theorem be_apply : be x0 x1 x2 x3 x4 x5 (ix2 r j) = ge (yb x0 x1 x2 r) (ob x5 r) (wb x3) (bb x4) j := by
  unfold ge
  simp only [← bs_apply, ← bz_apply]
  have h (s z : FVec Ideal S512x1024 .f32) (hs : k0_pay20 (F := Ideal) (bg x0 x1 x2) x3 x4 = s) (hz : k0_pay22 (F := Ideal) (bg x0 x1 x2) x3 x4 x5 = z) :
      be x0 x1 x2 x3 x4 x5 (ix2 r j) = x5 (ix2 r j) * s (ix2 r j) + ∑ k : Fin 1024, z (ix2 r k) * x3 (ix3 0 j k) := by
    unfold be
    simp only [k0_pay24, k0_pay23, hs, hz]
    pointwise [k0_pay21, k0_pay19]
  exact h _ _ rfl rfl

theorem o6_apply : o6 x0 x1 x2 x3 x4 x5 (ix2 r j) = gd (yb x0 x1 x2 r) (ob x5 r) (wb x3) (bb x4) j := by
  rw [gd, ← be_apply, ← bq_apply]; rfl

theorem o7_apply : o7 x0 x1 x2 x3 x4 x5 (ix2 r j) = gd (yb x0 x1 x2 r) (ob x5 r) (wb x3) (bb x4) j * x2 (ix2 0 j) := by
  rw [gd, ← be_apply, ← bq_apply, o7]
  pointwise [k0_pay5, k0_pay2]

theorem o8_apply : o8 x0 x1 x2 x3 x4 x5 accw (ix2 k j) = accw (ix2 k j) + ∑ r : Fin 512, gelu (yb x0 x1 x2 r k) * gz (yb x0 x1 x2 r) (ob x5 r) (wb x3) (bb x4) j := by
  have h (z : FVec Ideal S512x1024 .f32) (hz : k0_pay22 (F := Ideal) (bg x0 x1 x2) x3 x4 x5 = z) :
      o8 x0 x1 x2 x3 x4 x5 accw (ix2 k j) = accw (ix2 k j) + ∑ r : Fin 512, bg x0 x1 x2 (ix2 r k) * z (ix2 r j) := by
    unfold o8
    simp only [k0_pay25, k0_pay23, hz]
    pointwise [k0_pay18]
  refine (h _ rfl).trans (congrArg (accw (ix2 k j) + ·) (Finset.sum_congr rfl fun r _ => ?_))
  exact congrArg₂ (fun u v : EReal => u * v) (bg_apply x0 x1 x2 r k) (bz_apply x0 x1 x2 x3 x4 x5 r j)

theorem o9_apply : o9 x0 x1 x2 x3 x4 x5 acc (ix2 0 j) = acc (ix2 0 j) + ∑ r : Fin 512, gz (yb x0 x1 x2 r) (ob x5 r) (wb x3) (bb x4) j := by
  simp only [← bz_apply]
  rw [o9]
  pointwise [k0_pay1]

theorem o10_apply : o10 x0 x1 x2 x3 x4 x5 acc (ix2 0 j) = acc (ix2 0 j) + ∑ r : Fin 512, gd (yb x0 x1 x2 r) (ob x5 r) (wb x3) (bb x4) j * x1 (ix2 r j) := by
  have h : o10 x0 x1 x2 x3 x4 x5 acc (ix2 0 j) = acc (ix2 0 j) + ∑ r : Fin 512, be x0 x1 x2 x3 x4 x5 (ix2 r j) * bq x0 x1 x2 (ix2 r j) * x1 (ix2 r j) := by
    rw [o10]
    pointwise [k0_pay3, k0_pay2, k0_pay9]
  refine h.trans (congrArg (acc (ix2 0 j) + ·) (Finset.sum_congr rfl fun r _ => congrArg (· * x1 (ix2 r j)) ?_))
  exact congrArg₂ (fun u v : EReal => u * v) (be_apply x0 x1 x2 x3 x4 x5 r j) (bq_apply x0 x1 x2 r j)

theorem pay6_apply : k0_pay6 (F := Ideal) (ix2 k j) = 0 := by
  pointwise [k0_pay6]
theorem pay7_apply : k0_pay7 (F := Ideal) (ix2 0 j) = 0 := by
  pointwise [k0_pay7]
theorem pay8_apply : k0_pay8 (F := Ideal) (ix2 0 j) = 0 := by
  pointwise [k0_pay8]
end

/-! ## What a point stores -/

theorem o6_congr {x0 x0' : Vec Ideal S512x1024 .f32} {x1 x1' : Vec Ideal S512x1024 .bf16} {x2 x2' : Vec Ideal S1x1024 .f32} {x3 x3' : Vec Ideal S1x1024x1024 .bf16} {x4 x4' : Vec Ideal S1x1024 .f32} {x5 x5' : Vec Ideal S512x1024 .bf16} (h0 : x0 = x0') (h1 : x1 = x1') (h2 : x2 = x2') (h3 : x3 = x3') (h4 : x4 = x4') (h5 : x5 = x5') :
    o6 x0 x1 x2 x3 x4 x5 = o6 x0' x1' x2' x3' x4' x5' := by
  subst h0 h1 h2 h3 h4 h5; rfl

theorem o7_congr {x0 x0' : Vec Ideal S512x1024 .f32} {x1 x1' : Vec Ideal S512x1024 .bf16} {x2 x2' : Vec Ideal S1x1024 .f32} {x3 x3' : Vec Ideal S1x1024x1024 .bf16} {x4 x4' : Vec Ideal S1x1024 .f32} {x5 x5' : Vec Ideal S512x1024 .bf16} (h0 : x0 = x0') (h1 : x1 = x1') (h2 : x2 = x2') (h3 : x3 = x3') (h4 : x4 = x4') (h5 : x5 = x5') :
    o7 x0 x1 x2 x3 x4 x5 = o7 x0' x1' x2' x3' x4' x5' := by
  subst h0 h1 h2 h3 h4 h5; rfl

theorem o8_congr {x0 x0' : Vec Ideal S512x1024 .f32} {x1 x1' : Vec Ideal S512x1024 .bf16} {x2 x2' : Vec Ideal S1x1024 .f32} {x3 x3' : Vec Ideal S1x1024x1024 .bf16} {x4 x4' : Vec Ideal S1x1024 .f32} {x5 x5' : Vec Ideal S512x1024 .bf16} {a a' : Vec Ideal S1024x1024 .f32} (h0 : x0 = x0') (h1 : x1 = x1') (h2 : x2 = x2') (h3 : x3 = x3') (h4 : x4 = x4') (h5 : x5 = x5') (h : a = a') :
    o8 x0 x1 x2 x3 x4 x5 a = o8 x0' x1' x2' x3' x4' x5' a' := by
  subst h0 h1 h2 h3 h4 h5 h; rfl

theorem o9_congr {x0 x0' : Vec Ideal S512x1024 .f32} {x1 x1' : Vec Ideal S512x1024 .bf16} {x2 x2' : Vec Ideal S1x1024 .f32} {x3 x3' : Vec Ideal S1x1024x1024 .bf16} {x4 x4' : Vec Ideal S1x1024 .f32} {x5 x5' : Vec Ideal S512x1024 .bf16} {a a' : Vec Ideal S1x1024 .f32} (h0 : x0 = x0') (h1 : x1 = x1') (h2 : x2 = x2') (h3 : x3 = x3') (h4 : x4 = x4') (h5 : x5 = x5') (h : a = a') :
    o9 x0 x1 x2 x3 x4 x5 a = o9 x0' x1' x2' x3' x4' x5' a' := by
  subst h0 h1 h2 h3 h4 h5 h; rfl

theorem o10_congr {x0 x0' : Vec Ideal S512x1024 .f32} {x1 x1' : Vec Ideal S512x1024 .bf16} {x2 x2' : Vec Ideal S1x1024 .f32} {x3 x3' : Vec Ideal S1x1024x1024 .bf16} {x4 x4' : Vec Ideal S1x1024 .f32} {x5 x5' : Vec Ideal S512x1024 .bf16} {a a' : Vec Ideal S1x1024 .f32} (h0 : x0 = x0') (h1 : x1 = x1') (h2 : x2 = x2') (h3 : x3 = x3') (h4 : x4 = x4') (h5 : x5 = x5') (h : a = a') :
    o10 x0 x1 x2 x3 x4 x5 a = o10 x0' x1' x2' x3' x4' x5' a' := by
  subst h0 h1 h2 h3 h4 h5 h; rfl

section
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole)
  (x0 : Vec Ideal S512x1024 .f32) (x1 : Vec Ideal S512x1024 .bf16) (x2 : Vec Ideal S1x1024 .f32) (x3 : Vec Ideal S1x1024x1024 .bf16) (x4 : Vec Ideal S1x1024 .f32) (x5 : Vec Ideal S512x1024 .bf16) (a8 : Vec Ideal S1024x1024 .f32) (a9 a10 : Vec Ideal S1x1024 .f32)

theorem out_A6 (h0) : out0_A_6 c i arg1 harg1 arg2 harg2 arg3 harg3 arg4 harg4 arg5 harg5 arg6 harg6 arg7 harg7 arg8 harg8 arg9 harg9 arg10 harg10 arg11 harg11 h0 x0 x1 x2 x3 x4 x5 = o6 x0 x1 x2 x3 x4 x5  := by
  refine (View.read_writes_full VO0_6 VO0_6.junk _ _ _).trans ?_
  exact o6_congr (load_full harg1 (by decide) _ x0) (load_full harg2 (by decide) _ x1) (load_full harg3 (by decide) _ x2) (load_full harg4 (by decide) _ x3) (load_full harg5 (by decide) _ x4) (load_full harg6 (by decide) _ x5)

theorem out_B6 (h0) : out0_B_6 c i arg1 harg1 arg2 harg2 arg3 harg3 arg4 harg4 arg5 harg5 arg6 harg6 arg7 harg7 arg8 harg8 arg9 harg9 arg10 harg10 arg11 harg11 h0 x0 x1 x2 x3 x4 x5 a8 a9 a10 = o6 x0 x1 x2 x3 x4 x5 := by
  refine (View.read_writes_full VO0_6 VO0_6.junk _ _ _).trans ?_
  exact o6_congr (load_full harg1 (by decide) _ x0) (load_full harg2 (by decide) _ x1) (load_full harg3 (by decide) _ x2) (load_full harg4 (by decide) _ x3) (load_full harg5 (by decide) _ x4) (load_full harg6 (by decide) _ x5)

theorem out_A7 (h0) : out0_A_7 c i arg1 harg1 arg2 harg2 arg3 harg3 arg4 harg4 arg5 harg5 arg6 harg6 arg7 harg7 arg8 harg8 arg9 harg9 arg10 harg10 arg11 harg11 h0 x0 x1 x2 x3 x4 x5 = o7 x0 x1 x2 x3 x4 x5  := by
  refine (View.read_writes_full VO0_7 VO0_7.junk _ _ _).trans ?_
  exact o7_congr (load_full harg1 (by decide) _ x0) (load_full harg2 (by decide) _ x1) (load_full harg3 (by decide) _ x2) (load_full harg4 (by decide) _ x3) (load_full harg5 (by decide) _ x4) (load_full harg6 (by decide) _ x5)

theorem out_B7 (h0) : out0_B_7 c i arg1 harg1 arg2 harg2 arg3 harg3 arg4 harg4 arg5 harg5 arg6 harg6 arg7 harg7 arg8 harg8 arg9 harg9 arg10 harg10 arg11 harg11 h0 x0 x1 x2 x3 x4 x5 a8 a9 a10 = o7 x0 x1 x2 x3 x4 x5 := by
  refine (View.read_writes_full VO0_7 VO0_7.junk _ _ _).trans ?_
  exact o7_congr (load_full harg1 (by decide) _ x0) (load_full harg2 (by decide) _ x1) (load_full harg3 (by decide) _ x2) (load_full harg4 (by decide) _ x3) (load_full harg5 (by decide) _ x4) (load_full harg6 (by decide) _ x5)

theorem out_A8 (h0) : out0_A_8 c i arg1 harg1 arg2 harg2 arg3 harg3 arg4 harg4 arg5 harg5 arg6 harg6 arg7 harg7 arg8 harg8 arg9 harg9 arg10 harg10 arg11 harg11 h0 x0 x1 x2 x3 x4 x5 = o8 x0 x1 x2 x3 x4 x5 (k0_pay6 (F := Ideal)) := by
  refine (View.read_writes_full VO0_8 VO0_8.junk _ _ _).trans ?_
  exact o8_congr (load_full harg1 (by decide) _ x0) (load_full harg2 (by decide) _ x1) (load_full harg3 (by decide) _ x2) (load_full harg4 (by decide) _ x3) (load_full harg5 (by decide) _ x4) (load_full harg6 (by decide) _ x5) (View.readCov_full _ _ _ _ _)

theorem out_B8 (h0) : out0_B_8 c i arg1 harg1 arg2 harg2 arg3 harg3 arg4 harg4 arg5 harg5 arg6 harg6 arg7 harg7 arg8 harg8 arg9 harg9 arg10 harg10 arg11 harg11 h0 x0 x1 x2 x3 x4 x5 a8 a9 a10 = o8 x0 x1 x2 x3 x4 x5 a8 := by
  refine (View.read_writes_full VO0_8 VO0_8.junk _ _ _).trans ?_
  exact o8_congr (load_full harg1 (by decide) _ x0) (load_full harg2 (by decide) _ x1) (load_full harg3 (by decide) _ x2) (load_full harg4 (by decide) _ x3) (load_full harg5 (by decide) _ x4) (load_full harg6 (by decide) _ x5) (load_full harg9 (by decide) _ a8)

theorem out_A9 (h0) : out0_A_9 c i arg1 harg1 arg2 harg2 arg3 harg3 arg4 harg4 arg5 harg5 arg6 harg6 arg7 harg7 arg8 harg8 arg9 harg9 arg10 harg10 arg11 harg11 h0 x0 x1 x2 x3 x4 x5 = o9 x0 x1 x2 x3 x4 x5 (k0_pay7 (F := Ideal)) := by
  refine (View.read_writes_full VO0_9 VO0_9.junk _ _ _).trans ?_
  exact o9_congr (load_full harg1 (by decide) _ x0) (load_full harg2 (by decide) _ x1) (load_full harg3 (by decide) _ x2) (load_full harg4 (by decide) _ x3) (load_full harg5 (by decide) _ x4) (load_full harg6 (by decide) _ x5) (View.readCov_full _ _ _ _ _)

theorem out_B9 (h0) : out0_B_9 c i arg1 harg1 arg2 harg2 arg3 harg3 arg4 harg4 arg5 harg5 arg6 harg6 arg7 harg7 arg8 harg8 arg9 harg9 arg10 harg10 arg11 harg11 h0 x0 x1 x2 x3 x4 x5 a8 a9 a10 = o9 x0 x1 x2 x3 x4 x5 a9 := by
  refine (View.read_writes_full VO0_9 VO0_9.junk _ _ _).trans ?_
  exact o9_congr (load_full harg1 (by decide) _ x0) (load_full harg2 (by decide) _ x1) (load_full harg3 (by decide) _ x2) (load_full harg4 (by decide) _ x3) (load_full harg5 (by decide) _ x4) (load_full harg6 (by decide) _ x5) (load_full harg10 (by decide) _ a9)

theorem out_A10 (h0) : out0_A_10 c i arg1 harg1 arg2 harg2 arg3 harg3 arg4 harg4 arg5 harg5 arg6 harg6 arg7 harg7 arg8 harg8 arg9 harg9 arg10 harg10 arg11 harg11 h0 x0 x1 x2 x3 x4 x5 = o10 x0 x1 x2 x3 x4 x5 (k0_pay8 (F := Ideal)) := by
  refine (View.read_writes_full VO0_10 VO0_10.junk _ _ _).trans ?_
  exact o10_congr (load_full harg1 (by decide) _ x0) (load_full harg2 (by decide) _ x1) (load_full harg3 (by decide) _ x2) (load_full harg4 (by decide) _ x3) (load_full harg5 (by decide) _ x4) (load_full harg6 (by decide) _ x5) (View.readCov_full _ _ _ _ _)

theorem out_B10 (h0) : out0_B_10 c i arg1 harg1 arg2 harg2 arg3 harg3 arg4 harg4 arg5 harg5 arg6 harg6 arg7 harg7 arg8 harg8 arg9 harg9 arg10 harg10 arg11 harg11 h0 x0 x1 x2 x3 x4 x5 a8 a9 a10 = o10 x0 x1 x2 x3 x4 x5 a10 := by
  refine (View.read_writes_full VO0_10 VO0_10.junk _ _ _).trans ?_
  exact o10_congr (load_full harg1 (by decide) _ x0) (load_full harg2 (by decide) _ x1) (load_full harg3 (by decide) _ x2) (load_full harg4 (by decide) _ x3) (load_full harg5 (by decide) _ x4) (load_full harg6 (by decide) _ x5) (load_full harg11 (by decide) _ a10)

end

end Cert.Prod.Glu

end
-- ==== Proof.Prod.GluRun.lean ====
module

public import proofs.«01_k».proof.Proof.Gmlp.Mix
public import proofs.«01_k».proof.Proof.Prod.Gate
public import proofs.«01_k».proof.Proof.Gen.Reference17Ideal
public import Idealize.ShloMosaic.Lib.StableHlo.Run
public import Idealize.ShloMosaic.Lib.ValueIdx

/-!
# The reference of the output gate's gradient

The host's operations in order, and what they compute, in stages: the gate's input `y`, its gelu `g`, the sigmoid `s`
of `g · w + b`, the cotangents of the sigmoid's argument, of `g` and of `y`.
-/

@[expose] public section

noncomputable section

namespace Cert.Prod.GluRun

open Cert.Reference17Ideal Cert.Reference17Ideal.Gen Idealize.ShloMosaic Idealize.ShloMosaic.TcCoe Idealize.SL.Sem Idealize.ShloMosaic.StableHlo

/-- Contents: an array of rows, a number, a row, a matrix, and an array of rows in bf16. -/
abbrev C (F : FTy → Type) [FloatOps F] := (⟨S4096x1024, .f32⟩ : BufTy).Contents (Elt F)
abbrev C₀ (F : FTy → Type) [FloatOps F] := (⟨S_, .f32⟩ : BufTy).Contents (Elt F)
abbrev C₁ (F : FTy → Type) [FloatOps F] := (⟨S1x1024, .f32⟩ : BufTy).Contents (Elt F)
abbrev Cw (F : FTy → Type) [FloatOps F] := (⟨S1024x1024, .f32⟩ : BufTy).Contents (Elt F)
abbrev Cb (F : FTy → Type) [FloatOps F] := (⟨S4096x1024, .bf16⟩ : BufTy).Contents (Elt F)
abbrev Cp (F : FTy → Type) [FloatOps F] := (⟨S4096x12288, .bf16⟩ : BufTy).Contents (Elt F)

variable {F : FTy → Type} [FloatOps F]

/-- A number, and a row, at every row. -/
def cst (w : BitVec 32) : C F := broadcastInDim S4096x1024 ![] bcast_S_S4096x1024 (constant S_ .f32 w)
def quo : C F := broadcastInDim S4096x1024 ![] bcast_S_S4096x1024 (Host.divf (constant S_ .f32 0x472EAB00#32) (constant S_ .f32 0x49742400#32))
def rows (r : C₁ F) : C F := broadcastInDim S4096x1024 ![0, 1] bcast_S1x1024_S4096x1024_0_1 r

/-- The mixer's input, and the gate's input. -/
def hx (p : Cp F) : C F := extf .f32 (extractStridedSlice S4096x1024 ![0, 2048] p slices_S4096x12288_S4096x1024_0_2048) bitsLt_bf16_f32
def hy (a : C F) (p : Cp F) (d : C₁ F) : C F := addf a (mulf (rows d) (hx p))
/-- Gelu's tanh, the half of one more than it, and gelu. -/
def ht (y : C F) : C F := Host.tanh (mulf (cst 0x3F4C422A#32) (addf y (mulf quo (mulf (mulf y y) y))))
def hh (y : C F) : C F := mulf (cst 0x3F000000#32) (addf (cst 0x3F800000#32) (ht y))
def hg (y : C F) : C F := mulf y (hh y)
/-- The sigmoid. -/
def hs (g : C F) (w : Cw F) (b : C₁ F) : C F :=
  Host.divf (cst 0x3F800000#32) (addf (cst 0x3F800000#32) (Host.exp (Host.negf (addf (Host.dotGeneral dot_S4096x1024_S1024x1024_S4096x1024_1_0_0_1_n_n none g w) (rows b)))))
def ho (o : Cb F) : C F := extf .f32 o bitsLt_bf16_f32
/-- The cotangents of the sigmoid's argument, of gelu, and of its argument. -/
def hz (g s o : C F) : C F := mulf (mulf g o) (mulf s (subf (cst 0x3F800000#32) s))
def hdg (s o z : C F) (w : Cw F) : C F := addf (mulf o s) (Host.dotGeneral dot_S4096x1024_S1024x1024_S4096x1024_1_1_0_0_n_n none z w)
def hc (y e : C F) : C F :=
  mulf (cst 0x3F4C422A#32) (mulf (mulf (cst 0x3F000000#32) (mulf y e)) (mulf (addf (cst 0x3F800000#32) (ht y)) (subf (cst 0x3F800000#32) (ht y))))
def hdy (y e : C F) : C F := addf (addf (mulf e (hh y)) (hc y e)) (mulf (mulf quo (hc y e)) (mulf (cst 0x40400000#32) (mulf y y)))
/-- The sum over the rows. -/
def hsum (x : C F) : C₁ F := shapeCast _ (Host.reduceAdd x (constant S_ .f32 0x00000000#32) reducesTo_S4096x1024_S1024_d0 h_S_) shapeCasts_S1024_S1x1024

section
variable (a : C F) (p : Cp F) (d : C₁ F) (w : Cw F) (b : C₁ F) (o : Cb F)

def vg : C F := hg (hy a p d)
def vs : C F := hs (vg a p d) w b
def vz : C F := hz (vg a p d) (vs a p d w b) (ho o)
def vy : C F := hdy (hy a p d) (hdg (vs a p d w b) (ho o) (vz a p d w b o) w)

/-- The results. -/
def r0 : Cb F := truncf .bf16 (vy a p d w b o) bitsLt_bf16_f32
def r1 : Cb F := truncf .bf16 (mulf (rows d) (vy a p d w b o)) bitsLt_bf16_f32
def r2 : Cw F := transpose S1024x1024 [1, 0] (Host.dotGeneral dot_S4096x1024_S4096x1024_S1024x1024_0_0_1_1_n_n none (vz a p d w b o) (vg a p d)) transposes_S1024x1024_S1024x1024_1_0
def r3 : C₁ F := hsum (vz a p d w b o)
def r4 : C₁ F := hsum (mulf (vy a p d w b o) (hx p))
end

/-- The operations, in order. -/
abbrev ops : List (HloOp τ sig (Elt F)) :=
  [ unary main_arg1 main_v0 ((extractStridedSlice S4096x1024 ![0, 2048] · slices_S4096x12288_S4096x1024_0_2048) : (⟨S4096x12288, .bf16⟩ : BufTy).Contents (Elt F) → Cb F),
    unary main_v0 main_v1 ((extf .f32 · bitsLt_bf16_f32) : Cb F → C F),
    unary main_arg2 main_v2 (broadcastInDim S4096x1024 ![0, 1] bcast_S1x1024_S4096x1024_0_1 : C₁ F → C F),
    binary main_v2 main_v1 main_v3 (mulf : C F → C F → C F),
    binary main_arg0 main_v3 main_v4 (addf : C F → C F → C F),
    nullary main_cst (constant S_ .f32 0x472EAB00#32),
    nullary main_cst_0 (constant S_ .f32 0x49742400#32),
    binary main_cst main_cst_0 main_v5 (Host.divf : C₀ F → C₀ F → C₀ F),
    binary main_v4 main_v4 main_v6 (mulf : C F → C F → C F),
    binary main_v6 main_v4 main_v7 (mulf : C F → C F → C F),
    binary main_v4 main_v4 main_v8 (mulf : C F → C F → C F),
    nullary main_cst_1 (constant S_ .f32 0x40400000#32),
    unary main_cst_1 main_v9 (broadcastInDim S4096x1024 ![] bcast_S_S4096x1024 : C₀ F → C F),
    binary main_v9 main_v8 main_v10 (mulf : C F → C F → C F),
    unary main_v5 main_v11 (broadcastInDim S4096x1024 ![] bcast_S_S4096x1024 : C₀ F → C F),
    binary main_v11 main_v7 main_v12 (mulf : C F → C F → C F),
    binary main_v4 main_v12 main_v13 (addf : C F → C F → C F),
    nullary main_cst_2 (constant S_ .f32 0x3F4C422A#32),
    unary main_cst_2 main_v14 (broadcastInDim S4096x1024 ![] bcast_S_S4096x1024 : C₀ F → C F),
    binary main_v14 main_v13 main_v15 (mulf : C F → C F → C F),
    unary main_v15 main_v16 (Host.tanh : C F → C F),
    nullary main_cst_3 (constant S_ .f32 0x3F800000#32),
    unary main_cst_3 main_v17 (broadcastInDim S4096x1024 ![] bcast_S_S4096x1024 : C₀ F → C F),
    binary main_v17 main_v16 main_v18 (addf : C F → C F → C F),
    nullary main_cst_4 (constant S_ .f32 0x3F800000#32),
    unary main_cst_4 main_v19 (broadcastInDim S4096x1024 ![] bcast_S_S4096x1024 : C₀ F → C F),
    binary main_v19 main_v16 main_v20 (subf : C F → C F → C F),
    binary main_v18 main_v20 main_v21 (mulf : C F → C F → C F),
    nullary main_cst_5 (constant S_ .f32 0x3F800000#32),
    unary main_cst_5 main_v22 (broadcastInDim S4096x1024 ![] bcast_S_S4096x1024 : C₀ F → C F),
    binary main_v22 main_v16 main_v23 (addf : C F → C F → C F),
    nullary main_cst_6 (constant S_ .f32 0x3F000000#32),
    unary main_cst_6 main_v24 (broadcastInDim S4096x1024 ![] bcast_S_S4096x1024 : C₀ F → C F),
    binary main_v24 main_v23 main_v25 (mulf : C F → C F → C F),
    binary main_v4 main_v25 main_v26 (mulf : C F → C F → C F),
    binary main_v26 main_arg3 main_v27 ((fun l r => Host.dotGeneral dot_S4096x1024_S1024x1024_S4096x1024_1_0_0_1_n_n none l r) : C F → Cw F → C F),
    unary main_arg4 main_v28 (broadcastInDim S4096x1024 ![0, 1] bcast_S1x1024_S4096x1024_0_1 : C₁ F → C F),
    binary main_v27 main_v28 main_v29 (addf : C F → C F → C F),
    unary main_v29 main_v30 (Host.negf : C F → C F),
    unary main_v30 main_v31 (Host.exp : C F → C F),
    nullary main_cst_7 (constant S_ .f32 0x3F800000#32),
    unary main_cst_7 main_v32 (broadcastInDim S4096x1024 ![] bcast_S_S4096x1024 : C₀ F → C F),
    binary main_v32 main_v31 main_v33 (addf : C F → C F → C F),
    nullary main_cst_8 (constant S_ .f32 0x3F800000#32),
    unary main_cst_8 main_v34 (broadcastInDim S4096x1024 ![] bcast_S_S4096x1024 : C₀ F → C F),
    binary main_v34 main_v33 main_v35 (Host.divf : C F → C F → C F),
    nullary main_cst_9 (constant S_ .f32 0x3F800000#32),
    unary main_cst_9 main_v36 (broadcastInDim S4096x1024 ![] bcast_S_S4096x1024 : C₀ F → C F),
    binary main_v36 main_v35 main_v37 (subf : C F → C F → C F),
    binary main_v35 main_v37 main_v38 (mulf : C F → C F → C F),
    binary main_v26 main_v35 main_v39 (mulf : C F → C F → C F),
    unary main_arg5 main_v40 ((extf .f32 · bitsLt_bf16_f32) : Cb F → C F),
    binary main_v26 main_v40 main_v41 (mulf : C F → C F → C F),
    binary main_v40 main_v35 main_v42 (mulf : C F → C F → C F),
    binary main_v41 main_v38 main_v43 (mulf : C F → C F → C F),
    nullary main_cst_10 (constant S_ .f32 0x00000000#32),
    binary main_v43 main_cst_10 main_v44 ((fun x v => Host.reduceAdd x v reducesTo_S4096x1024_S1024_d0 h_S_) : C F → C₀ F → (⟨S1024, .f32⟩ : BufTy).Contents (Elt F)),
    reshape main_v44 main_v45 (rfl : (.f32 : EltTy) = .f32) shapeCasts_S1024_S1x1024,
    binary main_v43 main_v26 main_v46 ((fun l r => Host.dotGeneral dot_S4096x1024_S4096x1024_S1024x1024_0_0_1_1_n_n none l r) : C F → C F → Cw F),
    unary main_v46 main_v47 ((transpose S1024x1024 [1, 0] · transposes_S1024x1024_S1024x1024_1_0) : Cw F → Cw F),
    binary main_v43 main_arg3 main_v48 ((fun l r => Host.dotGeneral dot_S4096x1024_S1024x1024_S4096x1024_1_1_0_0_n_n none l r) : C F → Cw F → C F),
    binary main_v42 main_v48 main_v49 (addf : C F → C F → C F),
    binary main_v4 main_v49 main_v50 (mulf : C F → C F → C F),
    binary main_v49 main_v25 main_v51 (mulf : C F → C F → C F),
    nullary main_cst_11 (constant S_ .f32 0x3F000000#32),
    unary main_cst_11 main_v52 (broadcastInDim S4096x1024 ![] bcast_S_S4096x1024 : C₀ F → C F),
    binary main_v52 main_v50 main_v53 (mulf : C F → C F → C F),
    binary main_v53 main_v21 main_v54 (mulf : C F → C F → C F),
    nullary main_cst_12 (constant S_ .f32 0x3F4C422A#32),
    unary main_cst_12 main_v55 (broadcastInDim S4096x1024 ![] bcast_S_S4096x1024 : C₀ F → C F),
    binary main_v55 main_v54 main_v56 (mulf : C F → C F → C F),
    binary main_v51 main_v56 main_v57 (addf : C F → C F → C F),
    unary main_v5 main_v58 (broadcastInDim S4096x1024 ![] bcast_S_S4096x1024 : C₀ F → C F),
    binary main_v58 main_v56 main_v59 (mulf : C F → C F → C F),
    binary main_v59 main_v10 main_v60 (mulf : C F → C F → C F),
    binary main_v57 main_v60 main_v61 (addf : C F → C F → C F),
    unary main_arg2 main_v62 (broadcastInDim S4096x1024 ![0, 1] bcast_S1x1024_S4096x1024_0_1 : C₁ F → C F),
    binary main_v62 main_v61 main_v63 (mulf : C F → C F → C F),
    binary main_v61 main_v1 main_v64 (mulf : C F → C F → C F),
    nullary main_cst_13 (constant S_ .f32 0x00000000#32),
    binary main_v64 main_cst_13 main_v65 ((fun x v => Host.reduceAdd x v reducesTo_S4096x1024_S1024_d0 h_S_) : C F → C₀ F → (⟨S1024, .f32⟩ : BufTy).Contents (Elt F)),
    reshape main_v65 main_v66 (rfl : (.f32 : EltTy) = .f32) shapeCasts_S1024_S1x1024,
    unary main_v61 main_v67 ((truncf .bf16 · bitsLt_bf16_f32) : C F → Cb F),
    unary main_v63 main_v68 ((truncf .bf16 · bitsLt_bf16_f32) : C F → Cb F) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., binary_bufs_sub .., binary_bufs_sub .., nullary_bufs_sub .., nullary_bufs_sub .., binary_bufs_sub .., binary_bufs_sub .., binary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., binary_bufs_sub .., binary_bufs_sub .., nullary_bufs_sub .., binary_bufs_sub .., reshape_bufs_sub .., binary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., binary_bufs_sub .., binary_bufs_sub .., unary_bufs_sub .., binary_bufs_sub .., binary_bufs_sub .., nullary_bufs_sub .., binary_bufs_sub .., reshape_bufs_sub .., unary_bufs_sub .., unary_bufs_sub ..⟩

section
variable (m : (ℓ : Loc nD τ sig) → Buf (Elt F) ℓ) (c : Dev nD)

abbrev g0 : C F := m ((c : Thread nD τ).loc main_arg0)
abbrev g1 : Cp F := m ((c : Thread nD τ).loc main_arg1)
abbrev g2 : C₁ F := m ((c : Thread nD τ).loc main_arg2)
abbrev g3 : Cw F := m ((c : Thread nD τ).loc main_arg3)
abbrev g4 : C₁ F := m ((c : Thread nD τ).loc main_arg4)
abbrev g5 : Cb F := m ((c : Thread nD τ).loc main_arg5)
end

set_option maxRecDepth 8192 in
set_option maxHeartbeats 33600000 in
/-- Every run ends with the results at the stages' values and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v67) = r0 (g0 m c) (g1 m c) (g2 m c) (g3 m c) (g4 m c) (g5 m c)
      ∧ r.2.mem ((c : Thread nD τ).loc main_v68) = r1 (g0 m c) (g1 m c) (g2 m c) (g3 m c) (g4 m c) (g5 m c)
      ∧ r.2.mem ((c : Thread nD τ).loc main_v47) = r2 (g0 m c) (g1 m c) (g2 m c) (g3 m c) (g4 m c) (g5 m c)
      ∧ r.2.mem ((c : Thread nD τ).loc main_v45) = r3 (g0 m c) (g1 m c) (g2 m c) (g3 m c) (g4 m c) (g5 m c)
      ∧ r.2.mem ((c : Thread nD τ).loc main_v66) = r4 (g0 m c) (g1 m c) (g2 m c) (g3 m c) (g4 m c) (g5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c main_v67).trans (by after_results_simp <;> rfl),
      (h c main_v68).trans (by after_results_simp <;> rfl),
      (h c main_v47).trans (by after_results_simp <;> rfl),
      (h c main_v45).trans (by after_results_simp <;> rfl),
      (h c main_v66).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

/-! ## Entries -/

section
variable (l : Fin 4096) (j : Fin 1024)

theorem cst_apply (w : BitVec 32) : cst (F := Ideal) w (ix2 l j) = Ideal.ofBits .f32 w := by
  pointwise [cst]
theorem quo_apply : quo (F := Ideal) (ix2 l j) = Cert.Gmlp.kG := by
  refine Eq.trans ?_ Cert.Gmlp.kG_div
  pointwise [quo]
theorem rows_apply (r : C₁ Ideal) : rows r (ix2 l j) = r (ix2 0 j) := by
  pointwise [rows]
theorem hx_apply (p : Cp Ideal) : hx p (ix2 l j) = p (ix2 l (md 12288 (2048 + j.val))) := by
  pointwise [hx]
  exact congrArg p (funext fun a => match a with
    | ⟨0, _⟩ => rfl
    | ⟨1, _⟩ => Fin.ext (show 2048 + j.val = (2048 + j.val) % 12288 by omega))
theorem hy_apply (a : C Ideal) (p : Cp Ideal) (d : C₁ Ideal) : hy a p d (ix2 l j) = a (ix2 l j) + d (ix2 0 j) * p (ix2 l (md 12288 (2048 + j.val))) := by
  have h : hy a p d (ix2 l j) = a (ix2 l j) + rows d (ix2 l j) * hx p (ix2 l j) := rfl
  rw [h, hx_apply, rows_apply]
theorem ht_apply (y : C Ideal) : ht y (ix2 l j) = Cert.Gmlp.th (y (ix2 l j)) := by
  unfold Cert.Gmlp.th
  rw [← quo_apply l j, Cert.Gmlp.cG, ← cst_apply l j]; rfl
theorem hh_apply (y : C Ideal) : hh y (ix2 l j) = Cert.Gmlp.half * (1 + Cert.Gmlp.th (y (ix2 l j))) := by
  rw [← ht_apply, ← Ideal.ofBits_one_f32, Cert.Gmlp.half, ← cst_apply l j, ← cst_apply l j]; rfl
theorem hg_apply (y : C Ideal) : hg y (ix2 l j) = Cert.Gmlp.gelu (y (ix2 l j)) := by
  have h : hg y (ix2 l j) = y (ix2 l j) * hh y (ix2 l j) := rfl
  rw [h, hh_apply, Cert.Gmlp.gelu, mul_comm Cert.Gmlp.half (y (ix2 l j)), mul_assoc]
theorem hs_apply (g : C Ideal) (w : Cw Ideal) (b : C₁ Ideal) : hs g w b (ix2 l j) = sgm ((∑ k : Fin 1024, g (ix2 l k) * w (ix2 k j)) + b (ix2 0 j)) := by
  rw [sgm, ← Ideal.ofBits_one_f32, ← cst_apply l j, ← rows_apply l j b]
  have h : Host.dotGeneral (F := Ideal) (φ₁ := .f32) (φ₂ := .f32) dot_S4096x1024_S1024x1024_S4096x1024_1_0_0_1_n_n none g w (ix2 l j) = ∑ k : Fin 1024, g (ix2 l k) * w (ix2 k j) := by
    pointwise
  rw [← h]; rfl
theorem hz_apply (g s o : C Ideal) : hz g s o (ix2 l j) = g (ix2 l j) * o (ix2 l j) * (s (ix2 l j) * (1 - s (ix2 l j))) := by
  rw [← Ideal.ofBits_one_f32, ← cst_apply l j]; rfl
theorem hdg_apply (s o z : C Ideal) (w : Cw Ideal) : hdg s o z w (ix2 l j) = o (ix2 l j) * s (ix2 l j) + ∑ k : Fin 1024, z (ix2 l k) * w (ix2 j k) := by
  have h : Host.dotGeneral (F := Ideal) (φ₁ := .f32) (φ₂ := .f32) dot_S4096x1024_S1024x1024_S4096x1024_1_1_0_0_n_n none z w (ix2 l j) = ∑ k : Fin 1024, z (ix2 l k) * w (ix2 j k) := by
    pointwise
  rw [← h]; rfl
theorem hc_apply (y e : C Ideal) : hc y e (ix2 l j) = Cert.Gmlp.cG * (Cert.Gmlp.half * (y (ix2 l j) * e (ix2 l j))
    * ((1 + Cert.Gmlp.th (y (ix2 l j))) * (1 - Cert.Gmlp.th (y (ix2 l j))))) := by
  rw [← ht_apply, ← Ideal.ofBits_one_f32, Cert.Gmlp.half, Cert.Gmlp.cG, ← cst_apply l j, ← cst_apply l j, ← cst_apply l j]; rfl
theorem hdy_apply (y e : C Ideal) : hdy y e (ix2 l j) = Cert.Gmlp.gradRef (y (ix2 l j)) (e (ix2 l j)) := by
  have h : hdy y e (ix2 l j) = e (ix2 l j) * hh y (ix2 l j) + hc y e (ix2 l j)
    + quo (F := Ideal) (ix2 l j) * hc y e (ix2 l j) * (cst (F := Ideal) 0x40400000#32 (ix2 l j) * (y (ix2 l j) * y (ix2 l j))) := rfl
  rw [h, hh_apply, hc_apply, quo_apply, cst_apply]; rfl
theorem hsum_apply (x : C Ideal) : hsum x (ix2 0 j) = ∑ l : Fin 4096, x (ix2 l j) := by
  pointwise [hsum]
theorem wgrad_apply (z g : C Ideal) (k : Fin 1024) :
    transpose S1024x1024 [1, 0] (Host.dotGeneral (F := Ideal) (φ₁ := .f32) (φ₂ := .f32) dot_S4096x1024_S4096x1024_S1024x1024_0_0_1_1_n_n none z g) transposes_S1024x1024_S1024x1024_1_0 (ix2 k j)
      = ∑ l : Fin 4096, z (ix2 l j) * g (ix2 l k) := by
  pointwise
end

end Cert.Prod.GluRun

end
-- ==== Proof.Gmlp.Real.lean ====
module

public import proofs.«01_k».proof.Proof.Gmlp.Mix

/-!
# The two forms of the input's gradient are equal on real numbers

The kernel multiplies a cotangent by gelu's derivative, and uses the closed form of the normalisation's gradient; the
reference keeps the terms of the chain rule apart.  On real numbers the two are equal, by the laws of a field.
-/

@[expose] public section

set_option maxRecDepth 16384

noncomputable section

namespace Cert.Gmlp

open Idealize.ShloMosaic Idealize.ShloMosaic.TcCoe Idealize.SL.Sem

/-- A real number among the extended reals. -/
def Rl (x : EReal) : Prop := ∃ r : ℝ, x = (r : EReal)

theorem Rl.add {x y : EReal} (hx : Rl x) (hy : Rl y) : Rl (x + y) := by
  obtain ⟨a, rfl⟩ := hx; obtain ⟨b, rfl⟩ := hy; exact ⟨a + b, (EReal.coe_add a b).symm⟩
theorem Rl.sub {x y : EReal} (hx : Rl x) (hy : Rl y) : Rl (x - y) := by
  obtain ⟨a, rfl⟩ := hx; obtain ⟨b, rfl⟩ := hy; exact ⟨a - b, (EReal.coe_sub a b).symm⟩
theorem Rl.mul {x y : EReal} (hx : Rl x) (hy : Rl y) : Rl (x * y) := by
  obtain ⟨a, rfl⟩ := hx; obtain ⟨b, rfl⟩ := hy; exact ⟨a * b, (EReal.coe_mul a b).symm⟩
theorem Rl.one : Rl 1 := ⟨1, EReal.coe_one.symm⟩
theorem Rl.zero : Rl 0 := ⟨0, EReal.coe_zero.symm⟩
theorem Rl.ite {p : Prop} [Decidable p] {x y : EReal} (hx : Rl x) (hy : Rl y) : Rl (if p then x else y) := by
  split <;> assumption
theorem Rl.tanh {x : EReal} (hx : Rl x) : Rl (Ideal.tanh x) := by
  obtain ⟨a, rfl⟩ := hx; exact ⟨Real.tanh a, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Rl.sum {ι : Type} (s : Finset ι) {f : ι → EReal} (h : ∀ i, Rl (f i)) : Rl (∑ i ∈ s, f i) := by
  choose g hg using h
  exact ⟨∑ i ∈ s, g i, by rw [coe_sum]; exact Finset.sum_congr rfl fun i _ => hg i⟩

theorem half_eq : half = ((1 / 2 : ℝ) : EReal) := by
  unfold half; simp [Ideal.ofBits, Ideal.ieee, -EReal.coe_mul]; norm_num
theorem nhalf_word : Ideal.ofBits .f32 0xBF000000#32 = ((-(1 / 2) : ℝ) : EReal) := by
  simp [Ideal.ofBits, Ideal.ieee, -EReal.coe_mul, -EReal.coe_neg]; norm_num
theorem three_eq : Ideal.ofBits .f32 0x40400000#32 = ((3 : ℝ) : EReal) := by
  simp [Ideal.ofBits, Ideal.ieee, -EReal.coe_mul]; norm_num
theorem cG_eq : cG = ((13386282 / 16777216 : ℝ) : EReal) := by
  unfold cG; simp [Ideal.ofBits, Ideal.ieee, -EReal.coe_mul]; norm_num
theorem width_eq : width = ((1024 : ℝ) : EReal) := by
  unfold width; simp [Ideal.ofBits, Ideal.ieee, -EReal.coe_mul]; norm_num
theorem eps_eq : eps = ((8796093 / 8796093022208 : ℝ) : EReal) := by
  unfold eps; simp [Ideal.ofBits, Ideal.ieee, -EReal.coe_mul]; norm_num

theorem Rl.th {x : EReal} (hx : Rl x) : Rl (th x) :=
  (Rl.mul ⟨_, cG_eq⟩ (hx.add (Rl.mul ⟨_, kG_eq⟩ ((hx.mul hx).mul hx)))).tanh
theorem Rl.gelu {x : EReal} (hx : Rl x) : Rl (gelu x) := (Rl.mul ⟨_, half_eq⟩ hx).mul (Rl.one.add hx.th)

/-- Gelu's gradient. -/
theorem grad_eq {x d : EReal} (hx : Rl x) (hd : Rl d) : gradRef x d = d * geluGrad x := by
  unfold gradRef geluGrad
  obtain ⟨t, ht⟩ := hx.th
  rw [ht, half_eq, cG_eq, kG_eq, kG3_eq, three_eq, ← EReal.coe_one]
  obtain ⟨a, rfl⟩ := hx
  obtain ⟨b, rfl⟩ := hd
  simp only [← EReal.coe_mul, ← EReal.coe_add, ← EReal.coe_sub]
  refine congrArg _ ?_
  ring

section
variable {X : Fin 2048 → EReal} (hX : ∀ x, Rl (X x))
include hX

omit hX in
theorem rsqrt_pos {m : ℝ} (h : 0 < m) : Ideal.rsqrt (m : EReal) = (((Real.sqrt m)⁻¹ : ℝ) : EReal) := by
  show (if m < 0 then ⊥ else if m = 0 then ⊤ else (((Real.sqrt m)⁻¹ : ℝ) : EReal)) = _
  rw [if_neg (not_lt.2 h.le), if_neg h.ne']

/-- The mean square and the normaliser, as real numbers. -/
theorem msq_real : ∃ m : ℝ, 0 < m ∧ msq X = (m : EReal) ∧ rstd X = (((Real.sqrt m)⁻¹ : ℝ) : EReal) := by
  have hv : ∀ j, Rl (vR X j) := fun j => (hX _).gelu
  choose v hv using hv
  have hm : msq X = (((∑ j, v j * v j) * (1 / 1024) + 8796093 / 8796093022208 : ℝ) : EReal) := by
    unfold msq
    rw [width_eq, eps_eq, Ideal.div_coe (by norm_num), EReal.coe_add, EReal.coe_mul, coe_sum]
    simp only [hv, EReal.coe_mul]
  have hpos : (0 : ℝ) < (∑ j, v j * v j) * (1 / 1024) + 8796093 / 8796093022208 := by
    have : (0 : ℝ) ≤ ∑ j, v j * v j := Finset.sum_nonneg fun j _ => mul_self_nonneg _
    positivity
  refine ⟨_, hpos, hm, ?_⟩
  show Ideal.rsqrt (msq X) = _
  rw [hm, rsqrt_pos hpos]

theorem Rl.vn {G : Fin 1024 → EReal} (hG : ∀ j, Rl (G j)) (j : Fin 1024) : Rl (vn X G j) := by
  obtain ⟨m, _, _, h⟩ := msq_real hX
  exact ((hX _).gelu.mul ⟨_, h⟩).mul (hG j)
end

section
variable {X : Fin 128 → Fin 2048 → EReal} {Y : Fin 128 → Fin 1024 → EReal} {G : Fin 1024 → EReal}
  {W : Fin 8 → Fin 128 → Fin 128 → EReal} {B : Fin 8 → Fin 128 → EReal}
  (hX : ∀ q x, Rl (X q x)) (hY : ∀ q j, Rl (Y q j)) (hG : ∀ j, Rl (G j)) (hW : ∀ g a b, Rl (W g a b)) (hB : ∀ g a, Rl (B g a))
include hX hY hW

theorem Rl.dvn (q : Fin 128) (j : Fin 1024) : Rl (dvn X Y W q j) :=
  Rl.sum _ fun a => (Rl.ite (hW _ _ _) Rl.zero).mul ((hY _ _).mul (hX _ _).gelu)

include hG
theorem Rl.du (hB : ∀ g a, Rl (B g a)) (q : Fin 128) (j : Fin 1024) : Rl (du X Y G W B q j) :=
  (hY _ _).mul ((Rl.sum _ fun _ => (Rl.ite (hW _ _ _) Rl.zero).mul (Rl.vn (hX _) hG _)).add (hB _ _))

theorem Rl.dv (q : Fin 128) (j : Fin 1024) : Rl (dv X Y G W q j) := by
  obtain ⟨m, _, _, h⟩ := msq_real (hX q)
  have hh : ∀ l, Rl (vhat (X q) l) := fun l => (hX _ _).gelu.mul ⟨_, h⟩
  have hd := Rl.dvn hX hY hW q
  refine Rl.mul ⟨_, h⟩ (((hd j).mul (hG j)).sub ((hh j).mul ?_))
  rw [width_eq, Ideal.div_coe (by norm_num)]
  exact (Rl.sum _ fun l => ((hd l).mul (hG l)).mul (hh l)).mul ⟨_, rfl⟩

/-- The normalisation's gradient. -/
theorem dv_eq (q : Fin 128) (j : Fin 1024) : dvRef X Y G W q j = dv X Y G W q j := by
  obtain ⟨m, hm, e1, e2⟩ := msq_real (hX q)
  have hv : ∀ l, Rl (vR (X q) l) := fun l => (hX _ _).gelu
  have hd := Rl.dvn hX hY hW q
  choose v hv using hv
  choose d hd using hd
  choose g hg using hG
  unfold dvRef dv vhat nhalf
  simp only [e1, e2, hv, hd, hg, nhalf_word, width_eq, Ideal.div_coe hm.ne', Ideal.div_coe (show (1024 : ℝ) ≠ 0 by norm_num)]
  simp only [← EReal.coe_mul, ← EReal.coe_add, ← EReal.coe_sub, ← coe_sum]
  refine congrArg _ ?_
  have hs : (Real.sqrt m)⁻¹ * (Real.sqrt m)⁻¹ = 1 / m := by
    rw [← mul_inv, Real.mul_self_sqrt hm.le, one_div]
  have hsum : ∑ l, d l * g l * (v l * (Real.sqrt m)⁻¹) = (∑ l, v l * (d l * g l)) * (Real.sqrt m)⁻¹ := by
    rw [Finset.sum_mul]; exact Finset.sum_congr rfl fun l _ => by ring
  rw [hsum, ← hs]
  ring
end

end Cert.Gmlp
-- ==== Proof.Gmlp.Finite.lean ====
module

public import proofs.«01_k».proof.Proof.Gmlp.Real
public import proofs.«01_k».proof.Defs
public import proofs.«01_k».proof.Proof.Gen.Pre_finite
public import Idealize.ShloMosaic.Lib.ReduceAll

/-!
# What the precondition says

Every element of every argument is a real number.
-/

@[expose] public section

set_option maxRecDepth 16384

noncomputable section

namespace Cert.Gmlp

open Idealize.ShloMosaic Idealize.ShloMosaic.TcCoe Idealize.SL.Sem Cert.Pre_finite

theorem inf_word : Ideal.ofBits .f32 0x7F800000#32 = ⊤ := by
  simp [Ideal.ofBits, Ideal.ieee]

/-- A number whose absolute value is below infinity is real. -/
theorem Rl.of_lt {x : EReal} (h : max x (-x) < ⊤) : Rl x := by
  induction x with
  | bot => simp at h
  | top => simp at h
  | coe r => exact ⟨r, rfl⟩

theorem Rl.of_cmp {x : EReal} (h : Ideal.cmp .olt (max x (-x)) (Ideal.ofBits .f32 0x7F800000#32) = 1#1) : Rl x := by
  refine Rl.of_lt ?_
  rw [inf_word] at h
  by_contra hn
  simp [Ideal.cmp, hn] at h

instance : Subsingleton S_.Idx := ⟨fun _ _ => funext fun a => a.elim0⟩

variable (P : FVec Ideal S4096x12288 .bf16) (G : FVec Ideal S1024 .f32) (W : FVec Ideal S8x128x128 .f32)
  (B : FVec Ideal S8x128 .f32) (Y : FVec Ideal S4096x1024 .bf16)

theorem finite_of (h : Cert.Pre_finite.fn (F := Ideal) P G W B Y = fun _ => 1#1) :
    (∀ i, Rl (P i)) ∧ (∀ i, Rl (G i)) ∧ (∀ i, Rl (W i)) ∧ (∀ i, Rl (B i)) ∧ (∀ i, Rl (Y i)) := by
  have h' := congrFun h (fun a => a.elim0)
  unfold fn fn_part1 at h'
  dsimp only at h'
  obtain ⟨h', hy⟩ := IntOp.andi_eq_one.1 h'
  obtain ⟨h', hb⟩ := IntOp.andi_eq_one.1 h'
  obtain ⟨h', hw⟩ := IntOp.andi_eq_one.1 h'
  obtain ⟨hp, hg⟩ := IntOp.andi_eq_one.1 h'
  exact ⟨fun i => Rl.of_cmp (Host.reduce_andi_all _ _ _ _ _ hp i), fun i => Rl.of_cmp (Host.reduce_andi_all _ _ _ _ _ hg i),
    fun i => Rl.of_cmp (Host.reduce_andi_all _ _ _ _ _ hw i), fun i => Rl.of_cmp (Host.reduce_andi_all _ _ _ _ _ hb i),
    fun i => Rl.of_cmp (Host.reduce_andi_all _ _ _ _ _ hy i)⟩

/-! ## The four results -/

open Cert.ReferenceIdeal.Read

section
variable (hP : ∀ i, Rl (P i)) (hG : ∀ i, Rl (G i)) (hW : ∀ i, Rl (W i)) (hB : ∀ i, Rl (B i)) (hY : ∀ i, Rl (Y i))
include hP hG hW hB hY

theorem res0_eq (i : Cert.ReferenceIdeal.S4096x2048.Idx) :
    val_main_v99 (F := Ideal) P G W B Y i = duvAt P G W B Y (i 0) (i 1) := by
  have hX : ∀ (n : ℕ) q x, Rl (cX P n q x) := fun _ _ _ => hP _
  have hY' : ∀ (n : ℕ) q j, Rl (cY Y n q j) := fun _ _ _ => hY _
  have hG' : ∀ j, Rl (gA G j) := fun _ => hG _
  have hW' : ∀ g a b, Rl (wA W g a b) := fun _ _ _ => hW _
  have hB' : ∀ g a, Rl (bA B g a) := fun _ _ => hB _
  obtain ⟨⟨n, q⟩, hr⟩ := rowsEquiv.surjective (i 0)
  have hr : crow n.val q = i 0 := hr
  have heq : i = ix2 (crow n.val q) (i 1) := by
    rw [hr]; funext a; match a with | ⟨0, _⟩ => rfl | ⟨1, _⟩ => rfl
  have hv : (crow n.val q).val = 128 * n.val + q.val := by show (128 * n.val + q.val) % 4096 = _; omega
  have e1 : (i 0).val / 128 = n.val := by rw [← hr, hv]; omega
  have e2 : ∀ h, (⟨(i 0).val % 128, h⟩ : Fin 128) = q := fun h => Fin.ext (by show (i 0).val % 128 = q.val; rw [← hr, hv]; omega)
  have hx : (i 1).val < 2048 := (i 1).isLt
  unfold duvAt
  rw [e2, e1]
  by_cases h : (i 1).val < 1024
  · rw [dif_pos h]
    have hj : i 1 = lo ⟨(i 1).val, h⟩ := Fin.ext rfl
    have hi' : i = ix2 (crow n.val q) (lo ⟨(i 1).val, h⟩) := by rw [← hj]; exact heq
    conv_lhs => rw [hi', r_v99, r_v86_lo, grad_eq (hX _ _ _) (Rl.du (hX _) (hY' _) hG' hW' hB' _ _)]
    rfl
  · rw [dif_neg h]
    have hj : i 1 = hi ⟨(i 1).val - 1024, by omega⟩ := Fin.ext (by show (i 1).val = 1024 + ((i 1).val - 1024); omega)
    have hi' : i = ix2 (crow n.val q) (hi ⟨(i 1).val - 1024, by omega⟩) := by rw [← hj]; exact heq
    conv_lhs => rw [hi', r_v99, r_v86_hi, dv_eq (hX _) (hY' _) hG' hW', grad_eq (hX _ _ _) (Rl.dv (hX _) (hY' _) hG' hW' _ _)]
    rfl
end

theorem res1_eq (i : Cert.ReferenceIdeal.S1x1024.Idx) : val_main_v100 (F := Ideal) P W Y i = dgSum P W Y (i 1) := by
  rw [show i = ix2 (i 0) (i 1) from funext fun a => match a with | ⟨0, _⟩ => rfl | ⟨1, _⟩ => rfl]; exact r_v100 P W Y _ _
theorem res2_eq (i : Cert.ReferenceIdeal.S8x128x128.Idx) :
    val_main_v64 (F := Ideal) P G Y i = dwSum P G Y (i 0) (i 1) (i 2) := by
  rw [show i = ix3 (i 0) (i 1) (i 2) from funext fun a => match a with | ⟨0, _⟩ => rfl | ⟨1, _⟩ => rfl | ⟨2, _⟩ => rfl]
  exact r_v64 P G Y _ _ _
theorem res3_eq (i : Cert.ReferenceIdeal.S8x128x1.Idx) : val_main_v101 (F := Ideal) P Y i = dbSum P Y (i 0) (i 1) := by
  rw [show i = ix3 (i 0) (i 1) (i 2) from funext fun a => match a with | ⟨0, _⟩ => rfl | ⟨1, _⟩ => rfl | ⟨2, _⟩ => rfl]
  exact r_v101 P Y _ _ _

end Cert.Gmlp
-- ==== Proof.Prod.Glu.lean ====
module

public import proofs.«01_k».proof.Proof.Prod.GluBlock
public import proofs.«01_k».proof.Proof.Prod.GluRun
public import proofs.«01_k».proof.Proof.Gmlp.Real
public import proofs.«01_k».proof.Defs
public import proofs.«01_k».proof.Proof.Gen.Pre_finite17
public import proofs.«01_k».proof.Proof.Gmlp.Finite
public import Idealize.ShloMosaic.Lib.ReduceAll

/-!
# The gradient of the output gate

The cotangents of `y` and of the mixer's input, and the gradients of the matrix, the biases and the skip's weights,
summed up over eight blocks of 512 rows.
-/

@[expose] public section

set_option maxRecDepth 16384

noncomputable section

namespace Cert.Prod.Glu

open Cert.Kernel17Ideal Cert.Kernel17Ideal.Gen Idealize.ShloMosaic Idealize.ShloMosaic.TcCoe Idealize.SL.Sem
open Cert.Gmlp (gelu geluGrad Rl)

/-! ## The results -/

section
variable (Y : S4096x1024.Idx → EReal) (P : S4096x12288.Idx → EReal) (D : S1x1024.Idx → EReal) (W : S1024x1024.Idx → EReal)
  (B : S1x1024.Idx → EReal) (O : S4096x1024.Idx → EReal)

/-- The mixer's input, the gate's input, the cotangent, the matrix and the biases. -/
abbrev xA (l : Fin 4096) (j : Fin 1024) : EReal := P (ix2 l (md 12288 (2048 + j.val)))
abbrev yA (l : Fin 4096) : Fin 1024 → EReal := fun j => Y (ix2 l j) + D (ix2 0 j) * xA P l j
abbrev oA (l : Fin 4096) : Fin 1024 → EReal := fun j => O (ix2 l j)
abbrev wA : Fin 1024 → Fin 1024 → EReal := fun k j => W (ix2 k j)
abbrev bA : Fin 1024 → EReal := fun j => B (ix2 0 j)

abbrev zA (l : Fin 4096) (j : Fin 1024) : EReal := gz (yA Y P D l) (oA O l) (wA W) (bA B) j
abbrev dA (l : Fin 4096) (j : Fin 1024) : EReal := gd (yA Y P D l) (oA O l) (wA W) (bA B) j

def resY : S4096x1024.Idx → EReal := fun i => dA Y P D W B O (i 0) (i 1)
def resX : S4096x1024.Idx → EReal := fun i => dA Y P D W B O (i 0) (i 1) * D (ix2 0 (i 1))
def resW : S1024x1024.Idx → EReal := fun i => ∑ l : Fin 4096, gelu (yA Y P D l (i 0)) * zA Y P D W B O l (i 1)
def resB : S1x1024.Idx → EReal := fun i => ∑ l : Fin 4096, zA Y P D W B O l (i 1)
def resD : S1x1024.Idx → EReal := fun i => ∑ l : Fin 4096, dA Y P D W B O l (i 1) * xA P l (i 1)
end

/-! ## The arrays -/

variable (m : (ℓ : Loc nD τ sig) → Buf (Elt Ideal) ℓ) (ρ : Dev nD → PrngReg) (d : Dev nD)

abbrev aY : S4096x1024.Idx → EReal := m ((d : Thread nD τ).loc main_arg0)
abbrev aP : S4096x12288.Idx → EReal := m ((d : Thread nD τ).loc main_arg1)
abbrev aD : S1x1024.Idx → EReal := m ((d : Thread nD τ).loc main_arg2)
abbrev aW : S1024x1024.Idx → EReal := m ((d : Thread nD τ).loc main_arg3)
abbrev aB : S1x1024.Idx → EReal := m ((d : Thread nD τ).loc main_arg4)
abbrev aO : S4096x1024.Idx → EReal := m ((d : Thread nD τ).loc main_arg5)

theorem index0 : ∀ t : Fin grid0.N, win0_0.index t 0 = t.val ∧ win0_0.index t 1 = 0 := by decide +kernel
theorem index1 : ∀ t : Fin grid0.N, win0_1.index t 0 = t.val ∧ win0_1.index t 1 = 2 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index2 : ∀ t : Fin grid0.N, win0_2.index t 0 = 0 ∧ win0_2.index t 1 = 0 := by decide +kernel
theorem index4 : ∀ t : Fin grid0.N, win0_4.index t 0 = 0 ∧ win0_4.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index3 : ∀ t : Fin grid0.N, win0_3.index t 0 = 0 ∧ win0_3.index t 1 = 0 ∧ win0_3.index t 2 = 0 := by decide +kernel

theorem N8 (t : Fin cfg0.N) : t.val < 8 := lt_of_lt_of_eq t.isLt (show cfg0.N = 8 from N_0)

theorem last7 (t : Fin cfg0.N) (h : t.val % 8 = 7) : t.val = 8 * 0 + 7 := by
  have := N8 t
  omega

/-- Row `r` of block `n`. -/
abbrev rw' (n : ℕ) (r : Fin 512) : Fin 4096 := md 4096 (512 * n + r.val)

theorem iblk0 (t : Fin cfg0.N) (r : Fin 512) (j : Fin 1024) : (iblk m d 0 t : Vec Ideal S512x1024 .f32) (ix2 r j) = aY m d (ix2 (rw' t.val r) j) := by
  have hi := index0 t
  have ht := N8 t
  unfold iblk
  rw [View.read_apply]
  show V m d main_arg0 _ = _
  rw [V_main_arg0]
  refine congrArg (aY m d) (funext fun x => ?_)
  match x with
  | ⟨0, _⟩ => exact Fin.ext (show win0_0.index t 0 * 512 + 1 * r.val = (512 * t.val + r.val) % 4096 by rw [hi.1]; omega)
  | ⟨1, _⟩ => exact Fin.ext (show win0_0.index t 1 * 1024 + 1 * j.val = j.val by rw [hi.2]; omega)

theorem iblk1 (t : Fin cfg0.N) (r : Fin 512) (j : Fin 1024) : (iblk m d 1 t : Vec Ideal S512x1024 .bf16) (ix2 r j) = aP m d (ix2 (rw' t.val r) (md 12288 (2048 + j.val))) := by
  have hi := index1 t
  have ht := N8 t
  unfold iblk
  rw [View.read_apply]
  show V m d main_arg1 _ = _
  rw [V_main_arg1]
  refine congrArg (aP m d) (funext fun x => ?_)
  match x with
  | ⟨0, _⟩ => exact Fin.ext (show win0_1.index t 0 * 512 + 1 * r.val = (512 * t.val + r.val) % 4096 by rw [hi.1]; omega)
  | ⟨1, _⟩ => exact Fin.ext (show win0_1.index t 1 * 1024 + 1 * j.val = (2048 + j.val) % 12288 by rw [hi.2]; omega)

theorem iblk5 (t : Fin cfg0.N) (r : Fin 512) (j : Fin 1024) : (iblk m d 5 t : Vec Ideal S512x1024 .bf16) (ix2 r j) = aO m d (ix2 (rw' t.val r) j) := by
  have hi := index5 t
  have ht := N8 t
  unfold iblk
  rw [View.read_apply]
  show V m d main_arg5 _ = _
  rw [V_main_arg5]
  refine congrArg (aO m d) (funext fun x => ?_)
  match x with
  | ⟨0, _⟩ => exact Fin.ext (show win0_5.index t 0 * 512 + 1 * r.val = (512 * t.val + r.val) % 4096 by rw [hi.1]; omega)
  | ⟨1, _⟩ => exact Fin.ext (show win0_5.index t 1 * 1024 + 1 * j.val = j.val by rw [hi.2]; omega)

theorem iblk2 (t : Fin cfg0.N) (j : Fin 1024) : (iblk m d 2 t : Vec Ideal S1x1024 .f32) (ix2 0 j) = aD m d (ix2 0 j) := by
  have hi := index2 t
  unfold iblk
  rw [View.read_apply]
  show V m d main_arg2 _ = _
  rw [V_main_arg2]
  refine congrArg (aD m d) (funext fun x => ?_)
  match x with
  | ⟨0, _⟩ => exact Fin.ext (show win0_2.index t 0 * 1 + 1 * 0 = 0 by rw [hi.1])
  | ⟨1, _⟩ => exact Fin.ext (show win0_2.index t 1 * 1024 + 1 * j.val = j.val by rw [hi.2]; omega)

theorem iblk4 (t : Fin cfg0.N) (j : Fin 1024) : (iblk m d 4 t : Vec Ideal S1x1024 .f32) (ix2 0 j) = aB m d (ix2 0 j) := by
  have hi := index4 t
  unfold iblk
  rw [View.read_apply]
  show V m d main_arg4 _ = _
  rw [V_main_arg4]
  refine congrArg (aB m d) (funext fun x => ?_)
  match x with
  | ⟨0, _⟩ => exact Fin.ext (show win0_4.index t 0 * 1 + 1 * 0 = 0 by rw [hi.1])
  | ⟨1, _⟩ => exact Fin.ext (show win0_4.index t 1 * 1024 + 1 * j.val = j.val by rw [hi.2]; omega)

theorem V1 : V m d main_v1 = broadcastInDim S1x1024x1024 ![1, 2] bcast_S1024x1024_S1x1024x1024_1_2 (truncf (F := Ideal) (s := S1024x1024) (φ := .f32) .bf16 (aW m d) bitsLt_bf16_f32) := by entry_read; rfl

theorem hostW_apply (w : FVec Ideal S1024x1024 .f32) (k j : Fin 1024) :
    broadcastInDim S1x1024x1024 ![1, 2] bcast_S1024x1024_S1x1024x1024_1_2 (truncf (F := Ideal) (s := S1024x1024) (φ := .f32) .bf16 w bitsLt_bf16_f32) (ix3 0 k j) = w (ix2 k j) := by
  pointwise

theorem iblk3 (t : Fin cfg0.N) (k j : Fin 1024) : (iblk m d 3 t : Vec Ideal S1x1024x1024 .bf16) (ix3 0 k j) = aW m d (ix2 k j) := by
  have hi := index3 t
  unfold iblk
  rw [View.read_apply]
  show V m d main_v1 _ = _
  rw [V1]
  refine Eq.trans ?_ (hostW_apply (aW m d) k j)
  refine congrArg (broadcastInDim S1x1024x1024 ![1, 2] bcast_S1024x1024_S1x1024x1024_1_2 (truncf (F := Ideal) (s := S1024x1024) (φ := .f32) .bf16 (aW m d) bitsLt_bf16_f32)) (funext fun x => ?_)
  match x with
  | ⟨0, _⟩ => exact Fin.ext (show win0_3.index t 0 * 1 + 1 * 0 = 0 by rw [hi.1])
  | ⟨1, _⟩ => exact Fin.ext (show win0_3.index t 1 * 1024 + 1 * k.val = k.val by rw [hi.2.1]; omega)
  | ⟨2, _⟩ => exact Fin.ext (show win0_3.index t 2 * 1024 + 1 * j.val = j.val by rw [hi.2.2]; omega)

/-! ## The rows of a block -/

theorem row_y (t : Fin cfg0.N) (r : Fin 512) : yb (iblk m d 0 t) (iblk m d 1 t) (iblk m d 2 t) r = yA (aY m d) (aP m d) (aD m d) (rw' t.val r) :=
  funext fun j => congrArg₂ (fun u v : EReal => u + v) (iblk0 m d t r j) (congrArg₂ (fun u v : EReal => u * v) (iblk2 m d t j) (iblk1 m d t r j))
theorem row_o (t : Fin cfg0.N) (r : Fin 512) : ob (iblk m d 5 t) r = oA (aO m d) (rw' t.val r) := funext fun j => iblk5 m d t r j
theorem row_w (t : Fin cfg0.N) : wb (iblk m d 3 t) = wA (aW m d) := funext fun k => funext fun j => iblk3 m d t k j
theorem row_b (t : Fin cfg0.N) : bb (iblk m d 4 t) = bA (aB m d) := funext fun j => iblk4 m d t j

theorem outs6 (t : Fin cfg0.N) : (outsAt0 m d t.val t.isLt).1 = o6 (iblk m d 0 t) (iblk m d 1 t) (iblk m d 2 t) (iblk m d 3 t) (iblk m d 4 t) (iblk m d 5 t) := by
  by_cases h0 : t.val % 8 = 0
  · rw [outsAt0_A m d t h0]; dsimp only; rw [out_A6]
  · rw [outsAt0_B m d t h0]; dsimp only; rw [out_B6]

theorem block6 (t : Fin cfg0.N) (r : Fin 512) (j : Fin 1024) : o6 (iblk m d 0 t) (iblk m d 1 t) (iblk m d 2 t) (iblk m d 3 t) (iblk m d 4 t) (iblk m d 5 t) (ix2 r j) = resY (aY m d) (aP m d) (aD m d) (aW m d) (aB m d) (aO m d) (ix2 (rw' t.val r) j) := by
  refine (o6_apply _ _ _ _ _ _ r j).trans ?_
  rw [row_y, row_o, row_w, row_b]
  exact rfl

theorem flushedEq6 (t : Fin cfg0.N) (_ : (cfg0.win 6).flush t = true) :
    (dats m 0 d).flushed 6 t = ((cfg0.win 6).blk t).view.read (Elt Ideal) (resY (aY m d) (aP m d) (aD m d) (aW m d) (aB m d) (aO m d)) := by
  rw [Value.flushed6, outs6]
  have hi := index6 t
  have ht := N8 t
  funext y
  obtain ⟨r, k, rfl⟩ : ∃ (r : Fin 512) (k : Fin 1024), y = ix2 r k := ⟨y 0, y 1, funext fun a => by match a with | ⟨0, _⟩ => rfl | ⟨1, _⟩ => rfl⟩
  rw [View.read_apply]
  refine (block6 m d t r k).trans (congrArg (resY (aY m d) (aP m d) (aD m d) (aW m d) (aB m d) (aO m d)) (funext fun x => ?_))
  match x with
  | ⟨0, _⟩ => exact Fin.ext (show (512 * t.val + r.val) % 4096 = win0_6.index t 0 * 512 + 1 * r.val by rw [hi.1]; omega)
  | ⟨1, _⟩ => exact Fin.ext (show k.val = win0_6.index t 1 * 1024 + 1 * k.val by rw [hi.2]; omega)

theorem final6 : (dats m 0 d).arrAt 6 cfg0.N = resY (aY m d) (aP m d) (aD m d) (aW m d) (aB m d) (aO m d) :=
  (dats m 0 d).arrAt_eq_of_cover 6 (resY (aY m d) (aP m d) (aD m d) (aW m d) (aB m d) (aO m d)) (flushedEq6 m d) fun i => by
    have h0 : (i 0 : Nat) < 4096 := (i 0).isLt
    have h1 : (i 1 : Nat) < 1024 := (i 1).isLt
    have hN : grid0.N = 8 := N_0
    obtain ⟨t, ht⟩ : ∃ t : Fin cfg0.N, t.val = (i 0 : Nat) / 512 := ⟨⟨_, by show _ < grid0.N; omega⟩, rfl⟩
    have hi := index6 t
    refine ⟨t, flush0_6 t, ?_⟩
    show i ∈ ((View.whole main_v2_0).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [hi.1]; omega
    | ⟨1, _⟩ =>
      show win0_6.index t 1 * 1024 ≤ (i 1 : Nat) ∧ (i 1 : Nat) < win0_6.index t 1 * 1024 + 1024
      rw [hi.2]; omega

theorem outs7 (t : Fin cfg0.N) : (outsAt0 m d t.val t.isLt).2.1 = o7 (iblk m d 0 t) (iblk m d 1 t) (iblk m d 2 t) (iblk m d 3 t) (iblk m d 4 t) (iblk m d 5 t) := by
  by_cases h0 : t.val % 8 = 0
  · rw [outsAt0_A m d t h0]; dsimp only; rw [out_A7]
  · rw [outsAt0_B m d t h0]; dsimp only; rw [out_B7]

theorem block7 (t : Fin cfg0.N) (r : Fin 512) (j : Fin 1024) : o7 (iblk m d 0 t) (iblk m d 1 t) (iblk m d 2 t) (iblk m d 3 t) (iblk m d 4 t) (iblk m d 5 t) (ix2 r j) = resX (aY m d) (aP m d) (aD m d) (aW m d) (aB m d) (aO m d) (ix2 (rw' t.val r) j) := by
  refine (o7_apply _ _ _ _ _ _ r j).trans ?_
  rw [row_y, row_o, row_w, row_b]
  exact congrArg (_ * ·) (iblk2 m d t j)

theorem flushedEq7 (t : Fin cfg0.N) (_ : (cfg0.win 7).flush t = true) :
    (dats m 0 d).flushed 7 t = ((cfg0.win 7).blk t).view.read (Elt Ideal) (resX (aY m d) (aP m d) (aD m d) (aW m d) (aB m d) (aO m d)) := by
  rw [Value.flushed7, outs7]
  have hi := index7 t
  have ht := N8 t
  funext y
  obtain ⟨r, k, rfl⟩ : ∃ (r : Fin 512) (k : Fin 1024), y = ix2 r k := ⟨y 0, y 1, funext fun a => by match a with | ⟨0, _⟩ => rfl | ⟨1, _⟩ => rfl⟩
  rw [View.read_apply]
  refine (block7 m d t r k).trans (congrArg (resX (aY m d) (aP m d) (aD m d) (aW m d) (aB m d) (aO m d)) (funext fun x => ?_))
  match x with
  | ⟨0, _⟩ => exact Fin.ext (show (512 * t.val + r.val) % 4096 = win0_7.index t 0 * 512 + 1 * r.val by rw [hi.1]; omega)
  | ⟨1, _⟩ => exact Fin.ext (show k.val = win0_7.index t 1 * 1024 + 1 * k.val by rw [hi.2]; omega)

theorem final7 : (dats m 0 d).arrAt 7 cfg0.N = resX (aY m d) (aP m d) (aD m d) (aW m d) (aB m d) (aO m d) :=
  (dats m 0 d).arrAt_eq_of_cover 7 (resX (aY m d) (aP m d) (aD m d) (aW m d) (aB m d) (aO m d)) (flushedEq7 m d) fun i => by
    have h0 : (i 0 : Nat) < 4096 := (i 0).isLt
    have h1 : (i 1 : Nat) < 1024 := (i 1).isLt
    have hN : grid0.N = 8 := N_0
    obtain ⟨t, ht⟩ : ∃ t : Fin cfg0.N, t.val = (i 0 : Nat) / 512 := ⟨⟨_, by show _ < grid0.N; omega⟩, rfl⟩
    have hi := index7 t
    refine ⟨t, flush0_7 t, ?_⟩
    show i ∈ ((View.whole main_v2_1).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [hi.1]; omega
    | ⟨1, _⟩ =>
      show win0_7.index t 1 * 1024 ≤ (i 1 : Nat) ∧ (i 1 : Nat) < win0_7.index t 1 * 1024 + 1024
      rw [hi.2]; omega

/-- What point `t` adds at an entry. -/
def part8 (k j : Fin 1024) (t : ℕ) : EReal := ∑ r : Fin 512, gelu (yA (aY m d) (aP m d) (aD m d) (rw' t r) k) * zA (aY m d) (aP m d) (aD m d) (aW m d) (aB m d) (aO m d) (rw' t r) j

theorem step8 (acc : Vec Ideal S1024x1024 .f32) (t : Fin cfg0.N) (k j : Fin 1024) :
    o8 (iblk m d 0 t) (iblk m d 1 t) (iblk m d 2 t) (iblk m d 3 t) (iblk m d 4 t) (iblk m d 5 t) acc (ix2 k j) = acc (ix2 k j) + part8 m d k j t.val := by
  refine (o8_apply _ _ _ _ _ _ acc j k).trans (congrArg (_ + ·) (Finset.sum_congr rfl fun r _ => ?_))
  rw [row_y, row_o, row_w, row_b]

theorem acc_A8 (t : Fin cfg0.N) (h0 : t.val % 8 = 0) :
    (outsAt0 m d t.val t.isLt).2.2.1 = o8 (iblk m d 0 t) (iblk m d 1 t) (iblk m d 2 t) (iblk m d 3 t) (iblk m d 4 t) (iblk m d 5 t) (k0_pay6 (F := Ideal)) := by
  rw [outsAt0_A m d t h0]
  dsimp only
  rw [out_A8]

theorem acc_B8 (t : Fin cfg0.N) (h0 : ¬t.val % 8 = 0) : (outsAt0 m d t.val t.isLt).2.2.1
    = o8 (iblk m d 0 t) (iblk m d 1 t) (iblk m d 2 t) (iblk m d 3 t) (iblk m d 4 t) (iblk m d 5 t) (outsAt0 m d (t.val - 1) (Nat.lt_of_le_of_lt (Nat.sub_le _ _) t.isLt)).2.2.1 := by
  rw [outsAt0_B m d t h0]
  dsimp only
  rw [out_B8]

theorem acc_eq8 (k j : Fin 1024) (q : ℕ) (h : 8 * q + 7 < cfg0.N) :
    (outsAt0 m d (8 * q + 7) h).2.2.1 (ix2 k j) = ∑ i ∈ Finset.range 8, part8 m d k j (8 * q + i) :=
  acc_sum (N := cfg0.N) (n := 8) (fun t h => (outsAt0 m d t h).2.2.1 (ix2 k j)) (part8 m d k j)
    (fun t h h0 => (congrFun (acc_A8 m d ⟨t, h⟩ h0) (ix2 k j)).trans ((step8 ..).trans (congrArg (· + _) (pay6_apply j k))))
    (fun t h h0 => (congrFun (acc_B8 m d ⟨t, h⟩ h0) (ix2 k j)).trans (step8 ..)) q 7 (by omega) h

theorem total8 (k j : Fin 1024) : ∑ i ∈ Finset.range 8, part8 m d k j (8 * 0 + i) = resW (aY m d) (aP m d) (aD m d) (aW m d) (aB m d) (aO m d) (ix2 k j) := by
  refine Eq.trans (Finset.sum_congr rfl fun i _ => ?_) (sum_blocks (n := 8) (b := 512) (K := 4096) rfl fun l => gelu (yA (aY m d) (aP m d) (aD m d) l k) * zA (aY m d) (aP m d) (aD m d) (aW m d) (aB m d) (aO m d) l j)
  rw [show 8 * 0 + i = i by omega, part8]

theorem out_last8 (t : ℕ) (ht : t < cfg0.N) (h1 : t = 8 * 0 + 7) (k j : Fin 1024) :
    (outsAt0 m d t ht).2.2.1 (ix2 k j) = resW (aY m d) (aP m d) (aD m d) (aW m d) (aB m d) (aO m d) (ix2 k j) := by
  subst h1
  exact (acc_eq8 m d k j 0 ht).trans (total8 m d k j)

theorem flushedEq8 (t : Fin cfg0.N) (hf : (cfg0.win 8).flush t = true) :
    (dats m 0 d).flushed 8 t = ((cfg0.win 8).blk t).view.read (Elt Ideal) (resW (aY m d) (aP m d) (aD m d) (aW m d) (aB m d) (aO m d)) := by
  rw [Value.flushed8]
  have hi := index8 t
  funext y
  obtain ⟨k, j, rfl⟩ : ∃ (k j : Fin 1024), y = ix2 k j := ⟨y 0, y 1, funext fun a => by match a with | ⟨0, _⟩ => rfl | ⟨1, _⟩ => rfl⟩
  rw [View.read_apply]
  refine (out_last8 m d t.val t.isLt (last7 t ((flush0_8 t).mp hf)) k j).trans (congrArg (resW (aY m d) (aP m d) (aD m d) (aW m d) (aB m d) (aO m d)) (funext fun x => ?_))
  match x with
  | ⟨0, _⟩ => exact Fin.ext (show k.val = win0_8.index t 0 * 1024 + 1 * k.val by rw [hi.1]; omega)
  | ⟨1, _⟩ => exact Fin.ext (show j.val = win0_8.index t 1 * 1024 + 1 * j.val by rw [hi.2]; omega)

theorem final8 : (dats m 0 d).arrAt 8 cfg0.N = resW (aY m d) (aP m d) (aD m d) (aW m d) (aB m d) (aO m d) :=
  (dats m 0 d).arrAt_eq_of_cover 8 (resW (aY m d) (aP m d) (aD m d) (aW m d) (aB m d) (aO m d)) (flushedEq8 m d) fun i => by
    have h0 : (i 0 : Nat) < 1024 := (i 0).isLt
    have h1 : (i 1 : Nat) < 1024 := (i 1).isLt
    have hN : grid0.N = 8 := N_0
    obtain ⟨t, ht⟩ : ∃ t : Fin cfg0.N, t.val = 7 := ⟨⟨7, by show _ < grid0.N; omega⟩, rfl⟩
    have hi := index8 t
    refine ⟨t, (flush0_8 t).mpr (by omega), ?_⟩
    show i ∈ ((View.whole main_v2_2).slice (win0_8.rect t)).set
    rw [View.set_slice_whole, Rect.mem_set_unit]
    intro a
    match a with
    | ⟨0, _⟩ =>
      show win0_8.index t 0 * 1024 ≤ (i 0 : Nat) ∧ (i 0 : Nat) < win0_8.index t 0 * 1024 + 1024
      rw [hi.1]; omega
    | ⟨1, _⟩ =>
      show win0_8.index t 1 * 1024 ≤ (i 1 : Nat) ∧ (i 1 : Nat) < win0_8.index t 1 * 1024 + 1024
      rw [hi.2]; omega

/-- What point `t` adds at an entry. -/
def part9 (j : Fin 1024) (t : ℕ) : EReal := ∑ r : Fin 512, zA (aY m d) (aP m d) (aD m d) (aW m d) (aB m d) (aO m d) (rw' t r) j

theorem step9 (acc : Vec Ideal S1x1024 .f32) (t : Fin cfg0.N) (j : Fin 1024) :
    o9 (iblk m d 0 t) (iblk m d 1 t) (iblk m d 2 t) (iblk m d 3 t) (iblk m d 4 t) (iblk m d 5 t) acc (ix2 0 j) = acc (ix2 0 j) + part9 m d j t.val := by
  refine (o9_apply _ _ _ _ _ _ acc j).trans (congrArg (_ + ·) (Finset.sum_congr rfl fun r _ => ?_))
  rw [row_y, row_o, row_w, row_b]

theorem acc_A9 (t : Fin cfg0.N) (h0 : t.val % 8 = 0) :
    (outsAt0 m d t.val t.isLt).2.2.2.1 = o9 (iblk m d 0 t) (iblk m d 1 t) (iblk m d 2 t) (iblk m d 3 t) (iblk m d 4 t) (iblk m d 5 t) (k0_pay7 (F := Ideal)) := by
  rw [outsAt0_A m d t h0]
  dsimp only
  rw [out_A9]

theorem acc_B9 (t : Fin cfg0.N) (h0 : ¬t.val % 8 = 0) : (outsAt0 m d t.val t.isLt).2.2.2.1
    = o9 (iblk m d 0 t) (iblk m d 1 t) (iblk m d 2 t) (iblk m d 3 t) (iblk m d 4 t) (iblk m d 5 t) (outsAt0 m d (t.val - 1) (Nat.lt_of_le_of_lt (Nat.sub_le _ _) t.isLt)).2.2.2.1 := by
  rw [outsAt0_B m d t h0]
  dsimp only
  rw [out_B9]

theorem acc_eq9 (j : Fin 1024) (q : ℕ) (h : 8 * q + 7 < cfg0.N) :
    (outsAt0 m d (8 * q + 7) h).2.2.2.1 (ix2 0 j) = ∑ i ∈ Finset.range 8, part9 m d j (8 * q + i) :=
  acc_sum (N := cfg0.N) (n := 8) (fun t h => (outsAt0 m d t h).2.2.2.1 (ix2 0 j)) (part9 m d j)
    (fun t h h0 => (congrFun (acc_A9 m d ⟨t, h⟩ h0) (ix2 0 j)).trans ((step9 ..).trans (congrArg (· + _) (pay7_apply j))))
    (fun t h h0 => (congrFun (acc_B9 m d ⟨t, h⟩ h0) (ix2 0 j)).trans (step9 ..)) q 7 (by omega) h

theorem total9 (j : Fin 1024) : ∑ i ∈ Finset.range 8, part9 m d j (8 * 0 + i) = resB (aY m d) (aP m d) (aD m d) (aW m d) (aB m d) (aO m d) (ix2 0 j) := by
  refine Eq.trans (Finset.sum_congr rfl fun i _ => ?_) (sum_blocks (n := 8) (b := 512) (K := 4096) rfl fun l => zA (aY m d) (aP m d) (aD m d) (aW m d) (aB m d) (aO m d) l j)
  rw [show 8 * 0 + i = i by omega, part9]

theorem out_last9 (t : ℕ) (ht : t < cfg0.N) (h1 : t = 8 * 0 + 7) (j : Fin 1024) :
    (outsAt0 m d t ht).2.2.2.1 (ix2 0 j) = resB (aY m d) (aP m d) (aD m d) (aW m d) (aB m d) (aO m d) (ix2 0 j) := by
  subst h1
  exact (acc_eq9 m d j 0 ht).trans (total9 m d j)

theorem flushedEq9 (t : Fin cfg0.N) (hf : (cfg0.win 9).flush t = true) :
    (dats m 0 d).flushed 9 t = ((cfg0.win 9).blk t).view.read (Elt Ideal) (resB (aY m d) (aP m d) (aD m d) (aW m d) (aB m d) (aO m d)) := by
  rw [Value.flushed9]
  have hi := index9 t
  funext y
  obtain ⟨j, rfl⟩ : ∃ (j : Fin 1024), y = ix2 0 j := ⟨y 1, funext fun a => by match a with | ⟨0, _⟩ => exact Subsingleton.elim (α := Fin 1) _ _ | ⟨1, _⟩ => rfl⟩
  rw [View.read_apply]
  refine (out_last9 m d t.val t.isLt (last7 t ((flush0_9 t).mp hf)) j).trans (congrArg (resB (aY m d) (aP m d) (aD m d) (aW m d) (aB m d) (aO m d)) (funext fun x => ?_))
  match x with
  | ⟨0, _⟩ => exact Fin.ext (show 0 = win0_9.index t 0 * 1 + 1 * 0 by rw [hi.1])
  | ⟨1, _⟩ => exact Fin.ext (show j.val = win0_9.index t 1 * 1024 + 1 * j.val by rw [hi.2]; omega)

theorem final9 : (dats m 0 d).arrAt 9 cfg0.N = resB (aY m d) (aP m d) (aD m d) (aW m d) (aB m d) (aO m d) :=
  (dats m 0 d).arrAt_eq_of_cover 9 (resB (aY m d) (aP m d) (aD m d) (aW m d) (aB m d) (aO m d)) (flushedEq9 m d) fun i => by
    have h0 : (i 0 : Nat) < 1 := (i 0).isLt
    have h1 : (i 1 : Nat) < 1024 := (i 1).isLt
    have hN : grid0.N = 8 := N_0
    obtain ⟨t, ht⟩ : ∃ t : Fin cfg0.N, t.val = 7 := ⟨⟨7, by show _ < grid0.N; omega⟩, rfl⟩
    have hi := index9 t
    refine ⟨t, (flush0_9 t).mpr (by omega), ?_⟩
    show i ∈ ((View.whole main_v2_3).slice (win0_9.rect t)).set
    rw [View.set_slice_whole, Rect.mem_set_unit]
    intro a
    match a with
    | ⟨0, _⟩ =>
      show win0_9.index t 0 * 1 ≤ (i 0 : Nat) ∧ (i 0 : Nat) < win0_9.index t 0 * 1 + 1
      rw [hi.1]; omega
    | ⟨1, _⟩ =>
      show win0_9.index t 1 * 1024 ≤ (i 1 : Nat) ∧ (i 1 : Nat) < win0_9.index t 1 * 1024 + 1024
      rw [hi.2]; omega

/-- What point `t` adds at an entry. -/
def part10 (j : Fin 1024) (t : ℕ) : EReal := ∑ r : Fin 512, dA (aY m d) (aP m d) (aD m d) (aW m d) (aB m d) (aO m d) (rw' t r) j * xA (aP m d) (rw' t r) j

theorem step10 (acc : Vec Ideal S1x1024 .f32) (t : Fin cfg0.N) (j : Fin 1024) :
    o10 (iblk m d 0 t) (iblk m d 1 t) (iblk m d 2 t) (iblk m d 3 t) (iblk m d 4 t) (iblk m d 5 t) acc (ix2 0 j) = acc (ix2 0 j) + part10 m d j t.val := by
  refine (o10_apply _ _ _ _ _ _ acc j).trans (congrArg (_ + ·) (Finset.sum_congr rfl fun r _ => ?_))
  rw [row_y, row_o, row_w, row_b]
  exact congrArg (_ * ·) (iblk1 m d t r j)

theorem acc_A10 (t : Fin cfg0.N) (h0 : t.val % 8 = 0) :
    (outsAt0 m d t.val t.isLt).2.2.2.2 = o10 (iblk m d 0 t) (iblk m d 1 t) (iblk m d 2 t) (iblk m d 3 t) (iblk m d 4 t) (iblk m d 5 t) (k0_pay8 (F := Ideal)) := by
  rw [outsAt0_A m d t h0]
  dsimp only
  rw [out_A10]

theorem acc_B10 (t : Fin cfg0.N) (h0 : ¬t.val % 8 = 0) : (outsAt0 m d t.val t.isLt).2.2.2.2
    = o10 (iblk m d 0 t) (iblk m d 1 t) (iblk m d 2 t) (iblk m d 3 t) (iblk m d 4 t) (iblk m d 5 t) (outsAt0 m d (t.val - 1) (Nat.lt_of_le_of_lt (Nat.sub_le _ _) t.isLt)).2.2.2.2 := by
  rw [outsAt0_B m d t h0]
  dsimp only
  rw [out_B10]

theorem acc_eq10 (j : Fin 1024) (q : ℕ) (h : 8 * q + 7 < cfg0.N) :
    (outsAt0 m d (8 * q + 7) h).2.2.2.2 (ix2 0 j) = ∑ i ∈ Finset.range 8, part10 m d j (8 * q + i) :=
  acc_sum (N := cfg0.N) (n := 8) (fun t h => (outsAt0 m d t h).2.2.2.2 (ix2 0 j)) (part10 m d j)
    (fun t h h0 => (congrFun (acc_A10 m d ⟨t, h⟩ h0) (ix2 0 j)).trans ((step10 ..).trans (congrArg (· + _) (pay8_apply j))))
    (fun t h h0 => (congrFun (acc_B10 m d ⟨t, h⟩ h0) (ix2 0 j)).trans (step10 ..)) q 7 (by omega) h

theorem total10 (j : Fin 1024) : ∑ i ∈ Finset.range 8, part10 m d j (8 * 0 + i) = resD (aY m d) (aP m d) (aD m d) (aW m d) (aB m d) (aO m d) (ix2 0 j) := by
  refine Eq.trans (Finset.sum_congr rfl fun i _ => ?_) (sum_blocks (n := 8) (b := 512) (K := 4096) rfl fun l => dA (aY m d) (aP m d) (aD m d) (aW m d) (aB m d) (aO m d) l j * xA (aP m d) l j)
  rw [show 8 * 0 + i = i by omega, part10]

theorem out_last10 (t : ℕ) (ht : t < cfg0.N) (h1 : t = 8 * 0 + 7) (j : Fin 1024) :
    (outsAt0 m d t ht).2.2.2.2 (ix2 0 j) = resD (aY m d) (aP m d) (aD m d) (aW m d) (aB m d) (aO m d) (ix2 0 j) := by
  subst h1
  exact (acc_eq10 m d j 0 ht).trans (total10 m d j)

theorem flushedEq10 (t : Fin cfg0.N) (hf : (cfg0.win 10).flush t = true) :
    (dats m 0 d).flushed 10 t = ((cfg0.win 10).blk t).view.read (Elt Ideal) (resD (aY m d) (aP m d) (aD m d) (aW m d) (aB m d) (aO m d)) := by
  rw [Value.flushed10]
  have hi := index10 t
  funext y
  obtain ⟨j, rfl⟩ : ∃ (j : Fin 1024), y = ix2 0 j := ⟨y 1, funext fun a => by match a with | ⟨0, _⟩ => exact Subsingleton.elim (α := Fin 1) _ _ | ⟨1, _⟩ => rfl⟩
  rw [View.read_apply]
  refine (out_last10 m d t.val t.isLt (last7 t ((flush0_10 t).mp hf)) j).trans (congrArg (resD (aY m d) (aP m d) (aD m d) (aW m d) (aB m d) (aO m d)) (funext fun x => ?_))
  match x with
  | ⟨0, _⟩ => exact Fin.ext (show 0 = win0_10.index t 0 * 1 + 1 * 0 by rw [hi.1])
  | ⟨1, _⟩ => exact Fin.ext (show j.val = win0_10.index t 1 * 1024 + 1 * j.val by rw [hi.2]; omega)

theorem final10 : (dats m 0 d).arrAt 10 cfg0.N = resD (aY m d) (aP m d) (aD m d) (aW m d) (aB m d) (aO m d) :=
  (dats m 0 d).arrAt_eq_of_cover 10 (resD (aY m d) (aP m d) (aD m d) (aW m d) (aB m d) (aO m d)) (flushedEq10 m d) fun i => by
    have h0 : (i 0 : Nat) < 1 := (i 0).isLt
    have h1 : (i 1 : Nat) < 1024 := (i 1).isLt
    have hN : grid0.N = 8 := N_0
    obtain ⟨t, ht⟩ : ∃ t : Fin cfg0.N, t.val = 7 := ⟨⟨7, by show _ < grid0.N; omega⟩, rfl⟩
    have hi := index10 t
    refine ⟨t, (flush0_10 t).mpr (by omega), ?_⟩
    show i ∈ ((View.whole main_v2_4).slice (win0_10.rect t)).set
    rw [View.set_slice_whole, Rect.mem_set_unit]
    intro a
    match a with
    | ⟨0, _⟩ =>
      show win0_10.index t 0 * 1 ≤ (i 0 : Nat) ∧ (i 0 : Nat) < win0_10.index t 0 * 1 + 1
      rw [hi.1]; omega
    | ⟨1, _⟩ =>
      show win0_10.index t 1 * 1024 ≤ (i 1 : Nat) ∧ (i 1 : Nat) < win0_10.index t 1 * 1024 + 1024
      rw [hi.2]; omega

theorem run_values : θ_run defs (onTc (τ := τ) (main (F := Ideal))) ⟨m, fun _ => 0, ρ⟩ fun r => ∀ c : Dev nD,
      r.2.mem ((c : Thread nD τ).loc main_v2_0) = resY (aY m c) (aP m c) (aD m c) (aW m c) (aB m c) (aO m c)
      ∧ r.2.mem ((c : Thread nD τ).loc main_v2_1) = resX (aY m c) (aP m c) (aD m c) (aW m c) (aB m c) (aO m c)
      ∧ r.2.mem ((c : Thread nD τ).loc main_v2_2) = resW (aY m c) (aP m c) (aD m c) (aW m c) (aB m c) (aO m c)
      ∧ r.2.mem ((c : Thread nD τ).loc main_v2_3) = resB (aY m c) (aP m c) (aD m c) (aW m c) (aB m c) (aO m c)
      ∧ r.2.mem ((c : Thread nD τ).loc main_v2_4) = resD (aY m c) (aP m c) (aD m c) (aW m c) (aB m c) (aO m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c),
    (h c).2.2.2.1.trans (final9 m c), (h c).2.2.2.2.1.trans (final10 m c), (h c).2.2.2.2.2⟩) (Value.run_blocks m ρ)

/-! ## The precondition -/

section
variable (Y : FVec Ideal S4096x1024 .f32) (P : FVec Ideal S4096x12288 .bf16) (D : FVec Ideal S1x1024 .f32) (W : FVec Ideal S1024x1024 .f32)
  (B : FVec Ideal S1x1024 .f32) (O : FVec Ideal S4096x1024 .bf16)

instance : Subsingleton Cert.Pre_finite17.S_.Idx := ⟨fun _ _ => funext fun a => a.elim0⟩

theorem finite_of (h : Cert.Pre_finite17.fn (F := Ideal) Y P D W B O = fun _ => 1#1) :
    (∀ i, Rl (Y i)) ∧ (∀ i, Rl (P i)) ∧ (∀ i, Rl (D i)) ∧ (∀ i, Rl (W i)) ∧ (∀ i, Rl (B i)) ∧ (∀ i, Rl (O i)) := by
  have h' := congrFun h (fun a => a.elim0)
  unfold Cert.Pre_finite17.fn Cert.Pre_finite17.fn_part1 at h'
  dsimp only at h'
  obtain ⟨h', ho⟩ := IntOp.andi_eq_one.1 h'
  obtain ⟨h', hb⟩ := IntOp.andi_eq_one.1 h'
  obtain ⟨h', hw⟩ := IntOp.andi_eq_one.1 h'
  obtain ⟨h', hd⟩ := IntOp.andi_eq_one.1 h'
  obtain ⟨hy, hp⟩ := IntOp.andi_eq_one.1 h'
  exact ⟨fun i => Rl.of_cmp (Host.reduce_andi_all _ _ _ _ _ hy i), fun i => Rl.of_cmp (Host.reduce_andi_all _ _ _ _ _ hp i),
    fun i => Rl.of_cmp (Host.reduce_andi_all _ _ _ _ _ hd i), fun i => Rl.of_cmp (Host.reduce_andi_all _ _ _ _ _ hw i),
    fun i => Rl.of_cmp (Host.reduce_andi_all _ _ _ _ _ hb i), fun i => Rl.of_cmp (Host.reduce_andi_all _ _ _ _ _ ho i)⟩

theorem Rl.sgm {x : EReal} (h : Rl x) : Rl (sgm x) := by
  obtain ⟨r, rfl⟩ := h
  exact sgm_real r

section
variable {y o : Fin 1024 → EReal} {w : Fin 1024 → Fin 1024 → EReal} {b : Fin 1024 → EReal} (hy : ∀ j, Rl (y j)) (ho : ∀ j, Rl (o j))
  (hw : ∀ k j, Rl (w k j)) (hb : ∀ j, Rl (b j)) (j : Fin 1024)
include hy ho hw hb

theorem gs_real : Rl (gs y w b j) := Rl.sgm ((Cert.Gmlp.Rl.sum _ fun k => (hy k).gelu.mul (hw k j)).add (hb j))
theorem gz_real : Rl (gz y o w b j) :=
  (((ho j).mul (hy j).gelu).mul (gs_real hy ho hw hb j)).mul (Cert.Gmlp.Rl.one.sub (gs_real hy ho hw hb j))
theorem ge_real : Rl (ge y o w b j) :=
  ((ho j).mul (gs_real hy ho hw hb j)).add (Cert.Gmlp.Rl.sum _ fun k => (gz_real hy ho hw hb k).mul (hw j k))
end

/-! ## The reference -/

open GluRun

theorem vg_apply (l : Fin 4096) (j : Fin 1024) : vg (F := Ideal) Y P D (ix2 l j) = gelu (yA Y P D l j) := by
  unfold vg
  rw [hg_apply, hy_apply]

theorem vs_apply (l : Fin 4096) (j : Fin 1024) : vs (F := Ideal) Y P D W B (ix2 l j) = gs (yA Y P D l) (wA W) (bA B) j := by
  unfold vs gs
  rw [hs_apply]
  simp only [vg_apply]

theorem vz_apply (l : Fin 4096) (j : Fin 1024) : vz (F := Ideal) Y P D W B O (ix2 l j) = zA Y P D W B O l j := by
  unfold vz
  rw [hz_apply, vg_apply, vs_apply, mul_comm (gelu _), ← mul_assoc]
  rfl

theorem ve_apply (l : Fin 4096) (j : Fin 1024) :
    hdg (F := Ideal) (vs (F := Ideal) Y P D W B) (ho (F := Ideal) O) (vz (F := Ideal) Y P D W B O) W (ix2 l j) = ge (yA Y P D l) (oA O l) (wA W) (bA B) j := by
  rw [hdg_apply, vs_apply]
  simp only [vz_apply]
  rfl

variable (fY : ∀ i, Rl (Y i)) (fP : ∀ i, Rl (P i)) (fD : ∀ i, Rl (D i)) (fW : ∀ i, Rl (W i)) (fB : ∀ i, Rl (B i)) (fO : ∀ i, Rl (O i))
include fY fP fD fW fB fO

theorem vy_apply (l : Fin 4096) (j : Fin 1024) : vy (F := Ideal) Y P D W B O (ix2 l j) = dA Y P D W B O l j := by
  have h : ∀ j, Rl (yA Y P D l j) := fun j => (fY _).add ((fD _).mul (fP _))
  unfold vy
  rw [hdy_apply, hy_apply, ve_apply, Cert.Gmlp.grad_eq (h j) (ge_real h (fun _ => fO _) (fun _ _ => fW _) (fun _ => fB _) j)]
  rfl

theorem ref0 : r0 (F := Ideal) Y P D W B O = resY Y P D W B O := by
  funext i
  obtain ⟨l, j, rfl⟩ : ∃ (l : Fin 4096) (j : Fin 1024), i = ix2 l j := ⟨i 0, i 1, funext fun a => by match a with | ⟨0, _⟩ => rfl | ⟨1, _⟩ => rfl⟩
  exact vy_apply Y P D W B O fY fP fD fW fB fO l j

theorem ref1 : r1 (F := Ideal) Y P D W B O = resX Y P D W B O := by
  funext i
  obtain ⟨l, j, rfl⟩ : ∃ (l : Fin 4096) (j : Fin 1024), i = ix2 l j := ⟨i 0, i 1, funext fun a => by match a with | ⟨0, _⟩ => rfl | ⟨1, _⟩ => rfl⟩
  have h : r1 (F := Ideal) Y P D W B O (ix2 l j) = rows (F := Ideal) D (ix2 l j) * vy (F := Ideal) Y P D W B O (ix2 l j) := rfl
  rw [h, rows_apply, vy_apply Y P D W B O fY fP fD fW fB fO l j]
  exact mul_comm _ _

theorem ref2 : r2 (F := Ideal) Y P D W B O = resW Y P D W B O := by
  funext i
  obtain ⟨k, j, rfl⟩ : ∃ (k j : Fin 1024), i = ix2 k j := ⟨i 0, i 1, funext fun a => by match a with | ⟨0, _⟩ => rfl | ⟨1, _⟩ => rfl⟩
  refine (wgrad_apply j (vz (F := Ideal) Y P D W B O) (vg (F := Ideal) Y P D) k).trans (Finset.sum_congr rfl fun l _ => ?_)
  rw [vz_apply, vg_apply]
  exact mul_comm _ _

theorem ref3 : r3 (F := Ideal) Y P D W B O = resB Y P D W B O := by
  funext i
  obtain ⟨j, rfl⟩ : ∃ (j : Fin 1024), i = ix2 0 j := ⟨i 1, funext fun a => by match a with | ⟨0, _⟩ => exact Subsingleton.elim (α := Fin 1) _ _ | ⟨1, _⟩ => rfl⟩
  exact (hsum_apply j (vz (F := Ideal) Y P D W B O)).trans (Finset.sum_congr rfl fun l _ => vz_apply Y P D W B O l j)

theorem ref4 : r4 (F := Ideal) Y P D W B O = resD Y P D W B O := by
  funext i
  obtain ⟨j, rfl⟩ : ∃ (j : Fin 1024), i = ix2 0 j := ⟨i 1, funext fun a => by match a with | ⟨0, _⟩ => exact Subsingleton.elim (α := Fin 1) _ _ | ⟨1, _⟩ => rfl⟩
  refine (hsum_apply j _).trans (Finset.sum_congr rfl fun l _ => ?_)
  exact congrArg₂ (fun u v : EReal => u * v) (vy_apply Y P D W B O fY fP fD fW fB fO l j) (hx_apply l j P)

section
variable {Y' : FVec Ideal S4096x1024 .f32} {P' : FVec Ideal S4096x12288 .bf16} {D' : FVec Ideal S1x1024 .f32} {W' : FVec Ideal S1024x1024 .f32}
  {B' : FVec Ideal S1x1024 .f32} {O' : FVec Ideal S4096x1024 .bf16} (a0 : Y' = Y) (a1 : P' = P) (a2 : D' = D) (a3 : W' = W) (a4 : B' = B) (a5 : O' = O)
include a0 a1 a2 a3 a4 a5
theorem eq0 : r0 (F := Ideal) Y' P' D' W' B' O' = resY Y P D W B O := by
  subst a0 a1 a2 a3 a4 a5; exact ref0 _ _ _ _ _ _ fY fP fD fW fB fO
theorem eq1 : r1 (F := Ideal) Y' P' D' W' B' O' = resX Y P D W B O := by
  subst a0 a1 a2 a3 a4 a5; exact ref1 _ _ _ _ _ _ fY fP fD fW fB fO
theorem eq2 : r2 (F := Ideal) Y' P' D' W' B' O' = resW Y P D W B O := by
  subst a0 a1 a2 a3 a4 a5; exact ref2 _ _ _ _ _ _ fY fP fD fW fB fO
theorem eq3 : r3 (F := Ideal) Y' P' D' W' B' O' = resB Y P D W B O := by
  subst a0 a1 a2 a3 a4 a5; exact ref3 _ _ _ _ _ _ fY fP fD fW fB fO
theorem eq4 : r4 (F := Ideal) Y' P' D' W' B' O' = resD Y P D W B O := by
  subst a0 a1 a2 a3 a4 a5; exact ref4 _ _ _ _ _ _ fY fP fD fW fB fO
end
end

/-- The kernel's results are the reference's where every argument is finite. -/
theorem algebraic : Cert.algebraic_Kernel17Ideal_Reference17Ideal_pre_finite17 := by
  intro m ρ m' ρ' hpre heq
  refine ⟨fun c => resY (aY m c) (aP m c) (aD m c) (aW m c) (aB m c) (aO m c), fun c => resX (aY m c) (aP m c) (aD m c) (aW m c) (aB m c) (aO m c), fun c => resW (aY m c) (aP m c) (aD m c) (aW m c) (aB m c) (aO m c), fun c => resB (aY m c) (aP m c) (aD m c) (aW m c) (aB m c) (aO m c), fun c => resD (aY m c) (aP m c) (aD m c) (aW m c) (aB m c) (aO m c), run_values m ρ,
    (θ_run Cert.Reference17Ideal.defs _ _).mono (fun r h c => ?_) (GluRun.run (F := Ideal) m' ρ')⟩
  obtain ⟨h0, h1, h2, h3, h4, hargs⟩ := h c
  obtain ⟨a0, a1, a2, a3, a4, a5⟩ := heq c
  obtain ⟨fY, fP, fD, fW, fB, fO⟩ := finite_of (aY m c) (aP m c) (aD m c) (aW m c) (aB m c) (aO m c) (hpre c)
  refine ⟨h0.trans ?_, h1.trans ?_, h2.trans ?_, h3.trans ?_, h4.trans ?_, hargs⟩
  · exact eq0 _ _ _ _ _ _ fY fP fD fW fB fO a0 a1 a2 a3 a4 a5
  · exact eq1 _ _ _ _ _ _ fY fP fD fW fB fO a0 a1 a2 a3 a4 a5
  · exact eq2 _ _ _ _ _ _ fY fP fD fW fB fO a0 a1 a2 a3 a4 a5
  · exact eq3 _ _ _ _ _ _ fY fP fD fW fB fO a0 a1 a2 a3 a4 a5
  · exact eq4 _ _ _ _ _ _ fY fP fD fW fB fO a0 a1 a2 a3 a4 a5

end Cert.Prod.Glu

end
-- ==== Proof.Prod.Dact.lean ====
module

public import proofs.«01_k».proof.Proof.Prod.Base
public import proofs.«01_k».proof.Defs
public import proofs.«01_k».proof.Proof.Gen.Kernel2Ideal.Value
public import proofs.«01_k».proof.Proof.Gen.Reference2Ideal.Read
public import Idealize.ShloMosaic.Lib.ValueIdx

/-!
# The gradient of the hidden layer

`(dxb · w_mlp_outᵀ) · 2r` with `r` the positive part of `a`: where `a` is not positive the reference chooses zero, and
the kernel's factor `2r` is zero.
-/

@[expose] public section

set_option maxRecDepth 16384

noncomputable section

namespace Cert.Prod.Dact

open Cert.Kernel2Ideal Cert.Kernel2Ideal.Gen Idealize.ShloMosaic Idealize.ShloMosaic.TcCoe Idealize.SL.Sem

/-- The literal that both programs write as 2. -/
def two : EReal := Ideal.ofBits .f32 0x40000000#32

theorem out_eq (x0 : Vec Ideal S1024x2048 .bf16) (x1 : Vec Ideal S1x1024x2048 .bf16) (x2 : Vec Ideal S1024x1024 .bf16) :
    out0_3 (F := Ideal) x0 x1 x2 = k0_pay1 (F := Ideal) x0 x1 x2 := by
  unfold out0_3
  rw [View.canon_unit_zero (by decide), View.ld_unit_zero (S := S1024x2048) (by decide), View.ld_unit_zero (S := S1x1024x2048) (by decide), View.ld_unit_zero (S := S1024x1024) (by decide)]

theorem pay1_apply (x0 : Vec Ideal S1024x2048 .bf16) (x1 : Vec Ideal S1x1024x2048 .bf16) (x2 : Vec Ideal S1024x1024 .bf16) (r k : Fin 1024) :
    k0_pay1 (F := Ideal) x0 x1 x2 (ix2 r k) = (∑ j : Fin 2048, x0 (ix2 r j) * x1 (ix3 0 k j)) * (two * x2 (ix2 r k)) := by
  unfold two
  pointwise [k0_pay1]

variable (m : (ℓ : Loc nD τ sig) → Buf (Elt Ideal) ℓ) (ρ : Dev nD → PrngReg) (d : Dev nD)

/-- The hidden layer, the weight, and the cotangent of the product. -/
abbrev aA : S4096x8192.Idx → EReal := m ((d : Thread nD τ).loc main_arg0)
abbrev aW : S8192x2048.Idx → EReal := m ((d : Thread nD τ).loc main_arg1)
abbrev aD : S4096x2048.Idx → EReal := m ((d : Thread nD τ).loc main_arg2)

theorem index0 : ∀ t : Fin grid0.N, win0_0.index t 0 = t.val / 8 ∧ win0_0.index t 1 = 0 := by decide +kernel
theorem index1 : ∀ t : Fin grid0.N, win0_1.index t 0 = 0 ∧ win0_1.index t 1 = t.val % 8 ∧ win0_1.index t 2 = 0 := by decide +kernel
theorem index2 : ∀ t : Fin grid0.N, win0_2.index t 0 = t.val / 8 ∧ win0_2.index t 1 = t.val % 8 := by decide +kernel
theorem index3 : ∀ t : Fin grid0.N, win0_3.index t 0 = t.val / 8 ∧ win0_3.index t 1 = t.val % 8 := by decide +kernel

theorem N32 (t : Fin cfg0.N) : t.val < 32 := lt_of_lt_of_eq t.isLt (show cfg0.N = 32 from N_0)

theorem V1 : V m d main_v1 = relu (aA m d) := by
  rw [← relu_host bcast_S_S4096x8192]
  entry_read
  rfl

theorem V3 : V m d main_v3 = broadcastInDim S1x8192x2048 ![1, 2] bcast_S8192x2048_S1x8192x2048_1_2 (aW m d) := by entry_read; rfl

theorem iblk0 (t : Fin cfg0.N) (r : Fin 1024) (j : Fin 2048) : (iblk m d 0 t : Vec Ideal S1024x2048 .bf16) (ix2 r j)
    = aD m d (ix2 (md 4096 (1024 * (t.val / 8) + r.val)) j) := by
  have hi := index0 t
  have ht := N32 t
  unfold iblk
  rw [View.read_apply]
  show V m d main_arg2 _ = _
  rw [V_main_arg2]
  refine congrArg (aD m d) (funext fun x => ?_)
  match x with
  | ⟨0, _⟩ => exact Fin.ext (show win0_0.index t 0 * 1024 + 1 * r.val = (1024 * (t.val / 8) + r.val) % 4096 by rw [hi.1]; omega)
  | ⟨1, _⟩ => exact Fin.ext (show win0_0.index t 1 * 2048 + 1 * j.val = j.val by rw [hi.2]; omega)

theorem hostW_apply (w : S8192x2048.Idx → EReal) (j : Fin 8192) (k : Fin 2048) :
    broadcastInDim S1x8192x2048 ![1, 2] bcast_S8192x2048_S1x8192x2048_1_2 w (ix3 0 j k) = w (ix2 j k) := by
  pointwise

theorem iblk1 (t : Fin cfg0.N) (k : Fin 1024) (j : Fin 2048) : (iblk m d 1 t : Vec Ideal S1x1024x2048 .bf16) (ix3 0 k j)
    = aW m d (ix2 (md 8192 (1024 * (t.val % 8) + k.val)) j) := by
  have hi := index1 t
  have ht := N32 t
  unfold iblk
  rw [View.read_apply]
  show V m d main_v3 _ = _
  rw [V3]
  refine Eq.trans ?_ (hostW_apply (aW m d) _ _)
  refine congrArg (broadcastInDim S1x8192x2048 ![1, 2] bcast_S8192x2048_S1x8192x2048_1_2 (aW m d)) (funext fun x => ?_)
  match x with
  | ⟨0, _⟩ => exact Fin.ext (show win0_1.index t 0 * 1 + 1 * 0 = 0 by rw [hi.1])
  | ⟨1, _⟩ => exact Fin.ext (show win0_1.index t 1 * 1024 + 1 * k.val = (1024 * (t.val % 8) + k.val) % 8192 by rw [hi.2.1]; omega)
  | ⟨2, _⟩ => exact Fin.ext (show win0_1.index t 2 * 2048 + 1 * j.val = j.val by rw [hi.2.2]; omega)

theorem iblk2 (t : Fin cfg0.N) (r k : Fin 1024) : (iblk m d 2 t : Vec Ideal S1024x1024 .bf16) (ix2 r k)
    = relu (aA m d) (ix2 (md 4096 (1024 * (t.val / 8) + r.val)) (md 8192 (1024 * (t.val % 8) + k.val))) := by
  have hi := index2 t
  have ht := N32 t
  unfold iblk
  rw [View.read_apply]
  show V m d main_v1 _ = _
  rw [V1]
  refine congrArg (relu (aA m d)) (funext fun x => ?_)
  match x with
  | ⟨0, _⟩ => exact Fin.ext (show win0_2.index t 0 * 1024 + 1 * r.val = (1024 * (t.val / 8) + r.val) % 4096 by rw [hi.1]; omega)
  | ⟨1, _⟩ => exact Fin.ext (show win0_2.index t 1 * 1024 + 1 * k.val = (1024 * (t.val % 8) + k.val) % 8192 by rw [hi.2]; omega)

/-- The result. -/
def res (a : S4096x8192.Idx → EReal) (w : S8192x2048.Idx → EReal) (x : S4096x2048.Idx → EReal) : S4096x8192.Idx → EReal :=
  fun i => (∑ j : Fin 2048, x (ix2 (i 0) j) * w (ix2 (i 1) j)) * (two * relu a i)

theorem flushedEq (t : Fin cfg0.N) (_ : (cfg0.win 3).flush t = true) :
    (dats m 0 d).flushed 3 t = ((cfg0.win 3).blk t).view.read (Elt Ideal) (res (aA m d) (aW m d) (aD m d)) := by
  rw [Value.flushed3, out_eq]
  have hi := index3 t
  have ht := N32 t
  funext y
  obtain ⟨r, k, rfl⟩ : ∃ (r k : Fin 1024), y = ix2 r k := ⟨y 0, y 1, funext fun a => by match a with | ⟨0, _⟩ => rfl | ⟨1, _⟩ => rfl⟩
  rw [View.read_apply]
  refine (pay1_apply _ _ _ r k).trans (Eq.trans (b := res (aA m d) (aW m d) (aD m d) (ix2 (md 4096 (1024 * (t.val / 8) + r.val)) (md 8192 (1024 * (t.val % 8) + k.val)))) ?_ (congrArg (res (aA m d) (aW m d) (aD m d)) (funext fun x => ?_)))
  · exact congrArg₂ (fun a b : EReal => a * (two * b)) (Finset.sum_congr rfl fun j _ => congrArg₂ (fun x y : EReal => x * y) (iblk0 m d t r j) (iblk1 m d t k j)) (iblk2 m d t r k)
  · match x with
    | ⟨0, _⟩ => exact Fin.ext (show (1024 * (t.val / 8) + r.val) % 4096 = win0_3.index t 0 * 1024 + 1 * r.val by rw [hi.1]; omega)
    | ⟨1, _⟩ => exact Fin.ext (show (1024 * (t.val % 8) + k.val) % 8192 = win0_3.index t 1 * 1024 + 1 * k.val by rw [hi.2]; omega)

theorem final : (dats m 0 d).arrAt 3 cfg0.N = res (aA m d) (aW m d) (aD m d) :=
  (dats m 0 d).arrAt_eq_of_cover 3 (res (aA m d) (aW m d) (aD m d)) (flushedEq m d) fun i => by
    have h0 : (i 0 : Nat) < 4096 := (i 0).isLt
    have h1 : (i 1 : Nat) < 8192 := (i 1).isLt
    have hN : grid0.N = 32 := N_0
    obtain ⟨t, ht⟩ : ∃ t : Fin cfg0.N, t.val = 8 * ((i 0 : Nat) / 1024) + (i 1 : Nat) / 1024 := ⟨⟨_, by show _ < grid0.N; omega⟩, rfl⟩
    have hi := index3 t
    refine ⟨t, flush0_3 t, ?_⟩
    show i ∈ ((View.whole main_v4).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [hi.1]; omega
    | ⟨1, _⟩ =>
      show win0_3.index t 1 * 1024 ≤ (i 1 : Nat) ∧ (i 1 : Nat) < win0_3.index t 1 * 1024 + 1024
      rw [hi.2]; omega

theorem run_values : θ_run defs (onTc (τ := τ) (main (F := Ideal))) ⟨m, fun _ => 0, ρ⟩ fun r => ∀ c : Dev nD,
      r.2.mem ((c : Thread nD τ).loc main_v4) = res (aA m c) (aW m c) (aD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- Choosing zero where `a` is not positive is multiplying by its positive part. -/
theorem choose_pos (a p : EReal) : Scalar.select (FloatOps.cmpf (F := Ideal) (φ := .f32) .ogt a 0) (p * (two * max a 0)) 0 = p * (two * max a 0) := by
  by_cases h : 0 < a
  · have e : FloatOps.cmpf (F := Ideal) (φ := .f32) .ogt a 0 = 1#1 := congrArg BitVec.ofBool (decide_eq_true h)
    rw [e]
    rfl
  · rw [max_eq_right (not_lt.mp h), mul_zero, mul_zero]
    exact ite_self _

open Cert.Reference2Ideal.Read in
theorem ref_eq (a : S4096x8192.Idx → EReal) (w : S8192x2048.Idx → EReal) (x : S4096x2048.Idx → EReal) :
    val_main_v13 (F := Ideal) a w x = res a w x := by
  funext i
  have hp : val_main_v9 (F := Ideal) w x i = ∑ j : Fin 2048, x (ix2 (i 0) j) * w (ix2 (i 1) j) := by
    rw [val_main_v9_apply]
    refine Finset.sum_congr rfl fun k _ => congrArg₂ (fun a b : EReal => a * b) (congrArg x ?_) (congrArg w ?_)
    · exact funext fun a => match a with | ⟨0, _⟩ => rfl | ⟨1, _⟩ => rfl
    · exact funext fun a => match a with | ⟨0, _⟩ => rfl | ⟨1, _⟩ => rfl
  have hr : val_main_v0 (F := Ideal) a i = relu a i := by
    rw [val_main_v0_apply, val_main_call0_v0_apply, val_main_call0_cst_apply]
    exact congrArg (max (a i)) Ideal.ofBits_zero_f32
  have h2 : val_main_v2 (F := Ideal) a i = FloatOps.cmpf (F := Ideal) (φ := .f32) .ogt (a i) 0 := by
    rw [val_main_v2_apply, val_main_v1_apply, val_main_cst_apply]
    exact congrArg (FloatOps.cmpf (F := Ideal) (φ := .f32) .ogt (a i)) Ideal.ofBits_zero_f32
  have h11 : val_main_v11 (F := Ideal) i = 0 := by
    rw [val_main_v11_apply, val_main_cst_2_apply]
    exact Ideal.ofBits_zero_f32
  have h10 : val_main_v10 (F := Ideal) a w x i = res a w x i := by
    rw [val_main_v10_apply, val_main_v6_apply, hp, hr, val_main_v5_apply, val_main_cst_1_apply]
    rfl
  refine (val_main_v12_apply (F := Ideal) a w x i).trans ?_
  rw [h2, h11, h10]
  exact choose_pos (a i) _

/-- The kernel's result is the reference's. -/
theorem algebraic : Cert.algebraic_Kernel2Ideal_Reference2Ideal := by
  intro m ρ m' ρ' _ heq
  refine ⟨fun c => res (aA m c) (aW m c) (aD m c), run_values m ρ, (θ_run Cert.Reference2Ideal.defs _ _).mono (fun r h c => ?_) (Cert.Reference2Ideal.Value.run (F := Ideal) m' ρ')⟩
  obtain ⟨h0, hargs⟩ := h c
  obtain ⟨a0, a1, a2⟩ := heq c
  refine ⟨h0.trans ?_, hargs⟩
  rw [a0, a1, a2, Cert.Reference2Ideal.Read.val_main_v13_eq]
  exact ref_eq _ _ _

end Cert.Prod.Dact

end
-- ==== Proof.Prod.Gmlpout.lean ====
module

public import proofs.«01_k».proof.Proof.Prod.Base
public import proofs.«01_k».proof.Defs
public import proofs.«01_k».proof.Proof.Gen.Kernel3Ideal.Value
public import proofs.«01_k».proof.Proof.Gen.Reference3Ideal.Read
public import Idealize.ShloMosaic.Lib.ValueIdx

/-!
# The gradient of the feed-forward's second weight

`(r²)ᵀ · dxb` with `r` the positive part of `a`, accumulated over four blocks of 1024 rows.
-/

@[expose] public section

set_option maxRecDepth 16384

noncomputable section

namespace Cert.Prod.Gmlpout

open Cert.Kernel3Ideal Cert.Kernel3Ideal.Gen Idealize.ShloMosaic Idealize.ShloMosaic.TcCoe Idealize.SL.Sem

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x1024 .bf16) (x1 : Vec Ideal S1024x1024 .bf16) (acc : Vec Ideal S1024x1024 .f32)

theorem sout_A (h0 h1) : sout0_A_0 c i arg3 harg3 arg4 harg4 arg5 harg5 arg6 harg6 h0 h1 x0 x1 = k0_pay2 (F := Ideal) (k0_pay1 (F := Ideal)) x0 x1 := by
  refine (View.read_writes_full VS0_0 VS0_0.junk _ _ _).trans ?_
  refine congr (congr (congrArg k0_pay2 (View.readCov_full _ _ _ _ _)) (load_full harg3 (by decide) _ x0)) (load_full harg4 (by decide) _ x1)

theorem sout_B (h0 h1) : sout0_B_0 c i arg3 harg3 arg4 harg4 arg5 harg5 arg6 harg6 h0 h1 x0 x1 acc = k0_pay2 (F := Ideal) acc x0 x1 := by
  refine (View.read_writes_full VS0_0 VS0_0.junk _ _ _).trans ?_
  refine congr (congr (congrArg k0_pay2 (load_full harg6 (by decide) _ acc)) (load_full harg3 (by decide) _ x0)) (load_full harg4 (by decide) _ x1)

theorem sout_C (h0 h1) : sout0_C_0 c i arg3 harg3 arg4 harg4 arg5 harg5 arg6 harg6 h0 h1 x0 x1 acc = k0_pay2 (F := Ideal) acc x0 x1 := by
  refine (View.read_writes_full VS0_0 VS0_0.junk _ _ _).trans ?_
  refine congr (congr (congrArg k0_pay2 (load_full harg6 (by decide) _ acc)) (load_full harg3 (by decide) _ x0)) (load_full harg4 (by decide) _ x1)

theorem out_C (h0 h1) : out0_C_2 c i arg3 harg3 arg4 harg4 arg5 harg5 arg6 harg6 h0 h1 x0 x1 acc = k0_pay3 (F := Ideal) (k0_pay2 (F := Ideal) acc x0 x1) := by
  refine (View.read_writes_full VO0_2 VO0_2.junk _ _ _).trans ?_
  refine congrArg k0_pay3 ((View.readCov_full _ _ _ _ _).trans ?_)
  refine congr (congr (congrArg k0_pay2 (load_full harg6 (by decide) _ acc)) (load_full harg3 (by decide) _ x0)) (load_full harg4 (by decide) _ x1)

theorem pay1_apply (r k : Fin 1024) : k0_pay1 (F := Ideal) (ix2 r k) = 0 := by
  pointwise [k0_pay1]

theorem pay2_apply (r k : Fin 1024) :
    k0_pay2 acc x0 x1 (ix2 r k) = acc (ix2 r k) + ∑ j : Fin 1024, x0 (ix2 r j) * x0 (ix2 r j) * x1 (ix2 j k) := by
  pointwise [k0_pay2]

theorem pay3_apply (r k : Fin 1024) : k0_pay3 acc (ix2 r k) = acc (ix2 r k) := by
  pointwise [k0_pay3]
  try rfl
end

variable (m : (ℓ : Loc nD τ sig) → Buf (Elt Ideal) ℓ) (ρ : Dev nD → PrngReg) (d : Dev nD)

/-- The hidden layer, and the gradient of the result. -/
abbrev aX : S4096x8192.Idx → EReal := m ((d : Thread nD τ).loc main_arg0)
abbrev aY : S4096x2048.Idx → EReal := m ((d : Thread nD τ).loc main_arg1)

theorem index0 : ∀ t : Fin grid0.N, win0_0.index t 0 = t.val / 8 ∧ win0_0.index t 1 = t.val % 4 := by decide +kernel
theorem index1 : ∀ t : Fin grid0.N, win0_1.index t 0 = t.val % 4 ∧ win0_1.index t 1 = t.val / 4 % 2 := by decide +kernel
theorem index2 : ∀ t : Fin grid0.N, win0_2.index t 0 = t.val / 8 ∧ win0_2.index t 1 = t.val / 4 % 2 := by decide +kernel

theorem N64 (t : Fin cfg0.N) : t.val < 64 := lt_of_lt_of_eq t.isLt (show cfg0.N = 64 from N_0)

/-- The positive part as the host lays it out. -/
def hostX (a : S4096x8192.Idx → EReal) : S8192x4096.Idx → EReal :=
  transpose S8192x4096 [1, 0] (relu a) transposes_S4096x8192_S8192x4096_1_0

theorem V2 : V m d main_v2 = hostX (aX m d) := by
  unfold hostX
  rw [← relu_host bcast_S_S4096x8192]
  entry_read
  rfl

theorem hostX_apply (a : S4096x8192.Idx → EReal) (r : Fin 8192) (j : Fin 4096) : hostX a (ix2 r j) = relu a (ix2 j r) := by
  pointwise [hostX]

theorem iblk0 (t : Fin cfg0.N) (r j : Fin 1024) : (iblk m d 0 t : Vec Ideal S1024x1024 .bf16) (ix2 r j)
    = relu (aX m d) (ix2 (md 4096 (1024 * (t.val % 4) + j.val)) (md 8192 (1024 * (t.val / 8) + r.val))) := by
  have hi := index0 t
  have ht := N64 t
  unfold iblk
  rw [View.read_apply]
  show V m d main_v2 _ = _
  rw [V2]
  refine Eq.trans ?_ (hostX_apply _ _ _)
  refine congrArg (hostX (aX m d)) (funext fun x => ?_)
  match x with
  | ⟨0, _⟩ => exact Fin.ext (show win0_0.index t 0 * 1024 + 1 * r.val = (1024 * (t.val / 8) + r.val) % 8192 by rw [hi.1]; omega)
  | ⟨1, _⟩ => exact Fin.ext (show win0_0.index t 1 * 1024 + 1 * j.val = (1024 * (t.val % 4) + j.val) % 4096 by rw [hi.2]; omega)

theorem iblk1 (t : Fin cfg0.N) (j k : Fin 1024) : (iblk m d 1 t : Vec Ideal S1024x1024 .bf16) (ix2 j k)
    = aY m d (ix2 (md 4096 (1024 * (t.val % 4) + j.val)) (md 2048 (1024 * (t.val / 4 % 2) + k.val))) := by
  have hi := index1 t
  have ht := N64 t
  unfold iblk
  rw [View.read_apply]
  show V m d main_arg1 _ = _
  rw [V_main_arg1]
  refine congrArg (aY m d) (funext fun x => ?_)
  match x with
  | ⟨0, _⟩ => exact Fin.ext (show win0_1.index t 0 * 1024 + 1 * j.val = (1024 * (t.val % 4) + j.val) % 4096 by rw [hi.1]; omega)
  | ⟨1, _⟩ => exact Fin.ext (show win0_1.index t 1 * 1024 + 1 * k.val = (1024 * (t.val / 4 % 2) + k.val) % 2048 by rw [hi.2]; omega)

/-- What point `t` adds at an entry of its block. -/
def part (r k : Fin 1024) (t : ℕ) : EReal :=
  ∑ j : Fin 1024, relu (aX m d) (ix2 (md 4096 (1024 * (t % 4) + j.val)) (md 8192 (1024 * (t / 8) + r.val)))
    * relu (aX m d) (ix2 (md 4096 (1024 * (t % 4) + j.val)) (md 8192 (1024 * (t / 8) + r.val)))
    * aY m d (ix2 (md 4096 (1024 * (t % 4) + j.val)) (md 2048 (1024 * (t / 4 % 2) + k.val)))

theorem step (acc : Vec Ideal S1024x1024 .f32) (t : Fin cfg0.N) (r k : Fin 1024) :
    k0_pay2 (F := Ideal) acc (iblk m d 0 t) (iblk m d 1 t) (ix2 r k) = acc (ix2 r k) + part m d r k t.val := by
  rw [pay2_apply]
  exact congrArg (_ + ·) (Finset.sum_congr rfl fun j _ => congrArg₂ (fun x y : EReal => x * x * y) (iblk0 m d t r j) (iblk1 m d t j k))

theorem acc_A (t : Fin cfg0.N) (h0 : t.val % 4 = 0) :
    (outsAt0 m d t.val t.isLt).2 = k0_pay2 (k0_pay1 (F := Ideal)) (iblk m d 0 t) (iblk m d 1 t) := by
  rw [outsAt0_A m d t h0 (by omega)]
  dsimp only
  rw [sout_A]

theorem acc_BC (t : Fin cfg0.N) (h0 : ¬t.val % 4 = 0) : (outsAt0 m d t.val t.isLt).2
    = k0_pay2 (outsAt0 m d (t.val - 1) (Nat.lt_of_le_of_lt (Nat.sub_le _ _) t.isLt)).2 (iblk m d 0 t) (iblk m d 1 t) := by
  by_cases h1 : t.val % 4 = 3
  · rw [outsAt0_C m d t h0 h1]
    dsimp only
    rw [sout_C]
  · rw [outsAt0_B m d t h0 h1]
    dsimp only
    rw [sout_B]

theorem out_eq (t : Fin cfg0.N) (h1 : t.val % 4 = 3) : (outsAt0 m d t.val t.isLt).1 = k0_pay3 (outsAt0 m d t.val t.isLt).2 := by
  rw [acc_BC m d t (by omega), outsAt0_C m d t (by omega) h1]
  dsimp only
  rw [out_C]

theorem acc_eq (r k : Fin 1024) (q : ℕ) (h : 4 * q + 3 < cfg0.N) :
    (outsAt0 m d (4 * q + 3) h).2 (ix2 r k) = ∑ i ∈ Finset.range 4, part m d r k (4 * q + i) :=
  acc_sum (N := cfg0.N) (n := 4) (fun t h => (outsAt0 m d t h).2 (ix2 r k)) (part m d r k)
    (fun t h h0 => (congrFun (acc_A m d ⟨t, h⟩ h0) (ix2 r k)).trans ((step ..).trans (congrArg (· + _) (pay1_apply r k))))
    (fun t h h0 => (congrFun (acc_BC m d ⟨t, h⟩ h0) (ix2 r k)).trans (step ..)) q 3 (by omega) h

/-- The result. -/
def res (x : S4096x8192.Idx → EReal) (y : S4096x2048.Idx → EReal) : S8192x2048.Idx → EReal :=
  fun i => ∑ k : Fin 4096, relu x (ix2 k (i 0)) * relu x (ix2 k (i 0)) * y (ix2 k (i 1))

theorem out_last (t : Fin cfg0.N) (h1 : t.val % 4 = 3) (r k : Fin 1024) : (outsAt0 m d t.val t.isLt).1 (ix2 r k)
    = res (aX m d) (aY m d) (ix2 (md 8192 (1024 * (t.val / 8) + r.val)) (md 2048 (1024 * (t.val / 4 % 2) + k.val))) := by
  rw [out_eq m d t h1, pay3_apply]
  obtain ⟨t, ht⟩ := t
  obtain ⟨q, rfl⟩ : ∃ q, t = 4 * q + 3 := ⟨t / 4, by have : t % 4 = 3 := h1; omega⟩
  refine (acc_eq m d r k q ht).trans (Eq.trans ?_ (sum_blocks (n := 4) (b := 1024) rfl _))
  refine Finset.sum_congr rfl fun i hi => ?_
  have := Finset.mem_range.mp hi
  unfold part
  rw [show (4 * q + i) / 8 = (4 * q + 3) / 8 by omega, show (4 * q + i) / 4 % 2 = (4 * q + 3) / 4 % 2 by omega, show (4 * q + i) % 4 = i by omega]
  rfl

theorem flushedEq (t : Fin cfg0.N) (hf : (cfg0.win 2).flush t = true) :
    (dats m 0 d).flushed 2 t = ((cfg0.win 2).blk t).view.read (Elt Ideal) (res (aX m d) (aY m d)) := by
  rw [Value.flushed2]
  have hi := index2 t
  have ht := N64 t
  funext y
  obtain ⟨r, k, rfl⟩ : ∃ (r k : Fin 1024), y = ix2 r k := ⟨y 0, y 1, funext fun a => by match a with | ⟨0, _⟩ => rfl | ⟨1, _⟩ => rfl⟩
  rw [View.read_apply]
  refine (out_last m d t ((flush0_2 t).mp hf) r k).trans (congrArg (res (aX m d) (aY m d)) (funext fun x => ?_))
  match x with
  | ⟨0, _⟩ => exact Fin.ext (show (1024 * (t.val / 8) + r.val) % 8192 = win0_2.index t 0 * 1024 + 1 * r.val by rw [hi.1]; omega)
  | ⟨1, _⟩ => exact Fin.ext (show (1024 * (t.val / 4 % 2) + k.val) % 2048 = win0_2.index t 1 * 1024 + 1 * k.val by rw [hi.2]; omega)

theorem final : (dats m 0 d).arrAt 2 cfg0.N = res (aX m d) (aY m d) :=
  (dats m 0 d).arrAt_eq_of_cover 2 (res (aX m d) (aY m d)) (flushedEq m d) fun i => by
    have h0 : (i 0 : Nat) < 8192 := (i 0).isLt
    have h1 : (i 1 : Nat) < 2048 := (i 1).isLt
    have hN : grid0.N = 64 := N_0
    obtain ⟨t, ht⟩ : ∃ t : Fin cfg0.N, t.val = 8 * ((i 0 : Nat) / 1024) + 4 * ((i 1 : Nat) / 1024) + 3 := ⟨⟨_, by show _ < grid0.N; omega⟩, rfl⟩
    have hi := index2 t
    refine ⟨t, (flush0_2 t).mpr (by omega), ?_⟩
    show i ∈ ((View.whole main_v3).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega

theorem run_values : θ_run defs (onTc (τ := τ) (main (F := Ideal))) ⟨m, fun _ => 0, ρ⟩ fun r => ∀ c : Dev nD,
      r.2.mem ((c : Thread nD τ).loc main_v3) = res (aX m c) (aY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

open Cert.Reference3Ideal.Read in
theorem ref_relu (x : S4096x8192.Idx → EReal) (i : S4096x8192.Idx) : val_main_v1 (F := Ideal) x i = relu x i := by
  rw [val_main_v1_apply, val_main_call0_v0_apply, val_main_call0_cst_apply]
  exact congrArg (max (x i)) Ideal.ofBits_zero_f32

open Cert.Reference3Ideal.Read in
theorem ref_eq (x : S4096x8192.Idx → EReal) (y : S4096x2048.Idx → EReal) : val_main_v7 (F := Ideal) x y = res x y := by
  funext i
  rw [val_main_v7_apply, val_main_v6_apply, val_main_v5_apply]
  refine Finset.sum_congr rfl fun k _ => ?_
  rw [val_main_v4_apply, val_main_v2_apply, ref_relu]
  refine (mul_comm _ _).trans (congrArg₂ (fun a b : EReal => a * a * b) (congrArg (relu x) ?_) (congrArg y ?_))
  · exact funext fun a => match a with | ⟨0, _⟩ => rfl | ⟨1, _⟩ => rfl
  · exact funext fun a => match a with | ⟨0, _⟩ => rfl | ⟨1, _⟩ => rfl

/-- The kernel's result is the reference's. -/
theorem algebraic : Cert.algebraic_Kernel3Ideal_Reference3Ideal := by
  intro m ρ m' ρ' _ heq
  refine ⟨fun c => res (aX m c) (aY m c), run_values m ρ, (θ_run Cert.Reference3Ideal.defs _ _).mono (fun r h c => ?_) (Cert.Reference3Ideal.Value.run (F := Ideal) m' ρ')⟩
  obtain ⟨h0, hargs⟩ := h c
  obtain ⟨a0, a1⟩ := heq c
  refine ⟨h0.trans ?_, hargs⟩
  rw [a0, a1, Cert.Reference3Ideal.Read.val_main_v7_eq]
  exact ref_eq _ _

end Cert.Prod.Gmlpout

end
-- ==== Proof.Prod.Gmlpin.lean ====
module

public import proofs.«01_k».proof.Proof.Prod.Base
public import proofs.«01_k».proof.Defs
public import proofs.«01_k».proof.Proof.Gen.Kernel4Ideal.Value
public import proofs.«01_k».proof.Proof.Gen.Reference4Ideal.Read
public import Idealize.ShloMosaic.Lib.ValueIdx

/-!
# The gradient of the feed-forward's first weight

`h2ᵀ · d_a` in the gathered layout (eight slabs of columns), accumulated over four blocks of 1024 rows.
-/

@[expose] public section

set_option maxRecDepth 16384

noncomputable section

namespace Cert.Prod.Gmlpin

open Cert.Kernel4Ideal Cert.Kernel4Ideal.Gen Idealize.ShloMosaic Idealize.ShloMosaic.TcCoe Idealize.SL.Sem

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole)
  (x0 : Vec Ideal S1024x1024 .bf16) (x1 : Vec Ideal S1024x1024 .bf16) (acc : Vec Ideal S1024x1024 .f32)

theorem sout_A (h0 h1) : sout0_A_0 c i arg3 harg3 arg4 harg4 arg5 harg5 arg6 harg6 h0 h1 x0 x1 = k0_pay2 (F := Ideal) (k0_pay1 (F := Ideal)) x0 x1 := by
  refine (View.read_writes_full VS0_0 VS0_0.junk _ _ _).trans ?_
  refine congr (congr (congrArg k0_pay2 (View.readCov_full _ _ _ _ _)) (load_full harg3 (by decide) _ x0)) (load_full harg4 (by decide) _ x1)

theorem sout_B (h0 h1) : sout0_B_0 c i arg3 harg3 arg4 harg4 arg5 harg5 arg6 harg6 h0 h1 x0 x1 acc = k0_pay2 (F := Ideal) acc x0 x1 := by
  refine (View.read_writes_full VS0_0 VS0_0.junk _ _ _).trans ?_
  refine congr (congr (congrArg k0_pay2 (load_full harg6 (by decide) _ acc)) (load_full harg3 (by decide) _ x0)) (load_full harg4 (by decide) _ x1)

theorem sout_C (h0 h1) : sout0_C_0 c i arg3 harg3 arg4 harg4 arg5 harg5 arg6 harg6 h0 h1 x0 x1 acc = k0_pay2 (F := Ideal) acc x0 x1 := by
  refine (View.read_writes_full VS0_0 VS0_0.junk _ _ _).trans ?_
  refine congr (congr (congrArg k0_pay2 (load_full harg6 (by decide) _ acc)) (load_full harg3 (by decide) _ x0)) (load_full harg4 (by decide) _ x1)

theorem out_C (h0 h1) : out0_C_2 c i arg3 harg3 arg4 harg4 arg5 harg5 arg6 harg6 h0 h1 x0 x1 acc = k0_pay3 (F := Ideal) (k0_pay2 (F := Ideal) acc x0 x1) := by
  refine (View.read_writes_full VO0_2 VO0_2.junk _ _ _).trans ?_
  refine congrArg k0_pay3 ((View.readCov_full _ _ _ _ _).trans ?_)
  refine congr (congr (congrArg k0_pay2 (load_full harg6 (by decide) _ acc)) (load_full harg3 (by decide) _ x0)) (load_full harg4 (by decide) _ x1)

theorem pay1_apply (r k : Fin 1024) : k0_pay1 (F := Ideal) (ix2 r k) = 0 := by
  pointwise [k0_pay1]

theorem pay2_apply (r k : Fin 1024) :
    k0_pay2 acc x0 x1 (ix2 r k) = acc (ix2 r k) + ∑ j : Fin 1024, x0 (ix2 r j) * x1 (ix2 j k) := by
  pointwise [k0_pay2]

theorem pay3_apply (r k : Fin 1024) : k0_pay3 acc (ix3 0 r k) = acc (ix2 r k) := by
  pointwise [k0_pay3]
  try rfl
end

variable (m : (ℓ : Loc nD τ sig) → Buf (Elt Ideal) ℓ) (ρ : Dev nD → PrngReg) (d : Dev nD)

/-- The normalised input, and the gradient of the hidden layer. -/
abbrev aX : S4096x2048.Idx → EReal := m ((d : Thread nD τ).loc main_arg0)
abbrev aY : S4096x8192.Idx → EReal := m ((d : Thread nD τ).loc main_arg1)

theorem index0 : ∀ t : Fin grid0.N, win0_0.index t 0 = t.val / 32 ∧ win0_0.index t 1 = t.val % 4 := by decide +kernel
theorem index1 : ∀ t : Fin grid0.N, win0_1.index t 0 = t.val % 4 ∧ win0_1.index t 1 = t.val / 4 % 8 := by decide +kernel
theorem index2 : ∀ t : Fin grid0.N, win0_2.index t 0 = t.val / 4 % 8 ∧ win0_2.index t 1 = t.val / 32 ∧ win0_2.index t 2 = 0 := by decide +kernel

theorem N64 (t : Fin cfg0.N) : t.val < 64 := lt_of_lt_of_eq t.isLt (show cfg0.N = 64 from N_0)

/-- The input as the host lays it out. -/
def hostX (x : S4096x2048.Idx → EReal) : S2048x4096.Idx → EReal := transpose S2048x4096 [1, 0] x transposes_S4096x2048_S2048x4096_1_0

theorem V0 : V m d main_v0 = hostX (aX m d) := by entry_read; rfl

theorem hostX_apply (x : S4096x2048.Idx → EReal) (r : Fin 2048) (j : Fin 4096) : hostX x (ix2 r j) = x (ix2 j r) := by
  pointwise [hostX]

theorem iblk0 (t : Fin cfg0.N) (r j : Fin 1024) : (iblk m d 0 t : Vec Ideal S1024x1024 .bf16) (ix2 r j)
    = aX m d (ix2 (md 4096 (1024 * (t.val % 4) + j.val)) (md 2048 (1024 * (t.val / 32) + r.val))) := by
  have hi := index0 t
  have ht := N64 t
  unfold iblk
  rw [View.read_apply]
  show V m d main_v0 _ = _
  rw [V0]
  refine Eq.trans ?_ (hostX_apply _ _ _)
  refine congrArg (hostX (aX m d)) (funext fun x => ?_)
  match x with
  | ⟨0, _⟩ => exact Fin.ext (show win0_0.index t 0 * 1024 + 1 * r.val = (1024 * (t.val / 32) + r.val) % 2048 by rw [hi.1]; omega)
  | ⟨1, _⟩ => exact Fin.ext (show win0_0.index t 1 * 1024 + 1 * j.val = (1024 * (t.val % 4) + j.val) % 4096 by rw [hi.2]; omega)

theorem iblk1 (t : Fin cfg0.N) (j k : Fin 1024) : (iblk m d 1 t : Vec Ideal S1024x1024 .bf16) (ix2 j k)
    = aY m d (ix2 (md 4096 (1024 * (t.val % 4) + j.val)) (md 8192 (1024 * (t.val / 4 % 8) + k.val))) := by
  have hi := index1 t
  have ht := N64 t
  unfold iblk
  rw [View.read_apply]
  show V m d main_arg1 _ = _
  rw [V_main_arg1]
  refine congrArg (aY m d) (funext fun x => ?_)
  match x with
  | ⟨0, _⟩ => exact Fin.ext (show win0_1.index t 0 * 1024 + 1 * j.val = (1024 * (t.val % 4) + j.val) % 4096 by rw [hi.1]; omega)
  | ⟨1, _⟩ => exact Fin.ext (show win0_1.index t 1 * 1024 + 1 * k.val = (1024 * (t.val / 4 % 8) + k.val) % 8192 by rw [hi.2]; omega)

/-- What point `t` adds at an entry of its block. -/
def part (r k : Fin 1024) (t : ℕ) : EReal :=
  ∑ j : Fin 1024, aX m d (ix2 (md 4096 (1024 * (t % 4) + j.val)) (md 2048 (1024 * (t / 32) + r.val)))
    * aY m d (ix2 (md 4096 (1024 * (t % 4) + j.val)) (md 8192 (1024 * (t / 4 % 8) + k.val)))

theorem step (acc : Vec Ideal S1024x1024 .f32) (t : Fin cfg0.N) (r k : Fin 1024) :
    k0_pay2 (F := Ideal) acc (iblk m d 0 t) (iblk m d 1 t) (ix2 r k) = acc (ix2 r k) + part m d r k t.val := by
  rw [pay2_apply]
  exact congrArg (_ + ·) (Finset.sum_congr rfl fun j _ => congrArg₂ (fun x y : EReal => x * y) (iblk0 m d t r j) (iblk1 m d t j k))

theorem acc_A (t : Fin cfg0.N) (h0 : t.val % 4 = 0) :
    (outsAt0 m d t.val t.isLt).2 = k0_pay2 (k0_pay1 (F := Ideal)) (iblk m d 0 t) (iblk m d 1 t) := by
  rw [outsAt0_A m d t h0 (by omega)]
  dsimp only
  rw [sout_A]

theorem acc_BC (t : Fin cfg0.N) (h0 : ¬t.val % 4 = 0) : (outsAt0 m d t.val t.isLt).2
    = k0_pay2 (outsAt0 m d (t.val - 1) (Nat.lt_of_le_of_lt (Nat.sub_le _ _) t.isLt)).2 (iblk m d 0 t) (iblk m d 1 t) := by
  by_cases h1 : t.val % 4 = 3
  · rw [outsAt0_C m d t h0 h1]
    dsimp only
    rw [sout_C]
  · rw [outsAt0_B m d t h0 h1]
    dsimp only
    rw [sout_B]

theorem out_eq (t : Fin cfg0.N) (h1 : t.val % 4 = 3) : (outsAt0 m d t.val t.isLt).1 = k0_pay3 (outsAt0 m d t.val t.isLt).2 := by
  rw [acc_BC m d t (by omega), outsAt0_C m d t (by omega) h1]
  dsimp only
  rw [out_C]

theorem acc_eq (r k : Fin 1024) (q : ℕ) (h : 4 * q + 3 < cfg0.N) :
    (outsAt0 m d (4 * q + 3) h).2 (ix2 r k) = ∑ i ∈ Finset.range 4, part m d r k (4 * q + i) :=
  acc_sum (N := cfg0.N) (n := 4) (fun t h => (outsAt0 m d t h).2 (ix2 r k)) (part m d r k)
    (fun t h h0 => (congrFun (acc_A m d ⟨t, h⟩ h0) (ix2 r k)).trans ((step ..).trans (congrArg (· + _) (pay1_apply r k))))
    (fun t h h0 => (congrFun (acc_BC m d ⟨t, h⟩ h0) (ix2 r k)).trans (step ..)) q 3 (by omega) h

/-- The result. -/
def res (x : S4096x2048.Idx → EReal) (y : S4096x8192.Idx → EReal) : S8x2048x1024.Idx → EReal :=
  fun i => ∑ k : Fin 4096, x (ix2 k (i 1)) * y (ix2 k (md 8192 (1024 * (i 0).val + (i 2).val)))

theorem out_last (t : Fin cfg0.N) (h1 : t.val % 4 = 3) (r k : Fin 1024) : (outsAt0 m d t.val t.isLt).1 (ix3 0 r k)
    = res (aX m d) (aY m d) (ix3 (md 8 (t.val / 4 % 8)) (md 2048 (1024 * (t.val / 32) + r.val)) k) := by
  rw [out_eq m d t h1, pay3_apply]
  obtain ⟨t, ht⟩ := t
  obtain ⟨q, rfl⟩ : ∃ q, t = 4 * q + 3 := ⟨t / 4, by have : t % 4 = 3 := h1; omega⟩
  refine (acc_eq m d r k q ht).trans (Eq.trans ?_ (sum_blocks (n := 4) (b := 1024) rfl _))
  refine Finset.sum_congr rfl fun i hi => ?_
  have := Finset.mem_range.mp hi
  unfold part
  rw [show (4 * q + i) / 32 = (4 * q + 3) / 32 by omega, show (4 * q + i) / 4 % 8 = (4 * q + 3) / 4 % 8 % 8 by omega, show (4 * q + i) % 4 = i by omega]
  rfl

theorem flushedEq (t : Fin cfg0.N) (hf : (cfg0.win 2).flush t = true) :
    (dats m 0 d).flushed 2 t = ((cfg0.win 2).blk t).view.read (Elt Ideal) (res (aX m d) (aY m d)) := by
  rw [Value.flushed2]
  have hi := index2 t
  have ht := N64 t
  funext y
  obtain ⟨z, r, k, rfl⟩ : ∃ (z : Fin 1) (r k : Fin 1024), y = ix3 z r k :=
    ⟨y 0, y 1, y 2, funext fun a => by match a with | ⟨0, _⟩ => rfl | ⟨1, _⟩ => rfl | ⟨2, _⟩ => rfl⟩
  obtain rfl : z = 0 := Subsingleton.elim _ _
  rw [View.read_apply]
  refine (out_last m d t ((flush0_2 t).mp hf) r k).trans (congrArg (res (aX m d) (aY m d)) (funext fun x => ?_))
  match x with
  | ⟨0, _⟩ => exact Fin.ext (show t.val / 4 % 8 % 8 = win0_2.index t 0 * 1 + 1 * 0 by rw [hi.1]; omega)
  | ⟨1, _⟩ => exact Fin.ext (show (1024 * (t.val / 32) + r.val) % 2048 = win0_2.index t 1 * 1024 + 1 * r.val by rw [hi.2.1]; omega)
  | ⟨2, _⟩ => exact Fin.ext (show k.val = win0_2.index t 2 * 1024 + 1 * k.val by rw [hi.2.2]; omega)

theorem final : (dats m 0 d).arrAt 2 cfg0.N = res (aX m d) (aY m d) :=
  (dats m 0 d).arrAt_eq_of_cover 2 (res (aX m d) (aY m d)) (flushedEq m d) fun i => by
    have h0 : (i 0 : Nat) < 8 := (i 0).isLt
    have h1 : (i 1 : Nat) < 2048 := (i 1).isLt
    have h2 : (i 2 : Nat) < 1024 := (i 2).isLt
    have hN : grid0.N = 64 := N_0
    obtain ⟨t, ht⟩ : ∃ t : Fin cfg0.N, t.val = 32 * ((i 1 : Nat) / 1024) + 4 * (i 0 : Nat) + 3 := ⟨⟨_, by show _ < grid0.N; omega⟩, rfl⟩
    have hi := index2 t
    refine ⟨t, (flush0_2 t).mpr (by omega), ?_⟩
    show i ∈ ((View.whole main_v1).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [hi.1]; omega
    | ⟨1, _⟩ =>
      show win0_2.index t 1 * 1024 ≤ (i 1 : Nat) ∧ (i 1 : Nat) < win0_2.index t 1 * 1024 + 1024
      rw [hi.2.1]; omega
    | ⟨2, _⟩ =>
      show win0_2.index t 2 * 1024 ≤ (i 2 : Nat) ∧ (i 2 : Nat) < win0_2.index t 2 * 1024 + 1024
      rw [hi.2.2]; omega

theorem run_values : θ_run defs (onTc (τ := τ) (main (F := Ideal))) ⟨m, fun _ => 0, ρ⟩ fun r => ∀ c : Dev nD,
      r.2.mem ((c : Thread nD τ).loc main_v1) = res (aX m c) (aY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

open Cert.Reference4Ideal.Read in
theorem ref_eq (x : S4096x2048.Idx → EReal) (y : S4096x8192.Idx → EReal) : val_main_v8 (F := Ideal) x y = res x y := by
  funext i
  obtain ⟨g, r, j, rfl⟩ : ∃ (g : Fin 8) (r : Fin 2048) (j : Fin 1024), i = ix3 g r j :=
    ⟨i 0, i 1, i 2, funext fun a => by match a with | ⟨0, _⟩ => rfl | ⟨1, _⟩ => rfl | ⟨2, _⟩ => rfl⟩
  rw [val_main_v8_apply, val_main_v7_apply, val_main_v6_apply, val_main_v5_apply]
  rw [val_main_v4_apply]
  refine Finset.sum_congr rfl fun k _ => ?_
  rw [val_main_v3_apply, val_main_v1_apply]
  refine (mul_comm _ _).trans (congrArg₂ (fun a b : EReal => a * b) (congrArg x ?_) (congrArg y ?_))
  · exact funext fun a => match a with
      | ⟨0, _⟩ => rfl
      | ⟨1, _⟩ => Fin.ext (show ((r.val * 8 + g.val) * 1024 + j.val) / 8192 = r.val by omega)
  · exact funext fun a => match a with
      | ⟨0, _⟩ => rfl
      | ⟨1, _⟩ => Fin.ext (show ((r.val * 8 + g.val) * 1024 + j.val) % 8192 = (1024 * g.val + j.val) % 8192 by omega)

/-- The kernel's result is the reference's. -/
theorem algebraic : Cert.algebraic_Kernel4Ideal_Reference4Ideal := by
  intro m ρ m' ρ' _ heq
  refine ⟨fun c => res (aX m c) (aY m c), run_values m ρ, (θ_run Cert.Reference4Ideal.defs _ _).mono (fun r h c => ?_) (Cert.Reference4Ideal.Value.run (F := Ideal) m' ρ')⟩
  obtain ⟨h0, hargs⟩ := h c
  obtain ⟨a0, a1⟩ := heq c
  refine ⟨h0.trans ?_, hargs⟩
  rw [a0, a1, Cert.Reference4Ideal.Read.val_main_v8_eq]
  exact ref_eq _ _

end Cert.Prod.Gmlpin

end
-- ==== Proof.Prod.Dh2.lean ====
module

public import proofs.«01_k».proof.Proof.Prod.Base
public import proofs.«01_k».proof.Defs
public import proofs.«01_k».proof.Proof.Gen.Kernel5Ideal.Value
public import proofs.«01_k».proof.Proof.Gen.Reference5Ideal.Read
public import Idealize.ShloMosaic.Lib.ValueIdx

/-!
# The gradient of the feed-forward's normalised input

`d_a · w_mlp_inᵀ`, accumulated over eight blocks of 1024 columns.
-/

@[expose] public section

set_option maxRecDepth 16384

noncomputable section

namespace Cert.Prod.Dh2

open Cert.Kernel5Ideal Cert.Kernel5Ideal.Gen Idealize.ShloMosaic Idealize.ShloMosaic.TcCoe Idealize.SL.Sem

section
variable (c : Dev nD) (i : grid0.Coords) (arg3 : Memref sig .tc .vmem S1024x1024 .bf16) (harg3 : arg3.IsWhole) (arg4 : Memref sig .tc .vmem S1x1x1024x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1024 .bf16) (x1 : Vec Ideal S1x1x1024x1024 .bf16) (acc : Vec Ideal S1024x1024 .f32)

theorem sout_A (h0 h1) : sout0_A_0 c i arg3 harg3 arg4 harg4 arg5 harg5 arg6 harg6 h0 h1 x0 x1 = k0_pay2 (F := Ideal) (k0_pay1 (F := Ideal)) x0 x1 := by
  refine (View.read_writes_full VS0_0 VS0_0.junk _ _ _).trans ?_
  refine congr (congr (congrArg k0_pay2 (View.readCov_full _ _ _ _ _)) (load_full harg3 (by decide) _ x0)) (load_full harg4 (by decide) _ x1)

theorem sout_B (h0 h1) : sout0_B_0 c i arg3 harg3 arg4 harg4 arg5 harg5 arg6 harg6 h0 h1 x0 x1 acc = k0_pay2 (F := Ideal) acc x0 x1 := by
  refine (View.read_writes_full VS0_0 VS0_0.junk _ _ _).trans ?_
  refine congr (congr (congrArg k0_pay2 (load_full harg6 (by decide) _ acc)) (load_full harg3 (by decide) _ x0)) (load_full harg4 (by decide) _ x1)

theorem sout_C (h0 h1) : sout0_C_0 c i arg3 harg3 arg4 harg4 arg5 harg5 arg6 harg6 h0 h1 x0 x1 acc = k0_pay2 (F := Ideal) acc x0 x1 := by
  refine (View.read_writes_full VS0_0 VS0_0.junk _ _ _).trans ?_
  refine congr (congr (congrArg k0_pay2 (load_full harg6 (by decide) _ acc)) (load_full harg3 (by decide) _ x0)) (load_full harg4 (by decide) _ x1)

theorem out_C (h0 h1) : out0_C_2 c i arg3 harg3 arg4 harg4 arg5 harg5 arg6 harg6 h0 h1 x0 x1 acc = k0_pay2 (F := Ideal) acc x0 x1 := by
  refine (View.read_writes_full VO0_2 VO0_2.junk _ _ _).trans ?_
  refine (View.readCov_full _ _ _ _ _).trans ?_
  refine congr (congr (congrArg k0_pay2 (load_full harg6 (by decide) _ acc)) (load_full harg3 (by decide) _ x0)) (load_full harg4 (by decide) _ x1)

theorem pay1_apply (r k : Fin 1024) : k0_pay1 (F := Ideal) (ix2 r k) = 0 := by
  pointwise [k0_pay1]

theorem pay2_apply (r k : Fin 1024) :
    k0_pay2 acc x0 x1 (ix2 r k) = acc (ix2 r k) + ∑ j : Fin 1024, x0 (ix2 r j) * x1 (ix4 0 0 k j) := by
  pointwise [k0_pay2]
end

variable (m : (ℓ : Loc nD τ sig) → Buf (Elt Ideal) ℓ) (ρ : Dev nD → PrngReg) (d : Dev nD)

/-- The gradient of the hidden layer, and the weight. -/
abbrev aX : S4096x8192.Idx → EReal := m ((d : Thread nD τ).loc main_arg0)
abbrev aW : S2048x8192.Idx → EReal := m ((d : Thread nD τ).loc main_arg1)

theorem index0 : ∀ t : Fin grid0.N, win0_0.index t 0 = t.val / 16 ∧ win0_0.index t 1 = t.val % 8 := by decide +kernel
theorem index1 : ∀ t : Fin grid0.N, win0_1.index t 0 = 0 ∧ win0_1.index t 1 = t.val % 8 ∧ win0_1.index t 2 = t.val / 8 % 2 ∧ win0_1.index t 3 = 0 := by
  decide +kernel
theorem index2 : ∀ t : Fin grid0.N, win0_2.index t 0 = t.val / 16 ∧ win0_2.index t 1 = t.val / 8 % 2 := by decide +kernel

theorem N64 (t : Fin cfg0.N) : t.val < 64 := lt_of_lt_of_eq t.isLt (show cfg0.N = 64 from N_0)

theorem iblk0 (t : Fin cfg0.N) (r j : Fin 1024) : (iblk m d 0 t : Vec Ideal S1024x1024 .bf16) (ix2 r j)
    = aX m d (ix2 (md 4096 (1024 * (t.val / 16) + r.val)) (md 8192 (1024 * (t.val % 8) + j.val))) := by
  have hi := index0 t
  have ht := N64 t
  unfold iblk
  rw [View.read_apply]
  show V m d main_arg0 _ = _
  rw [V_main_arg0]
  refine congrArg (aX m d) (funext fun x => ?_)
  match x with
  | ⟨0, _⟩ => exact Fin.ext (show win0_0.index t 0 * 1024 + 1 * r.val = (1024 * (t.val / 16) + r.val) % 4096 by rw [hi.1]; omega)
  | ⟨1, _⟩ => exact Fin.ext (show win0_0.index t 1 * 1024 + 1 * j.val = (1024 * (t.val % 8) + j.val) % 8192 by rw [hi.2]; omega)

/-- The weight as the host lays it out. -/
def hostW (w : S2048x8192.Idx → EReal) : S1x8x2048x1024.Idx → EReal :=
  broadcastInDim S1x8x2048x1024 ![1, 2, 3] bcast_S8x2048x1024_S1x8x2048x1024_1_2_3
    (transpose S8x2048x1024 [1, 0, 2] (shapeCast S2048x8x1024 w shapeCasts_S2048x8192_S2048x8x1024) transposes_S2048x8x1024_S8x2048x1024_1_0_2)

theorem V3 : V m d main_v3 = hostW (aW m d) := by entry_read; rfl

theorem hostW_apply (w : S2048x8192.Idx → EReal) (g : Fin 8) (r : Fin 2048) (j : Fin 1024) :
    hostW w (ix4 0 g r j) = w (ix2 r (md 8192 (1024 * g.val + j.val))) := by
  pointwise [hostW]
  exact congrArg w (funext fun x => match x with
    | ⟨0, _⟩ => rfl
    | ⟨1, _⟩ => Fin.ext (show g.val * 1024 + j.val = (1024 * g.val + j.val) % 8192 by omega))

theorem iblk1 (t : Fin cfg0.N) (r j : Fin 1024) : (iblk m d 1 t : Vec Ideal S1x1x1024x1024 .bf16) (ix4 0 0 r j)
    = aW m d (ix2 (md 2048 (1024 * (t.val / 8 % 2) + r.val)) (md 8192 (1024 * (t.val % 8) + j.val))) := by
  have hi := index1 t
  have ht := N64 t
  unfold iblk
  rw [View.read_apply]
  show V m d main_v3 _ = _
  rw [V3]
  refine Eq.trans ?_ ((hostW_apply (aW m d) ⟨t.val % 8, by omega⟩ (md 2048 (1024 * (t.val / 8 % 2) + r.val)) j))
  refine congrArg (hostW (aW m d)) (funext fun x => ?_)
  match x with
  | ⟨0, _⟩ => exact Fin.ext (show win0_1.index t 0 * 1 + 1 * 0 = 0 by rw [hi.1])
  | ⟨1, _⟩ => exact Fin.ext (show win0_1.index t 1 * 1 + 1 * 0 = t.val % 8 by rw [hi.2.1]; omega)
  | ⟨2, _⟩ => exact Fin.ext (show win0_1.index t 2 * 1024 + 1 * r.val = (1024 * (t.val / 8 % 2) + r.val) % 2048 by rw [hi.2.2.1]; omega)
  | ⟨3, _⟩ => exact Fin.ext (show win0_1.index t 3 * 1024 + 1 * j.val = j.val by rw [hi.2.2.2]; omega)

/-- What point `t` adds at an entry of its block. -/
def part (r k : Fin 1024) (t : ℕ) : EReal :=
  ∑ j : Fin 1024, aX m d (ix2 (md 4096 (1024 * (t / 16) + r.val)) (md 8192 (1024 * (t % 8) + j.val)))
    * aW m d (ix2 (md 2048 (1024 * (t / 8 % 2) + k.val)) (md 8192 (1024 * (t % 8) + j.val)))

theorem step (acc : Vec Ideal S1024x1024 .f32) (t : Fin cfg0.N) (r k : Fin 1024) :
    k0_pay2 (F := Ideal) acc (iblk m d 0 t) (iblk m d 1 t) (ix2 r k) = acc (ix2 r k) + part m d r k t.val := by
  rw [pay2_apply]
  exact congrArg (_ + ·) (Finset.sum_congr rfl fun j _ => congrArg₂ (fun x y : EReal => x * y) (iblk0 m d t r j) (iblk1 m d t k j))

theorem acc_A (t : Fin cfg0.N) (h0 : t.val % 8 = 0) :
    (outsAt0 m d t.val t.isLt).2 = k0_pay2 (k0_pay1 (F := Ideal)) (iblk m d 0 t) (iblk m d 1 t) := by
  rw [outsAt0_A m d t h0 (by omega)]
  dsimp only
  rw [sout_A]

theorem acc_BC (t : Fin cfg0.N) (h0 : ¬t.val % 8 = 0) : (outsAt0 m d t.val t.isLt).2
    = k0_pay2 (outsAt0 m d (t.val - 1) (Nat.lt_of_le_of_lt (Nat.sub_le _ _) t.isLt)).2 (iblk m d 0 t) (iblk m d 1 t) := by
  by_cases h1 : t.val % 8 = 7
  · rw [outsAt0_C m d t h0 h1]
    dsimp only
    rw [sout_C]
  · rw [outsAt0_B m d t h0 h1]
    dsimp only
    rw [sout_B]

theorem out_eq (t : Fin cfg0.N) (h1 : t.val % 8 = 7) : (outsAt0 m d t.val t.isLt).1 = (outsAt0 m d t.val t.isLt).2 := by
  rw [acc_BC m d t (by omega), outsAt0_C m d t (by omega) h1]
  dsimp only
  rw [out_C]

theorem acc_eq (r k : Fin 1024) (q : ℕ) (h : 8 * q + 7 < cfg0.N) :
    (outsAt0 m d (8 * q + 7) h).2 (ix2 r k) = ∑ i ∈ Finset.range 8, part m d r k (8 * q + i) :=
  acc_sum (N := cfg0.N) (n := 8) (fun t h => (outsAt0 m d t h).2 (ix2 r k)) (part m d r k)
    (fun t h h0 => (congrFun (acc_A m d ⟨t, h⟩ h0) (ix2 r k)).trans ((step ..).trans (congrArg (· + _) (pay1_apply r k))))
    (fun t h h0 => (congrFun (acc_BC m d ⟨t, h⟩ h0) (ix2 r k)).trans (step ..)) q 7 (by omega) h

/-- The result. -/
def res (x : S4096x8192.Idx → EReal) (w : S2048x8192.Idx → EReal) : S4096x2048.Idx → EReal :=
  fun i => ∑ k : Fin 8192, x (ix2 (i 0) k) * w (ix2 (i 1) k)

theorem out_last (t : Fin cfg0.N) (h1 : t.val % 8 = 7) (r k : Fin 1024) : (outsAt0 m d t.val t.isLt).1 (ix2 r k)
    = res (aX m d) (aW m d) (ix2 (md 4096 (1024 * (t.val / 16) + r.val)) (md 2048 (1024 * (t.val / 8 % 2) + k.val))) := by
  rw [out_eq m d t h1]
  obtain ⟨t, ht⟩ := t
  obtain ⟨q, rfl⟩ : ∃ q, t = 8 * q + 7 := ⟨t / 8, by have : t % 8 = 7 := h1; omega⟩
  refine (acc_eq m d r k q ht).trans (Eq.trans ?_ (sum_blocks (n := 8) (b := 1024) rfl _))
  refine Finset.sum_congr rfl fun i hi => ?_
  have := Finset.mem_range.mp hi
  unfold part
  rw [show (8 * q + i) / 16 = (8 * q + 7) / 16 by omega, show (8 * q + i) / 8 % 2 = (8 * q + 7) / 8 % 2 by omega, show (8 * q + i) % 8 = i by omega]
  rfl

theorem flushedEq (t : Fin cfg0.N) (hf : (cfg0.win 2).flush t = true) :
    (dats m 0 d).flushed 2 t = ((cfg0.win 2).blk t).view.read (Elt Ideal) (res (aX m d) (aW m d)) := by
  rw [Value.flushed2]
  have hi := index2 t
  have ht := N64 t
  funext y
  obtain ⟨r, k, rfl⟩ : ∃ (r k : Fin 1024), y = ix2 r k := ⟨y 0, y 1, funext fun a => by match a with | ⟨0, _⟩ => rfl | ⟨1, _⟩ => rfl⟩
  rw [View.read_apply]
  refine (out_last m d t ((flush0_2 t).mp hf) r k).trans (congrArg (res (aX m d) (aW m d)) (funext fun x => ?_))
  match x with
  | ⟨0, _⟩ => exact Fin.ext (show (1024 * (t.val / 16) + r.val) % 4096 = win0_2.index t 0 * 1024 + 1 * r.val by rw [hi.1]; omega)
  | ⟨1, _⟩ => exact Fin.ext (show (1024 * (t.val / 8 % 2) + k.val) % 2048 = win0_2.index t 1 * 1024 + 1 * k.val by rw [hi.2]; omega)

theorem final : (dats m 0 d).arrAt 2 cfg0.N = res (aX m d) (aW m d) :=
  (dats m 0 d).arrAt_eq_of_cover 2 (res (aX m d) (aW m d)) (flushedEq m d) fun i => by
    have h0 : (i 0 : Nat) < 4096 := (i 0).isLt
    have h1 : (i 1 : Nat) < 2048 := (i 1).isLt
    have hN : grid0.N = 64 := N_0
    obtain ⟨t, ht⟩ : ∃ t : Fin cfg0.N, t.val = 16 * ((i 0 : Nat) / 1024) + 8 * ((i 1 : Nat) / 1024) + 7 := ⟨⟨_, by show _ < grid0.N; omega⟩, rfl⟩
    have hi := index2 t
    refine ⟨t, (flush0_2 t).mpr (by omega), ?_⟩
    show i ∈ ((View.whole main_v4).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega

theorem run_values : θ_run defs (onTc (τ := τ) (main (F := Ideal))) ⟨m, fun _ => 0, ρ⟩ fun r => ∀ c : Dev nD,
      r.2.mem ((c : Thread nD τ).loc main_v4) = res (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem ref_eq (x : S4096x8192.Idx → EReal) (w : S2048x8192.Idx → EReal) : Cert.Reference5Ideal.Read.val_main_v3 (F := Ideal) x w = res x w := by
  funext i
  rw [Cert.Reference5Ideal.Read.val_main_v3_apply]
  refine Finset.sum_congr rfl fun k _ => ?_
  rw [Cert.Reference5Ideal.Read.val_main_v2_apply]
  exact congrArg₂ (fun a b : EReal => a * b)
    (congrArg x (funext fun a => match a with | ⟨0, _⟩ => rfl | ⟨1, _⟩ => rfl))
    (congrArg w (funext fun a => match a with | ⟨0, _⟩ => rfl | ⟨1, _⟩ => rfl))

/-- The kernel's result is the reference's. -/
theorem algebraic : Cert.algebraic_Kernel5Ideal_Reference5Ideal := by
  intro m ρ m' ρ' _ heq
  refine ⟨fun c => res (aX m c) (aW m c), run_values m ρ, (θ_run Cert.Reference5Ideal.defs _ _).mono (fun r h c => ?_) (Cert.Reference5Ideal.Value.run (F := Ideal) m' ρ')⟩
  obtain ⟨h0, hargs⟩ := h c
  obtain ⟨a0, a1⟩ := heq c
  refine ⟨h0.trans ?_, hargs⟩
  rw [a0, a1, Cert.Reference5Ideal.Read.val_main_v3_eq]
  exact ref_eq _ _

end Cert.Prod.Dh2

end
-- ==== Proof.Prod.Gwin.lean ====
module

public import proofs.«01_k».proof.Proof.Prod.Base
public import proofs.«01_k».proof.Defs
public import proofs.«01_k».proof.Proof.Gen.Kernel6Ideal.Value
public import proofs.«01_k».proof.Proof.Gen.Reference6Ideal.Read
public import Idealize.ShloMosaic.Lib.ValueIdx

/-!
# The gradient of the branch's first weight

`hᵀ · dproj` in the gathered layout (eight slabs of columns), accumulated over four blocks of 1024 rows.
-/

@[expose] public section

set_option maxRecDepth 16384

noncomputable section

namespace Cert.Prod.Gwin

open Cert.Kernel6Ideal Cert.Kernel6Ideal.Gen Idealize.ShloMosaic Idealize.ShloMosaic.TcCoe Idealize.SL.Sem

section
variable (c : Dev nD) (i : grid0.Coords) (arg3 : Memref sig .tc .vmem S1024x1024 .bf16) (harg3 : arg3.IsWhole) (arg4 : Memref sig .tc .vmem S1024x768 .bf16) (harg4 : arg4.IsWhole) (arg5 : Memref sig .tc .vmem S1x1024x768 .bf16) (harg5 : arg5.IsWhole) (arg6 : Memref sig .tc .vmem S1024x768 .f32) (harg6 : arg6.IsWhole)
  (x0 : Vec Ideal S1024x1024 .bf16) (x1 : Vec Ideal S1024x768 .bf16) (acc : Vec Ideal S1024x768 .f32)

theorem sout_A (h0 h1) : sout0_A_0 c i arg3 harg3 arg4 harg4 arg5 harg5 arg6 harg6 h0 h1 x0 x1 = k0_pay2 (F := Ideal) (k0_pay1 (F := Ideal)) x0 x1 := by
  refine (View.read_writes_full VS0_0 VS0_0.junk _ _ _).trans ?_
  refine congr (congr (congrArg k0_pay2 (View.readCov_full _ _ _ _ _)) (load_full harg3 (by decide) _ x0)) (load_full harg4 (by decide) _ x1)

theorem sout_B (h0 h1) : sout0_B_0 c i arg3 harg3 arg4 harg4 arg5 harg5 arg6 harg6 h0 h1 x0 x1 acc = k0_pay2 (F := Ideal) acc x0 x1 := by
  refine (View.read_writes_full VS0_0 VS0_0.junk _ _ _).trans ?_
  refine congr (congr (congrArg k0_pay2 (load_full harg6 (by decide) _ acc)) (load_full harg3 (by decide) _ x0)) (load_full harg4 (by decide) _ x1)

theorem sout_C (h0 h1) : sout0_C_0 c i arg3 harg3 arg4 harg4 arg5 harg5 arg6 harg6 h0 h1 x0 x1 acc = k0_pay2 (F := Ideal) acc x0 x1 := by
  refine (View.read_writes_full VS0_0 VS0_0.junk _ _ _).trans ?_
  refine congr (congr (congrArg k0_pay2 (load_full harg6 (by decide) _ acc)) (load_full harg3 (by decide) _ x0)) (load_full harg4 (by decide) _ x1)

theorem out_C (h0 h1) : out0_C_2 c i arg3 harg3 arg4 harg4 arg5 harg5 arg6 harg6 h0 h1 x0 x1 acc = k0_pay3 (F := Ideal) (k0_pay2 (F := Ideal) acc x0 x1) := by
  refine (View.read_writes_full VO0_2 VO0_2.junk _ _ _).trans ?_
  refine congrArg k0_pay3 ((View.readCov_full _ _ _ _ _).trans ?_)
  refine congr (congr (congrArg k0_pay2 (load_full harg6 (by decide) _ acc)) (load_full harg3 (by decide) _ x0)) (load_full harg4 (by decide) _ x1)

theorem pay1_apply (r : Fin 1024) (k : Fin 768) : k0_pay1 (F := Ideal) (ix2 r k) = 0 := by
  pointwise [k0_pay1]

theorem pay2_apply (r : Fin 1024) (k : Fin 768) :
    k0_pay2 acc x0 x1 (ix2 r k) = acc (ix2 r k) + ∑ j : Fin 1024, x0 (ix2 r j) * x1 (ix2 j k) := by
  pointwise [k0_pay2]

theorem pay3_apply (r : Fin 1024) (k : Fin 768) : k0_pay3 acc (ix3 0 r k) = acc (ix2 r k) := by
  pointwise [k0_pay3]
  try rfl
end

variable (m : (ℓ : Loc nD τ sig) → Buf (Elt Ideal) ℓ) (ρ : Dev nD → PrngReg) (d : Dev nD)

/-- The normalised input, and the gradient of the first product. -/
abbrev aX : S4096x2048.Idx → EReal := m ((d : Thread nD τ).loc main_arg0)
abbrev aY : S4096x12288.Idx → EReal := m ((d : Thread nD τ).loc main_arg1)

theorem index0 : ∀ t : Fin grid0.N, win0_0.index t 0 = t.val / 64 ∧ win0_0.index t 1 = t.val % 4 := by decide +kernel
theorem index1 : ∀ t : Fin grid0.N, win0_1.index t 0 = t.val % 4 ∧ win0_1.index t 1 = t.val / 4 % 16 := by decide +kernel
theorem index2 : ∀ t : Fin grid0.N, win0_2.index t 0 = t.val / 4 % 16 / 2 ∧ win0_2.index t 1 = t.val / 64 ∧ win0_2.index t 2 = t.val / 4 % 2 := by decide +kernel

theorem N128 (t : Fin cfg0.N) : t.val < 128 := lt_of_lt_of_eq t.isLt (show cfg0.N = 128 from N_0)

/-- The input as the host lays it out. -/
def hostX (x : S4096x2048.Idx → EReal) : S2048x4096.Idx → EReal := transpose S2048x4096 [1, 0] x transposes_S4096x2048_S2048x4096_1_0

theorem V0 : V m d main_v0 = hostX (aX m d) := by entry_read; rfl

theorem hostX_apply (x : S4096x2048.Idx → EReal) (r : Fin 2048) (j : Fin 4096) : hostX x (ix2 r j) = x (ix2 j r) := by
  pointwise [hostX]

theorem iblk0 (t : Fin cfg0.N) (r j : Fin 1024) : (iblk m d 0 t : Vec Ideal S1024x1024 .bf16) (ix2 r j)
    = aX m d (ix2 (md 4096 (1024 * (t.val % 4) + j.val)) (md 2048 (1024 * (t.val / 64) + r.val))) := by
  have hi := index0 t
  have ht := N128 t
  unfold iblk
  rw [View.read_apply]
  show V m d main_v0 _ = _
  rw [V0]
  refine Eq.trans ?_ (hostX_apply _ _ _)
  refine congrArg (hostX (aX m d)) (funext fun x => ?_)
  match x with
  | ⟨0, _⟩ => exact Fin.ext (show win0_0.index t 0 * 1024 + 1 * r.val = (1024 * (t.val / 64) + r.val) % 2048 by rw [hi.1]; omega)
  | ⟨1, _⟩ => exact Fin.ext (show win0_0.index t 1 * 1024 + 1 * j.val = (1024 * (t.val % 4) + j.val) % 4096 by rw [hi.2]; omega)

theorem iblk1 (t : Fin cfg0.N) (j : Fin 1024) (k : Fin 768) : (iblk m d 1 t : Vec Ideal S1024x768 .bf16) (ix2 j k)
    = aY m d (ix2 (md 4096 (1024 * (t.val % 4) + j.val)) (md 12288 (768 * (t.val / 4 % 16) + k.val))) := by
  have hi := index1 t
  have ht := N128 t
  unfold iblk
  rw [View.read_apply]
  show V m d main_arg1 _ = _
  rw [V_main_arg1]
  refine congrArg (aY m d) (funext fun x => ?_)
  match x with
  | ⟨0, _⟩ => exact Fin.ext (show win0_1.index t 0 * 1024 + 1 * j.val = (1024 * (t.val % 4) + j.val) % 4096 by rw [hi.1]; omega)
  | ⟨1, _⟩ => exact Fin.ext (show win0_1.index t 1 * 768 + 1 * k.val = (768 * (t.val / 4 % 16) + k.val) % 12288 by rw [hi.2]; omega)

/-- What point `t` adds at an entry of its block. -/
def part (r : Fin 1024) (k : Fin 768) (t : ℕ) : EReal :=
  ∑ j : Fin 1024, aX m d (ix2 (md 4096 (1024 * (t % 4) + j.val)) (md 2048 (1024 * (t / 64) + r.val)))
    * aY m d (ix2 (md 4096 (1024 * (t % 4) + j.val)) (md 12288 (768 * (t / 4 % 16) + k.val)))

theorem step (acc : Vec Ideal S1024x768 .f32) (t : Fin cfg0.N) (r : Fin 1024) (k : Fin 768) :
    k0_pay2 (F := Ideal) acc (iblk m d 0 t) (iblk m d 1 t) (ix2 r k) = acc (ix2 r k) + part m d r k t.val := by
  rw [pay2_apply]
  exact congrArg (_ + ·) (Finset.sum_congr rfl fun j _ => congrArg₂ (fun x y : EReal => x * y) (iblk0 m d t r j) (iblk1 m d t j k))

theorem acc_A (t : Fin cfg0.N) (h0 : t.val % 4 = 0) :
    (outsAt0 m d t.val t.isLt).2 = k0_pay2 (k0_pay1 (F := Ideal)) (iblk m d 0 t) (iblk m d 1 t) := by
  rw [outsAt0_A m d t h0 (by omega)]
  dsimp only
  rw [sout_A]

theorem acc_BC (t : Fin cfg0.N) (h0 : ¬t.val % 4 = 0) : (outsAt0 m d t.val t.isLt).2
    = k0_pay2 (outsAt0 m d (t.val - 1) (Nat.lt_of_le_of_lt (Nat.sub_le _ _) t.isLt)).2 (iblk m d 0 t) (iblk m d 1 t) := by
  by_cases h1 : t.val % 4 = 3
  · rw [outsAt0_C m d t h0 h1]
    dsimp only
    rw [sout_C]
  · rw [outsAt0_B m d t h0 h1]
    dsimp only
    rw [sout_B]

theorem out_eq (t : Fin cfg0.N) (h1 : t.val % 4 = 3) : (outsAt0 m d t.val t.isLt).1 = k0_pay3 (outsAt0 m d t.val t.isLt).2 := by
  rw [acc_BC m d t (by omega), outsAt0_C m d t (by omega) h1]
  dsimp only
  rw [out_C]

theorem acc_eq (r : Fin 1024) (k : Fin 768) (q : ℕ) (h : 4 * q + 3 < cfg0.N) :
    (outsAt0 m d (4 * q + 3) h).2 (ix2 r k) = ∑ i ∈ Finset.range 4, part m d r k (4 * q + i) :=
  acc_sum (N := cfg0.N) (n := 4) (fun t h => (outsAt0 m d t h).2 (ix2 r k)) (part m d r k)
    (fun t h h0 => (congrFun (acc_A m d ⟨t, h⟩ h0) (ix2 r k)).trans ((step ..).trans (congrArg (· + _) (pay1_apply r k))))
    (fun t h h0 => (congrFun (acc_BC m d ⟨t, h⟩ h0) (ix2 r k)).trans (step ..)) q 3 (by omega) h

/-- The result. -/
def res (x : S4096x2048.Idx → EReal) (y : S4096x12288.Idx → EReal) : S8x2048x1536.Idx → EReal :=
  fun i => ∑ k : Fin 4096, x (ix2 k (i 1)) * y (ix2 k (md 12288 (1536 * (i 0).val + (i 2).val)))

theorem out_last (t : Fin cfg0.N) (h1 : t.val % 4 = 3) (r : Fin 1024) (k : Fin 768) : (outsAt0 m d t.val t.isLt).1 (ix3 0 r k)
    = res (aX m d) (aY m d) (ix3 (md 8 (t.val / 4 % 16 / 2)) (md 2048 (1024 * (t.val / 64) + r.val)) (md 1536 (768 * (t.val / 4 % 2) + k.val))) := by
  rw [out_eq m d t h1, pay3_apply]
  obtain ⟨t, ht⟩ := t
  obtain ⟨q, rfl⟩ : ∃ q, t = 4 * q + 3 := ⟨t / 4, by have : t % 4 = 3 := h1; omega⟩
  refine (acc_eq m d r k q ht).trans (Eq.trans ?_ (sum_blocks (n := 4) (b := 1024) rfl _))
  refine Finset.sum_congr rfl fun i hi => ?_
  have := Finset.mem_range.mp hi
  unfold part
  rw [show (4 * q + i) / 64 = (4 * q + 3) / 64 by omega, show (4 * q + i) / 4 % 16 = (4 * q + 3) / 4 % 16 by omega, show (4 * q + i) % 4 = i by omega]
  have e : md 12288 (768 * ((4 * q + 3) / 4 % 16) + k.val)
      = md 12288 (1536 * ((4 * q + 3) / 4 % 16 / 2 % 8) + (768 * ((4 * q + 3) / 4 % 2) + k.val) % 1536) :=
    Fin.ext (congrArg (· % 12288) (by omega))
  rw [e]
  rfl

theorem flushedEq (t : Fin cfg0.N) (hf : (cfg0.win 2).flush t = true) :
    (dats m 0 d).flushed 2 t = ((cfg0.win 2).blk t).view.read (Elt Ideal) (res (aX m d) (aY m d)) := by
  rw [Value.flushed2]
  have hi := index2 t
  have ht := N128 t
  funext y
  obtain ⟨z, r, k, rfl⟩ : ∃ (z : Fin 1) (r : Fin 1024) (k : Fin 768), y = ix3 z r k :=
    ⟨y 0, y 1, y 2, funext fun a => by match a with | ⟨0, _⟩ => rfl | ⟨1, _⟩ => rfl | ⟨2, _⟩ => rfl⟩
  obtain rfl : z = 0 := Subsingleton.elim _ _
  rw [View.read_apply]
  refine (out_last m d t ((flush0_2 t).mp hf) r k).trans (congrArg (res (aX m d) (aY m d)) (funext fun x => ?_))
  match x with
  | ⟨0, _⟩ => exact Fin.ext (show t.val / 4 % 16 / 2 % 8 = win0_2.index t 0 * 1 + 1 * 0 by rw [hi.1]; omega)
  | ⟨1, _⟩ => exact Fin.ext (show (1024 * (t.val / 64) + r.val) % 2048 = win0_2.index t 1 * 1024 + 1 * r.val by rw [hi.2.1]; omega)
  | ⟨2, _⟩ => exact Fin.ext (show (768 * (t.val / 4 % 2) + k.val) % 1536 = win0_2.index t 2 * 768 + 1 * k.val by rw [hi.2.2]; omega)

theorem final : (dats m 0 d).arrAt 2 cfg0.N = res (aX m d) (aY m d) :=
  (dats m 0 d).arrAt_eq_of_cover 2 (res (aX m d) (aY m d)) (flushedEq m d) fun i => by
    have h0 : (i 0 : Nat) < 8 := (i 0).isLt
    have h1 : (i 1 : Nat) < 2048 := (i 1).isLt
    have h2 : (i 2 : Nat) < 1536 := (i 2).isLt
    have hN : grid0.N = 128 := N_0
    obtain ⟨t, ht⟩ : ∃ t : Fin cfg0.N, t.val = 64 * ((i 1 : Nat) / 1024) + 4 * (2 * (i 0 : Nat) + (i 2 : Nat) / 768) + 3 := ⟨⟨_, by show _ < grid0.N; omega⟩, rfl⟩
    have hi := index2 t
    refine ⟨t, (flush0_2 t).mpr (by omega), ?_⟩
    show i ∈ ((View.whole main_v1).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [hi.1]; omega
    | ⟨1, _⟩ =>
      show win0_2.index t 1 * 1024 ≤ (i 1 : Nat) ∧ (i 1 : Nat) < win0_2.index t 1 * 1024 + 1024
      rw [hi.2.1]; omega
    | ⟨2, _⟩ =>
      show win0_2.index t 2 * 768 ≤ (i 2 : Nat) ∧ (i 2 : Nat) < win0_2.index t 2 * 768 + 768
      rw [hi.2.2]; omega

theorem run_values : θ_run defs (onTc (τ := τ) (main (F := Ideal))) ⟨m, fun _ => 0, ρ⟩ fun r => ∀ c : Dev nD,
      r.2.mem ((c : Thread nD τ).loc main_v1) = res (aX m c) (aY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

open Cert.Reference6Ideal.Read in
theorem ref_eq (x : S4096x2048.Idx → EReal) (y : S4096x12288.Idx → EReal) : val_main_v8 (F := Ideal) x y = res x y := by
  funext i
  obtain ⟨g, r, j, rfl⟩ : ∃ (g : Fin 8) (r : Fin 2048) (j : Fin 1536), i = ix3 g r j :=
    ⟨i 0, i 1, i 2, funext fun a => by match a with | ⟨0, _⟩ => rfl | ⟨1, _⟩ => rfl | ⟨2, _⟩ => rfl⟩
  rw [val_main_v8_apply, val_main_v7_apply, val_main_v6_apply, val_main_v5_apply]
  rw [val_main_v4_apply]
  refine Finset.sum_congr rfl fun k _ => ?_
  rw [val_main_v3_apply, val_main_v1_apply]
  refine (mul_comm _ _).trans (congrArg₂ (fun a b : EReal => a * b) (congrArg x ?_) (congrArg y ?_))
  · exact funext fun a => match a with
      | ⟨0, _⟩ => rfl
      | ⟨1, _⟩ => Fin.ext (show ((r.val * 8 + g.val) * 1536 + j.val) / 12288 = r.val by omega)
  · exact funext fun a => match a with
      | ⟨0, _⟩ => rfl
      | ⟨1, _⟩ => Fin.ext (show ((r.val * 8 + g.val) * 1536 + j.val) % 12288 = (1536 * g.val + j.val) % 12288 by omega)

/-- The kernel's result is the reference's. -/
theorem algebraic : Cert.algebraic_Kernel6Ideal_Reference6Ideal := by
  intro m ρ m' ρ' _ heq
  refine ⟨fun c => res (aX m c) (aY m c), run_values m ρ, (θ_run Cert.Reference6Ideal.defs _ _).mono (fun r h c => ?_) (Cert.Reference6Ideal.Value.run (F := Ideal) m' ρ')⟩
  obtain ⟨h0, hargs⟩ := h c
  obtain ⟨a0, a1⟩ := heq c
  refine ⟨h0.trans ?_, hargs⟩
  rw [a0, a1, Cert.Reference6Ideal.Read.val_main_v8_eq]
  exact ref_eq _ _

end Cert.Prod.Gwin

end
-- ==== Proof.Prod.Dh.lean ====
module

public import proofs.«01_k».proof.Proof.Prod.Base
public import proofs.«01_k».proof.Defs
public import proofs.«01_k».proof.Proof.Gen.Kernel7Ideal.Value
public import proofs.«01_k».proof.Proof.Gen.Reference7Ideal.Read
public import Idealize.ShloMosaic.Lib.ValueIdx

/-!
# The gradient of the branch's normalised input

`dproj · w_inᵀ`, accumulated over sixteen blocks of 768 columns.
-/

@[expose] public section

set_option maxRecDepth 16384

noncomputable section

namespace Cert.Prod.Dh

open Cert.Kernel7Ideal Cert.Kernel7Ideal.Gen Idealize.ShloMosaic Idealize.ShloMosaic.TcCoe Idealize.SL.Sem

section
variable (c : Dev nD) (i : grid0.Coords) (arg3 : Memref sig .tc .vmem S1024x768 .bf16) (harg3 : arg3.IsWhole) (arg4 : Memref sig .tc .vmem S1x1x1024x768 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x768 .bf16) (x1 : Vec Ideal S1x1x1024x768 .bf16) (acc : Vec Ideal S1024x1024 .f32)

theorem sout_A (h0 h1) : sout0_A_0 c i arg3 harg3 arg4 harg4 arg5 harg5 arg6 harg6 h0 h1 x0 x1 = k0_pay2 (F := Ideal) (k0_pay1 (F := Ideal)) x0 x1 := by
  refine (View.read_writes_full VS0_0 VS0_0.junk _ _ _).trans ?_
  refine congr (congr (congrArg k0_pay2 (View.readCov_full _ _ _ _ _)) (load_full harg3 (by decide) _ x0)) (load_full harg4 (by decide) _ x1)

theorem sout_B (h0 h1) : sout0_B_0 c i arg3 harg3 arg4 harg4 arg5 harg5 arg6 harg6 h0 h1 x0 x1 acc = k0_pay2 (F := Ideal) acc x0 x1 := by
  refine (View.read_writes_full VS0_0 VS0_0.junk _ _ _).trans ?_
  refine congr (congr (congrArg k0_pay2 (load_full harg6 (by decide) _ acc)) (load_full harg3 (by decide) _ x0)) (load_full harg4 (by decide) _ x1)

theorem sout_C (h0 h1) : sout0_C_0 c i arg3 harg3 arg4 harg4 arg5 harg5 arg6 harg6 h0 h1 x0 x1 acc = k0_pay2 (F := Ideal) acc x0 x1 := by
  refine (View.read_writes_full VS0_0 VS0_0.junk _ _ _).trans ?_
  refine congr (congr (congrArg k0_pay2 (load_full harg6 (by decide) _ acc)) (load_full harg3 (by decide) _ x0)) (load_full harg4 (by decide) _ x1)

theorem out_C (h0 h1) : out0_C_2 c i arg3 harg3 arg4 harg4 arg5 harg5 arg6 harg6 h0 h1 x0 x1 acc = k0_pay2 (F := Ideal) acc x0 x1 := by
  refine (View.read_writes_full VO0_2 VO0_2.junk _ _ _).trans ?_
  refine (View.readCov_full _ _ _ _ _).trans ?_
  refine congr (congr (congrArg k0_pay2 (load_full harg6 (by decide) _ acc)) (load_full harg3 (by decide) _ x0)) (load_full harg4 (by decide) _ x1)

theorem pay1_apply (r k : Fin 1024) : k0_pay1 (F := Ideal) (ix2 r k) = 0 := by
  pointwise [k0_pay1]

theorem pay2_apply (r k : Fin 1024) :
    k0_pay2 acc x0 x1 (ix2 r k) = acc (ix2 r k) + ∑ j : Fin 768, x0 (ix2 r j) * x1 (ix4 0 0 k j) := by
  pointwise [k0_pay2]
end

variable (m : (ℓ : Loc nD τ sig) → Buf (Elt Ideal) ℓ) (ρ : Dev nD → PrngReg) (d : Dev nD)

/-- The gradient of the first product, and the weight. -/
abbrev aX : S4096x12288.Idx → EReal := m ((d : Thread nD τ).loc main_arg0)
abbrev aW : S2048x12288.Idx → EReal := m ((d : Thread nD τ).loc main_arg1)

theorem index0 : ∀ t : Fin grid0.N, win0_0.index t 0 = t.val / 32 ∧ win0_0.index t 1 = t.val % 16 := by decide +kernel
theorem index1 : ∀ t : Fin grid0.N, win0_1.index t 0 = 0 ∧ win0_1.index t 1 = t.val % 16 / 2 ∧ win0_1.index t 2 = t.val / 16 % 2 ∧ win0_1.index t 3 = t.val % 2 := by
  decide +kernel
theorem index2 : ∀ t : Fin grid0.N, win0_2.index t 0 = t.val / 32 ∧ win0_2.index t 1 = t.val / 16 % 2 := by decide +kernel

theorem N128 (t : Fin cfg0.N) : t.val < 128 := lt_of_lt_of_eq t.isLt (show cfg0.N = 128 from N_0)

theorem iblk0 (t : Fin cfg0.N) (r : Fin 1024) (j : Fin 768) : (iblk m d 0 t : Vec Ideal S1024x768 .bf16) (ix2 r j)
    = aX m d (ix2 (md 4096 (1024 * (t.val / 32) + r.val)) (md 12288 (768 * (t.val % 16) + j.val))) := by
  have hi := index0 t
  have ht := N128 t
  unfold iblk
  rw [View.read_apply]
  show V m d main_arg0 _ = _
  rw [V_main_arg0]
  refine congrArg (aX m d) (funext fun x => ?_)
  match x with
  | ⟨0, _⟩ => exact Fin.ext (show win0_0.index t 0 * 1024 + 1 * r.val = (1024 * (t.val / 32) + r.val) % 4096 by rw [hi.1]; omega)
  | ⟨1, _⟩ => exact Fin.ext (show win0_0.index t 1 * 768 + 1 * j.val = (768 * (t.val % 16) + j.val) % 12288 by rw [hi.2]; omega)

/-- The weight as the host lays it out. -/
def hostW (w : S2048x12288.Idx → EReal) : S1x8x2048x1536.Idx → EReal :=
  broadcastInDim S1x8x2048x1536 ![1, 2, 3] bcast_S8x2048x1536_S1x8x2048x1536_1_2_3
    (transpose S8x2048x1536 [1, 0, 2] (shapeCast S2048x8x1536 w shapeCasts_S2048x12288_S2048x8x1536) transposes_S2048x8x1536_S8x2048x1536_1_0_2)

theorem V3 : V m d main_v3 = hostW (aW m d) := by entry_read; rfl

theorem hostW_apply (w : S2048x12288.Idx → EReal) (g : Fin 8) (r : Fin 2048) (j : Fin 1536) :
    hostW w (ix4 0 g r j) = w (ix2 r (md 12288 (1536 * g.val + j.val))) := by
  pointwise [hostW]
  exact congrArg w (funext fun x => match x with
    | ⟨0, _⟩ => rfl
    | ⟨1, _⟩ => Fin.ext (show g.val * 1536 + j.val = (1536 * g.val + j.val) % 12288 by omega))

theorem iblk1 (t : Fin cfg0.N) (r : Fin 1024) (j : Fin 768) : (iblk m d 1 t : Vec Ideal S1x1x1024x768 .bf16) (ix4 0 0 r j)
    = aW m d (ix2 (md 2048 (1024 * (t.val / 16 % 2) + r.val)) (md 12288 (768 * (t.val % 16) + j.val))) := by
  have hi := index1 t
  have ht := N128 t
  unfold iblk
  rw [View.read_apply]
  show V m d main_v3 _ = _
  rw [V3, show md 12288 (768 * (t.val % 16) + j.val) = md 12288 (1536 * (t.val % 16 / 2) + (768 * (t.val % 2) + j.val)) from
    Fin.ext (congrArg (· % 12288) (by omega))]
  refine Eq.trans ?_ ((hostW_apply (aW m d) ⟨t.val % 16 / 2, by omega⟩ (md 2048 (1024 * (t.val / 16 % 2) + r.val)) ⟨768 * (t.val % 2) + j.val, by omega⟩))
  refine congrArg (hostW (aW m d)) (funext fun x => ?_)
  match x with
  | ⟨0, _⟩ => exact Fin.ext (show win0_1.index t 0 * 1 + 1 * 0 = 0 by rw [hi.1])
  | ⟨1, _⟩ => exact Fin.ext (show win0_1.index t 1 * 1 + 1 * 0 = t.val % 16 / 2 by rw [hi.2.1]; omega)
  | ⟨2, _⟩ => exact Fin.ext (show win0_1.index t 2 * 1024 + 1 * r.val = (1024 * (t.val / 16 % 2) + r.val) % 2048 by rw [hi.2.2.1]; omega)
  | ⟨3, _⟩ => exact Fin.ext (show win0_1.index t 3 * 768 + 1 * j.val = 768 * (t.val % 2) + j.val by rw [hi.2.2.2]; omega)

/-- What point `t` adds at an entry of its block. -/
def part (r k : Fin 1024) (t : ℕ) : EReal :=
  ∑ j : Fin 768, aX m d (ix2 (md 4096 (1024 * (t / 32) + r.val)) (md 12288 (768 * (t % 16) + j.val)))
    * aW m d (ix2 (md 2048 (1024 * (t / 16 % 2) + k.val)) (md 12288 (768 * (t % 16) + j.val)))

theorem step (acc : Vec Ideal S1024x1024 .f32) (t : Fin cfg0.N) (r k : Fin 1024) :
    k0_pay2 (F := Ideal) acc (iblk m d 0 t) (iblk m d 1 t) (ix2 r k) = acc (ix2 r k) + part m d r k t.val := by
  rw [pay2_apply]
  exact congrArg (_ + ·) (Finset.sum_congr rfl fun j _ => congrArg₂ (fun x y : EReal => x * y) (iblk0 m d t r j) (iblk1 m d t k j))

theorem acc_A (t : Fin cfg0.N) (h0 : t.val % 16 = 0) :
    (outsAt0 m d t.val t.isLt).2 = k0_pay2 (k0_pay1 (F := Ideal)) (iblk m d 0 t) (iblk m d 1 t) := by
  rw [outsAt0_A m d t h0 (by omega)]
  dsimp only
  rw [sout_A]

theorem acc_BC (t : Fin cfg0.N) (h0 : ¬t.val % 16 = 0) : (outsAt0 m d t.val t.isLt).2
    = k0_pay2 (outsAt0 m d (t.val - 1) (Nat.lt_of_le_of_lt (Nat.sub_le _ _) t.isLt)).2 (iblk m d 0 t) (iblk m d 1 t) := by
  by_cases h1 : t.val % 16 = 15
  · rw [outsAt0_C m d t h0 h1]
    dsimp only
    rw [sout_C]
  · rw [outsAt0_B m d t h0 h1]
    dsimp only
    rw [sout_B]

theorem out_eq (t : Fin cfg0.N) (h1 : t.val % 16 = 15) : (outsAt0 m d t.val t.isLt).1 = (outsAt0 m d t.val t.isLt).2 := by
  rw [acc_BC m d t (by omega), outsAt0_C m d t (by omega) h1]
  dsimp only
  rw [out_C]

theorem acc_eq (r k : Fin 1024) (q : ℕ) (h : 16 * q + 15 < cfg0.N) :
    (outsAt0 m d (16 * q + 15) h).2 (ix2 r k) = ∑ i ∈ Finset.range 16, part m d r k (16 * q + i) :=
  acc_sum (N := cfg0.N) (n := 16) (fun t h => (outsAt0 m d t h).2 (ix2 r k)) (part m d r k)
    (fun t h h0 => (congrFun (acc_A m d ⟨t, h⟩ h0) (ix2 r k)).trans ((step ..).trans (congrArg (· + _) (pay1_apply r k))))
    (fun t h h0 => (congrFun (acc_BC m d ⟨t, h⟩ h0) (ix2 r k)).trans (step ..)) q 15 (by omega) h

/-- The result. -/
def res (x : S4096x12288.Idx → EReal) (w : S2048x12288.Idx → EReal) : S4096x2048.Idx → EReal :=
  fun i => ∑ k : Fin 12288, x (ix2 (i 0) k) * w (ix2 (i 1) k)

theorem out_last (t : Fin cfg0.N) (h1 : t.val % 16 = 15) (r k : Fin 1024) : (outsAt0 m d t.val t.isLt).1 (ix2 r k)
    = res (aX m d) (aW m d) (ix2 (md 4096 (1024 * (t.val / 32) + r.val)) (md 2048 (1024 * (t.val / 16 % 2) + k.val))) := by
  rw [out_eq m d t h1]
  obtain ⟨t, ht⟩ := t
  obtain ⟨q, rfl⟩ : ∃ q, t = 16 * q + 15 := ⟨t / 16, by have : t % 16 = 15 := h1; omega⟩
  refine (acc_eq m d r k q ht).trans (Eq.trans ?_ (sum_blocks (n := 16) (b := 768) rfl _))
  refine Finset.sum_congr rfl fun i hi => ?_
  have := Finset.mem_range.mp hi
  unfold part
  rw [show (16 * q + i) / 32 = (16 * q + 15) / 32 by omega, show (16 * q + i) / 16 % 2 = (16 * q + 15) / 16 % 2 by omega, show (16 * q + i) % 16 = i by omega]
  rfl

theorem flushedEq (t : Fin cfg0.N) (hf : (cfg0.win 2).flush t = true) :
    (dats m 0 d).flushed 2 t = ((cfg0.win 2).blk t).view.read (Elt Ideal) (res (aX m d) (aW m d)) := by
  rw [Value.flushed2]
  have hi := index2 t
  have ht := N128 t
  funext y
  obtain ⟨r, k, rfl⟩ : ∃ (r k : Fin 1024), y = ix2 r k := ⟨y 0, y 1, funext fun a => by match a with | ⟨0, _⟩ => rfl | ⟨1, _⟩ => rfl⟩
  rw [View.read_apply]
  refine (out_last m d t ((flush0_2 t).mp hf) r k).trans (congrArg (res (aX m d) (aW m d)) (funext fun x => ?_))
  match x with
  | ⟨0, _⟩ => exact Fin.ext (show (1024 * (t.val / 32) + r.val) % 4096 = win0_2.index t 0 * 1024 + 1 * r.val by rw [hi.1]; omega)
  | ⟨1, _⟩ => exact Fin.ext (show (1024 * (t.val / 16 % 2) + k.val) % 2048 = win0_2.index t 1 * 1024 + 1 * k.val by rw [hi.2]; omega)

theorem final : (dats m 0 d).arrAt 2 cfg0.N = res (aX m d) (aW m d) :=
  (dats m 0 d).arrAt_eq_of_cover 2 (res (aX m d) (aW m d)) (flushedEq m d) fun i => by
    have h0 : (i 0 : Nat) < 4096 := (i 0).isLt
    have h1 : (i 1 : Nat) < 2048 := (i 1).isLt
    have hN : grid0.N = 128 := N_0
    obtain ⟨t, ht⟩ : ∃ t : Fin cfg0.N, t.val = 32 * ((i 0 : Nat) / 1024) + 16 * ((i 1 : Nat) / 1024) + 15 := ⟨⟨_, by show _ < grid0.N; omega⟩, rfl⟩
    have hi := index2 t
    refine ⟨t, (flush0_2 t).mpr (by omega), ?_⟩
    show i ∈ ((View.whole main_v4).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega

theorem run_values : θ_run defs (onTc (τ := τ) (main (F := Ideal))) ⟨m, fun _ => 0, ρ⟩ fun r => ∀ c : Dev nD,
      r.2.mem ((c : Thread nD τ).loc main_v4) = res (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem ref_eq (x : S4096x12288.Idx → EReal) (w : S2048x12288.Idx → EReal) : Cert.Reference7Ideal.Read.val_main_v3 (F := Ideal) x w = res x w := by
  funext i
  rw [Cert.Reference7Ideal.Read.val_main_v3_apply]
  refine Finset.sum_congr rfl fun k _ => ?_
  rw [Cert.Reference7Ideal.Read.val_main_v2_apply]
  exact congrArg₂ (fun a b : EReal => a * b)
    (congrArg x (funext fun a => match a with | ⟨0, _⟩ => rfl | ⟨1, _⟩ => rfl))
    (congrArg w (funext fun a => match a with | ⟨0, _⟩ => rfl | ⟨1, _⟩ => rfl))

/-- The kernel's result is the reference's. -/
theorem algebraic : Cert.algebraic_Kernel7Ideal_Reference7Ideal := by
  intro m ρ m' ρ' _ heq
  refine ⟨fun c => res (aX m c) (aW m c), run_values m ρ, (θ_run Cert.Reference7Ideal.defs _ _).mono (fun r h c => ?_) (Cert.Reference7Ideal.Value.run (F := Ideal) m' ρ')⟩
  obtain ⟨h0, hargs⟩ := h c
  obtain ⟨a0, a1⟩ := heq c
  refine ⟨h0.trans ?_, hargs⟩
  rw [a0, a1, Cert.Reference7Ideal.Read.val_main_v3_eq]
  exact ref_eq _ _

end Cert.Prod.Dh

end
-- ==== Proof.Prod.Mlpout.lean ====
module

public import proofs.«01_k».proof.Proof.Prod.Base
public import proofs.«01_k».proof.Defs
public import proofs.«01_k».proof.Proof.Gen.Kernel8Ideal.Value
public import proofs.«01_k».proof.Proof.Gen.Reference8Ideal.Read
public import Idealize.ShloMosaic.Lib.ValueIdx

/-!
# The feed-forward's second product

`xmid + r² · w_mlp_out` with `r` the positive part of `a`, accumulated over four blocks of 2048 columns.
-/

@[expose] public section

set_option maxRecDepth 16384

noncomputable section

namespace Cert.Prod.Mlpout

open Cert.Kernel8Ideal Cert.Kernel8Ideal.Gen Idealize.ShloMosaic Idealize.ShloMosaic.TcCoe Idealize.SL.Sem

section
variable (c : Dev nD) (i : grid0.Coords) (arg3 : Memref sig .tc .vmem S1024x2048 .bf16) (harg3 : arg3.IsWhole) (arg4 : Memref sig .tc .vmem S1x2048x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole)
  (x0 : Vec Ideal S1024x2048 .bf16) (x1 : Vec Ideal S1x2048x512 .bf16) (x2 acc : Vec Ideal S1024x512 .f32)

theorem sout_A (h0 h1) : sout0_A_0 c i arg3 harg3 arg4 harg4 arg5 harg5 arg6 harg6 arg7 harg7 h0 h1 x0 x1 x2 = k0_pay2 (F := Ideal) (k0_pay1 (F := Ideal)) x0 x1 := by
  refine (View.read_writes_full VS0_0 VS0_0.junk _ _ _).trans ?_
  refine congr (congr (congrArg k0_pay2 (View.readCov_full _ _ _ _ _)) (load_full harg3 (by decide) _ x0)) (load_full harg4 (by decide) _ x1)

theorem sout_B (h0 h1) : sout0_B_0 c i arg3 harg3 arg4 harg4 arg5 harg5 arg6 harg6 arg7 harg7 h0 h1 x0 x1 x2 acc = k0_pay2 (F := Ideal) acc x0 x1 := by
  refine (View.read_writes_full VS0_0 VS0_0.junk _ _ _).trans ?_
  refine congr (congr (congrArg k0_pay2 (load_full harg7 (by decide) _ acc)) (load_full harg3 (by decide) _ x0)) (load_full harg4 (by decide) _ x1)

theorem sout_C (h0 h1) : sout0_C_0 c i arg3 harg3 arg4 harg4 arg5 harg5 arg6 harg6 arg7 harg7 h0 h1 x0 x1 x2 acc = k0_pay2 (F := Ideal) acc x0 x1 := by
  refine (View.read_writes_full VS0_0 VS0_0.junk _ _ _).trans ?_
  refine congr (congr (congrArg k0_pay2 (load_full harg7 (by decide) _ acc)) (load_full harg3 (by decide) _ x0)) (load_full harg4 (by decide) _ x1)

theorem out_C (h0 h1) : out0_C_3 c i arg3 harg3 arg4 harg4 arg5 harg5 arg6 harg6 arg7 harg7 h0 h1 x0 x1 x2 acc = k0_pay3 (F := Ideal) (k0_pay2 (F := Ideal) acc x0 x1) x2 := by
  refine (View.read_writes_full VO0_3 VO0_3.junk _ _ _).trans ?_
  refine congr (congrArg k0_pay3 ((View.readCov_full _ _ _ _ _).trans ?_)) (load_full harg5 (by decide) _ x2)
  refine congr (congr (congrArg k0_pay2 (load_full harg7 (by decide) _ acc)) (load_full harg3 (by decide) _ x0)) (load_full harg4 (by decide) _ x1)

theorem pay1_apply (r : Fin 1024) (k : Fin 512) : k0_pay1 (F := Ideal) (ix2 r k) = 0 := by
  pointwise [k0_pay1]

theorem pay2_apply (r : Fin 1024) (k : Fin 512) :
    k0_pay2 acc x0 x1 (ix2 r k) = acc (ix2 r k) + ∑ j : Fin 2048, x0 (ix2 r j) * x0 (ix2 r j) * x1 (ix3 0 j k) := by
  pointwise [k0_pay2]

end

variable (m : (ℓ : Loc nD τ sig) → Buf (Elt Ideal) ℓ) (ρ : Dev nD → PrngReg) (d : Dev nD)

/-- The hidden layer, the weight, and what the product is added to. -/
abbrev aA : S4096x8192.Idx → EReal := m ((d : Thread nD τ).loc main_arg0)
abbrev aW : S8192x2048.Idx → EReal := m ((d : Thread nD τ).loc main_arg1)
abbrev aR : S4096x2048.Idx → EReal := m ((d : Thread nD τ).loc main_arg2)

theorem index0 : ∀ t : Fin grid0.N, win0_0.index t 0 = t.val / 16 ∧ win0_0.index t 1 = t.val % 4 := by decide +kernel
theorem index1 : ∀ t : Fin grid0.N, win0_1.index t 0 = 0 ∧ win0_1.index t 1 = t.val % 4 ∧ win0_1.index t 2 = t.val / 4 % 4 := by decide +kernel
theorem index2 : ∀ t : Fin grid0.N, win0_2.index t 0 = t.val / 16 ∧ win0_2.index t 1 = t.val / 4 % 4 := by decide +kernel
theorem index3 : ∀ t : Fin grid0.N, win0_3.index t 0 = t.val / 16 ∧ win0_3.index t 1 = t.val / 4 % 4 := by decide +kernel

theorem N64 (t : Fin cfg0.N) : t.val < 64 := lt_of_lt_of_eq t.isLt (show cfg0.N = 64 from N_0)

theorem V1 : V m d main_v1 = relu (aA m d) := by
  rw [← relu_host bcast_S_S4096x8192]
  entry_read
  rfl

theorem V3 : V m d main_v3 = broadcastInDim S1x8192x2048 ![1, 2] bcast_S8192x2048_S1x8192x2048_1_2 (aW m d) := by entry_read; rfl

theorem iblk0 (t : Fin cfg0.N) (r : Fin 1024) (j : Fin 2048) : (iblk m d 0 t : Vec Ideal S1024x2048 .bf16) (ix2 r j)
    = relu (aA m d) (ix2 (md 4096 (1024 * (t.val / 16) + r.val)) (md 8192 (2048 * (t.val % 4) + j.val))) := by
  have hi := index0 t
  have ht := N64 t
  unfold iblk
  rw [View.read_apply]
  show V m d main_v1 _ = _
  rw [V1]
  refine congrArg (relu (aA m d)) (funext fun x => ?_)
  match x with
  | ⟨0, _⟩ => exact Fin.ext (show win0_0.index t 0 * 1024 + 1 * r.val = (1024 * (t.val / 16) + r.val) % 4096 by rw [hi.1]; omega)
  | ⟨1, _⟩ => exact Fin.ext (show win0_0.index t 1 * 2048 + 1 * j.val = (2048 * (t.val % 4) + j.val) % 8192 by rw [hi.2]; omega)

theorem hostW_apply (w : S8192x2048.Idx → EReal) (j : Fin 8192) (k : Fin 2048) :
    broadcastInDim S1x8192x2048 ![1, 2] bcast_S8192x2048_S1x8192x2048_1_2 w (ix3 0 j k) = w (ix2 j k) := by
  pointwise

theorem iblk1 (t : Fin cfg0.N) (j : Fin 2048) (k : Fin 512) : (iblk m d 1 t : Vec Ideal S1x2048x512 .bf16) (ix3 0 j k)
    = aW m d (ix2 (md 8192 (2048 * (t.val % 4) + j.val)) (md 2048 (512 * (t.val / 4 % 4) + k.val))) := by
  have hi := index1 t
  have ht := N64 t
  unfold iblk
  rw [View.read_apply]
  show V m d main_v3 _ = _
  rw [V3]
  refine Eq.trans ?_ (hostW_apply (aW m d) _ _)
  refine congrArg (broadcastInDim S1x8192x2048 ![1, 2] bcast_S8192x2048_S1x8192x2048_1_2 (aW m d)) (funext fun x => ?_)
  match x with
  | ⟨0, _⟩ => exact Fin.ext (show win0_1.index t 0 * 1 + 1 * 0 = 0 by rw [hi.1])
  | ⟨1, _⟩ => exact Fin.ext (show win0_1.index t 1 * 2048 + 1 * j.val = (2048 * (t.val % 4) + j.val) % 8192 by rw [hi.2.1]; omega)
  | ⟨2, _⟩ => exact Fin.ext (show win0_1.index t 2 * 512 + 1 * k.val = (512 * (t.val / 4 % 4) + k.val) % 2048 by rw [hi.2.2]; omega)

theorem iblk2 (t : Fin cfg0.N) (r : Fin 1024) (k : Fin 512) : (iblk m d 2 t : Vec Ideal S1024x512 .f32) (ix2 r k)
    = aR m d (ix2 (md 4096 (1024 * (t.val / 16) + r.val)) (md 2048 (512 * (t.val / 4 % 4) + k.val))) := by
  have hi := index2 t
  have ht := N64 t
  unfold iblk
  rw [View.read_apply]
  show V m d main_arg2 _ = _
  rw [V_main_arg2]
  refine congrArg (aR m d) (funext fun x => ?_)
  match x with
  | ⟨0, _⟩ => exact Fin.ext (show win0_2.index t 0 * 1024 + 1 * r.val = (1024 * (t.val / 16) + r.val) % 4096 by rw [hi.1]; omega)
  | ⟨1, _⟩ => exact Fin.ext (show win0_2.index t 1 * 512 + 1 * k.val = (512 * (t.val / 4 % 4) + k.val) % 2048 by rw [hi.2]; omega)

/-- What point `t` adds at an entry of its block. -/
def part (r : Fin 1024) (k : Fin 512) (t : ℕ) : EReal :=
  ∑ j : Fin 2048, relu (aA m d) (ix2 (md 4096 (1024 * (t / 16) + r.val)) (md 8192 (2048 * (t % 4) + j.val)))
    * relu (aA m d) (ix2 (md 4096 (1024 * (t / 16) + r.val)) (md 8192 (2048 * (t % 4) + j.val)))
    * aW m d (ix2 (md 8192 (2048 * (t % 4) + j.val)) (md 2048 (512 * (t / 4 % 4) + k.val)))

theorem step (acc : Vec Ideal S1024x512 .f32) (t : Fin cfg0.N) (r : Fin 1024) (k : Fin 512) :
    k0_pay2 (F := Ideal) acc (iblk m d 0 t) (iblk m d 1 t) (ix2 r k) = acc (ix2 r k) + part m d r k t.val := by
  rw [pay2_apply]
  exact congrArg (_ + ·) (Finset.sum_congr rfl fun j _ => congrArg₂ (fun x y : EReal => x * x * y) (iblk0 m d t r j) (iblk1 m d t j k))

theorem acc_A (t : Fin cfg0.N) (h0 : t.val % 4 = 0) :
    (outsAt0 m d t.val t.isLt).2 = k0_pay2 (k0_pay1 (F := Ideal)) (iblk m d 0 t) (iblk m d 1 t) := by
  rw [outsAt0_A m d t h0 (by omega)]
  dsimp only
  rw [sout_A]

theorem acc_BC (t : Fin cfg0.N) (h0 : ¬t.val % 4 = 0) : (outsAt0 m d t.val t.isLt).2
    = k0_pay2 (outsAt0 m d (t.val - 1) (Nat.lt_of_le_of_lt (Nat.sub_le _ _) t.isLt)).2 (iblk m d 0 t) (iblk m d 1 t) := by
  by_cases h1 : t.val % 4 = 3
  · rw [outsAt0_C m d t h0 h1]
    dsimp only
    rw [sout_C]
  · rw [outsAt0_B m d t h0 h1]
    dsimp only
    rw [sout_B]

theorem out_eq (t : Fin cfg0.N) (h1 : t.val % 4 = 3) : (outsAt0 m d t.val t.isLt).1 = k0_pay3 (outsAt0 m d t.val t.isLt).2 (iblk m d 2 t) := by
  rw [acc_BC m d t (by omega), outsAt0_C m d t (by omega) h1]
  dsimp only
  rw [out_C]

theorem acc_eq (r : Fin 1024) (k : Fin 512) (q : ℕ) (h : 4 * q + 3 < cfg0.N) :
    (outsAt0 m d (4 * q + 3) h).2 (ix2 r k) = ∑ i ∈ Finset.range 4, part m d r k (4 * q + i) :=
  acc_sum (N := cfg0.N) (n := 4) (fun t h => (outsAt0 m d t h).2 (ix2 r k)) (part m d r k)
    (fun t h h0 => (congrFun (acc_A m d ⟨t, h⟩ h0) (ix2 r k)).trans ((step ..).trans (congrArg (· + _) (pay1_apply r k))))
    (fun t h h0 => (congrFun (acc_BC m d ⟨t, h⟩ h0) (ix2 r k)).trans (step ..)) q 3 (by omega) h

/-- The result. -/
def res (a : S4096x8192.Idx → EReal) (w : S8192x2048.Idx → EReal) (x : S4096x2048.Idx → EReal) : S4096x2048.Idx → EReal :=
  fun i => (∑ k : Fin 8192, relu a (ix2 (i 0) k) * relu a (ix2 (i 0) k) * w (ix2 k (i 1))) + x i

theorem out_last (t : Fin cfg0.N) (h1 : t.val % 4 = 3) (r : Fin 1024) (k : Fin 512) : (outsAt0 m d t.val t.isLt).1 (ix2 r k)
    = res (aA m d) (aW m d) (aR m d) (ix2 (md 4096 (1024 * (t.val / 16) + r.val)) (md 2048 (512 * (t.val / 4 % 4) + k.val))) := by
  rw [out_eq m d t h1]
  refine congrArg₂ (fun x y : EReal => x + y) ?_ (iblk2 m d t r k)
  obtain ⟨t, ht⟩ := t
  obtain ⟨q, rfl⟩ : ∃ q, t = 4 * q + 3 := ⟨t / 4, by have : t % 4 = 3 := h1; omega⟩
  refine (acc_eq m d r k q ht).trans (Eq.trans ?_ (sum_blocks (n := 4) (b := 2048) rfl _))
  refine Finset.sum_congr rfl fun i hi => ?_
  have := Finset.mem_range.mp hi
  unfold part
  rw [show (4 * q + i) / 16 = (4 * q + 3) / 16 by omega, show (4 * q + i) / 4 % 4 = (4 * q + 3) / 4 % 4 by omega, show (4 * q + i) % 4 = i by omega]
  rfl

theorem flushedEq (t : Fin cfg0.N) (hf : (cfg0.win 3).flush t = true) :
    (dats m 0 d).flushed 3 t = ((cfg0.win 3).blk t).view.read (Elt Ideal) (res (aA m d) (aW m d) (aR m d)) := by
  rw [Value.flushed3]
  have hi := index3 t
  have ht := N64 t
  funext y
  obtain ⟨r, k, rfl⟩ : ∃ (r : Fin 1024) (k : Fin 512), y = ix2 r k := ⟨y 0, y 1, funext fun a => by match a with | ⟨0, _⟩ => rfl | ⟨1, _⟩ => rfl⟩
  rw [View.read_apply]
  refine (out_last m d t ((flush0_3 t).mp hf) r k).trans (congrArg (res (aA m d) (aW m d) (aR m d)) (funext fun x => ?_))
  match x with
  | ⟨0, _⟩ => exact Fin.ext (show (1024 * (t.val / 16) + r.val) % 4096 = win0_3.index t 0 * 1024 + 1 * r.val by rw [hi.1]; omega)
  | ⟨1, _⟩ => exact Fin.ext (show (512 * (t.val / 4 % 4) + k.val) % 2048 = win0_3.index t 1 * 512 + 1 * k.val by rw [hi.2]; omega)

theorem final : (dats m 0 d).arrAt 3 cfg0.N = res (aA m d) (aW m d) (aR m d) :=
  (dats m 0 d).arrAt_eq_of_cover 3 (res (aA m d) (aW m d) (aR m d)) (flushedEq m d) fun i => by
    have h0 : (i 0 : Nat) < 4096 := (i 0).isLt
    have h1 : (i 1 : Nat) < 2048 := (i 1).isLt
    have hN : grid0.N = 64 := N_0
    obtain ⟨t, ht⟩ : ∃ t : Fin cfg0.N, t.val = 16 * ((i 0 : Nat) / 1024) + 4 * ((i 1 : Nat) / 512) + 3 := ⟨⟨_, by show _ < grid0.N; omega⟩, rfl⟩
    have hi := index3 t
    refine ⟨t, (flush0_3 t).mpr (by omega), ?_⟩
    show i ∈ ((View.whole main_v4).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [hi.1]; omega
    | ⟨1, _⟩ =>
      show win0_3.index t 1 * 512 ≤ (i 1 : Nat) ∧ (i 1 : Nat) < win0_3.index t 1 * 512 + 512
      rw [hi.2]; omega

theorem run_values : θ_run defs (onTc (τ := τ) (main (F := Ideal))) ⟨m, fun _ => 0, ρ⟩ fun r => ∀ c : Dev nD,
      r.2.mem ((c : Thread nD τ).loc main_v4) = res (aA m c) (aW m c) (aR m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

open Cert.Reference8Ideal.Read in
theorem ref_relu (a : S4096x8192.Idx → EReal) (i : S4096x8192.Idx) : val_main_v0 (F := Ideal) a i = relu a i := by
  rw [val_main_v0_apply, val_main_call0_v0_apply, val_main_call0_cst_apply]
  exact congrArg (max (a i)) Ideal.ofBits_zero_f32

open Cert.Reference8Ideal.Read in
theorem ref_eq (a : S4096x8192.Idx → EReal) (w : S8192x2048.Idx → EReal) (x : S4096x2048.Idx → EReal) :
    val_main_v3 (F := Ideal) a w x = res a w x := by
  funext i
  rw [val_main_v3_apply, val_main_v2_apply]
  refine (add_comm _ _).trans (congrArg (· + x i) (Finset.sum_congr rfl fun k _ => ?_))
  rw [val_main_v1_apply, ref_relu]
  refine congrArg₂ (fun a b : EReal => a * a * b) (congrArg (relu a) ?_) (congrArg w ?_)
  · exact funext fun a => match a with | ⟨0, _⟩ => rfl | ⟨1, _⟩ => rfl
  · exact funext fun a => match a with | ⟨0, _⟩ => rfl | ⟨1, _⟩ => rfl

/-- The kernel's result is the reference's. -/
theorem algebraic : Cert.algebraic_Kernel8Ideal_Reference8Ideal := by
  intro m ρ m' ρ' _ heq
  refine ⟨fun c => res (aA m c) (aW m c) (aR m c), run_values m ρ, (θ_run Cert.Reference8Ideal.defs _ _).mono (fun r h c => ?_) (Cert.Reference8Ideal.Value.run (F := Ideal) m' ρ')⟩
  obtain ⟨h0, hargs⟩ := h c
  obtain ⟨a0, a1, a2⟩ := heq c
  refine ⟨h0.trans ?_, hargs⟩
  rw [a0, a1, a2, Cert.Reference8Ideal.Read.val_main_v3_eq]
  exact ref_eq _ _ _

end Cert.Prod.Mlpout

end
-- ==== Proof.Prod.Proj.lean ====
module

public import proofs.«01_k».proof.Proof.Prod.Base
public import proofs.«01_k».proof.Defs
public import proofs.«01_k».proof.Proof.Gen.Kernel9Ideal.Value
public import proofs.«01_k».proof.Proof.Gen.Reference9Ideal.Read
public import Idealize.ShloMosaic.Lib.ValueIdx

/-!
# The projections into the branches

`h · w_in`, one block of 768 columns at a time.
-/

@[expose] public section

set_option maxRecDepth 16384

noncomputable section

namespace Cert.Prod.Proj

open Cert.Kernel9Ideal Cert.Kernel9Ideal.Gen Idealize.ShloMosaic Idealize.ShloMosaic.TcCoe Idealize.SL.Sem

theorem out_eq (x0 : Vec Ideal S1024x2048 .bf16) (x1 : Vec Ideal S1x1x2048x768 .bf16) :
    out0_2 (F := Ideal) x0 x1 = k0_pay1 (F := Ideal) x0 x1 := by
  unfold out0_2
  rw [View.canon_unit_zero (by decide), View.ld_unit_zero (S := S1024x2048) (by decide), View.ld_unit_zero (S := S1x1x2048x768) (by decide)]

theorem pay1_apply (x0 : Vec Ideal S1024x2048 .bf16) (x1 : Vec Ideal S1x1x2048x768 .bf16) (r : Fin 1024) (k : Fin 768) :
    k0_pay1 (F := Ideal) x0 x1 (ix2 r k) = ∑ j : Fin 2048, x0 (ix2 r j) * x1 (ix4 0 0 j k) := by
  pointwise [k0_pay1]

variable (m : (ℓ : Loc nD τ sig) → Buf (Elt Ideal) ℓ) (ρ : Dev nD → PrngReg) (d : Dev nD)

/-- The arguments. -/
abbrev aA0 : S4096x2048.Idx → EReal := m ((d : Thread nD τ).loc main_arg0)
abbrev aA1 : S2048x12288.Idx → EReal := m ((d : Thread nD τ).loc main_arg1)

theorem index0 : ∀ t : Fin grid0.N, win0_0.index t 0 = t.val / 16 ∧ win0_0.index t 1 = 0 := by decide +kernel
theorem index1 : ∀ t : Fin grid0.N, win0_1.index t 0 = 0 ∧ win0_1.index t 1 = t.val % 16 / 2 ∧ win0_1.index t 2 = 0 ∧ win0_1.index t 3 = t.val % 2 := by decide +kernel
theorem index2 : ∀ t : Fin grid0.N, win0_2.index t 0 = t.val / 16 ∧ win0_2.index t 1 = t.val % 16 := by decide +kernel

theorem N64 (t : Fin cfg0.N) : t.val < 64 := lt_of_lt_of_eq t.isLt (show cfg0.N = 64 from N_0)

theorem iblk0 (t : Fin cfg0.N) (r : Fin 1024) (j : Fin 2048) : (iblk m d 0 t : Vec Ideal S1024x2048 .bf16) (ix2 r j)
    = aA0 m d (ix2 (md 4096 (1024 * (t.val / 16) + r.val)) j) := by
  have hi := index0 t
  have ht := N64 t
  unfold iblk
  rw [View.read_apply]
  show V m d main_arg0 _ = _
  rw [V_main_arg0]
  refine congrArg (aA0 m d) (funext fun x => ?_)
  match x with
  | ⟨0, _⟩ => exact Fin.ext (show win0_0.index t 0 * 1024 + 1 * r.val = (1024 * (t.val / 16) + r.val) % 4096 by rw [hi.1]; omega)
  | ⟨1, _⟩ => exact Fin.ext (show win0_0.index t 1 * 2048 + 1 * j.val = j.val by rw [hi.2]; omega)

/-- The weight as the host lays it out. -/
def hostW (w : S2048x12288.Idx → EReal) : S1x8x2048x1536.Idx → EReal :=
  broadcastInDim S1x8x2048x1536 ![1, 2, 3] bcast_S8x2048x1536_S1x8x2048x1536_1_2_3
    (transpose S8x2048x1536 [1, 0, 2] (shapeCast S2048x8x1536 w shapeCasts_S2048x12288_S2048x8x1536) transposes_S2048x8x1536_S8x2048x1536_1_0_2)

theorem V3 : V m d main_v3 = hostW (aA1 m d) := by entry_read; rfl

theorem hostW_apply (w : S2048x12288.Idx → EReal) (g : Fin 8) (r : Fin 2048) (j : Fin 1536) :
    hostW w (ix4 0 g r j) = w (ix2 r (md 12288 (1536 * g.val + j.val))) := by
  pointwise [hostW]
  exact congrArg w (funext fun x => match x with
    | ⟨0, _⟩ => rfl
    | ⟨1, _⟩ => Fin.ext (show g.val * 1536 + j.val = (1536 * g.val + j.val) % 12288 by omega))

theorem iblk1 (t : Fin cfg0.N) (k : Fin 768) (j : Fin 2048) : (iblk m d 1 t : Vec Ideal S1x1x2048x768 .bf16) (ix4 0 0 j k)
    = aA1 m d (ix2 j (md 12288 (768 * (t.val % 16) + k.val))) := by
  have hi := index1 t
  have ht := N64 t
  unfold iblk
  rw [View.read_apply]
  show V m d main_v3 _ = _
  rw [V3, show md 12288 (768 * (t.val % 16) + k.val) = md 12288 (1536 * (t.val % 16 / 2) + (768 * (t.val % 2) + k.val)) from
    Fin.ext (congrArg (· % 12288) (by omega))]
  refine Eq.trans ?_ (hostW_apply (aA1 m d) ⟨t.val % 16 / 2, by omega⟩ j ⟨768 * (t.val % 2) + k.val, by omega⟩)
  refine congrArg (hostW (aA1 m d)) (funext fun x => ?_)
  match x with
  | ⟨0, _⟩ => exact Fin.ext (show win0_1.index t 0 * 1 + 1 * 0 = 0 by rw [hi.1])
  | ⟨1, _⟩ => exact Fin.ext (show win0_1.index t 1 * 1 + 1 * 0 = t.val % 16 / 2 by rw [hi.2.1]; omega)
  | ⟨2, _⟩ => exact Fin.ext (show win0_1.index t 2 * 2048 + 1 * j.val = j.val by rw [hi.2.2.1]; omega)
  | ⟨3, _⟩ => exact Fin.ext (show win0_1.index t 3 * 768 + 1 * k.val = 768 * (t.val % 2) + k.val by rw [hi.2.2.2]; omega)

/-- The result. -/
def res (x : S4096x2048.Idx → EReal) (w : S2048x12288.Idx → EReal) : S4096x12288.Idx → EReal :=
  fun i => ∑ j : Fin 2048, x (ix2 (i 0) j) * w (ix2 j (i 1))

theorem flushedEq (t : Fin cfg0.N) (_ : (cfg0.win 2).flush t = true) :
    (dats m 0 d).flushed 2 t = ((cfg0.win 2).blk t).view.read (Elt Ideal) (res (aA0 m d) (aA1 m d)) := by
  rw [Value.flushed2, out_eq]
  have hi := index2 t
  have ht := N64 t
  funext y
  obtain ⟨r, k, rfl⟩ : ∃ (r : Fin 1024) (k : Fin 768), y = ix2 r k := ⟨y 0, y 1, funext fun a => by match a with | ⟨0, _⟩ => rfl | ⟨1, _⟩ => rfl⟩
  rw [View.read_apply]
  refine (pay1_apply _ _ r k).trans (Eq.trans (b := res (aA0 m d) (aA1 m d) (ix2 (md 4096 (1024 * (t.val / 16) + r.val)) (md 12288 (768 * (t.val % 16) + k.val)))) ?_ (congrArg (res (aA0 m d) (aA1 m d)) (funext fun x => ?_)))
  · exact Finset.sum_congr rfl fun j _ => congrArg₂ (fun x y : EReal => x * y) (iblk0 m d t r j) (iblk1 m d t k j)
  · match x with
    | ⟨0, _⟩ => exact Fin.ext (show (1024 * (t.val / 16) + r.val) % 4096 = win0_2.index t 0 * 1024 + 1 * r.val by rw [hi.1]; omega)
    | ⟨1, _⟩ => exact Fin.ext (show (768 * (t.val % 16) + k.val) % 12288 = win0_2.index t 1 * 768 + 1 * k.val by rw [hi.2]; omega)

theorem final : (dats m 0 d).arrAt 2 cfg0.N = res (aA0 m d) (aA1 m d) :=
  (dats m 0 d).arrAt_eq_of_cover 2 (res (aA0 m d) (aA1 m d)) (flushedEq m d) fun i => by
    have h0 : (i 0 : Nat) < 4096 := (i 0).isLt
    have h1 : (i 1 : Nat) < 12288 := (i 1).isLt
    have hN : grid0.N = 64 := N_0
    obtain ⟨t, ht⟩ : ∃ t : Fin cfg0.N, t.val = 16 * ((i 0 : Nat) / 1024) + (i 1 : Nat) / 768 := ⟨⟨_, by show _ < grid0.N; omega⟩, rfl⟩
    have hi := index2 t
    refine ⟨t, flush0_2 t, ?_⟩
    show i ∈ ((View.whole main_v4).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 768 ≤ (i 1 : Nat) ∧ (i 1 : Nat) < win0_2.index t 1 * 768 + 768
      rw [hi.2]; omega

theorem run_values : θ_run defs (onTc (τ := τ) (main (F := Ideal))) ⟨m, fun _ => 0, ρ⟩ fun r => ∀ c : Dev nD,
      r.2.mem ((c : Thread nD τ).loc main_v4) = res (aA0 m c) (aA1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

open Cert.Reference9Ideal.Read in
theorem ref_eq (x : S4096x2048.Idx → EReal) (w : S2048x12288.Idx → EReal) : val_main_v2 (F := Ideal) x w = res x w := by
  funext i
  rw [val_main_v2_apply]
  show val_main_v1 (F := Ideal) x w i = _
  rw [val_main_v1_apply]
  refine Finset.sum_congr rfl fun k _ => congrArg₂ (fun a b : EReal => a * b) (congrArg x ?_) (congrArg w ?_)
  · exact funext fun a => match a with | ⟨0, _⟩ => rfl | ⟨1, _⟩ => rfl
  · exact funext fun a => match a with | ⟨0, _⟩ => rfl | ⟨1, _⟩ => rfl

/-- The kernel's result is the reference's. -/
theorem algebraic : Cert.algebraic_Kernel9Ideal_Reference9Ideal := by
  intro m ρ m' ρ' _ heq
  refine ⟨fun c => res (aA0 m c) (aA1 m c), run_values m ρ, (θ_run Cert.Reference9Ideal.defs _ _).mono (fun r h c => ?_) (Cert.Reference9Ideal.Value.run (F := Ideal) m' ρ')⟩
  obtain ⟨h0, hargs⟩ := h c
  obtain ⟨a0, a1⟩ := heq c
  refine ⟨h0.trans ?_, hargs⟩
  rw [a0, a1, Cert.Reference9Ideal.Read.val_main_v2_eq]
  exact ref_eq _ _

end Cert.Prod.Proj

end
-- ==== Proof.Prod.Mlpin.lean ====
module

public import proofs.«01_k».proof.Proof.Prod.Base
public import proofs.«01_k».proof.Defs
public import proofs.«01_k».proof.Proof.Gen.Kernel10Ideal.Value
public import proofs.«01_k».proof.Proof.Gen.Reference10Ideal.Read
public import Idealize.ShloMosaic.Lib.ValueIdx

/-!
# The hidden layer

`max(h₂ · w_mlp_in, 0)`, one block of 1024 columns at a time, and its transpose.
-/

@[expose] public section

set_option maxRecDepth 16384

noncomputable section

namespace Cert.Prod.Mlpin

open Cert.Kernel10Ideal Cert.Kernel10Ideal.Gen Idealize.ShloMosaic Idealize.ShloMosaic.TcCoe Idealize.SL.Sem

section
variable (x0 : Vec Ideal S1024x2048 .bf16) (x1 : Vec Ideal S1x1x2048x1024 .bf16)

theorem out_eq2 : out0_2 (F := Ideal) x0 x1 = k0_pay2 (F := Ideal) x0 x1 := by
  unfold out0_2
  rw [View.canon_unit_zero (by decide), View.ld_unit_zero (S := S1024x2048) (by decide), View.ld_unit_zero (S := S1x1x2048x1024) (by decide)]

theorem out_eq3 : out0_3 (F := Ideal) x0 x1 = k0_pay3 (F := Ideal) x0 x1 := by
  unfold out0_3
  rw [View.canon_unit_zero (by decide), View.ld_unit_zero (S := S1024x2048) (by decide), View.ld_unit_zero (S := S1x1x2048x1024) (by decide)]

theorem pay2_apply (r k : Fin 1024) : k0_pay2 (F := Ideal) x0 x1 (ix2 r k) = max (∑ j : Fin 2048, x0 (ix2 r j) * x1 (ix4 0 0 j k)) 0 := by
  pointwise [k0_pay2, k0_pay1]

theorem pay3_apply (r k : Fin 1024) : k0_pay3 (F := Ideal) x0 x1 (ix2 k r) = max (∑ j : Fin 2048, x0 (ix2 r j) * x1 (ix4 0 0 j k)) 0 := by
  pointwise [k0_pay3, k0_pay1]
end

variable (m : (ℓ : Loc nD τ sig) → Buf (Elt Ideal) ℓ) (ρ : Dev nD → PrngReg) (d : Dev nD)

/-- The arguments. -/
abbrev aA0 : S4096x2048.Idx → EReal := m ((d : Thread nD τ).loc main_arg0)
abbrev aA1 : S2048x8192.Idx → EReal := m ((d : Thread nD τ).loc main_arg1)

theorem index0 : ∀ t : Fin grid0.N, win0_0.index t 0 = t.val / 8 ∧ win0_0.index t 1 = 0 := by decide +kernel
theorem index1 : ∀ t : Fin grid0.N, win0_1.index t 0 = 0 ∧ win0_1.index t 1 = t.val % 8 ∧ win0_1.index t 2 = 0 ∧ win0_1.index t 3 = 0 := by decide +kernel
theorem index2 : ∀ t : Fin grid0.N, win0_2.index t 0 = t.val / 8 ∧ win0_2.index t 1 = t.val % 8 := by decide +kernel
theorem index3 : ∀ t : Fin grid0.N, win0_3.index t 0 = t.val % 8 ∧ win0_3.index t 1 = t.val / 8 := by decide +kernel

theorem N32 (t : Fin cfg0.N) : t.val < 32 := lt_of_lt_of_eq t.isLt (show cfg0.N = 32 from N_0)

theorem iblk0 (t : Fin cfg0.N) (r : Fin 1024) (j : Fin 2048) : (iblk m d 0 t : Vec Ideal S1024x2048 .bf16) (ix2 r j)
    = aA0 m d (ix2 (md 4096 (1024 * (t.val / 8) + r.val)) j) := by
  have hi := index0 t
  have ht := N32 t
  unfold iblk
  rw [View.read_apply]
  show V m d main_arg0 _ = _
  rw [V_main_arg0]
  refine congrArg (aA0 m d) (funext fun x => ?_)
  match x with
  | ⟨0, _⟩ => exact Fin.ext (show win0_0.index t 0 * 1024 + 1 * r.val = (1024 * (t.val / 8) + r.val) % 4096 by rw [hi.1]; omega)
  | ⟨1, _⟩ => exact Fin.ext (show win0_0.index t 1 * 2048 + 1 * j.val = j.val by rw [hi.2]; omega)

/-- The weight as the host lays it out. -/
def hostW (w : S2048x8192.Idx → EReal) : S1x8x2048x1024.Idx → EReal :=
  broadcastInDim S1x8x2048x1024 ![1, 2, 3] bcast_S8x2048x1024_S1x8x2048x1024_1_2_3
    (transpose S8x2048x1024 [1, 0, 2] (shapeCast S2048x8x1024 w shapeCasts_S2048x8192_S2048x8x1024) transposes_S2048x8x1024_S8x2048x1024_1_0_2)

theorem V3 : V m d main_v3 = hostW (aA1 m d) := by entry_read; rfl

theorem hostW_apply (w : S2048x8192.Idx → EReal) (g : Fin 8) (r : Fin 2048) (j : Fin 1024) :
    hostW w (ix4 0 g r j) = w (ix2 r (md 8192 (1024 * g.val + j.val))) := by
  pointwise [hostW]
  exact congrArg w (funext fun x => match x with
    | ⟨0, _⟩ => rfl
    | ⟨1, _⟩ => Fin.ext (show g.val * 1024 + j.val = (1024 * g.val + j.val) % 8192 by omega))

theorem iblk1 (t : Fin cfg0.N) (k : Fin 1024) (j : Fin 2048) : (iblk m d 1 t : Vec Ideal S1x1x2048x1024 .bf16) (ix4 0 0 j k)
    = aA1 m d (ix2 j (md 8192 (1024 * (t.val % 8) + k.val))) := by
  have hi := index1 t
  have ht := N32 t
  unfold iblk
  rw [View.read_apply]
  show V m d main_v3 _ = _
  rw [V3]
  refine Eq.trans ?_ (hostW_apply (aA1 m d) ⟨t.val % 8, by omega⟩ j k)
  refine congrArg (hostW (aA1 m d)) (funext fun x => ?_)
  match x with
  | ⟨0, _⟩ => exact Fin.ext (show win0_1.index t 0 * 1 + 1 * 0 = 0 by rw [hi.1])
  | ⟨1, _⟩ => exact Fin.ext (show win0_1.index t 1 * 1 + 1 * 0 = t.val % 8 by rw [hi.2.1]; omega)
  | ⟨2, _⟩ => exact Fin.ext (show win0_1.index t 2 * 2048 + 1 * j.val = j.val by rw [hi.2.2.1]; omega)
  | ⟨3, _⟩ => exact Fin.ext (show win0_1.index t 3 * 1024 + 1 * k.val = k.val by rw [hi.2.2.2]; omega)

/-- The results: the hidden layer and its transpose. -/
def res (x : S4096x2048.Idx → EReal) (w : S2048x8192.Idx → EReal) : S4096x8192.Idx → EReal :=
  fun i => max (∑ j : Fin 2048, x (ix2 (i 0) j) * w (ix2 j (i 1))) 0

def resT (x : S4096x2048.Idx → EReal) (w : S2048x8192.Idx → EReal) : S8192x4096.Idx → EReal :=
  fun i => res x w (ix2 (i 1) (i 0))

theorem flushedEq2 (t : Fin cfg0.N) (_ : (cfg0.win 2).flush t = true) :
    (dats m 0 d).flushed 2 t = ((cfg0.win 2).blk t).view.read (Elt Ideal) (res (aA0 m d) (aA1 m d)) := by
  rw [Value.flushed2, out_eq2]
  have hi := index2 t
  have ht := N32 t
  funext y
  obtain ⟨r, k, rfl⟩ : ∃ (r k : Fin 1024), y = ix2 r k := ⟨y 0, y 1, funext fun a => by match a with | ⟨0, _⟩ => rfl | ⟨1, _⟩ => rfl⟩
  rw [View.read_apply]
  refine (pay2_apply _ _ r k).trans (Eq.trans (b := res (aA0 m d) (aA1 m d) (ix2 (md 4096 (1024 * (t.val / 8) + r.val)) (md 8192 (1024 * (t.val % 8) + k.val)))) ?_ (congrArg (res (aA0 m d) (aA1 m d)) (funext fun x => ?_)))
  · exact congrArg (max · (0 : EReal)) (Finset.sum_congr rfl fun j _ => congrArg₂ (fun x y : EReal => x * y) (iblk0 m d t r j) (iblk1 m d t k j))
  · match x with
    | ⟨0, _⟩ => exact Fin.ext (show (1024 * (t.val / 8) + r.val) % 4096 = win0_2.index t 0 * 1024 + 1 * r.val by rw [hi.1]; omega)
    | ⟨1, _⟩ => exact Fin.ext (show (1024 * (t.val % 8) + k.val) % 8192 = win0_2.index t 1 * 1024 + 1 * k.val by rw [hi.2]; omega)

theorem final2 : (dats m 0 d).arrAt 2 cfg0.N = res (aA0 m d) (aA1 m d) :=
  (dats m 0 d).arrAt_eq_of_cover 2 (res (aA0 m d) (aA1 m d)) (flushedEq2 m d) fun i => by
    have h0 : (i 0 : Nat) < 4096 := (i 0).isLt
    have h1 : (i 1 : Nat) < 8192 := (i 1).isLt
    have hN : grid0.N = 32 := N_0
    obtain ⟨t, ht⟩ : ∃ t : Fin cfg0.N, t.val = 8 * ((i 0 : Nat) / 1024) + (i 1 : Nat) / 1024 := ⟨⟨_, by show _ < grid0.N; omega⟩, rfl⟩
    have hi := index2 t
    refine ⟨t, flush0_2 t, ?_⟩
    show i ∈ ((View.whole main_v4_0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega

theorem flushedEq3 (t : Fin cfg0.N) (_ : (cfg0.win 3).flush t = true) :
    (dats m 0 d).flushed 3 t = ((cfg0.win 3).blk t).view.read (Elt Ideal) (resT (aA0 m d) (aA1 m d)) := by
  rw [Value.flushed3, out_eq3]
  have hi := index3 t
  have ht := N32 t
  funext y
  obtain ⟨k, r, rfl⟩ : ∃ (k r : Fin 1024), y = ix2 k r := ⟨y 0, y 1, funext fun a => by match a with | ⟨0, _⟩ => rfl | ⟨1, _⟩ => rfl⟩
  rw [View.read_apply]
  refine (pay3_apply _ _ r k).trans (Eq.trans (b := resT (aA0 m d) (aA1 m d) (ix2 (md 8192 (1024 * (t.val % 8) + k.val)) (md 4096 (1024 * (t.val / 8) + r.val)))) ?_ (congrArg (resT (aA0 m d) (aA1 m d)) (funext fun x => ?_)))
  · exact congrArg (max · (0 : EReal)) (Finset.sum_congr rfl fun j _ => congrArg₂ (fun x y : EReal => x * y) (iblk0 m d t r j) (iblk1 m d t k j))
  · match x with
    | ⟨0, _⟩ => exact Fin.ext (show (1024 * (t.val % 8) + k.val) % 8192 = win0_3.index t 0 * 1024 + 1 * k.val by rw [hi.1]; omega)
    | ⟨1, _⟩ => exact Fin.ext (show (1024 * (t.val / 8) + r.val) % 4096 = win0_3.index t 1 * 1024 + 1 * r.val by rw [hi.2]; omega)

theorem final3 : (dats m 0 d).arrAt 3 cfg0.N = resT (aA0 m d) (aA1 m d) :=
  (dats m 0 d).arrAt_eq_of_cover 3 (resT (aA0 m d) (aA1 m d)) (flushedEq3 m d) fun i => by
    have h0 : (i 0 : Nat) < 8192 := (i 0).isLt
    have h1 : (i 1 : Nat) < 4096 := (i 1).isLt
    have hN : grid0.N = 32 := N_0
    obtain ⟨t, ht⟩ : ∃ t : Fin cfg0.N, t.val = 8 * ((i 1 : Nat) / 1024) + (i 0 : Nat) / 1024 := ⟨⟨_, by show _ < grid0.N; omega⟩, rfl⟩
    have hi := index3 t
    refine ⟨t, flush0_3 t, ?_⟩
    show i ∈ ((View.whole main_v4_1).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [hi.1]; omega
    | ⟨1, _⟩ =>
      show win0_3.index t 1 * 1024 ≤ (i 1 : Nat) ∧ (i 1 : Nat) < win0_3.index t 1 * 1024 + 1024
      rw [hi.2]; omega

theorem run_values : θ_run defs (onTc (τ := τ) (main (F := Ideal))) ⟨m, fun _ => 0, ρ⟩ fun r => ∀ c : Dev nD,
      r.2.mem ((c : Thread nD τ).loc main_v4_0) = res (aA0 m c) (aA1 m c)
      ∧ r.2.mem ((c : Thread nD τ).loc main_v4_1) = resT (aA0 m c) (aA1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2.1.trans (final3 m c), (h c).2.2⟩) (Value.run_blocks m ρ)

section
open Cert.Reference10Ideal.Read
variable (x : S4096x2048.Idx → EReal) (w : S2048x8192.Idx → EReal)

theorem ref_eq : val_main_v3 (F := Ideal) x w = res x w := by
  funext i
  rw [val_main_v3_apply]
  show val_main_v2 (F := Ideal) x w i = _
  rw [val_main_v2_apply, val_main_call0_v0_apply, val_main_call0_cst_apply, val_main_v1_apply]
  refine congrArg₂ (fun a b : EReal => max a b) (Finset.sum_congr rfl fun k _ => congrArg₂ (fun a b : EReal => a * b) (congrArg x ?_) (congrArg w ?_)) Ideal.ofBits_zero_f32
  · exact funext fun a => match a with | ⟨0, _⟩ => rfl | ⟨1, _⟩ => rfl
  · exact funext fun a => match a with | ⟨0, _⟩ => rfl | ⟨1, _⟩ => rfl

theorem refT_eq : val_main_v4 (F := Ideal) x w = resT x w := by
  funext i
  rw [val_main_v4_apply, ref_eq]
  exact congrArg (res x w) (funext fun a => match a with | ⟨0, _⟩ => rfl | ⟨1, _⟩ => rfl)
end

/-- The kernel's results are the reference's. -/
theorem algebraic : Cert.algebraic_Kernel10Ideal_Reference10Ideal := by
  intro m ρ m' ρ' _ heq
  refine ⟨fun c => res (aA0 m c) (aA1 m c), fun c => resT (aA0 m c) (aA1 m c), run_values m ρ, (θ_run Cert.Reference10Ideal.defs _ _).mono (fun r h c => ?_) (Cert.Reference10Ideal.Value.run (F := Ideal) m' ρ')⟩
  obtain ⟨h0, h1, hargs⟩ := h c
  obtain ⟨a0, a1⟩ := heq c
  refine ⟨h0.trans ?_, h1.trans ?_, hargs⟩
  · rw [a0, a1, Cert.Reference10Ideal.Read.val_main_v3_eq]
    exact ref_eq _ _
  · rw [a0, a1, Cert.Reference10Ideal.Read.val_main_v4_eq]
    exact refT_eq _ _

end Cert.Prod.Mlpin

end
-- ==== Proof.Prod.Dmerged.lean ====
module

public import proofs.«01_k».proof.Proof.Prod.Base
public import proofs.«01_k».proof.Defs
public import proofs.«01_k».proof.Proof.Gen.Kernel11Ideal.Value
public import proofs.«01_k».proof.Proof.Gen.Reference11Ideal.Read
public import Idealize.ShloMosaic.Lib.ValueIdx

/-!
# The gradient of the merged branches

`dxmb · w_outᵀ`, one block of 1024 columns of the result at a time.
-/

@[expose] public section

set_option maxRecDepth 16384

noncomputable section

namespace Cert.Prod.Dmerged

open Cert.Kernel11Ideal Cert.Kernel11Ideal.Gen Idealize.ShloMosaic Idealize.ShloMosaic.TcCoe Idealize.SL.Sem

theorem out_eq (x0 : Vec Ideal S1024x2048 .bf16) (x1 : Vec Ideal S1x1024x2048 .bf16) :
    out0_2 (F := Ideal) x0 x1 = k0_pay1 (F := Ideal) x0 x1 := by
  unfold out0_2
  rw [View.canon_unit_zero (by decide), View.ld_unit_zero (S := S1024x2048) (by decide), View.ld_unit_zero (S := S1x1024x2048) (by decide)]

theorem pay1_apply (x0 : Vec Ideal S1024x2048 .bf16) (x1 : Vec Ideal S1x1024x2048 .bf16) (r : Fin 1024) (k : Fin 1024) :
    k0_pay1 (F := Ideal) x0 x1 (ix2 r k) = ∑ j : Fin 2048, x0 (ix2 r j) * x1 (ix3 0 k j) := by
  pointwise [k0_pay1]

variable (m : (ℓ : Loc nD τ sig) → Buf (Elt Ideal) ℓ) (ρ : Dev nD → PrngReg) (d : Dev nD)

/-- The arguments. -/
abbrev aA0 : S4096x2048.Idx → EReal := m ((d : Thread nD τ).loc main_arg0)
abbrev aA1 : S2048x2048.Idx → EReal := m ((d : Thread nD τ).loc main_arg1)

theorem index0 : ∀ t : Fin grid0.N, win0_0.index t 0 = t.val / 2 ∧ win0_0.index t 1 = 0 := by decide +kernel
theorem index1 : ∀ t : Fin grid0.N, win0_1.index t 0 = 0 ∧ win0_1.index t 1 = t.val % 2 ∧ win0_1.index t 2 = 0 := by decide +kernel
theorem index2 : ∀ t : Fin grid0.N, win0_2.index t 0 = t.val / 2 ∧ win0_2.index t 1 = t.val % 2 := by decide +kernel

theorem N8 (t : Fin cfg0.N) : t.val < 8 := lt_of_lt_of_eq t.isLt (show cfg0.N = 8 from N_0)

theorem iblk0 (t : Fin cfg0.N) (r : Fin 1024) (j : Fin 2048) : (iblk m d 0 t : Vec Ideal S1024x2048 .bf16) (ix2 r j)
    = aA0 m d (ix2 (md 4096 (1024 * (t.val / 2) + r.val)) j) := by
  have hi := index0 t
  have ht := N8 t
  unfold iblk
  rw [View.read_apply]
  show V m d main_arg0 _ = _
  rw [V_main_arg0]
  refine congrArg (aA0 m d) (funext fun x => ?_)
  match x with
  | ⟨0, _⟩ => exact Fin.ext (show win0_0.index t 0 * 1024 + 1 * r.val = (1024 * (t.val / 2) + r.val) % 4096 by rw [hi.1]; omega)
  | ⟨1, _⟩ => exact Fin.ext (show win0_0.index t 1 * 2048 + 1 * j.val = j.val by rw [hi.2]; omega)

theorem V1 : V m d main_v1 = broadcastInDim S1x2048x2048 ![1, 2] bcast_S2048x2048_S1x2048x2048_1_2 (aA1 m d) := by entry_read; rfl

theorem hostW_apply (w : S2048x2048.Idx → EReal) (j k : Fin 2048) :
    broadcastInDim S1x2048x2048 ![1, 2] bcast_S2048x2048_S1x2048x2048_1_2 w (ix3 0 j k) = w (ix2 j k) := by
  pointwise

theorem iblk1 (t : Fin cfg0.N) (k : Fin 1024) (j : Fin 2048) : (iblk m d 1 t : Vec Ideal S1x1024x2048 .bf16) (ix3 0 k j)
    = aA1 m d (ix2 (md 2048 (1024 * (t.val % 2) + k.val)) j) := by
  have hi := index1 t
  have ht := N8 t
  unfold iblk
  rw [View.read_apply]
  show V m d main_v1 _ = _
  rw [V1]
  refine Eq.trans ?_ (hostW_apply (aA1 m d) _ _)
  refine congrArg (broadcastInDim S1x2048x2048 ![1, 2] bcast_S2048x2048_S1x2048x2048_1_2 (aA1 m d)) (funext fun x => ?_)
  match x with
  | ⟨0, _⟩ => exact Fin.ext (show win0_1.index t 0 * 1 + 1 * 0 = 0 by rw [hi.1])
  | ⟨1, _⟩ => exact Fin.ext (show win0_1.index t 1 * 1024 + 1 * k.val = (1024 * (t.val % 2) + k.val) % 2048 by rw [hi.2.1]; omega)
  | ⟨2, _⟩ => exact Fin.ext (show win0_1.index t 2 * 2048 + 1 * j.val = j.val by rw [hi.2.2]; omega)

/-- The result. -/
def res (x : S4096x2048.Idx → EReal) (w : S2048x2048.Idx → EReal) : S4096x2048.Idx → EReal :=
  fun i => ∑ j : Fin 2048, x (ix2 (i 0) j) * w (ix2 (i 1) j)

theorem flushedEq (t : Fin cfg0.N) (_ : (cfg0.win 2).flush t = true) :
    (dats m 0 d).flushed 2 t = ((cfg0.win 2).blk t).view.read (Elt Ideal) (res (aA0 m d) (aA1 m d)) := by
  rw [Value.flushed2, out_eq]
  have hi := index2 t
  have ht := N8 t
  funext y
  obtain ⟨r, k, rfl⟩ : ∃ (r : Fin 1024) (k : Fin 1024), y = ix2 r k := ⟨y 0, y 1, funext fun a => by match a with | ⟨0, _⟩ => rfl | ⟨1, _⟩ => rfl⟩
  rw [View.read_apply]
  refine (pay1_apply _ _ r k).trans (Eq.trans (b := res (aA0 m d) (aA1 m d) (ix2 (md 4096 (1024 * (t.val / 2) + r.val)) (md 2048 (1024 * (t.val % 2) + k.val)))) ?_ (congrArg (res (aA0 m d) (aA1 m d)) (funext fun x => ?_)))
  · exact Finset.sum_congr rfl fun j _ => congrArg₂ (fun x y : EReal => x * y) (iblk0 m d t r j) (iblk1 m d t k j)
  · match x with
    | ⟨0, _⟩ => exact Fin.ext (show (1024 * (t.val / 2) + r.val) % 4096 = win0_2.index t 0 * 1024 + 1 * r.val by rw [hi.1]; omega)
    | ⟨1, _⟩ => exact Fin.ext (show (1024 * (t.val % 2) + k.val) % 2048 = win0_2.index t 1 * 1024 + 1 * k.val by rw [hi.2]; omega)

theorem final : (dats m 0 d).arrAt 2 cfg0.N = res (aA0 m d) (aA1 m d) :=
  (dats m 0 d).arrAt_eq_of_cover 2 (res (aA0 m d) (aA1 m d)) (flushedEq m d) fun i => by
    have h0 : (i 0 : Nat) < 4096 := (i 0).isLt
    have h1 : (i 1 : Nat) < 2048 := (i 1).isLt
    have hN : grid0.N = 8 := N_0
    obtain ⟨t, ht⟩ : ∃ t : Fin cfg0.N, t.val = 2 * ((i 0 : Nat) / 1024) + (i 1 : Nat) / 1024 := ⟨⟨_, by show _ < grid0.N; omega⟩, rfl⟩
    have hi := index2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega

theorem run_values : θ_run defs (onTc (τ := τ) (main (F := Ideal))) ⟨m, fun _ => 0, ρ⟩ fun r => ∀ c : Dev nD,
      r.2.mem ((c : Thread nD τ).loc main_v2) = res (aA0 m c) (aA1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

open Cert.Reference11Ideal.Read in
theorem ref_eq (x : S4096x2048.Idx → EReal) (w : S2048x2048.Idx → EReal) : val_main_v4 (F := Ideal) x w = res x w := by
  funext i
  rw [val_main_v4_apply]
  show val_main_v3 (F := Ideal) x w i = _
  rw [val_main_v3_apply]
  refine Finset.sum_congr rfl fun k _ => congrArg₂ (fun a b : EReal => a * b) (congrArg x ?_) (congrArg w ?_)
  · exact funext fun a => match a with | ⟨0, _⟩ => rfl | ⟨1, _⟩ => rfl
  · exact funext fun a => match a with | ⟨0, _⟩ => rfl | ⟨1, _⟩ => rfl

/-- The kernel's result is the reference's. -/
theorem algebraic : Cert.algebraic_Kernel11Ideal_Reference11Ideal := by
  intro m ρ m' ρ' _ heq
  refine ⟨fun c => res (aA0 m c) (aA1 m c), run_values m ρ, (θ_run Cert.Reference11Ideal.defs _ _).mono (fun r h c => ?_) (Cert.Reference11Ideal.Value.run (F := Ideal) m' ρ')⟩
  obtain ⟨h0, hargs⟩ := h c
  obtain ⟨a0, a1⟩ := heq c
  refine ⟨h0.trans ?_, hargs⟩
  rw [a0, a1, Cert.Reference11Ideal.Read.val_main_v4_eq]
  exact ref_eq _ _

end Cert.Prod.Dmerged

end
-- ==== Proof.Prod.Gwout.lean ====
module

public import proofs.«01_k».proof.Proof.Prod.Base
public import proofs.«01_k».proof.Defs
public import proofs.«01_k».proof.Proof.Gen.Kernel12Ideal.Value
public import proofs.«01_k».proof.Proof.Gen.Reference12Ideal.Read
public import Idealize.ShloMosaic.Lib.ValueIdx

/-!
# The gradient of the output projection's weight

`mergedᵀ · dxmb`, accumulated over four blocks of 1024 rows.
-/

@[expose] public section

set_option maxRecDepth 16384

noncomputable section

namespace Cert.Prod.Gwout

open Cert.Kernel12Ideal Cert.Kernel12Ideal.Gen Idealize.ShloMosaic Idealize.ShloMosaic.TcCoe Idealize.SL.Sem

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x1024 .bf16) (x1 : Vec Ideal S1024x1024 .bf16) (acc : Vec Ideal S1024x1024 .f32)

theorem sout_A (h0 h1) : sout0_A_0 c i arg3 harg3 arg4 harg4 arg5 harg5 arg6 harg6 h0 h1 x0 x1 = k0_pay2 (F := Ideal) (k0_pay1 (F := Ideal)) x0 x1 := by
  refine (View.read_writes_full VS0_0 VS0_0.junk _ _ _).trans ?_
  refine congr (congr (congrArg k0_pay2 (View.readCov_full _ _ _ _ _)) (load_full harg3 (by decide) _ x0)) (load_full harg4 (by decide) _ x1)

theorem sout_B (h0 h1) : sout0_B_0 c i arg3 harg3 arg4 harg4 arg5 harg5 arg6 harg6 h0 h1 x0 x1 acc = k0_pay2 (F := Ideal) acc x0 x1 := by
  refine (View.read_writes_full VS0_0 VS0_0.junk _ _ _).trans ?_
  refine congr (congr (congrArg k0_pay2 (load_full harg6 (by decide) _ acc)) (load_full harg3 (by decide) _ x0)) (load_full harg4 (by decide) _ x1)

theorem sout_C (h0 h1) : sout0_C_0 c i arg3 harg3 arg4 harg4 arg5 harg5 arg6 harg6 h0 h1 x0 x1 acc = k0_pay2 (F := Ideal) acc x0 x1 := by
  refine (View.read_writes_full VS0_0 VS0_0.junk _ _ _).trans ?_
  refine congr (congr (congrArg k0_pay2 (load_full harg6 (by decide) _ acc)) (load_full harg3 (by decide) _ x0)) (load_full harg4 (by decide) _ x1)

theorem out_C (h0 h1) : out0_C_2 c i arg3 harg3 arg4 harg4 arg5 harg5 arg6 harg6 h0 h1 x0 x1 acc = k0_pay3 (F := Ideal) (k0_pay2 (F := Ideal) acc x0 x1) := by
  refine (View.read_writes_full VO0_2 VO0_2.junk _ _ _).trans ?_
  refine congrArg k0_pay3 ((View.readCov_full _ _ _ _ _).trans ?_)
  refine congr (congr (congrArg k0_pay2 (load_full harg6 (by decide) _ acc)) (load_full harg3 (by decide) _ x0)) (load_full harg4 (by decide) _ x1)

theorem pay1_apply (r k : Fin 1024) : k0_pay1 (F := Ideal) (ix2 r k) = 0 := by
  pointwise [k0_pay1]

theorem pay2_apply (r k : Fin 1024) :
    k0_pay2 acc x0 x1 (ix2 r k) = acc (ix2 r k) + ∑ j : Fin 1024, x0 (ix2 r j) * x1 (ix2 j k) := by
  pointwise [k0_pay2]

theorem pay3_apply (r k : Fin 1024) : k0_pay3 acc (ix2 r k) = acc (ix2 r k) := by
  pointwise [k0_pay3]
  try rfl
end

variable (m : (ℓ : Loc nD τ sig) → Buf (Elt Ideal) ℓ) (ρ : Dev nD → PrngReg) (d : Dev nD)

/-- The merged branches, and the cotangent of the product. -/
abbrev aX : S4096x2048.Idx → EReal := m ((d : Thread nD τ).loc main_arg0)
abbrev aY : S4096x2048.Idx → EReal := m ((d : Thread nD τ).loc main_arg1)

theorem index0 : ∀ t : Fin grid0.N, win0_0.index t 0 = t.val / 8 ∧ win0_0.index t 1 = t.val % 4 := by decide +kernel
theorem index1 : ∀ t : Fin grid0.N, win0_1.index t 0 = t.val % 4 ∧ win0_1.index t 1 = t.val / 4 % 2 := by decide +kernel
theorem index2 : ∀ t : Fin grid0.N, win0_2.index t 0 = t.val / 8 ∧ win0_2.index t 1 = t.val / 4 % 2 := by decide +kernel

theorem N16 (t : Fin cfg0.N) : t.val < 16 := lt_of_lt_of_eq t.isLt (show cfg0.N = 16 from N_0)

/-- The merged branches as the host lays them out. -/
def hostX (a : S4096x2048.Idx → EReal) : S2048x4096.Idx → EReal :=
  transpose S2048x4096 [1, 0] a transposes_S4096x2048_S2048x4096_1_0

theorem V0 : V m d main_v0 = hostX (aX m d) := by
  entry_read
  rfl

theorem hostX_apply (a : S4096x2048.Idx → EReal) (r : Fin 2048) (j : Fin 4096) : hostX a (ix2 r j) = a (ix2 j r) := by
  pointwise [hostX]

theorem iblk0 (t : Fin cfg0.N) (r j : Fin 1024) : (iblk m d 0 t : Vec Ideal S1024x1024 .bf16) (ix2 r j)
    = aX m d (ix2 (md 4096 (1024 * (t.val % 4) + j.val)) (md 2048 (1024 * (t.val / 8) + r.val))) := by
  have hi := index0 t
  have ht := N16 t
  unfold iblk
  rw [View.read_apply]
  show V m d main_v0 _ = _
  rw [V0]
  refine Eq.trans ?_ (hostX_apply _ _ _)
  refine congrArg (hostX (aX m d)) (funext fun x => ?_)
  match x with
  | ⟨0, _⟩ => exact Fin.ext (show win0_0.index t 0 * 1024 + 1 * r.val = (1024 * (t.val / 8) + r.val) % 2048 by rw [hi.1]; omega)
  | ⟨1, _⟩ => exact Fin.ext (show win0_0.index t 1 * 1024 + 1 * j.val = (1024 * (t.val % 4) + j.val) % 4096 by rw [hi.2]; omega)

theorem iblk1 (t : Fin cfg0.N) (j k : Fin 1024) : (iblk m d 1 t : Vec Ideal S1024x1024 .bf16) (ix2 j k)
    = aY m d (ix2 (md 4096 (1024 * (t.val % 4) + j.val)) (md 2048 (1024 * (t.val / 4 % 2) + k.val))) := by
  have hi := index1 t
  have ht := N16 t
  unfold iblk
  rw [View.read_apply]
  show V m d main_arg1 _ = _
  rw [V_main_arg1]
  refine congrArg (aY m d) (funext fun x => ?_)
  match x with
  | ⟨0, _⟩ => exact Fin.ext (show win0_1.index t 0 * 1024 + 1 * j.val = (1024 * (t.val % 4) + j.val) % 4096 by rw [hi.1]; omega)
  | ⟨1, _⟩ => exact Fin.ext (show win0_1.index t 1 * 1024 + 1 * k.val = (1024 * (t.val / 4 % 2) + k.val) % 2048 by rw [hi.2]; omega)

/-- What point `t` adds at an entry of its block. -/
def part (r k : Fin 1024) (t : ℕ) : EReal :=
  ∑ j : Fin 1024, aX m d (ix2 (md 4096 (1024 * (t % 4) + j.val)) (md 2048 (1024 * (t / 8) + r.val)))
    * aY m d (ix2 (md 4096 (1024 * (t % 4) + j.val)) (md 2048 (1024 * (t / 4 % 2) + k.val)))

theorem step (acc : Vec Ideal S1024x1024 .f32) (t : Fin cfg0.N) (r k : Fin 1024) :
    k0_pay2 (F := Ideal) acc (iblk m d 0 t) (iblk m d 1 t) (ix2 r k) = acc (ix2 r k) + part m d r k t.val := by
  rw [pay2_apply]
  exact congrArg (_ + ·) (Finset.sum_congr rfl fun j _ => congrArg₂ (fun x y : EReal => x * y) (iblk0 m d t r j) (iblk1 m d t j k))

theorem acc_A (t : Fin cfg0.N) (h0 : t.val % 4 = 0) :
    (outsAt0 m d t.val t.isLt).2 = k0_pay2 (k0_pay1 (F := Ideal)) (iblk m d 0 t) (iblk m d 1 t) := by
  rw [outsAt0_A m d t h0 (by omega)]
  dsimp only
  rw [sout_A]

theorem acc_BC (t : Fin cfg0.N) (h0 : ¬t.val % 4 = 0) : (outsAt0 m d t.val t.isLt).2
    = k0_pay2 (outsAt0 m d (t.val - 1) (Nat.lt_of_le_of_lt (Nat.sub_le _ _) t.isLt)).2 (iblk m d 0 t) (iblk m d 1 t) := by
  by_cases h1 : t.val % 4 = 3
  · rw [outsAt0_C m d t h0 h1]
    dsimp only
    rw [sout_C]
  · rw [outsAt0_B m d t h0 h1]
    dsimp only
    rw [sout_B]

theorem out_eq (t : Fin cfg0.N) (h1 : t.val % 4 = 3) : (outsAt0 m d t.val t.isLt).1 = k0_pay3 (outsAt0 m d t.val t.isLt).2 := by
  rw [acc_BC m d t (by omega), outsAt0_C m d t (by omega) h1]
  dsimp only
  rw [out_C]

theorem acc_eq (r k : Fin 1024) (q : ℕ) (h : 4 * q + 3 < cfg0.N) :
    (outsAt0 m d (4 * q + 3) h).2 (ix2 r k) = ∑ i ∈ Finset.range 4, part m d r k (4 * q + i) :=
  acc_sum (N := cfg0.N) (n := 4) (fun t h => (outsAt0 m d t h).2 (ix2 r k)) (part m d r k)
    (fun t h h0 => (congrFun (acc_A m d ⟨t, h⟩ h0) (ix2 r k)).trans ((step ..).trans (congrArg (· + _) (pay1_apply r k))))
    (fun t h h0 => (congrFun (acc_BC m d ⟨t, h⟩ h0) (ix2 r k)).trans (step ..)) q 3 (by omega) h

/-- The result. -/
def res (x : S4096x2048.Idx → EReal) (y : S4096x2048.Idx → EReal) : S2048x2048.Idx → EReal :=
  fun i => ∑ k : Fin 4096, x (ix2 k (i 0)) * y (ix2 k (i 1))

theorem out_last (t : Fin cfg0.N) (h1 : t.val % 4 = 3) (r k : Fin 1024) : (outsAt0 m d t.val t.isLt).1 (ix2 r k)
    = res (aX m d) (aY m d) (ix2 (md 2048 (1024 * (t.val / 8) + r.val)) (md 2048 (1024 * (t.val / 4 % 2) + k.val))) := by
  rw [out_eq m d t h1, pay3_apply]
  obtain ⟨t, ht⟩ := t
  obtain ⟨q, rfl⟩ : ∃ q, t = 4 * q + 3 := ⟨t / 4, by have : t % 4 = 3 := h1; omega⟩
  refine (acc_eq m d r k q ht).trans (Eq.trans ?_ (sum_blocks (n := 4) (b := 1024) rfl _))
  refine Finset.sum_congr rfl fun i hi => ?_
  have := Finset.mem_range.mp hi
  unfold part
  rw [show (4 * q + i) / 8 = (4 * q + 3) / 8 by omega, show (4 * q + i) / 4 % 2 = (4 * q + 3) / 4 % 2 by omega, show (4 * q + i) % 4 = i by omega]
  rfl

theorem flushedEq (t : Fin cfg0.N) (hf : (cfg0.win 2).flush t = true) :
    (dats m 0 d).flushed 2 t = ((cfg0.win 2).blk t).view.read (Elt Ideal) (res (aX m d) (aY m d)) := by
  rw [Value.flushed2]
  have hi := index2 t
  have ht := N16 t
  funext y
  obtain ⟨r, k, rfl⟩ : ∃ (r k : Fin 1024), y = ix2 r k := ⟨y 0, y 1, funext fun a => by match a with | ⟨0, _⟩ => rfl | ⟨1, _⟩ => rfl⟩
  rw [View.read_apply]
  refine (out_last m d t ((flush0_2 t).mp hf) r k).trans (congrArg (res (aX m d) (aY m d)) (funext fun x => ?_))
  match x with
  | ⟨0, _⟩ => exact Fin.ext (show (1024 * (t.val / 8) + r.val) % 2048 = win0_2.index t 0 * 1024 + 1 * r.val by rw [hi.1]; omega)
  | ⟨1, _⟩ => exact Fin.ext (show (1024 * (t.val / 4 % 2) + k.val) % 2048 = win0_2.index t 1 * 1024 + 1 * k.val by rw [hi.2]; omega)

theorem final : (dats m 0 d).arrAt 2 cfg0.N = res (aX m d) (aY m d) :=
  (dats m 0 d).arrAt_eq_of_cover 2 (res (aX m d) (aY m d)) (flushedEq m d) fun i => by
    have h0 : (i 0 : Nat) < 2048 := (i 0).isLt
    have h1 : (i 1 : Nat) < 2048 := (i 1).isLt
    have hN : grid0.N = 16 := N_0
    obtain ⟨t, ht⟩ : ∃ t : Fin cfg0.N, t.val = 8 * ((i 0 : Nat) / 1024) + 4 * ((i 1 : Nat) / 1024) + 3 := ⟨⟨_, by show _ < grid0.N; omega⟩, rfl⟩
    have hi := index2 t
    refine ⟨t, (flush0_2 t).mpr (by omega), ?_⟩
    show i ∈ ((View.whole main_v1).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega

theorem run_values : θ_run defs (onTc (τ := τ) (main (F := Ideal))) ⟨m, fun _ => 0, ρ⟩ fun r => ∀ c : Dev nD,
      r.2.mem ((c : Thread nD τ).loc main_v1) = res (aX m c) (aY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

open Cert.Reference12Ideal.Read in
theorem ref_eq (x y : S4096x2048.Idx → EReal) : val_main_v6 (F := Ideal) x y = res x y := by
  funext i
  rw [val_main_v6_apply]
  show val_main_v5 (F := Ideal) x y i = _
  rw [val_main_v5_apply, val_main_v4_apply]
  refine Finset.sum_congr rfl fun k _ => ?_
  refine (mul_comm _ _).trans (congrArg₂ (fun a b : EReal => a * b) (congrArg x ?_) (congrArg y ?_))
  · exact funext fun a => match a with | ⟨0, _⟩ => rfl | ⟨1, _⟩ => rfl
  · exact funext fun a => match a with | ⟨0, _⟩ => rfl | ⟨1, _⟩ => rfl

/-- The kernel's result is the reference's. -/
theorem algebraic : Cert.algebraic_Kernel12Ideal_Reference12Ideal := by
  intro m ρ m' ρ' _ heq
  refine ⟨fun c => res (aX m c) (aY m c), run_values m ρ, (θ_run Cert.Reference12Ideal.defs _ _).mono (fun r h c => ?_) (Cert.Reference12Ideal.Value.run (F := Ideal) m' ρ')⟩
  obtain ⟨h0, hargs⟩ := h c
  obtain ⟨a0, a1⟩ := heq c
  refine ⟨h0.trans ?_, hargs⟩
  rw [a0, a1, Cert.Reference12Ideal.Read.val_main_v6_eq]
  exact ref_eq _ _

end Cert.Prod.Gwout

end
-- ==== Proof.Prod.Wout.lean ====
module

public import proofs.«01_k».proof.Proof.Prod.Base
public import proofs.«01_k».proof.Defs
public import proofs.«01_k».proof.Proof.Gen.Kernel13Ideal.Value
public import proofs.«01_k».proof.Proof.Gen.Reference13Ideal.Read
public import Idealize.ShloMosaic.Lib.ValueIdx

/-!
# The output projection

`merged · w_out` added to the residual stream, one block of 512 columns at a time.
-/

@[expose] public section

set_option maxRecDepth 16384

noncomputable section

namespace Cert.Prod.Wout

open Cert.Kernel13Ideal Cert.Kernel13Ideal.Gen Idealize.ShloMosaic Idealize.ShloMosaic.TcCoe Idealize.SL.Sem

theorem out_eq (x0 : Vec Ideal S1024x2048 .bf16) (x1 : Vec Ideal S1x2048x512 .bf16) (x2 : Vec Ideal S1024x512 .f32) :
    out0_3 (F := Ideal) x0 x1 x2 = k0_pay1 (F := Ideal) x0 x1 x2 := by
  unfold out0_3
  rw [View.canon_unit_zero (by decide), View.ld_unit_zero (S := S1024x2048) (by decide), View.ld_unit_zero (S := S1x2048x512) (by decide), View.ld_unit_zero (S := S1024x512) (by decide)]

theorem pay1_apply (x0 : Vec Ideal S1024x2048 .bf16) (x1 : Vec Ideal S1x2048x512 .bf16) (x2 : Vec Ideal S1024x512 .f32) (r : Fin 1024) (k : Fin 512) :
    k0_pay1 (F := Ideal) x0 x1 x2 (ix2 r k) = x2 (ix2 r k) + ∑ j : Fin 2048, x0 (ix2 r j) * x1 (ix3 0 j k) := by
  refine Eq.trans ?_ (add_comm _ _)
  pointwise [k0_pay1]

variable (m : (ℓ : Loc nD τ sig) → Buf (Elt Ideal) ℓ) (ρ : Dev nD → PrngReg) (d : Dev nD)

/-- The arguments. -/
abbrev aA0 : S4096x2048.Idx → EReal := m ((d : Thread nD τ).loc main_arg0)
abbrev aA1 : S2048x2048.Idx → EReal := m ((d : Thread nD τ).loc main_arg1)
abbrev aA2 : S4096x2048.Idx → EReal := m ((d : Thread nD τ).loc main_arg2)

theorem index0 : ∀ t : Fin grid0.N, win0_0.index t 0 = t.val / 4 ∧ win0_0.index t 1 = 0 := by decide +kernel
theorem index1 : ∀ t : Fin grid0.N, win0_1.index t 0 = 0 ∧ win0_1.index t 1 = 0 ∧ win0_1.index t 2 = t.val % 4 := by decide +kernel
theorem index2 : ∀ t : Fin grid0.N, win0_2.index t 0 = t.val / 4 ∧ win0_2.index t 1 = t.val % 4 := by decide +kernel
theorem index3 : ∀ t : Fin grid0.N, win0_3.index t 0 = t.val / 4 ∧ win0_3.index t 1 = t.val % 4 := by decide +kernel

theorem N16 (t : Fin cfg0.N) : t.val < 16 := lt_of_lt_of_eq t.isLt (show cfg0.N = 16 from N_0)

theorem iblk0 (t : Fin cfg0.N) (r : Fin 1024) (j : Fin 2048) : (iblk m d 0 t : Vec Ideal S1024x2048 .bf16) (ix2 r j)
    = aA0 m d (ix2 (md 4096 (1024 * (t.val / 4) + r.val)) j) := by
  have hi := index0 t
  have ht := N16 t
  unfold iblk
  rw [View.read_apply]
  show V m d main_arg0 _ = _
  rw [V_main_arg0]
  refine congrArg (aA0 m d) (funext fun x => ?_)
  match x with
  | ⟨0, _⟩ => exact Fin.ext (show win0_0.index t 0 * 1024 + 1 * r.val = (1024 * (t.val / 4) + r.val) % 4096 by rw [hi.1]; omega)
  | ⟨1, _⟩ => exact Fin.ext (show win0_0.index t 1 * 2048 + 1 * j.val = j.val by rw [hi.2]; omega)

theorem V1 : V m d main_v1 = broadcastInDim S1x2048x2048 ![1, 2] bcast_S2048x2048_S1x2048x2048_1_2 (aA1 m d) := by entry_read; rfl

theorem hostW_apply (w : S2048x2048.Idx → EReal) (j k : Fin 2048) :
    broadcastInDim S1x2048x2048 ![1, 2] bcast_S2048x2048_S1x2048x2048_1_2 w (ix3 0 j k) = w (ix2 j k) := by
  pointwise

theorem iblk1 (t : Fin cfg0.N) (k : Fin 512) (j : Fin 2048) : (iblk m d 1 t : Vec Ideal S1x2048x512 .bf16) (ix3 0 j k)
    = aA1 m d (ix2 j (md 2048 (512 * (t.val % 4) + k.val))) := by
  have hi := index1 t
  have ht := N16 t
  unfold iblk
  rw [View.read_apply]
  show V m d main_v1 _ = _
  rw [V1]
  refine Eq.trans ?_ (hostW_apply (aA1 m d) _ _)
  refine congrArg (broadcastInDim S1x2048x2048 ![1, 2] bcast_S2048x2048_S1x2048x2048_1_2 (aA1 m d)) (funext fun x => ?_)
  match x with
  | ⟨0, _⟩ => exact Fin.ext (show win0_1.index t 0 * 1 + 1 * 0 = 0 by rw [hi.1])
  | ⟨1, _⟩ => exact Fin.ext (show win0_1.index t 1 * 2048 + 1 * j.val = j.val by rw [hi.2.1]; omega)
  | ⟨2, _⟩ => exact Fin.ext (show win0_1.index t 2 * 512 + 1 * k.val = (512 * (t.val % 4) + k.val) % 2048 by rw [hi.2.2]; omega)

theorem iblk2 (t : Fin cfg0.N) (r : Fin 1024) (k : Fin 512) : (iblk m d 2 t : Vec Ideal S1024x512 .f32) (ix2 r k)
    = aA2 m d (ix2 (md 4096 (1024 * (t.val / 4) + r.val)) (md 2048 (512 * (t.val % 4) + k.val))) := by
  have hi := index2 t
  have ht := N16 t
  unfold iblk
  rw [View.read_apply]
  show V m d main_arg2 _ = _
  rw [V_main_arg2]
  refine congrArg (aA2 m d) (funext fun x => ?_)
  match x with
  | ⟨0, _⟩ => exact Fin.ext (show win0_2.index t 0 * 1024 + 1 * r.val = (1024 * (t.val / 4) + r.val) % 4096 by rw [hi.1]; omega)
  | ⟨1, _⟩ => exact Fin.ext (show win0_2.index t 1 * 512 + 1 * k.val = (512 * (t.val % 4) + k.val) % 2048 by rw [hi.2]; omega)

/-- The result. -/
def res (x : S4096x2048.Idx → EReal) (w : S2048x2048.Idx → EReal) (y : S4096x2048.Idx → EReal) : S4096x2048.Idx → EReal :=
  fun i => y i + ∑ j : Fin 2048, x (ix2 (i 0) j) * w (ix2 j (i 1))

theorem flushedEq (t : Fin cfg0.N) (_ : (cfg0.win 3).flush t = true) :
    (dats m 0 d).flushed 3 t = ((cfg0.win 3).blk t).view.read (Elt Ideal) (res (aA0 m d) (aA1 m d) (aA2 m d)) := by
  rw [Value.flushed3, out_eq]
  have hi := index3 t
  have ht := N16 t
  funext y
  obtain ⟨r, k, rfl⟩ : ∃ (r : Fin 1024) (k : Fin 512), y = ix2 r k := ⟨y 0, y 1, funext fun a => by match a with | ⟨0, _⟩ => rfl | ⟨1, _⟩ => rfl⟩
  rw [View.read_apply]
  refine (pay1_apply _ _ _ r k).trans (Eq.trans (b := res (aA0 m d) (aA1 m d) (aA2 m d) (ix2 (md 4096 (1024 * (t.val / 4) + r.val)) (md 2048 (512 * (t.val % 4) + k.val)))) ?_ (congrArg (res (aA0 m d) (aA1 m d) (aA2 m d)) (funext fun x => ?_)))
  · exact congrArg₂ (fun a b : EReal => a + b) (iblk2 m d t r k) (Finset.sum_congr rfl fun j _ => congrArg₂ (fun x y : EReal => x * y) (iblk0 m d t r j) (iblk1 m d t k j))
  · match x with
    | ⟨0, _⟩ => exact Fin.ext (show (1024 * (t.val / 4) + r.val) % 4096 = win0_3.index t 0 * 1024 + 1 * r.val by rw [hi.1]; omega)
    | ⟨1, _⟩ => exact Fin.ext (show (512 * (t.val % 4) + k.val) % 2048 = win0_3.index t 1 * 512 + 1 * k.val by rw [hi.2]; omega)

theorem final : (dats m 0 d).arrAt 3 cfg0.N = res (aA0 m d) (aA1 m d) (aA2 m d) :=
  (dats m 0 d).arrAt_eq_of_cover 3 (res (aA0 m d) (aA1 m d) (aA2 m d)) (flushedEq m d) fun i => by
    have h0 : (i 0 : Nat) < 4096 := (i 0).isLt
    have h1 : (i 1 : Nat) < 2048 := (i 1).isLt
    have hN : grid0.N = 16 := N_0
    obtain ⟨t, ht⟩ : ∃ t : Fin cfg0.N, t.val = 4 * ((i 0 : Nat) / 1024) + (i 1 : Nat) / 512 := ⟨⟨_, by show _ < grid0.N; omega⟩, rfl⟩
    have hi := index3 t
    refine ⟨t, flush0_3 t, ?_⟩
    show i ∈ ((View.whole main_v2).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [hi.1]; omega
    | ⟨1, _⟩ =>
      show win0_3.index t 1 * 512 ≤ (i 1 : Nat) ∧ (i 1 : Nat) < win0_3.index t 1 * 512 + 512
      rw [hi.2]; omega

theorem run_values : θ_run defs (onTc (τ := τ) (main (F := Ideal))) ⟨m, fun _ => 0, ρ⟩ fun r => ∀ c : Dev nD,
      r.2.mem ((c : Thread nD τ).loc main_v2) = res (aA0 m c) (aA1 m c) (aA2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

open Cert.Reference13Ideal.Read in
theorem ref_eq (x : S4096x2048.Idx → EReal) (w : S2048x2048.Idx → EReal) (y : S4096x2048.Idx → EReal) : val_main_v2 (F := Ideal) x w y = res x w y := by
  funext i
  rw [val_main_v2_apply]
  refine congrArg (y i + ·) ?_
  rw [val_main_v1_apply]
  refine Finset.sum_congr rfl fun k _ => congrArg₂ (fun a b : EReal => a * b) (congrArg x ?_) (congrArg w ?_)
  · exact funext fun a => match a with | ⟨0, _⟩ => rfl | ⟨1, _⟩ => rfl
  · exact funext fun a => match a with | ⟨0, _⟩ => rfl | ⟨1, _⟩ => rfl

/-- The kernel's result is the reference's. -/
theorem algebraic : Cert.algebraic_Kernel13Ideal_Reference13Ideal := by
  intro m ρ m' ρ' _ heq
  refine ⟨fun c => res (aA0 m c) (aA1 m c) (aA2 m c), run_values m ρ, (θ_run Cert.Reference13Ideal.defs _ _).mono (fun r h c => ?_) (Cert.Reference13Ideal.Value.run (F := Ideal) m' ρ')⟩
  obtain ⟨h0, hargs⟩ := h c
  obtain ⟨a0, a1, a2⟩ := heq c
  refine ⟨h0.trans ?_, hargs⟩
  rw [a0, a1, a2, Cert.Reference13Ideal.Read.val_main_v2_eq]
  exact ref_eq _ _ _

end Cert.Prod.Wout

end
-- ==== Proof.Prod.Gbranch.lean ====
module

public import proofs.«01_k».proof.Proof.Prod.Base
public import proofs.«01_k».proof.Defs
public import proofs.«01_k».proof.Proof.Gen.Kernel14Ideal.Value
public import proofs.«01_k».proof.Proof.Gen.Reference14Ideal.Read
public import Idealize.ShloMosaic.Lib.ValueIdx

/-!
# The gradient of the first branch's weight

`yᵀ · dbr`, accumulated over four blocks of 1024 rows, in the gathered layout: eight slabs of 256 columns. The call
writes the first branch's part of the array of the three branches and leaves the other two as they come in.
-/

@[expose] public section

set_option maxRecDepth 16384

noncomputable section

namespace Cert.Prod.Gbranch

open Cert.Kernel14Ideal Cert.Kernel14Ideal.Gen Idealize.ShloMosaic Idealize.ShloMosaic.TcCoe Idealize.SL.Sem

section
variable (c : Dev nD) (i : grid0.Coords) (arg3 : Memref sig .tc .vmem S1024x1024 .bf16) (harg3 : arg3.IsWhole) (arg4 : Memref sig .tc .vmem S1024x256 .bf16) (harg4 : arg4.IsWhole) (arg6 : Memref sig .tc .vmem S1x1x1024x256 .bf16) (harg6 : arg6.IsWhole) (arg7 : Memref sig .tc .vmem S1024x256 .f32) (harg7 : arg7.IsWhole)
  (x0 : Vec Ideal S1024x1024 .bf16) (x1 : Vec Ideal S1024x256 .bf16) (acc : Vec Ideal S1024x256 .f32)

theorem sout_A (h0 h1) : sout0_A_0 c i arg3 harg3 arg4 harg4 arg6 harg6 arg7 harg7 h0 h1 x0 x1 = k0_pay2 (F := Ideal) (k0_pay1 (F := Ideal)) x0 x1 := by
  refine (View.read_writes_full VS0_0 VS0_0.junk _ _ _).trans ?_
  refine congr (congr (congrArg k0_pay2 (View.readCov_full _ _ _ _ _)) (load_full harg3 (by decide) _ x0)) (load_full harg4 (by decide) _ x1)

theorem sout_B (h0 h1) : sout0_B_0 c i arg3 harg3 arg4 harg4 arg6 harg6 arg7 harg7 h0 h1 x0 x1 acc = k0_pay2 (F := Ideal) acc x0 x1 := by
  refine (View.read_writes_full VS0_0 VS0_0.junk _ _ _).trans ?_
  refine congr (congr (congrArg k0_pay2 (load_full harg7 (by decide) _ acc)) (load_full harg3 (by decide) _ x0)) (load_full harg4 (by decide) _ x1)

theorem sout_C (h0 h1) : sout0_C_0 c i arg3 harg3 arg4 harg4 arg6 harg6 arg7 harg7 h0 h1 x0 x1 acc = k0_pay2 (F := Ideal) acc x0 x1 := by
  refine (View.read_writes_full VS0_0 VS0_0.junk _ _ _).trans ?_
  refine congr (congr (congrArg k0_pay2 (load_full harg7 (by decide) _ acc)) (load_full harg3 (by decide) _ x0)) (load_full harg4 (by decide) _ x1)

theorem out_C (h0 h1) : out0_C_2 c i arg3 harg3 arg4 harg4 arg6 harg6 arg7 harg7 h0 h1 x0 x1 acc = k0_pay3 (F := Ideal) (k0_pay2 (F := Ideal) acc x0 x1) := by
  refine (View.read_writes_full VO0_2 VO0_2.junk _ _ _).trans ?_
  refine congrArg k0_pay3 ((View.readCov_full _ _ _ _ _).trans ?_)
  refine congr (congr (congrArg k0_pay2 (load_full harg7 (by decide) _ acc)) (load_full harg3 (by decide) _ x0)) (load_full harg4 (by decide) _ x1)

theorem pay1_apply (r : Fin 1024) (k : Fin 256) : k0_pay1 (F := Ideal) (ix2 r k) = 0 := by
  pointwise [k0_pay1]

theorem pay2_apply (r : Fin 1024) (k : Fin 256) :
    k0_pay2 acc x0 x1 (ix2 r k) = acc (ix2 r k) + ∑ j : Fin 1024, x0 (ix2 j r) * x1 (ix2 j k) := by
  pointwise [k0_pay2]

theorem pay3_apply (r : Fin 1024) (k : Fin 256) : k0_pay3 acc (ix4 0 0 r k) = acc (ix2 r k) := by
  pointwise [k0_pay3]
  try rfl
end

variable (m : (ℓ : Loc nD τ sig) → Buf (Elt Ideal) ℓ) (ρ : Dev nD → PrngReg) (d : Dev nD)

/-- The branch, the cotangent of its product, and the array of the three gradients before the call. -/
abbrev aX : S4096x1024.Idx → EReal := m ((d : Thread nD τ).loc main_arg0)
abbrev aY : S4096x2048.Idx → EReal := m ((d : Thread nD τ).loc main_arg1)
abbrev aZ : S8x3x1024x256.Idx → EReal := m ((d : Thread nD τ).loc main_arg2)

theorem index0 : ∀ t : Fin grid0.N, win0_0.index t 0 = t.val % 4 ∧ win0_0.index t 1 = 0 := by decide +kernel
theorem index1 : ∀ t : Fin grid0.N, win0_1.index t 0 = t.val % 4 ∧ win0_1.index t 1 = t.val / 4 := by decide +kernel
theorem index2 : ∀ t : Fin grid0.N, win0_2.index t 0 = t.val / 4 ∧ win0_2.index t 1 = 0 ∧ win0_2.index t 2 = 0 ∧ win0_2.index t 3 = 0 := by decide +kernel

theorem N32 (t : Fin cfg0.N) : t.val < 32 := lt_of_lt_of_eq t.isLt (show cfg0.N = 32 from N_0)

theorem iblk0 (t : Fin cfg0.N) (j r : Fin 1024) : (iblk m d 0 t : Vec Ideal S1024x1024 .bf16) (ix2 j r)
    = aX m d (ix2 (md 4096 (1024 * (t.val % 4) + j.val)) r) := by
  have hi := index0 t
  have ht := N32 t
  unfold iblk
  rw [View.read_apply]
  show V m d main_arg0 _ = _
  rw [V_main_arg0]
  refine congrArg (aX m d) (funext fun x => ?_)
  match x with
  | ⟨0, _⟩ => exact Fin.ext (show win0_0.index t 0 * 1024 + 1 * j.val = (1024 * (t.val % 4) + j.val) % 4096 by rw [hi.1]; omega)
  | ⟨1, _⟩ => exact Fin.ext (show win0_0.index t 1 * 1024 + 1 * r.val = r.val by rw [hi.2]; omega)

theorem iblk1 (t : Fin cfg0.N) (j : Fin 1024) (k : Fin 256) : (iblk m d 1 t : Vec Ideal S1024x256 .bf16) (ix2 j k)
    = aY m d (ix2 (md 4096 (1024 * (t.val % 4) + j.val)) (md 2048 (256 * (t.val / 4) + k.val))) := by
  have hi := index1 t
  have ht := N32 t
  unfold iblk
  rw [View.read_apply]
  show V m d main_arg1 _ = _
  rw [V_main_arg1]
  refine congrArg (aY m d) (funext fun x => ?_)
  match x with
  | ⟨0, _⟩ => exact Fin.ext (show win0_1.index t 0 * 1024 + 1 * j.val = (1024 * (t.val % 4) + j.val) % 4096 by rw [hi.1]; omega)
  | ⟨1, _⟩ => exact Fin.ext (show win0_1.index t 1 * 256 + 1 * k.val = (256 * (t.val / 4) + k.val) % 2048 by rw [hi.2]; omega)

/-- What point `t` adds at an entry of its block. -/
def part (r : Fin 1024) (k : Fin 256) (t : ℕ) : EReal :=
  ∑ j : Fin 1024, aX m d (ix2 (md 4096 (1024 * (t % 4) + j.val)) r)
    * aY m d (ix2 (md 4096 (1024 * (t % 4) + j.val)) (md 2048 (256 * (t / 4) + k.val)))

theorem step (acc : Vec Ideal S1024x256 .f32) (t : Fin cfg0.N) (r : Fin 1024) (k : Fin 256) :
    k0_pay2 (F := Ideal) acc (iblk m d 0 t) (iblk m d 1 t) (ix2 r k) = acc (ix2 r k) + part m d r k t.val := by
  rw [pay2_apply]
  exact congrArg (_ + ·) (Finset.sum_congr rfl fun j _ => congrArg₂ (fun x y : EReal => x * y) (iblk0 m d t j r) (iblk1 m d t j k))

theorem acc_A (t : Fin cfg0.N) (h0 : t.val % 4 = 0) :
    (outsAt0 m d t.val t.isLt).2 = k0_pay2 (k0_pay1 (F := Ideal)) (iblk m d 0 t) (iblk m d 1 t) := by
  rw [outsAt0_A m d t h0 (by omega)]
  dsimp only
  rw [sout_A]

theorem acc_BC (t : Fin cfg0.N) (h0 : ¬t.val % 4 = 0) : (outsAt0 m d t.val t.isLt).2
    = k0_pay2 (outsAt0 m d (t.val - 1) (Nat.lt_of_le_of_lt (Nat.sub_le _ _) t.isLt)).2 (iblk m d 0 t) (iblk m d 1 t) := by
  by_cases h1 : t.val % 4 = 3
  · rw [outsAt0_C m d t h0 h1]
    dsimp only
    rw [sout_C]
  · rw [outsAt0_B m d t h0 h1]
    dsimp only
    rw [sout_B]

theorem out_eq (t : Fin cfg0.N) (h1 : t.val % 4 = 3) : (outsAt0 m d t.val t.isLt).1 = k0_pay3 (outsAt0 m d t.val t.isLt).2 := by
  rw [acc_BC m d t (by omega), outsAt0_C m d t (by omega) h1]
  dsimp only
  rw [out_C]

theorem acc_eq (r : Fin 1024) (k : Fin 256) (q : ℕ) (h : 4 * q + 3 < cfg0.N) :
    (outsAt0 m d (4 * q + 3) h).2 (ix2 r k) = ∑ i ∈ Finset.range 4, part m d r k (4 * q + i) :=
  acc_sum (N := cfg0.N) (n := 4) (fun t h => (outsAt0 m d t h).2 (ix2 r k)) (part m d r k)
    (fun t h h0 => (congrFun (acc_A m d ⟨t, h⟩ h0) (ix2 r k)).trans ((step ..).trans (congrArg (· + _) (pay1_apply r k))))
    (fun t h h0 => (congrFun (acc_BC m d ⟨t, h⟩ h0) (ix2 r k)).trans (step ..)) q 3 (by omega) h

/-- The first branch's part of the result, and the result. -/
def res (x : S4096x1024.Idx → EReal) (y : S4096x2048.Idx → EReal) : S8x3x1024x256.Idx → EReal :=
  fun i => ∑ k : Fin 4096, x (ix2 k (i 2)) * y (ix2 k (md 2048 (256 * (i 0).val + (i 3).val)))

def resAll (x : S4096x1024.Idx → EReal) (y : S4096x2048.Idx → EReal) (z : S8x3x1024x256.Idx → EReal) : S8x3x1024x256.Idx → EReal :=
  fun i => if (i 1).val = 0 then res x y i else z i

theorem out_last (t : Fin cfg0.N) (h1 : t.val % 4 = 3) (r : Fin 1024) (k : Fin 256) : (outsAt0 m d t.val t.isLt).1 (ix4 0 0 r k)
    = res (aX m d) (aY m d) (ix4 (md 8 (t.val / 4)) 0 r k) := by
  have hN := N32 t
  rw [out_eq m d t h1, pay3_apply]
  obtain ⟨t, ht⟩ := t
  obtain ⟨q, rfl⟩ : ∃ q, t = 4 * q + 3 := ⟨t / 4, by have : t % 4 = 3 := h1; omega⟩
  have hN : 4 * q + 3 < 32 := hN
  refine (acc_eq m d r k q ht).trans (Eq.trans ?_ (sum_blocks (n := 4) (b := 1024) rfl _))
  refine Finset.sum_congr rfl fun i hi => ?_
  have := Finset.mem_range.mp hi
  unfold part
  rw [show (4 * q + i) / 4 = (4 * q + 3) / 4 % 8 by omega, show (4 * q + i) % 4 = i by omega]
  rfl

theorem flushedEq (t : Fin cfg0.N) (hf : (cfg0.win 2).flush t = true) :
    (dats m 0 d).flushed 2 t = ((cfg0.win 2).blk t).view.read (Elt Ideal) (res (aX m d) (aY m d)) := by
  rw [Value.flushed2]
  have hi := index2 t
  have ht := N32 t
  funext y
  obtain ⟨z, z', r, k, rfl⟩ : ∃ (z z' : Fin 1) (r : Fin 1024) (k : Fin 256), y = ix4 z z' r k := ⟨y 0, y 1, y 2, y 3, eq_ix4 y⟩
  obtain rfl : z = 0 := Subsingleton.elim _ _
  obtain rfl : z' = 0 := Subsingleton.elim _ _
  rw [View.read_apply]
  refine (out_last m d t ((flush0_2 t).mp hf) r k).trans (congrArg (res (aX m d) (aY m d)) (funext fun x => ?_))
  match x with
  | ⟨0, _⟩ => exact Fin.ext (show t.val / 4 % 8 = win0_2.index t 0 * 1 + 1 * 0 by rw [hi.1]; omega)
  | ⟨1, _⟩ => exact Fin.ext (show 0 = win0_2.index t 1 * 1 + 1 * 0 by rw [hi.2.1])
  | ⟨2, _⟩ => exact Fin.ext (show r.val = win0_2.index t 2 * 1024 + 1 * r.val by rw [hi.2.2.1]; omega)
  | ⟨3, _⟩ => exact Fin.ext (show k.val = win0_2.index t 3 * 256 + 1 * k.val by rw [hi.2.2.2]; omega)

theorem V0 : V m d main_v0 = aZ m d := by
  entry_read
  try rfl

theorem final : (dats m 0 d).arrAt 2 cfg0.N = resAll (aX m d) (aY m d) (aZ m d) := by
  funext i
  unfold resAll
  have h0 : (i 0 : Nat) < 8 := (i 0).isLt
  have h2 : (i 2 : Nat) < 1024 := (i 2).isLt
  have h3 : (i 3 : Nat) < 256 := (i 3).isLt
  have hN : grid0.N = 32 := N_0
  by_cases h1 : (i 1 : Nat) = 0
  · rw [if_pos h1]
    obtain ⟨t, ht⟩ : ∃ t : Fin cfg0.N, t.val = 4 * (i 0 : Nat) + 3 := ⟨⟨_, by show _ < grid0.N; omega⟩, rfl⟩
    have hi := index2 t
    refine (dats m 0 d).arrAt_apply_of_mem 2 (res (aX m d) (aY m d)) (flushedEq m d) cfg0.N t i t.isLt ((flush0_2 t).mpr (by omega)) ?_
    show i ∈ ((View.whole main_v0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [hi.1]; omega
    | ⟨1, _⟩ =>
      show win0_2.index t 1 * 1 ≤ (i 1 : Nat) ∧ (i 1 : Nat) < win0_2.index t 1 * 1 + 1
      rw [hi.2.1]; omega
    | ⟨2, _⟩ =>
      show win0_2.index t 2 * 1024 ≤ (i 2 : Nat) ∧ (i 2 : Nat) < win0_2.index t 2 * 1024 + 1024
      rw [hi.2.2.1]; omega
    | ⟨3, _⟩ =>
      show win0_2.index t 3 * 256 ≤ (i 3 : Nat) ∧ (i 3 : Nat) < win0_2.index t 3 * 256 + 256
      rw [hi.2.2.2]; omega
  · rw [if_neg h1]
    refine (Value.entry2 m d i fun t _ hmem => h1 ?_).trans (congrFun (V0 m d) i)
    have hmem : i ∈ ((View.whole main_v0).slice (win0_2.rect t)).set := hmem
    rw [View.set_slice_whole, Rect.mem_set_unit] at hmem
    have h : win0_2.index t 1 * 1 ≤ (i 1 : Nat) ∧ (i 1 : Nat) < win0_2.index t 1 * 1 + 1 := hmem 1
    rw [(index2 t).2.1] at h
    omega

theorem run_values : θ_run defs (onTc (τ := τ) (main (F := Ideal))) ⟨m, fun _ => 0, ρ⟩ fun r => ∀ c : Dev nD,
      r.2.mem ((c : Thread nD τ).loc main_v0) = resAll (aX m c) (aY m c) (aZ m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

section
open Cert.Reference14Ideal.Read
variable (x : S4096x1024.Idx → EReal) (y : S4096x2048.Idx → EReal) (z : S8x3x1024x256.Idx → EReal)

theorem ref_part (g : Fin 8) (b : Fin 3) (r : Fin 1024) (j : Fin 256) : val_main_v9 (F := Ideal) x y (ix4 g 0 r j) = res x y (ix4 g b r j) := by
  rw [val_main_v9_apply, val_main_v8_apply, val_main_v7_apply, val_main_v6_apply, val_main_v5_apply]
  show val_main_v4 (F := Ideal) x y _ = _
  rw [val_main_v4_apply]
  refine Finset.sum_congr rfl fun k _ => ?_
  rw [val_main_v3_apply, val_main_v1_apply]
  refine (mul_comm _ _).trans (congrArg₂ (fun a b : EReal => a * b) (congrArg x ?_) (congrArg y ?_))
  · exact funext fun a => match a with
      | ⟨0, _⟩ => rfl
      | ⟨1, _⟩ => Fin.ext (show ((r.val * 8 + g.val) * 256 + j.val) / 2048 = r.val by omega)
  · exact funext fun a => match a with
      | ⟨0, _⟩ => rfl
      | ⟨1, _⟩ => Fin.ext (show ((r.val * 8 + g.val) * 256 + j.val) % 2048 = (256 * g.val + j.val) % 2048 by omega)

theorem ref_eq : val_main_v11 (F := Ideal) x y z = resAll x y z := by
  funext i
  obtain ⟨g, b, r, j, rfl⟩ : ∃ (g : Fin 8) (b : Fin 3) (r : Fin 1024) (j : Fin 256), i = ix4 g b r j := ⟨i 0, i 1, i 2, i 3, eq_ix4 i⟩
  unfold val_main_v11 resAll
  by_cases hb : b.val = 0
  · rw [if_pos (show ((ix4 g b r j : S8x3x1024x256.Idx) 1).val = 0 from hb)]
    refine Eq.trans ?_ (ref_part x y g b r j)
    refine concatenate_pair_apply_left (t := S8x3x1024x256) 1 (val_main_v9 (F := Ideal) x y) _ _ (ix4 g b r j) rfl (ix4 g 0 r j) fun a => ?_
    match a with
    | ⟨0, _⟩ => rfl
    | ⟨1, _⟩ => exact hb.symm
    | ⟨2, _⟩ => rfl
    | ⟨3, _⟩ => rfl
  · rw [if_neg (show ¬((ix4 g b r j : S8x3x1024x256.Idx) 1).val = 0 from hb)]
    have h2 : b.val - 1 < 2 := by omega
    refine (concatenate_pair_apply_right (t := S8x3x1024x256) 1 (val_main_v9 (F := Ideal) x y) (val_main_v10 (F := Ideal) z) _ (ix4 g b r j) rfl rfl
      (ix4 g ⟨b.val - 1, h2⟩ r j) (fun a ha => ?_) ?_).trans ?_
    · match a with
      | ⟨0, _⟩ => rfl
      | ⟨1, _⟩ => exact absurd rfl ha
      | ⟨2, _⟩ => rfl
      | ⟨3, _⟩ => rfl
    · show b.val - 1 + 1 = b.val
      omega
    · rw [val_main_v10_apply]
      refine congrArg z (funext fun a => ?_)
      match a with
      | ⟨0, _⟩ => rfl
      | ⟨1, _⟩ => exact Fin.ext (show 1 + (b.val - 1) = b.val by omega)
      | ⟨2, _⟩ => rfl
      | ⟨3, _⟩ => rfl
end

/-- The kernel's result is the reference's. -/
theorem algebraic : Cert.algebraic_Kernel14Ideal_Reference14Ideal := by
  intro m ρ m' ρ' _ heq
  refine ⟨fun c => resAll (aX m c) (aY m c) (aZ m c), run_values m ρ, (θ_run Cert.Reference14Ideal.defs _ _).mono (fun r h c => ?_) (Cert.Reference14Ideal.Value.run (F := Ideal) m' ρ')⟩
  obtain ⟨h0, hargs⟩ := h c
  obtain ⟨a0, a1, a2⟩ := heq c
  refine ⟨h0.trans ?_, hargs⟩
  rw [a0, a1, a2, Cert.Reference14Ideal.Read.val_main_v11_eq]
  exact ref_eq _ _ _

end Cert.Prod.Gbranch

end
-- ==== Proof.Prod.Rms.lean ====
module

public import proofs.«01_k».proof.Proof.Prod.Base
public import proofs.«01_k».proof.Proof.Gmlp.Real
public import proofs.«01_k».proof.Defs
public import proofs.«01_k».proof.Proof.Gen.Kernel16Ideal.Value
public import proofs.«01_k».proof.Proof.Gen.Reference16Ideal.Read
public import Idealize.ShloMosaic.Lib.ValueIdx

/-!
# The gradient of the norm before the MLP

The norm is `x / rms(x) · g`, and the residual stream beside it is `x`: the call returns the cotangent of `x`, in f32 and
in bf16, and the gradient of `g`, summed up over sixteen blocks of 256 rows. Where an entry of a row is infinite the
normaliser is zero on both sides.
-/

@[expose] public section

set_option maxRecDepth 16384

noncomputable section

namespace Cert.Prod.Rms

open Cert.Kernel16Ideal Cert.Kernel16Ideal.Gen Idealize.ShloMosaic Idealize.ShloMosaic.TcCoe Idealize.SL.Sem

/-! ## One row -/

/-- The literals: 2048, the small number added to the mean square, and minus a half. -/
def wid : EReal := Ideal.ofBits .f32 0x45000000#32
def nh : EReal := Ideal.ofBits .f32 0xBF000000#32

theorem wid_eq : wid = ((2048 : ℝ) : EReal) := by
  unfold wid; simp [Ideal.ofBits, Ideal.ieee, -EReal.coe_mul]; norm_num

section
variable (X D G : Fin 2048 → EReal)

/-- The mean square, and one over its root. -/
def ms : EReal := Ideal.div (∑ l, X l * X l) wid + Ideal.ofBits .f32 0x358637BD#32
def rs : EReal := Ideal.rsqrt (ms X)

/-- The cotangent of a row's entry by way of the norm. -/
def dxr (j : Fin 2048) : EReal := rs X * (D j * G j - X j * rs X * Ideal.div (∑ l, D l * G l * (X l * rs X)) wid)

/-- The factor of the mean square's part in the reference. -/
def cf : EReal := Ideal.div ((∑ l, X l * (D l * G l)) * (nh * Ideal.div (rs X) (ms X))) wid

theorem sq_nonneg (x : EReal) : 0 ≤ x * x := by
  induction x with
  | bot => simp
  | top => simp
  | coe r => rw [← EReal.coe_mul]; exact_mod_cast mul_self_nonneg r

/-- The mean square is a positive number or infinite. -/
theorem ms_cases : (∃ m : ℝ, 0 < m ∧ ms X = (m : EReal) ∧ rs X = (((Real.sqrt m)⁻¹ : ℝ) : EReal)) ∨ (ms X = ⊤ ∧ rs X = 0) := by
  have h0 : 0 ≤ ∑ l, X l * X l := Finset.sum_nonneg fun l _ => sq_nonneg (X l)
  have he : Ideal.ofBits .f32 0x358637BD#32 = ((8796093 / 8796093022208 : ℝ) : EReal) := Cert.Gmlp.eps_eq
  unfold rs ms
  rw [wid_eq, he, Ideal.div_coe (by norm_num)]
  generalize (∑ l, X l * X l) = S at h0 ⊢
  induction S with
  | bot => simp at h0
  | top =>
    right
    rw [EReal.top_mul_coe_of_pos (by norm_num), EReal.top_add_coe]
    exact ⟨rfl, rfl⟩
  | coe r =>
    left
    have hr : (0 : ℝ) ≤ r := by exact_mod_cast h0
    have hp : (0 : ℝ) < r * (1 / 2048) + 8796093 / 8796093022208 := by positivity
    refine ⟨_, hp, (by rw [EReal.coe_add, EReal.coe_mul]), ?_⟩
    rw [← EReal.coe_mul, ← EReal.coe_add, Cert.Gmlp.rsqrt_pos hp]

/-- A sum times a number that is not negative. -/
theorem sum_mul_coe {ι : Type} (t : Finset ι) (f : ι → EReal) {r : ℝ} (hr : 0 ≤ r) : ∑ i ∈ t, f i * (r : EReal) = (∑ i ∈ t, f i) * (r : EReal) := by
  classical
  induction t using Finset.induction_on with
  | empty => simp
  | insert a t ha ih =>
    rw [Finset.sum_insert ha, Finset.sum_insert ha, ih, EReal.right_distrib_of_nonneg_of_ne_top (by exact_mod_cast hr) (EReal.coe_ne_top r)]

theorem twice {q : ℝ} (hq : 0 ≤ q) (P : EReal) : ((-q : ℝ) : EReal) * P + ((-q : ℝ) : EReal) * P = -(((q + q : ℝ) : EReal) * P) := by
  have h : ((-q : ℝ) : EReal) * P = (q : EReal) * -P := by rw [EReal.coe_neg, neg_mul, mul_neg]
  rw [h, ← EReal.right_distrib_of_nonneg (by exact_mod_cast hq) (by exact_mod_cast hq), ← EReal.coe_add, mul_neg]

/-- The closed form is the sum of the paths. -/
theorem row_eq (e : EReal) (j : Fin 2048) :
    e + dxr X D G j = e + D j * G j * rs X + X j * cf X D G + cf X D G * X j := by
  unfold dxr cf nh
  rcases ms_cases X with ⟨m, hm, e1, e2⟩ | ⟨e1, e2⟩
  · have hr : (0 : ℝ) ≤ (Real.sqrt m)⁻¹ := inv_nonneg.2 (Real.sqrt_nonneg m)
    have hs : (Real.sqrt m)⁻¹ * (Real.sqrt m)⁻¹ = 1 / m := by rw [← mul_inv, Real.mul_self_sqrt hm.le, one_div]
    have hsum : ∑ l, D l * G l * (X l * (((Real.sqrt m)⁻¹ : ℝ) : EReal)) = (∑ l, X l * (D l * G l)) * (((Real.sqrt m)⁻¹ : ℝ) : EReal) := by
      rw [← sum_mul_coe _ _ hr]
      exact Finset.sum_congr rfl fun l _ => by rw [← mul_assoc, mul_comm (D l * G l)]
    rw [e1, e2, hsum]
    generalize (Real.sqrt m)⁻¹ = r at hr hs
    generalize (∑ l, X l * (D l * G l)) = S
    rw [wid_eq, Cert.Gmlp.nhalf_word, Ideal.div_coe hm.ne', Ideal.div_coe (by norm_num), Ideal.div_coe (by norm_num),
      sub_eq_add_neg, EReal.left_distrib_of_nonneg_of_ne_top (by exact_mod_cast hr) (EReal.coe_ne_top r), mul_neg]
    have hk : (r : EReal) * (X j * (r : EReal) * (S * (r : EReal) * ((1 / 2048 : ℝ) : EReal))) = ((r * r * r * (1 / 2048) : ℝ) : EReal) * (X j * S) := by
      simp only [EReal.coe_mul]; ac_rfl
    have hc : X j * (S * (((-(1 / 2) : ℝ) : EReal) * ((r : EReal) * ((1 / m : ℝ) : EReal))) * ((1 / 2048 : ℝ) : EReal))
        = ((-(1 / 2 * (r * (1 / m)) * (1 / 2048)) : ℝ) : EReal) * (X j * S) := by
      rw [show (-(1 / 2 * (r * (1 / m)) * (1 / 2048)) : ℝ) = -(1 / 2) * (r * (1 / m)) * (1 / 2048) by ring]
      simp only [EReal.coe_mul]; ac_rfl
    have hq : (0 : ℝ) ≤ 1 / 2 * (r * (1 / m)) * (1 / 2048) := by positivity
    rw [hk, mul_comm (S * _ * _) (X j), hc, add_assoc, add_assoc, twice hq, mul_comm (r : EReal) (D j * G j), ← hs]
    congr 5
    ring
  · rw [e1, e2]
    have hd : Ideal.div (0 : EReal) ⊤ = 0 := by
      rw [Ideal.div, if_neg (by simp), zero_mul]
    rw [hd, wid_eq, Ideal.div_coe (by norm_num), Ideal.div_coe (by norm_num)]
    simp
end

/-! ## One block -/

section
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole)
  (x0 x1 : Vec Ideal S256x2048 .f32) (x2 : Vec Ideal S1x2048 .f32) (x3 : Vec Ideal S256x2048 .f32) (acc : Vec Ideal S1x2048 .f32)

theorem out_congr {e x d e' x' d' : Vec Ideal S256x2048 .f32} {g g' : Vec Ideal S1x2048 .f32} (h3 : e = e') (h1 : x = x') (h0 : d = d') (h2 : g = g') :
    k0_pay1 (F := Ideal) e (k0_pay7 (F := Ideal) x d g) = k0_pay1 (F := Ideal) e' (k0_pay7 (F := Ideal) x' d' g') := by
  subst h3 h1 h0 h2; rfl

theorem out_congr' {e x d e' x' d' : Vec Ideal S256x2048 .f32} {g g' : Vec Ideal S1x2048 .f32} (h3 : e = e') (h1 : x = x') (h0 : d = d') (h2 : g = g') :
    k0_pay2 (F := Ideal) e (k0_pay7 (F := Ideal) x d g) = k0_pay2 (F := Ideal) e' (k0_pay7 (F := Ideal) x' d' g') := by
  subst h3 h1 h0 h2; rfl

theorem out_A4 (h0) : out0_A_4 c i arg1 harg1 arg2 harg2 arg3 harg3 arg4 harg4 arg5 harg5 arg6 harg6 arg7 harg7 h0 x0 x1 x2 x3 = k0_pay1 (F := Ideal) x3 (k0_pay7 (F := Ideal) x1 x0 x2) := by
  refine (View.read_writes_full VO0_4 VO0_4.junk _ _ _).trans ?_
  exact out_congr (load_full harg4 (by decide) _ x3) (load_full harg2 (by decide) _ x1) (load_full harg1 (by decide) _ x0) (load_full harg3 (by decide) _ x2)

theorem out_A5 (h0) : out0_A_5 c i arg1 harg1 arg2 harg2 arg3 harg3 arg4 harg4 arg5 harg5 arg6 harg6 arg7 harg7 h0 x0 x1 x2 x3 = k0_pay2 (F := Ideal) x3 (k0_pay7 (F := Ideal) x1 x0 x2) := by
  refine (View.read_writes_full VO0_5 VO0_5.junk _ _ _).trans ?_
  exact out_congr' (load_full harg4 (by decide) _ x3) (load_full harg2 (by decide) _ x1) (load_full harg1 (by decide) _ x0) (load_full harg3 (by decide) _ x2)

theorem out_A6 (h0) : out0_A_6 c i arg1 harg1 arg2 harg2 arg3 harg3 arg4 harg4 arg5 harg5 arg6 harg6 arg7 harg7 h0 x0 x1 x2 x3 = k0_pay6 (F := Ideal) x1 x0 (k0_pay3 (F := Ideal)) := by
  refine (View.read_writes_full VO0_6 VO0_6.junk _ _ _).trans ?_
  exact congr (congr (congrArg k0_pay6 (load_full harg2 (by decide) _ x1)) (load_full harg1 (by decide) _ x0)) (View.readCov_full _ _ _ _ _)

theorem out_B4 (h0) : out0_B_4 c i arg1 harg1 arg2 harg2 arg3 harg3 arg4 harg4 arg5 harg5 arg6 harg6 arg7 harg7 h0 x0 x1 x2 x3 acc = k0_pay1 (F := Ideal) x3 (k0_pay7 (F := Ideal) x1 x0 x2) := by
  refine (View.read_writes_full VO0_4 VO0_4.junk _ _ _).trans ?_
  exact out_congr (load_full harg4 (by decide) _ x3) (load_full harg2 (by decide) _ x1) (load_full harg1 (by decide) _ x0) (load_full harg3 (by decide) _ x2)

theorem out_B5 (h0) : out0_B_5 c i arg1 harg1 arg2 harg2 arg3 harg3 arg4 harg4 arg5 harg5 arg6 harg6 arg7 harg7 h0 x0 x1 x2 x3 acc = k0_pay2 (F := Ideal) x3 (k0_pay7 (F := Ideal) x1 x0 x2) := by
  refine (View.read_writes_full VO0_5 VO0_5.junk _ _ _).trans ?_
  exact out_congr' (load_full harg4 (by decide) _ x3) (load_full harg2 (by decide) _ x1) (load_full harg1 (by decide) _ x0) (load_full harg3 (by decide) _ x2)

theorem out_B6 (h0) : out0_B_6 c i arg1 harg1 arg2 harg2 arg3 harg3 arg4 harg4 arg5 harg5 arg6 harg6 arg7 harg7 h0 x0 x1 x2 x3 acc = k0_pay6 (F := Ideal) x1 x0 acc := by
  refine (View.read_writes_full VO0_6 VO0_6.junk _ _ _).trans ?_
  exact congr (congr (congrArg k0_pay6 (load_full harg2 (by decide) _ x1)) (load_full harg1 (by decide) _ x0)) (load_full harg7 (by decide) _ acc)

/-- A row of a block. -/
abbrev row (x : Vec Ideal S256x2048 .f32) (r : Fin 256) : Fin 2048 → EReal := fun j => x (ix2 r j)

theorem pay7_apply (r : Fin 256) (j : Fin 2048) :
    k0_pay7 (F := Ideal) x1 x0 x2 (ix2 r j) = dxr (row x1 r) (row x0 r) (fun j => x2 (ix2 0 j)) j := by
  unfold dxr rs ms wid
  pointwise [k0_pay7, k0_pay5, k0_pay4]

theorem pay1_apply (y : Vec Ideal S256x2048 .f32) (i : S256x2048.Idx) : k0_pay1 (F := Ideal) x3 y i = x3 i + y i := rfl

theorem pay2_eq (y : Vec Ideal S256x2048 .f32) : k0_pay2 (F := Ideal) x3 y = k0_pay1 (F := Ideal) x3 y := rfl

theorem pay3_apply (j : Fin 2048) : k0_pay3 (F := Ideal) (ix2 0 j) = 0 := by
  pointwise [k0_pay3]

theorem pay6_apply (j : Fin 2048) :
    k0_pay6 (F := Ideal) x1 x0 acc (ix2 0 j) = acc (ix2 0 j) + ∑ r : Fin 256, x0 (ix2 r j) * (x1 (ix2 r j) * rs (row x1 r)) := by
  unfold rs ms wid
  pointwise [k0_pay6, k0_pay5, k0_pay4]
end

/-! ## The arrays -/

variable (m : (ℓ : Loc nD τ sig) → Buf (Elt Ideal) ℓ) (ρ : Dev nD → PrngReg) (d : Dev nD)

/-- The cotangent of the normalised stream, the stream, the gain, and the cotangent of the residual. -/
abbrev aD : S4096x2048.Idx → EReal := m ((d : Thread nD τ).loc main_arg0)
abbrev aX : S4096x2048.Idx → EReal := m ((d : Thread nD τ).loc main_arg1)
abbrev aG : S2048.Idx → EReal := m ((d : Thread nD τ).loc main_arg2)
abbrev aE : S4096x2048.Idx → EReal := m ((d : Thread nD τ).loc main_arg3)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index2 : ∀ t : Fin grid0.N, win0_2.index t 0 = 0 ∧ win0_2.index t 1 = 0 := by decide +kernel
theorem index6 : ∀ t : Fin grid0.N, win0_6.index t 0 = 0 ∧ win0_6.index t 1 = 0 := by decide +kernel

theorem N16 (t : Fin cfg0.N) : t.val < 16 := lt_of_lt_of_eq t.isLt (show cfg0.N = 16 from N_0)

/-- Row `r` of block `n`. -/
abbrev rw' (n : ℕ) (r : Fin 256) : Fin 4096 := md 4096 (256 * n + r.val)

theorem V0 : V m d main_v0 = broadcastInDim S1x2048 ![1] bcast_S2048_S1x2048_1 (aG m d) := by entry_read; rfl

theorem hostG_apply (g : S2048.Idx → EReal) (j : Fin 2048) :
    broadcastInDim S1x2048 ![1] bcast_S2048_S1x2048_1 g (ix2 0 j) = g (ix1 j) := by
  pointwise

theorem iblk2 (t : Fin cfg0.N) (j : Fin 2048) : (iblk m d 2 t : Vec Ideal S1x2048 .f32) (ix2 0 j) = aG m d (ix1 j) := by
  have hi := index2 t
  unfold iblk
  rw [View.read_apply]
  show V m d main_v0 _ = _
  rw [V0]
  refine Eq.trans ?_ (hostG_apply (aG m d) j)
  refine congrArg (broadcastInDim S1x2048 ![1] bcast_S2048_S1x2048_1 (aG m d)) (funext fun x => ?_)
  match x with
  | ⟨0, _⟩ => exact Fin.ext (show win0_2.index t 0 * 1 + 1 * 0 = 0 by rw [hi.1])
  | ⟨1, _⟩ => exact Fin.ext (show win0_2.index t 1 * 2048 + 1 * j.val = j.val by rw [hi.2]; omega)

theorem iblk0 (t : Fin cfg0.N) (r : Fin 256) (j : Fin 2048) : (iblk m d 0 t : Vec Ideal S256x2048 .f32) (ix2 r j) = aD m d (ix2 (rw' t.val r) j) := by
  have hi := index0 t
  have ht := N16 t
  unfold iblk
  rw [View.read_apply]
  show V m d main_arg0 _ = _
  rw [V_main_arg0]
  refine congrArg (aD m d) (funext fun x => ?_)
  match x with
  | ⟨0, _⟩ => exact Fin.ext (show win0_0.index t 0 * 256 + 1 * r.val = (256 * t.val + r.val) % 4096 by rw [hi.1]; omega)
  | ⟨1, _⟩ => exact Fin.ext (show win0_0.index t 1 * 2048 + 1 * j.val = j.val by rw [hi.2]; omega)

theorem iblk1 (t : Fin cfg0.N) (r : Fin 256) (j : Fin 2048) : (iblk m d 1 t : Vec Ideal S256x2048 .f32) (ix2 r j) = aX m d (ix2 (rw' t.val r) j) := by
  have hi := index1 t
  have ht := N16 t
  unfold iblk
  rw [View.read_apply]
  show V m d main_arg1 _ = _
  rw [V_main_arg1]
  refine congrArg (aX m d) (funext fun x => ?_)
  match x with
  | ⟨0, _⟩ => exact Fin.ext (show win0_1.index t 0 * 256 + 1 * r.val = (256 * t.val + r.val) % 4096 by rw [hi.1]; omega)
  | ⟨1, _⟩ => exact Fin.ext (show win0_1.index t 1 * 2048 + 1 * j.val = j.val by rw [hi.2]; omega)

theorem iblk3 (t : Fin cfg0.N) (r : Fin 256) (j : Fin 2048) : (iblk m d 3 t : Vec Ideal S256x2048 .f32) (ix2 r j) = aE m d (ix2 (rw' t.val r) j) := by
  have hi := index3 t
  have ht := N16 t
  unfold iblk
  rw [View.read_apply]
  show V m d main_arg3 _ = _
  rw [V_main_arg3]
  refine congrArg (aE m d) (funext fun x => ?_)
  match x with
  | ⟨0, _⟩ => exact Fin.ext (show win0_3.index t 0 * 256 + 1 * r.val = (256 * t.val + r.val) % 4096 by rw [hi.1]; omega)
  | ⟨1, _⟩ => exact Fin.ext (show win0_3.index t 1 * 2048 + 1 * j.val = j.val by rw [hi.2]; omega)

/-- A row of an array. -/
abbrev rowA (x : S4096x2048.Idx → EReal) (r : Fin 4096) : Fin 2048 → EReal := fun j => x (ix2 r j)

/-- The results: the cotangent of the stream, and the gradient of the gain. -/
def resX (D X : S4096x2048.Idx → EReal) (G : S2048.Idx → EReal) (E : S4096x2048.Idx → EReal) : S4096x2048.Idx → EReal :=
  fun i => E i + dxr (rowA X (i 0)) (rowA D (i 0)) (fun j => G (ix1 j)) (i 1)

def resG (D X : S4096x2048.Idx → EReal) : S1x2048.Idx → EReal :=
  fun i => ∑ r : Fin 4096, D (ix2 r (i 1)) * (X (ix2 r (i 1)) * rs (rowA X r))

theorem row1 (t : Fin cfg0.N) (r : Fin 256) : row (iblk m d 1 t) r = rowA (aX m d) (rw' t.val r) := funext fun j => iblk1 m d t r j
theorem row0 (t : Fin cfg0.N) (r : Fin 256) : row (iblk m d 0 t) r = rowA (aD m d) (rw' t.val r) := funext fun j => iblk0 m d t r j

theorem outs_X (t : Fin cfg0.N) : (outsAt0 m d t.val t.isLt).1 = k0_pay1 (F := Ideal) (iblk m d 3 t) (k0_pay7 (F := Ideal) (iblk m d 1 t) (iblk m d 0 t) (iblk m d 2 t)) := by
  by_cases h0 : t.val % 16 = 0
  · rw [outsAt0_A m d t h0]; dsimp only; rw [out_A4]
  · rw [outsAt0_B m d t h0]; dsimp only; rw [out_B4]

theorem outs_Xb (t : Fin cfg0.N) : (outsAt0 m d t.val t.isLt).2.1 = k0_pay2 (F := Ideal) (iblk m d 3 t) (k0_pay7 (F := Ideal) (iblk m d 1 t) (iblk m d 0 t) (iblk m d 2 t)) := by
  by_cases h0 : t.val % 16 = 0
  · rw [outsAt0_A m d t h0]; dsimp only; rw [out_A5]
  · rw [outsAt0_B m d t h0]; dsimp only; rw [out_B5]

theorem block_X (t : Fin cfg0.N) (r : Fin 256) (j : Fin 2048) :
    k0_pay1 (F := Ideal) (iblk m d 3 t) (k0_pay7 (F := Ideal) (iblk m d 1 t) (iblk m d 0 t) (iblk m d 2 t)) (ix2 r j)
      = resX (aD m d) (aX m d) (aG m d) (aE m d) (ix2 (rw' t.val r) j) := by
  rw [pay1_apply, pay7_apply, row1, row0]
  refine congrArg₂ (fun a b : EReal => a + b) (iblk3 m d t r j) ?_
  exact congrArg (fun g => dxr _ _ g j) (funext fun l => iblk2 m d t l)

theorem flushedEq4 (t : Fin cfg0.N) (_ : (cfg0.win 4).flush t = true) :
    (dats m 0 d).flushed 4 t = ((cfg0.win 4).blk t).view.read (Elt Ideal) (resX (aD m d) (aX m d) (aG m d) (aE m d)) := by
  rw [Value.flushed4, outs_X]
  have hi := index4 t
  have ht := N16 t
  funext y
  obtain ⟨r, k, rfl⟩ : ∃ (r : Fin 256) (k : Fin 2048), y = ix2 r k := ⟨y 0, y 1, funext fun a => by match a with | ⟨0, _⟩ => rfl | ⟨1, _⟩ => rfl⟩
  rw [View.read_apply]
  refine (block_X m d t r k).trans (congrArg (resX (aD m d) (aX m d) (aG m d) (aE m d)) (funext fun x => ?_))
  match x with
  | ⟨0, _⟩ => exact Fin.ext (show (256 * t.val + r.val) % 4096 = win0_4.index t 0 * 256 + 1 * r.val by rw [hi.1]; omega)
  | ⟨1, _⟩ => exact Fin.ext (show k.val = win0_4.index t 1 * 2048 + 1 * k.val by rw [hi.2]; omega)

theorem final4 : (dats m 0 d).arrAt 4 cfg0.N = resX (aD m d) (aX m d) (aG m d) (aE m d) :=
  (dats m 0 d).arrAt_eq_of_cover 4 (resX (aD m d) (aX m d) (aG m d) (aE m d)) (flushedEq4 m d) fun i => by
    have h0 : (i 0 : Nat) < 4096 := (i 0).isLt
    have h1 : (i 1 : Nat) < 2048 := (i 1).isLt
    have hN : grid0.N = 16 := N_0
    obtain ⟨t, ht⟩ : ∃ t : Fin cfg0.N, t.val = (i 0 : Nat) / 256 := ⟨⟨_, by show _ < grid0.N; omega⟩, rfl⟩
    have hi := index4 t
    refine ⟨t, flush0_4 t, ?_⟩
    show i ∈ ((View.whole main_v1_0).slice (win0_4.rect t)).set
    rw [View.set_slice_whole, Rect.mem_set_unit]
    intro a
    match a with
    | ⟨0, _⟩ =>
      show win0_4.index t 0 * 256 ≤ (i 0 : Nat) ∧ (i 0 : Nat) < win0_4.index t 0 * 256 + 256
      rw [hi.1]; omega
    | ⟨1, _⟩ =>
      show win0_4.index t 1 * 2048 ≤ (i 1 : Nat) ∧ (i 1 : Nat) < win0_4.index t 1 * 2048 + 2048
      rw [hi.2]; omega

theorem flushedEq5 (t : Fin cfg0.N) (_ : (cfg0.win 5).flush t = true) :
    (dats m 0 d).flushed 5 t = ((cfg0.win 5).blk t).view.read (Elt Ideal) (resX (aD m d) (aX m d) (aG m d) (aE m d)) := by
  rw [Value.flushed5, outs_Xb, pay2_eq]
  have hi := index5 t
  have ht := N16 t
  funext y
  obtain ⟨r, k, rfl⟩ : ∃ (r : Fin 256) (k : Fin 2048), y = ix2 r k := ⟨y 0, y 1, funext fun a => by match a with | ⟨0, _⟩ => rfl | ⟨1, _⟩ => rfl⟩
  rw [View.read_apply]
  refine (block_X m d t r k).trans (congrArg (resX (aD m d) (aX m d) (aG m d) (aE m d)) (funext fun x => ?_))
  match x with
  | ⟨0, _⟩ => exact Fin.ext (show (256 * t.val + r.val) % 4096 = win0_5.index t 0 * 256 + 1 * r.val by rw [hi.1]; omega)
  | ⟨1, _⟩ => exact Fin.ext (show k.val = win0_5.index t 1 * 2048 + 1 * k.val by rw [hi.2]; omega)

theorem final5 : (dats m 0 d).arrAt 5 cfg0.N = resX (aD m d) (aX m d) (aG m d) (aE m d) :=
  (dats m 0 d).arrAt_eq_of_cover 5 (resX (aD m d) (aX m d) (aG m d) (aE m d)) (flushedEq5 m d) fun i => by
    have h0 : (i 0 : Nat) < 4096 := (i 0).isLt
    have h1 : (i 1 : Nat) < 2048 := (i 1).isLt
    have hN : grid0.N = 16 := N_0
    obtain ⟨t, ht⟩ : ∃ t : Fin cfg0.N, t.val = (i 0 : Nat) / 256 := ⟨⟨_, by show _ < grid0.N; omega⟩, rfl⟩
    have hi := index5 t
    refine ⟨t, flush0_5 t, ?_⟩
    show i ∈ ((View.whole main_v1_1).slice (win0_5.rect t)).set
    rw [View.set_slice_whole, Rect.mem_set_unit]
    intro a
    match a with
    | ⟨0, _⟩ =>
      show win0_5.index t 0 * 256 ≤ (i 0 : Nat) ∧ (i 0 : Nat) < win0_5.index t 0 * 256 + 256
      rw [hi.1]; omega
    | ⟨1, _⟩ =>
      show win0_5.index t 1 * 2048 ≤ (i 1 : Nat) ∧ (i 1 : Nat) < win0_5.index t 1 * 2048 + 2048
      rw [hi.2]; omega

/-- What point `t` adds at an entry of the gain's gradient. -/
def part (j : Fin 2048) (t : ℕ) : EReal :=
  ∑ r : Fin 256, aD m d (ix2 (rw' t r) j) * (aX m d (ix2 (rw' t r) j) * rs (rowA (aX m d) (rw' t r)))

theorem step (acc : Vec Ideal S1x2048 .f32) (t : Fin cfg0.N) (j : Fin 2048) :
    k0_pay6 (F := Ideal) (iblk m d 1 t) (iblk m d 0 t) acc (ix2 0 j) = acc (ix2 0 j) + part m d j t.val := by
  rw [pay6_apply]
  refine congrArg (_ + ·) (Finset.sum_congr rfl fun r _ => ?_)
  rw [row1]
  exact congrArg₂ (fun x y : EReal => x * (y * _)) (iblk0 m d t r j) (iblk1 m d t r j)

theorem acc_A (t : Fin cfg0.N) (h0 : t.val % 16 = 0) :
    (outsAt0 m d t.val t.isLt).2.2 = k0_pay6 (F := Ideal) (iblk m d 1 t) (iblk m d 0 t) (k0_pay3 (F := Ideal)) := by
  rw [outsAt0_A m d t h0]
  dsimp only
  rw [out_A6]

theorem acc_B (t : Fin cfg0.N) (h0 : ¬t.val % 16 = 0) : (outsAt0 m d t.val t.isLt).2.2
    = k0_pay6 (F := Ideal) (iblk m d 1 t) (iblk m d 0 t) (outsAt0 m d (t.val - 1) (Nat.lt_of_le_of_lt (Nat.sub_le _ _) t.isLt)).2.2 := by
  rw [outsAt0_B m d t h0]
  dsimp only
  rw [out_B6]

theorem acc_eq (j : Fin 2048) (q : ℕ) (h : 16 * q + 15 < cfg0.N) :
    (outsAt0 m d (16 * q + 15) h).2.2 (ix2 0 j) = ∑ i ∈ Finset.range 16, part m d j (16 * q + i) :=
  acc_sum (N := cfg0.N) (n := 16) (fun t h => (outsAt0 m d t h).2.2 (ix2 0 j)) (part m d j)
    (fun t h h0 => (congrFun (acc_A m d ⟨t, h⟩ h0) (ix2 0 j)).trans ((step ..).trans (congrArg (· + _) (pay3_apply j))))
    (fun t h h0 => (congrFun (acc_B m d ⟨t, h⟩ h0) (ix2 0 j)).trans (step ..)) q 15 (by omega) h

theorem out_last (t : Fin cfg0.N) (h1 : t.val % 16 = 15) (j : Fin 2048) :
    (outsAt0 m d t.val t.isLt).2.2 (ix2 0 j) = resG (aD m d) (aX m d) (ix2 0 j) := by
  have hN := N16 t
  obtain ⟨t, ht⟩ := t
  obtain rfl : t = 16 * 0 + 15 := by have : t < 16 := hN; have : t % 16 = 15 := h1; omega
  refine (acc_eq m d j 0 ht).trans (Eq.trans ?_ (sum_blocks (n := 16) (b := 256) rfl _))
  refine Finset.sum_congr rfl fun i hi => ?_
  rw [show 16 * 0 + i = i by omega]
  rfl

theorem flushedEq6 (t : Fin cfg0.N) (hf : (cfg0.win 6).flush t = true) :
    (dats m 0 d).flushed 6 t = ((cfg0.win 6).blk t).view.read (Elt Ideal) (resG (aD m d) (aX m d)) := by
  rw [Value.flushed6]
  have hi := index6 t
  funext y
  obtain ⟨k, rfl⟩ : ∃ (k : Fin 2048), y = ix2 0 k := ⟨y 1, funext fun a => by match a with | ⟨0, _⟩ => exact Subsingleton.elim (α := Fin 1) _ _ | ⟨1, _⟩ => rfl⟩
  rw [View.read_apply]
  refine (out_last m d t ((flush0_6 t).mp hf) k).trans (congrArg (resG (aD m d) (aX m d)) (funext fun x => ?_))
  match x with
  | ⟨0, _⟩ => exact Fin.ext (show 0 = win0_6.index t 0 * 1 + 1 * 0 by rw [hi.1])
  | ⟨1, _⟩ => exact Fin.ext (show k.val = win0_6.index t 1 * 2048 + 1 * k.val by rw [hi.2]; omega)

theorem final6 : (dats m 0 d).arrAt 6 cfg0.N = resG (aD m d) (aX m d) :=
  (dats m 0 d).arrAt_eq_of_cover 6 (resG (aD m d) (aX m d)) (flushedEq6 m d) fun i => by
    have h0 : (i 0 : Nat) < 1 := (i 0).isLt
    have h1 : (i 1 : Nat) < 2048 := (i 1).isLt
    have hN : grid0.N = 16 := N_0
    obtain ⟨t, ht⟩ : ∃ t : Fin cfg0.N, t.val = 15 := ⟨⟨15, by show _ < grid0.N; omega⟩, rfl⟩
    have hi := index6 t
    refine ⟨t, (flush0_6 t).mpr (by omega), ?_⟩
    show i ∈ ((View.whole main_v1_2).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [hi.1]; omega
    | ⟨1, _⟩ =>
      show win0_6.index t 1 * 2048 ≤ (i 1 : Nat) ∧ (i 1 : Nat) < win0_6.index t 1 * 2048 + 2048
      rw [hi.2]; omega

theorem run_values : θ_run defs (onTc (τ := τ) (main (F := Ideal))) ⟨m, fun _ => 0, ρ⟩ fun r => ∀ c : Dev nD,
      r.2.mem ((c : Thread nD τ).loc main_v1_0) = resX (aD m c) (aX m c) (aG m c) (aE m c)
      ∧ r.2.mem ((c : Thread nD τ).loc main_v1_1) = resX (aD m c) (aX m c) (aG m c) (aE m c)
      ∧ r.2.mem ((c : Thread nD τ).loc main_v1_2) = resG (aD m c) (aX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2⟩) (Value.run_blocks m ρ)

/-! ## The reference -/

section
open Cert.Reference16Ideal.Read
variable (D X : S4096x2048.Idx → EReal) (G : S2048.Idx → EReal) (E : S4096x2048.Idx → EReal)

theorem r_v6 (i : Cert.Reference16Ideal.S4096x1.Idx) : val_main_v6 (F := Ideal) X i = ms (rowA X (i 0)) := by
  rw [val_main_v6_apply, val_main_v4_apply, val_main_v5_apply, val_main_v3_apply, val_main_v2_apply, val_main_v1_apply, val_main_cst_apply,
    val_main_cst_0_apply, val_main_cst_1_apply]
  refine congrArg (fun z => Ideal.div z wid + Ideal.ofBits .f32 0x358637BD#32) ?_
  refine (congrArg (· + _) Ideal.ofBits_zero_f32).trans ((zero_add _).trans (Finset.sum_congr rfl fun k _ => ?_))
  exact congrArg (fun x : EReal => x * x) (congrArg X (funext fun a => match a with | ⟨0, _⟩ => rfl | ⟨1, _⟩ => rfl))

theorem r_v7 (i : Cert.Reference16Ideal.S4096x1.Idx) : val_main_v7 (F := Ideal) X i = rs (rowA X (i 0)) := by
  rw [val_main_v7_apply, r_v6]; rfl

theorem r_v20 (i : S4096x2048.Idx) : val_main_v20 (F := Ideal) D G i = D i * G (ix1 (i 1)) := by
  rw [val_main_v20_apply, val_main_v19_apply, val_main_v13_apply]
  exact congrArg (fun z => D i * G z) (funext fun a => match a with | ⟨0, _⟩ => rfl)

theorem r_v23 (i : Cert.Reference16Ideal.S4096.Idx) : val_main_v23 (F := Ideal) D X G i = ∑ l : Fin 2048, X (ix2 (i 0) l) * (D (ix2 (i 0) l) * G (ix1 l)) := by
  rw [val_main_v23_apply, val_main_cst_5_apply]
  refine (congrArg (· + _) Ideal.ofBits_zero_f32).trans ((zero_add _).trans (Finset.sum_congr rfl fun k _ => ?_))
  rw [val_main_v22_apply, r_v20]
  exact congrArg (fun z => X z * (D z * G (ix1 k))) (funext fun a => match a with | ⟨0, _⟩ => rfl | ⟨1, _⟩ => rfl)

theorem r_v30 (i : Cert.Reference16Ideal.S4096x1.Idx) : val_main_v30 (F := Ideal) D X G i = cf (rowA X (i 0)) (rowA D (i 0)) (fun j => G (ix1 j)) := by
  rw [val_main_v30_apply, val_main_v29_apply, val_main_cst_6_apply, val_main_v28_apply, val_main_v24_apply, r_v23, val_main_v10_apply, val_main_v9_apply,
    val_main_cst_2_apply, val_main_v8_apply, r_v7, r_v6, show idx_main_v24 i 0 = i 0 from Fin.ext (show (i 0).val * 1 + (i 1).val = (i 0).val by
      have h1 : (i 1).val < 1 := (i 1).isLt
      omega)]
  rfl

theorem r_v32 (i : S4096x2048.Idx) : val_main_v32 (F := Ideal) D X G i = cf (rowA X (i 0)) (rowA D (i 0)) (fun j => G (ix1 j)) := by
  rw [val_main_v32_apply, val_main_v31_apply, val_main_cst_7_apply, Fin.sum_univ_one, r_v30]
  exact (congrArg (· + _) Ideal.ofBits_zero_f32).trans (zero_add _)

theorem ref_X : val_main_v36 (F := Ideal) D X G E = resX D X G E := by
  funext i
  rw [val_main_v36_apply, val_main_v35_apply, val_main_v34_apply, val_main_v33_apply, val_main_v27_apply, val_main_v26_apply, r_v32, r_v20,
    val_main_v25_apply, r_v7]
  refine Eq.trans ?_ (row_eq (rowA X (i 0)) (rowA D (i 0)) (fun j => G (ix1 j)) (E i) (i 1)).symm
  have h : i = ix2 (i 0) (i 1) := funext fun a => match a with | ⟨0, _⟩ => rfl | ⟨1, _⟩ => rfl
  exact congrArg (fun z => E i + D z * G (ix1 (i 1)) * rs (rowA X (i 0)) + X z * cf (rowA X (i 0)) (rowA D (i 0)) (fun j => G (ix1 j))
    + cf (rowA X (i 0)) (rowA D (i 0)) (fun j => G (ix1 j)) * X z) h

theorem ref_G : val_main_v38 (F := Ideal) D X = resG D X := by
  funext i
  rw [val_main_v38_apply, val_main_v21_apply, val_main_cst_4_apply, Fin.sum_univ_one, val_main_v18_apply, val_main_v17_apply, val_main_cst_3_apply]
  refine (congrArg (· + _) Ideal.ofBits_zero_f32).trans ((zero_add _).trans ?_)
  refine (congrArg (· + _) Ideal.ofBits_zero_f32).trans ((zero_add _).trans (Finset.sum_congr rfl fun k _ => ?_))
  rw [val_main_v16_apply, val_main_v12_apply, val_main_v11_apply, r_v7]
  refine (mul_comm _ _).trans (congrArg (fun z => D z * (X z * rs (rowA X k))) (funext fun a => match a with | ⟨0, _⟩ => rfl | ⟨1, _⟩ => ?_))
  exact Fin.ext (show 0 * 2048 + (i 1).val = (i 1).val by omega)
end

/-- The kernel's results are the reference's. -/
theorem algebraic : Cert.algebraic_Kernel16Ideal_Reference16Ideal := by
  intro m ρ m' ρ' _ heq
  refine ⟨fun c => resX (aD m c) (aX m c) (aG m c) (aE m c), fun c => resX (aD m c) (aX m c) (aG m c) (aE m c), fun c => resG (aD m c) (aX m c), run_values m ρ,
    (θ_run Cert.Reference16Ideal.defs _ _).mono (fun r h c => ?_) (Cert.Reference16Ideal.Value.run (F := Ideal) m' ρ')⟩
  obtain ⟨h0, h1, h2, hargs⟩ := h c
  obtain ⟨a0, a1, a2, a3⟩ := heq c
  refine ⟨h0.trans ?_, h1.trans ?_, h2.trans ?_, hargs⟩
  · rw [a0, a1, a2, a3, Cert.Reference16Ideal.Read.val_main_v36_eq]
    exact ref_X _ _ _ _
  · rw [a0, a1, a2, a3, Cert.Reference16Ideal.Read.val_main_v37_eq]
    exact ref_X _ _ _ _
  · rw [a0, a1, Cert.Reference16Ideal.Read.val_main_v38_eq]
    exact ref_G _ _

end Cert.Prod.Rms

end
-- ==== Proof.Prod.Merge.lean ====
module

public import proofs.«01_k».proof.Proof.Prod.Gate
public import proofs.«01_k».proof.Defs
public import proofs.«01_k».proof.Proof.Gen.Kernel18Ideal.Value
public import proofs.«01_k».proof.Proof.Gen.Reference18Ideal.Read
public import Idealize.ShloMosaic.Lib.ValueIdx
public import Idealize.ShloMosaic.Lib.Pipeline.ValueKit.Tiles

/-!
# The merge of the three branches

The branches' products with their weights, each under its gate, summed; one block of 512 rows and 256 columns at a
time, and its transpose.
-/

@[expose] public section

set_option maxRecDepth 16384

noncomputable section

namespace Cert.Prod.Merge

open Cert.Kernel18Ideal Cert.Kernel18Ideal.Gen Idealize.ShloMosaic Idealize.ShloMosaic.TcCoe Idealize.SL.Sem

theorem pay2_apply (a g : FVec Ideal S512x256 .f32) (y : Vec Ideal S512x1024 .bf16) (w : FVec Ideal S1024x256 .bf16) (r : Fin 512) (k : Fin 256) :
    k0_pay2 (F := Ideal) a g y w (ix2 r k) = a (ix2 r k) + g (ix2 r k) * ∑ j : Fin 1024, y (ix2 r j) * w (ix2 j k) := by
  pointwise [k0_pay2, k0_pay1]

theorem pay3_apply (a g : FVec Ideal S512x256 .f32) (y : Vec Ideal S512x1024 .bf16) (w : FVec Ideal S1024x256 .bf16) (r : Fin 512) (k : Fin 256) :
    k0_pay3 (F := Ideal) a g y w (ix2 k r) = a (ix2 r k) + g (ix2 r k) * ∑ j : Fin 1024, y (ix2 r j) * w (ix2 j k) := by
  pointwise [k0_pay3, k0_pay1]

theorem pay9_apply (w : Vec Ideal S1x1x1x1024x256 .bf16) (j : Fin 1024) (k : Fin 256) :
    k0_pay9 (F := Ideal) w (ix2 j k) = w (ix5 0 0 0 j k) := by
  pointwise [k0_pay9]

theorem pay5_apply (p : Vec Ideal S512x256 .bf16) (b : Vec Ideal S1x1x1x256 .f32) (r : Fin 512) (k : Fin 256) :
    k0_pay5 (F := Ideal) p b (ix2 r k) = p (ix2 r k) + b (ix4 0 0 0 k) := by
  pointwise [k0_pay5]

theorem pay6_apply (p : Vec Ideal S512x256 .bf16) (b : Vec Ideal S1x1x1x256 .f32) (r : Fin 512) (k : Fin 256) :
    k0_pay6 (F := Ideal) p b (ix2 r k) = Ideal.exp (0 - max (p (ix2 r k) + b (ix4 0 0 0 k)) (-(p (ix2 r k) + b (ix4 0 0 0 k)))) := by
  pointwise [k0_pay6, k0_pay5]
  rfl

theorem pay8_apply (p : Vec Ideal S512x256 .bf16) (b : Vec Ideal S1x1x1x256 .f32) (r : Fin 512) (k : Fin 256) :
    k0_pay8 (F := Ideal) p b (ix2 r k) = gate (p (ix2 r k) + b (ix4 0 0 0 k)) := by
  unfold gate
  pointwise [k0_pay8]
  rfl

theorem pay4_apply (p : Vec Ideal S512x256 .bf16) (b : Vec Ideal S1x1x1x256 .f32) (y : Vec Ideal S512x1024 .bf16) (w : Vec Ideal S1x1x1x1024x256 .bf16) (r : Fin 512) (k : Fin 256) :
    k0_pay4 (F := Ideal) p b y w (ix2 r k) = gate (p (ix2 r k) + b (ix4 0 0 0 k)) * ∑ j : Fin 1024, y (ix2 r j) * w (ix5 0 0 0 j k) := by
  unfold gate
  pointwise [k0_pay4]
  rfl

theorem pay7_apply (a u e : FVec Ideal S512x256 .f32) (y : Vec Ideal S512x1024 .bf16) (w : Vec Ideal S1x1x1x1024x256 .bf16) (r : Fin 512) (k : Fin 256) :
    k0_pay7 (F := Ideal) a u e (Scalar.ofBits .f32 0x00000000#32) y w (ix2 r k)
      = a (ix2 r k) + Ideal.div (if 0 ≤ u (ix2 r k) then 1 else e (ix2 r k)) (1 + e (ix2 r k)) * ∑ j : Fin 1024, y (ix2 r j) * w (ix5 0 0 0 j k) := by
  pointwise [k0_pay7]

/-- Row `n` of a block of biases, and of a block of weights. -/
theorem ld_b0 (b : Vec Ideal S1x1x3x256 .f32) (k : Fin 256) : View.ld b r0_1 (ix4 0 0 0 k) = b (ix4 0 0 0 k) := by
  refine View.ld_unit_apply_of b _ _ _ _ _ fun a => ?_
  match a with
  | ⟨0, _⟩ => rfl
  | ⟨1, _⟩ => rfl
  | ⟨2, _⟩ => rfl
  | ⟨3, _⟩ => exact (Nat.zero_add _).symm

theorem ld_w0 (w : Vec Ideal S1x1x3x1024x256 .bf16) (j : Fin 1024) (k : Fin 256) : View.ld w r0_3 (ix5 0 0 0 j k) = w (ix5 0 0 0 j k) := by
  refine View.ld_unit_apply_of w _ _ _ _ _ fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

theorem ld_b1 (b : Vec Ideal S1x1x3x256 .f32) (k : Fin 256) : View.ld b r0_4 (ix4 0 0 0 k) = b (ix4 0 0 1 k) := by
  refine View.ld_unit_apply_of b _ _ _ _ _ fun a => ?_
  match a with
  | ⟨0, _⟩ => rfl
  | ⟨1, _⟩ => rfl
  | ⟨2, _⟩ => rfl
  | ⟨3, _⟩ => exact (Nat.zero_add _).symm

theorem ld_w1 (w : Vec Ideal S1x1x3x1024x256 .bf16) (j : Fin 1024) (k : Fin 256) : View.ld w r0_5 (ix5 0 0 0 j k) = w (ix5 0 0 1 j k) := by
  refine View.ld_unit_apply_of w _ _ _ _ _ fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

theorem ld_b2 (b : Vec Ideal S1x1x3x256 .f32) (k : Fin 256) : View.ld b r0_6 (ix4 0 0 0 k) = b (ix4 0 0 2 k) := by
  refine View.ld_unit_apply_of b _ _ _ _ _ fun a => ?_
  match a with
  | ⟨0, _⟩ => rfl
  | ⟨1, _⟩ => rfl
  | ⟨2, _⟩ => rfl
  | ⟨3, _⟩ => exact (Nat.zero_add _).symm

theorem ld_w2 (w : Vec Ideal S1x1x3x1024x256 .bf16) (j : Fin 1024) (k : Fin 256) : View.ld w r0_7 (ix5 0 0 0 j k) = w (ix5 0 0 2 j k) := by
  refine View.ld_unit_apply_of w _ _ _ _ _ fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

section
variable (x0 x1 x2 : Vec Ideal S512x1024 .bf16) (x3 : Vec Ideal S1x1x3x1024x256 .bf16) (x4 x5 x6 : Vec Ideal S512x256 .bf16) (x7 : Vec Ideal S1x1x3x256 .f32)

/-- One branch's part of an entry of a block. -/
def bterm (y : Vec Ideal S512x1024 .bf16) (p : Vec Ideal S512x256 .bf16) (n : Fin 3) (r : Fin 512) (k : Fin 256) : EReal :=
  sgm (p (ix2 r k) + x7 (ix4 0 0 n k)) * ∑ j : Fin 1024, y (ix2 r j) * x3 (ix5 0 0 n j k)

theorem pay10_eq (r : Fin 512) (k : Fin 256) : k0_pay10 (F := Ideal) x0 x1 x2 x3 x4 x5 x6 x7 (ix2 r k) = bterm x3 x7 x0 x4 0 r k + bterm x3 x7 x1 x5 1 r k := by
  unfold k0_pay10 bterm
  rw [pay7_apply, pay4_apply, pay5_apply, pay6_apply, ← gate_eq, ← gate_eq, ld_b0, ld_b1, View.ld_unit_zero (S := S512x256) (by decide), View.ld_unit_zero (S := S512x256) (by decide),
    View.ld_unit_zero (S := S512x1024) (by decide), View.ld_unit_zero (S := S512x1024) (by decide)]
  exact congrArg₂ (fun x y : EReal => x + y) (congrArg (fun x : EReal => gate (x4 (ix2 r k) + x7 (ix4 0 0 0 k)) * x) (Finset.sum_congr rfl fun j _ => congrArg (fun x : EReal => x0 (ix2 r j) * x) (ld_w0 x3 j k)))
    (congrArg (fun x : EReal => gate (x5 (ix2 r k) + x7 (ix4 0 0 1 k)) * x) (Finset.sum_congr rfl fun j _ => congrArg (fun x : EReal => x1 (ix2 r j) * x) (ld_w1 x3 j k)))

theorem pay11_eq (r : Fin 512) (k : Fin 256) : k0_pay11 (F := Ideal) x0 x1 x2 x3 x4 x5 x6 x7 (ix2 r k) = sgm (x6 (ix2 r k) + x7 (ix4 0 0 2 k)) := by
  unfold k0_pay11
  rw [pay8_apply, ← gate_eq, ld_b2, View.ld_unit_zero (S := S512x256) (by decide)]

theorem pay12_eq (j : Fin 1024) (k : Fin 256) : k0_pay12 (F := Ideal) x0 x1 x2 x3 x4 x5 x6 x7 (ix2 j k) = x3 (ix5 0 0 2 j k) := by
  unfold k0_pay12
  rw [pay9_apply, ld_w2]

theorem out8_apply (r : Fin 512) (k : Fin 256) : out0_8 (F := Ideal) x0 x1 x2 x3 x4 x5 x6 x7 (ix2 r k)
    = bterm x3 x7 x0 x4 0 r k + bterm x3 x7 x1 x5 1 r k + bterm x3 x7 x2 x6 2 r k := by
  unfold out0_8
  rw [View.canon_unit_zero (by decide), pay2_apply, pay10_eq, pay11_eq, View.ld_unit_zero (S := S512x1024) (by decide)]
  simp only [pay12_eq]
  rfl

theorem out9_apply (r : Fin 512) (k : Fin 256) : out0_9 (F := Ideal) x0 x1 x2 x3 x4 x5 x6 x7 (ix2 k r)
    = bterm x3 x7 x0 x4 0 r k + bterm x3 x7 x1 x5 1 r k + bterm x3 x7 x2 x6 2 r k := by
  unfold out0_9
  rw [View.canon_unit_zero (by decide), pay3_apply, pay10_eq, pay11_eq, View.ld_unit_zero (S := S512x1024) (by decide)]
  simp only [pay12_eq]
  rfl
end

variable (m : (ℓ : Loc nD τ sig) → Buf (Elt Ideal) ℓ) (ρ : Dev nD → PrngReg) (d : Dev nD)

/-- The arguments. -/
abbrev aA0 : S4096x1024.Idx → EReal := m ((d : Thread nD τ).loc main_arg0)
abbrev aA1 : S4096x1024.Idx → EReal := m ((d : Thread nD τ).loc main_arg1)
abbrev aA2 : S4096x1024.Idx → EReal := m ((d : Thread nD τ).loc main_arg2)
abbrev aA3 : S3x1024x2048.Idx → EReal := m ((d : Thread nD τ).loc main_arg3)
abbrev aA4 : S4096x12288.Idx → EReal := m ((d : Thread nD τ).loc main_arg4)
abbrev aA5 : S3x2048.Idx → EReal := m ((d : Thread nD τ).loc main_arg5)

theorem index0 : ∀ t : Fin grid0.N, win0_0.index t 0 = t.val / 8 ∧ win0_0.index t 1 = 0 := by decide +kernel
theorem index1 : ∀ t : Fin grid0.N, win0_1.index t 0 = t.val / 8 ∧ win0_1.index t 1 = 0 := by decide +kernel
theorem index2 : ∀ t : Fin grid0.N, win0_2.index t 0 = t.val / 8 ∧ win0_2.index t 1 = 0 := by decide +kernel
theorem index3 : ∀ t : Fin grid0.N, win0_3.index t 0 = 0 ∧ win0_3.index t 1 = t.val % 8 ∧ win0_3.index t 2 = 0 ∧ win0_3.index t 3 = 0 ∧ win0_3.index t 4 = 0 := by decide +kernel
theorem index4 : ∀ t : Fin grid0.N, win0_4.index t 0 = t.val / 8 ∧ win0_4.index t 1 = 24 + t.val % 8 := by decide +kernel
theorem index5 : ∀ t : Fin grid0.N, win0_5.index t 0 = t.val / 8 ∧ win0_5.index t 1 = 32 + t.val % 8 := by decide +kernel
theorem index6 : ∀ t : Fin grid0.N, win0_6.index t 0 = t.val / 8 ∧ win0_6.index t 1 = 40 + t.val % 8 := by decide +kernel
theorem index7 : ∀ t : Fin grid0.N, win0_7.index t 0 = 0 ∧ win0_7.index t 1 = t.val % 8 ∧ win0_7.index t 2 = 0 ∧ win0_7.index t 3 = 0 := by decide +kernel
theorem index8 : ∀ t : Fin grid0.N, win0_8.index t 0 = t.val / 8 ∧ win0_8.index t 1 = t.val % 8 := by decide +kernel
theorem index9 : ∀ t : Fin grid0.N, win0_9.index t 0 = t.val % 8 ∧ win0_9.index t 1 = t.val / 8 := by decide +kernel

theorem N64 (t : Fin cfg0.N) : t.val < 64 := lt_of_lt_of_eq t.isLt (show cfg0.N = 64 from N_0)

theorem iblk0 (t : Fin cfg0.N) (r : Fin 512) (j : Fin 1024) : (iblk m d 0 t : Vec Ideal S512x1024 .bf16) (ix2 r j)
    = aA0 m d (ix2 (md 4096 (512 * (t.val / 8) + r.val)) j) := by
  have hi := index0 t
  have ht := N64 t
  unfold iblk
  rw [View.read_apply]
  show V m d main_arg0 _ = _
  rw [V_main_arg0]
  refine congrArg (aA0 m d) (funext fun x => ?_)
  match x with
  | ⟨0, _⟩ => exact Fin.ext (show win0_0.index t 0 * 512 + 1 * r.val = (512 * (t.val / 8) + r.val) % 4096 by rw [hi.1]; omega)
  | ⟨1, _⟩ => exact Fin.ext (show win0_0.index t 1 * 1024 + 1 * j.val = j.val by rw [hi.2]; omega)

theorem iblk4 (t : Fin cfg0.N) (r : Fin 512) (k : Fin 256) : (iblk m d 4 t : Vec Ideal S512x256 .bf16) (ix2 r k)
    = aA4 m d (ix2 (md 4096 (512 * (t.val / 8) + r.val)) (md 12288 (6144 + 2048 * 0 + (256 * (t.val % 8) + k.val)))) := by
  have hi := index4 t
  have ht := N64 t
  unfold iblk
  rw [View.read_apply]
  show V m d main_arg4 _ = _
  rw [V_main_arg4]
  refine congrArg (aA4 m d) (funext fun x => ?_)
  match x with
  | ⟨0, _⟩ => exact Fin.ext (show win0_4.index t 0 * 512 + 1 * r.val = (512 * (t.val / 8) + r.val) % 4096 by rw [hi.1]; omega)
  | ⟨1, _⟩ => exact Fin.ext (show win0_4.index t 1 * 256 + 1 * k.val = (6144 + 2048 * 0 + (256 * (t.val % 8) + k.val)) % 12288 by rw [hi.2]; omega)

theorem iblk1 (t : Fin cfg0.N) (r : Fin 512) (j : Fin 1024) : (iblk m d 1 t : Vec Ideal S512x1024 .bf16) (ix2 r j)
    = aA1 m d (ix2 (md 4096 (512 * (t.val / 8) + r.val)) j) := by
  have hi := index1 t
  have ht := N64 t
  unfold iblk
  rw [View.read_apply]
  show V m d main_arg1 _ = _
  rw [V_main_arg1]
  refine congrArg (aA1 m d) (funext fun x => ?_)
  match x with
  | ⟨0, _⟩ => exact Fin.ext (show win0_1.index t 0 * 512 + 1 * r.val = (512 * (t.val / 8) + r.val) % 4096 by rw [hi.1]; omega)
  | ⟨1, _⟩ => exact Fin.ext (show win0_1.index t 1 * 1024 + 1 * j.val = j.val by rw [hi.2]; omega)

theorem iblk5 (t : Fin cfg0.N) (r : Fin 512) (k : Fin 256) : (iblk m d 5 t : Vec Ideal S512x256 .bf16) (ix2 r k)
    = aA4 m d (ix2 (md 4096 (512 * (t.val / 8) + r.val)) (md 12288 (6144 + 2048 * 1 + (256 * (t.val % 8) + k.val)))) := by
  have hi := index5 t
  have ht := N64 t
  unfold iblk
  rw [View.read_apply]
  show V m d main_arg4 _ = _
  rw [V_main_arg4]
  refine congrArg (aA4 m d) (funext fun x => ?_)
  match x with
  | ⟨0, _⟩ => exact Fin.ext (show win0_5.index t 0 * 512 + 1 * r.val = (512 * (t.val / 8) + r.val) % 4096 by rw [hi.1]; omega)
  | ⟨1, _⟩ => exact Fin.ext (show win0_5.index t 1 * 256 + 1 * k.val = (6144 + 2048 * 1 + (256 * (t.val % 8) + k.val)) % 12288 by rw [hi.2]; omega)

theorem iblk2 (t : Fin cfg0.N) (r : Fin 512) (j : Fin 1024) : (iblk m d 2 t : Vec Ideal S512x1024 .bf16) (ix2 r j)
    = aA2 m d (ix2 (md 4096 (512 * (t.val / 8) + r.val)) j) := by
  have hi := index2 t
  have ht := N64 t
  unfold iblk
  rw [View.read_apply]
  show V m d main_arg2 _ = _
  rw [V_main_arg2]
  refine congrArg (aA2 m d) (funext fun x => ?_)
  match x with
  | ⟨0, _⟩ => exact Fin.ext (show win0_2.index t 0 * 512 + 1 * r.val = (512 * (t.val / 8) + r.val) % 4096 by rw [hi.1]; omega)
  | ⟨1, _⟩ => exact Fin.ext (show win0_2.index t 1 * 1024 + 1 * j.val = j.val by rw [hi.2]; omega)

theorem iblk6 (t : Fin cfg0.N) (r : Fin 512) (k : Fin 256) : (iblk m d 6 t : Vec Ideal S512x256 .bf16) (ix2 r k)
    = aA4 m d (ix2 (md 4096 (512 * (t.val / 8) + r.val)) (md 12288 (6144 + 2048 * 2 + (256 * (t.val % 8) + k.val)))) := by
  have hi := index6 t
  have ht := N64 t
  unfold iblk
  rw [View.read_apply]
  show V m d main_arg4 _ = _
  rw [V_main_arg4]
  refine congrArg (aA4 m d) (funext fun x => ?_)
  match x with
  | ⟨0, _⟩ => exact Fin.ext (show win0_6.index t 0 * 512 + 1 * r.val = (512 * (t.val / 8) + r.val) % 4096 by rw [hi.1]; omega)
  | ⟨1, _⟩ => exact Fin.ext (show win0_6.index t 1 * 256 + 1 * k.val = (6144 + 2048 * 2 + (256 * (t.val % 8) + k.val)) % 12288 by rw [hi.2]; omega)

/-- The weights and the biases as the host lays them out. -/
def hostW (w : S3x1024x2048.Idx → EReal) : S1x8x3x1024x256.Idx → EReal :=
  broadcastInDim S1x8x3x1024x256 ![1, 2, 3, 4] bcast_S8x3x1024x256_S1x8x3x1024x256_1_2_3_4
    (transpose S8x3x1024x256 [1, 0, 2, 3] (transpose S3x8x1024x256 [0, 2, 1, 3] (shapeCast S3x1024x8x256 w shapeCasts_S3x1024x2048_S3x1024x8x256)
      transposes_S3x1024x8x256_S3x8x1024x256_0_2_1_3) transposes_S3x8x1024x256_S8x3x1024x256_1_0_2_3)

def hostB (b : S3x2048.Idx → EReal) : S1x8x3x256.Idx → EReal :=
  broadcastInDim S1x8x3x256 ![1, 2, 3] bcast_S8x3x256_S1x8x3x256_1_2_3
    (transpose S8x3x256 [1, 0, 2] (shapeCast S3x8x256 b shapeCasts_S3x2048_S3x8x256) transposes_S3x8x256_S8x3x256_1_0_2)

theorem V4 : V m d main_v4 = hostW (aA3 m d) := by entry_read; rfl
theorem V7 : V m d main_v7 = hostB (aA5 m d) := by entry_read; rfl

theorem hostW_apply (w : S3x1024x2048.Idx → EReal) (g : Fin 8) (n : Fin 3) (j : Fin 1024) (k : Fin 256) :
    hostW w (ix5 0 g n j k) = w (ix3 n j (md 2048 (256 * g.val + k.val))) := by
  pointwise [hostW]
  exact congrArg w (funext fun x => match x with
    | ⟨0, _⟩ => rfl
    | ⟨1, _⟩ => rfl
    | ⟨2, _⟩ => Fin.ext (show g.val * 256 + k.val = (256 * g.val + k.val) % 2048 by omega))

theorem hostB_apply (b : S3x2048.Idx → EReal) (g : Fin 8) (n : Fin 3) (k : Fin 256) :
    hostB b (ix4 0 g n k) = b (ix2 n (md 2048 (256 * g.val + k.val))) := by
  pointwise [hostB]
  exact congrArg b (funext fun x => match x with
    | ⟨0, _⟩ => rfl
    | ⟨1, _⟩ => Fin.ext (show g.val * 256 + k.val = (256 * g.val + k.val) % 2048 by omega))

theorem iblk3 (t : Fin cfg0.N) (n : Fin 3) (j : Fin 1024) (k : Fin 256) : (iblk m d 3 t : Vec Ideal S1x1x3x1024x256 .bf16) (ix5 0 0 n j k)
    = aA3 m d (ix3 n j (md 2048 (256 * (t.val % 8) + k.val))) := by
  have hi := index3 t
  unfold iblk
  rw [View.read_apply]
  show V m d main_v4 _ = _
  rw [V4]
  refine Eq.trans ?_ (hostW_apply (aA3 m d) ⟨t.val % 8, by omega⟩ n j k)
  refine congrArg (hostW (aA3 m d)) (funext fun x => ?_)
  match x with
  | ⟨0, _⟩ => exact Fin.ext (show win0_3.index t 0 * 1 + 1 * 0 = 0 by rw [hi.1])
  | ⟨1, _⟩ => exact Fin.ext (show win0_3.index t 1 * 1 + 1 * 0 = t.val % 8 by rw [hi.2.1]; omega)
  | ⟨2, _⟩ => exact Fin.ext (show win0_3.index t 2 * 3 + 1 * n.val = n.val by rw [hi.2.2.1]; omega)
  | ⟨3, _⟩ => exact Fin.ext (show win0_3.index t 3 * 1024 + 1 * j.val = j.val by rw [hi.2.2.2.1]; omega)
  | ⟨4, _⟩ => exact Fin.ext (show win0_3.index t 4 * 256 + 1 * k.val = k.val by rw [hi.2.2.2.2]; omega)

theorem iblk7 (t : Fin cfg0.N) (n : Fin 3) (k : Fin 256) : (iblk m d 7 t : Vec Ideal S1x1x3x256 .f32) (ix4 0 0 n k)
    = aA5 m d (ix2 n (md 2048 (256 * (t.val % 8) + k.val))) := by
  have hi := index7 t
  unfold iblk
  rw [View.read_apply]
  show V m d main_v7 _ = _
  rw [V7]
  refine Eq.trans ?_ (hostB_apply (aA5 m d) ⟨t.val % 8, by omega⟩ n k)
  refine congrArg (hostB (aA5 m d)) (funext fun x => ?_)
  match x with
  | ⟨0, _⟩ => exact Fin.ext (show win0_7.index t 0 * 1 + 1 * 0 = 0 by rw [hi.1])
  | ⟨1, _⟩ => exact Fin.ext (show win0_7.index t 1 * 1 + 1 * 0 = t.val % 8 by rw [hi.2.1]; omega)
  | ⟨2, _⟩ => exact Fin.ext (show win0_7.index t 2 * 3 + 1 * n.val = n.val by rw [hi.2.2.1]; omega)
  | ⟨3, _⟩ => exact Fin.ext (show win0_7.index t 3 * 256 + 1 * k.val = k.val by rw [hi.2.2.2]; omega)

/-- One branch's part of the result. -/
def term (y : S4096x1024.Idx → EReal) (w : S3x1024x2048.Idx → EReal) (p : S4096x12288.Idx → EReal) (b : S3x2048.Idx → EReal) (n : Fin 3)
    (l : Fin 4096) (k : Fin 2048) : EReal :=
  sgm (p (ix2 l (md 12288 (6144 + 2048 * n.val + k.val))) + b (ix2 n k)) * ∑ j : Fin 1024, y (ix2 l j) * w (ix3 n j k)

/-- The results: the merged branches and their transpose. -/
def res (y0 y1 y2 : S4096x1024.Idx → EReal) (w : S3x1024x2048.Idx → EReal) (p : S4096x12288.Idx → EReal) (b : S3x2048.Idx → EReal) : S4096x2048.Idx → EReal :=
  fun i => term y0 w p b 0 (i 0) (i 1) + term y1 w p b 1 (i 0) (i 1) + term y2 w p b 2 (i 0) (i 1)

def resT (y0 y1 y2 : S4096x1024.Idx → EReal) (w : S3x1024x2048.Idx → EReal) (p : S4096x12288.Idx → EReal) (b : S3x2048.Idx → EReal) : S2048x4096.Idx → EReal :=
  fun i => res y0 y1 y2 w p b (ix2 (i 1) (i 0))

theorem bterm0 (t : Fin cfg0.N) (r : Fin 512) (k : Fin 256) : bterm (iblk m d 3 t) (iblk m d 7 t) (iblk m d 0 t) (iblk m d 4 t) 0 r k
    = term (aA0 m d) (aA3 m d) (aA4 m d) (aA5 m d) 0 (md 4096 (512 * (t.val / 8) + r.val)) (md 2048 (256 * (t.val % 8) + k.val)) := by
  have ht := N64 t
  unfold bterm term
  refine congrArg₂ (fun x y : EReal => sgm x * y) (congrArg₂ (fun x y : EReal => x + y) ((iblk4 m d t r k).trans (congrArg (fun q => aA4 m d (ix2 _ q)) (Fin.ext ?_))) (iblk7 m d t 0 k))
    (Finset.sum_congr rfl fun j _ => congrArg₂ (fun x y : EReal => x * y) (iblk0 m d t r j) (iblk3 m d t 0 j k))
  show (6144 + 2048 * 0 + (256 * (t.val % 8) + k.val)) % 12288 = (6144 + 2048 * 0 + (256 * (t.val % 8) + k.val) % 2048) % 12288
  omega

theorem bterm1 (t : Fin cfg0.N) (r : Fin 512) (k : Fin 256) : bterm (iblk m d 3 t) (iblk m d 7 t) (iblk m d 1 t) (iblk m d 5 t) 1 r k
    = term (aA1 m d) (aA3 m d) (aA4 m d) (aA5 m d) 1 (md 4096 (512 * (t.val / 8) + r.val)) (md 2048 (256 * (t.val % 8) + k.val)) := by
  have ht := N64 t
  unfold bterm term
  refine congrArg₂ (fun x y : EReal => sgm x * y) (congrArg₂ (fun x y : EReal => x + y) ((iblk5 m d t r k).trans (congrArg (fun q => aA4 m d (ix2 _ q)) (Fin.ext ?_))) (iblk7 m d t 1 k))
    (Finset.sum_congr rfl fun j _ => congrArg₂ (fun x y : EReal => x * y) (iblk1 m d t r j) (iblk3 m d t 1 j k))
  show (6144 + 2048 * 1 + (256 * (t.val % 8) + k.val)) % 12288 = (6144 + 2048 * 1 + (256 * (t.val % 8) + k.val) % 2048) % 12288
  omega

theorem bterm2 (t : Fin cfg0.N) (r : Fin 512) (k : Fin 256) : bterm (iblk m d 3 t) (iblk m d 7 t) (iblk m d 2 t) (iblk m d 6 t) 2 r k
    = term (aA2 m d) (aA3 m d) (aA4 m d) (aA5 m d) 2 (md 4096 (512 * (t.val / 8) + r.val)) (md 2048 (256 * (t.val % 8) + k.val)) := by
  have ht := N64 t
  unfold bterm term
  refine congrArg₂ (fun x y : EReal => sgm x * y) (congrArg₂ (fun x y : EReal => x + y) ((iblk6 m d t r k).trans (congrArg (fun q => aA4 m d (ix2 _ q)) (Fin.ext ?_))) (iblk7 m d t 2 k))
    (Finset.sum_congr rfl fun j _ => congrArg₂ (fun x y : EReal => x * y) (iblk2 m d t r j) (iblk3 m d t 2 j k))
  show (6144 + 2048 * 2 + (256 * (t.val % 8) + k.val)) % 12288 = (6144 + 2048 * 2 + (256 * (t.val % 8) + k.val) % 2048) % 12288
  omega

theorem flushedEq8 (t : Fin cfg0.N) (_ : (cfg0.win 8).flush t = true) :
    (dats m 0 d).flushed 8 t = ((cfg0.win 8).blk t).view.read (Elt Ideal) (res (aA0 m d) (aA1 m d) (aA2 m d) (aA3 m d) (aA4 m d) (aA5 m d)) := by
  rw [Value.flushed8]
  have hi := index8 t
  have ht := N64 t
  funext y
  obtain ⟨r, k, rfl⟩ : ∃ (r : Fin 512) (k : Fin 256), y = ix2 r k := ⟨y 0, y 1, funext fun a => by match a with | ⟨0, _⟩ => rfl | ⟨1, _⟩ => rfl⟩
  rw [View.read_apply]
  refine (out8_apply _ _ _ _ _ _ _ _ r k).trans (Eq.trans (b := res (aA0 m d) (aA1 m d) (aA2 m d) (aA3 m d) (aA4 m d) (aA5 m d) (ix2 (md 4096 (512 * (t.val / 8) + r.val)) (md 2048 (256 * (t.val % 8) + k.val)))) ?_ (congrArg (res (aA0 m d) (aA1 m d) (aA2 m d) (aA3 m d) (aA4 m d) (aA5 m d)) (funext fun x => ?_)))
  · exact congrArg₂ (fun x y : EReal => x + y) (congrArg₂ (fun x y : EReal => x + y) (bterm0 m d t r k) (bterm1 m d t r k)) (bterm2 m d t r k)
  · match x with
    | ⟨0, _⟩ => exact Fin.ext (show (512 * (t.val / 8) + r.val) % 4096 = win0_8.index t 0 * 512 + 1 * r.val by rw [hi.1]; omega)
    | ⟨1, _⟩ => exact Fin.ext (show (256 * (t.val % 8) + k.val) % 2048 = win0_8.index t 1 * 256 + 1 * k.val by rw [hi.2]; omega)

theorem final8 : (dats m 0 d).arrAt 8 cfg0.N = res (aA0 m d) (aA1 m d) (aA2 m d) (aA3 m d) (aA4 m d) (aA5 m d) :=
  (dats m 0 d).arrAt_eq_of_cover 8 (res (aA0 m d) (aA1 m d) (aA2 m d) (aA3 m d) (aA4 m d) (aA5 m d)) (flushedEq8 m d) fun i => by
    have h0 : (i 0 : Nat) < 4096 := (i 0).isLt
    have h1 : (i 1 : Nat) < 2048 := (i 1).isLt
    have hN : grid0.N = 64 := N_0
    obtain ⟨t, ht⟩ : ∃ t : Fin cfg0.N, t.val = 8 * ((i 0 : Nat) / 512) + (i 1 : Nat) / 256 := ⟨⟨_, by show _ < grid0.N; omega⟩, rfl⟩
    have hi := index8 t
    refine ⟨t, flush0_8 t, ?_⟩
    show i ∈ ((View.whole main_v8_0).slice (win0_8.rect t)).set
    rw [View.set_slice_whole, Rect.mem_set_unit]
    intro a
    match a with
    | ⟨0, _⟩ =>
      show win0_8.index t 0 * 512 ≤ (i 0 : Nat) ∧ (i 0 : Nat) < win0_8.index t 0 * 512 + 512
      rw [hi.1]; omega
    | ⟨1, _⟩ =>
      show win0_8.index t 1 * 256 ≤ (i 1 : Nat) ∧ (i 1 : Nat) < win0_8.index t 1 * 256 + 256
      rw [hi.2]; omega

theorem flushedEq9 (t : Fin cfg0.N) (_ : (cfg0.win 9).flush t = true) :
    (dats m 0 d).flushed 9 t = ((cfg0.win 9).blk t).view.read (Elt Ideal) (resT (aA0 m d) (aA1 m d) (aA2 m d) (aA3 m d) (aA4 m d) (aA5 m d)) := by
  rw [Value.flushed9]
  have hi := index9 t
  have ht := N64 t
  funext y
  obtain ⟨k, r, rfl⟩ : ∃ (k : Fin 256) (r : Fin 512), y = ix2 k r := ⟨y 0, y 1, funext fun a => by match a with | ⟨0, _⟩ => rfl | ⟨1, _⟩ => rfl⟩
  rw [View.read_apply]
  refine (out9_apply _ _ _ _ _ _ _ _ r k).trans (Eq.trans (b := resT (aA0 m d) (aA1 m d) (aA2 m d) (aA3 m d) (aA4 m d) (aA5 m d) (ix2 (md 2048 (256 * (t.val % 8) + k.val)) (md 4096 (512 * (t.val / 8) + r.val)))) ?_ (congrArg (resT (aA0 m d) (aA1 m d) (aA2 m d) (aA3 m d) (aA4 m d) (aA5 m d)) (funext fun x => ?_)))
  · exact congrArg₂ (fun x y : EReal => x + y) (congrArg₂ (fun x y : EReal => x + y) (bterm0 m d t r k) (bterm1 m d t r k)) (bterm2 m d t r k)
  · match x with
    | ⟨0, _⟩ => exact Fin.ext (show (256 * (t.val % 8) + k.val) % 2048 = win0_9.index t 0 * 256 + 1 * k.val by rw [hi.1]; omega)
    | ⟨1, _⟩ => exact Fin.ext (show (512 * (t.val / 8) + r.val) % 4096 = win0_9.index t 1 * 512 + 1 * r.val by rw [hi.2]; omega)

theorem final9 : (dats m 0 d).arrAt 9 cfg0.N = resT (aA0 m d) (aA1 m d) (aA2 m d) (aA3 m d) (aA4 m d) (aA5 m d) :=
  (dats m 0 d).arrAt_eq_of_cover 9 (resT (aA0 m d) (aA1 m d) (aA2 m d) (aA3 m d) (aA4 m d) (aA5 m d)) (flushedEq9 m d) fun i => by
    have h0 : (i 0 : Nat) < 2048 := (i 0).isLt
    have h1 : (i 1 : Nat) < 4096 := (i 1).isLt
    have hN : grid0.N = 64 := N_0
    obtain ⟨t, ht⟩ : ∃ t : Fin cfg0.N, t.val = 8 * ((i 1 : Nat) / 512) + (i 0 : Nat) / 256 := ⟨⟨_, by show _ < grid0.N; omega⟩, rfl⟩
    have hi := index9 t
    refine ⟨t, flush0_9 t, ?_⟩
    show i ∈ ((View.whole main_v8_1).slice (win0_9.rect t)).set
    rw [View.set_slice_whole, Rect.mem_set_unit]
    intro a
    match a with
    | ⟨0, _⟩ =>
      show win0_9.index t 0 * 256 ≤ (i 0 : Nat) ∧ (i 0 : Nat) < win0_9.index t 0 * 256 + 256
      rw [hi.1]; omega
    | ⟨1, _⟩ =>
      show win0_9.index t 1 * 512 ≤ (i 1 : Nat) ∧ (i 1 : Nat) < win0_9.index t 1 * 512 + 512
      rw [hi.2]; omega

theorem run_values : θ_run defs (onTc (τ := τ) (main (F := Ideal))) ⟨m, fun _ => 0, ρ⟩ fun r => ∀ c : Dev nD,
      r.2.mem ((c : Thread nD τ).loc main_v8_0) = res (aA0 m c) (aA1 m c) (aA2 m c) (aA3 m c) (aA4 m c) (aA5 m c)
      ∧ r.2.mem ((c : Thread nD τ).loc main_v8_1) = resT (aA0 m c) (aA1 m c) (aA2 m c) (aA3 m c) (aA4 m c) (aA5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final8 m c), (h c).2.1.trans (final9 m c), (h c).2.2⟩) (Value.run_blocks m ρ)

section
open Cert.Reference18Ideal.Read
variable (y0 y1 y2 : S4096x1024.Idx → EReal) (w : S3x1024x2048.Idx → EReal) (p : S4096x12288.Idx → EReal) (b : S3x2048.Idx → EReal)

/-- The three branches, stacked. -/
theorem stack_y (l : Fin 4096) (n : Fin 3) (j : Fin 1024) : val_main_v15 (F := Ideal) y0 y1 y2 (ix3 l n j)
    = (![val_main_v12 (F := Ideal) y0, val_main_v13 (F := Ideal) y1, val_main_v14 (F := Ideal) y2] : Fin 3 → Cert.Reference18Ideal.S4096x1x1024.Idx → EReal) n (ix3 l 0 j) :=
  concatenate_ofFn_unit_apply (t := Cert.Reference18Ideal.S4096x3x1024) (s₁ := Cert.Reference18Ideal.S4096x1x1024) 1
    (![val_main_v12 (F := Ideal) y0, val_main_v13 (F := Ideal) y1, val_main_v14 (F := Ideal) y2] : Fin 3 → Cert.Reference18Ideal.S4096x1x1024.Idx → EReal) Cert.Reference18Ideal.Gen.concatenates_S4096x1x1024_S4096x1x1024_S4096x1x1024_S4096x3x1024_d1 rfl rfl (ix3 l n j) n rfl (ix3 l 0 j)
    fun a ha => match a with
      | ⟨0, _⟩ => rfl
      | ⟨1, _⟩ => absurd rfl ha
      | ⟨2, _⟩ => rfl

theorem gate_ref (l : Fin 4096) (n : Fin 3) (k : Fin 2048) :
    val_main_v11 (F := Ideal) p b (ix3 l n k) = sgm (p (ix2 l (md 12288 (6144 + 2048 * n.val + k.val))) + b (ix2 n k)) := by
  have hb : val_main_v4 (F := Ideal) b (ix3 l n k) = b (ix2 n k) := by
    rw [val_main_v4_apply, val_main_v3_apply]
    exact congrArg b (funext fun a => match a with | ⟨0, _⟩ => rfl | ⟨1, _⟩ => rfl)
  have hp : val_main_v2 (F := Ideal) p (ix3 l n k) = p (ix2 l (md 12288 (6144 + 2048 * n.val + k.val))) := by
    rw [val_main_v2_apply, val_main_v1_apply, val_main_v0_apply]
    exact congrArg p (funext fun a => match a with
      | ⟨0, _⟩ => Fin.ext (show ((l.val * 3 + n.val) * 2048 + k.val) / 6144 = l.val by omega)
      | ⟨1, _⟩ => Fin.ext (show 6144 + ((l.val * 3 + n.val) * 2048 + k.val) % 6144 = (6144 + 2048 * n.val + k.val) % 12288 by omega))
  rw [val_main_v11_apply, val_main_v10_apply, val_main_cst_0_apply, val_main_v9_apply, val_main_v8_apply, val_main_cst_apply, val_main_v7_apply, val_main_v6_apply,
    val_main_v5_apply, hp, hb]
  show Ideal.div (Ideal.ofBits .f32 0x3F800000#32) (Ideal.ofBits .f32 0x3F800000#32 + Ideal.exp (-(p (ix2 l (md 12288 (6144 + 2048 * n.val + k.val))) + b (ix2 n k)))) = _
  rw [Ideal.ofBits_one_f32]
  rfl

theorem part_ref (l : Fin 4096) (n : Fin 3) (k : Fin 2048) (y : S4096x1024.Idx → EReal)
    (hy : ∀ j : Fin 1024, val_main_v15 (F := Ideal) y0 y1 y2 (ix3 l n j) = y (ix2 l j)) :
    val_main_v19 (F := Ideal) y0 y1 y2 w p b (ix3 l n k) = term y w p b n l k := by
  rw [val_main_v19_apply]
  refine congrArg₂ (fun x y : EReal => x * y) (gate_ref p b l n k) ?_
  rw [val_main_v18_apply, val_main_v17_apply]
  refine Finset.sum_congr rfl fun j _ => (mul_comm _ _).trans (congrArg₂ (fun x y : EReal => x * y) ?_ (congrArg w ?_))
  · refine Eq.trans ?_ (hy j)
    exact congrArg (val_main_v15 (F := Ideal) y0 y1 y2) (funext fun a => match a with | ⟨0, _⟩ => rfl | ⟨1, _⟩ => rfl | ⟨2, _⟩ => rfl)
  · exact funext fun a => match a with | ⟨0, _⟩ => rfl | ⟨1, _⟩ => rfl | ⟨2, _⟩ => rfl

theorem term_ref0 (l : Fin 4096) (k : Fin 2048) : val_main_v19 (F := Ideal) y0 y1 y2 w p b (ix3 l 0 k) = term y0 w p b 0 l k := by
  refine part_ref y0 y1 y2 w p b l 0 k y0 fun j => (stack_y y0 y1 y2 l 0 j).trans ?_
  show val_main_v12 (F := Ideal) y0 (ix3 l 0 j) = _
  rw [val_main_v12_apply]
  exact congrArg y0 (funext fun a => match a with | ⟨0, _⟩ => rfl | ⟨1, _⟩ => rfl)

theorem term_ref1 (l : Fin 4096) (k : Fin 2048) : val_main_v19 (F := Ideal) y0 y1 y2 w p b (ix3 l 1 k) = term y1 w p b 1 l k := by
  refine part_ref y0 y1 y2 w p b l 1 k y1 fun j => (stack_y y0 y1 y2 l 1 j).trans ?_
  show val_main_v13 (F := Ideal) y1 (ix3 l 0 j) = _
  rw [val_main_v13_apply]
  exact congrArg y1 (funext fun a => match a with | ⟨0, _⟩ => rfl | ⟨1, _⟩ => rfl)

theorem term_ref2 (l : Fin 4096) (k : Fin 2048) : val_main_v19 (F := Ideal) y0 y1 y2 w p b (ix3 l 2 k) = term y2 w p b 2 l k := by
  refine part_ref y0 y1 y2 w p b l 2 k y2 fun j => (stack_y y0 y1 y2 l 2 j).trans ?_
  show val_main_v14 (F := Ideal) y2 (ix3 l 0 j) = _
  rw [val_main_v14_apply]
  exact congrArg y2 (funext fun a => match a with | ⟨0, _⟩ => rfl | ⟨1, _⟩ => rfl)

theorem ref_eq : val_main_v21 (F := Ideal) y0 y1 y2 w p b = res y0 y1 y2 w p b := by
  funext i
  obtain ⟨l, k, rfl⟩ : ∃ (l : Fin 4096) (k : Fin 2048), i = ix2 l k := ⟨i 0, i 1, funext fun a => by match a with | ⟨0, _⟩ => rfl | ⟨1, _⟩ => rfl⟩
  rw [val_main_v21_apply]
  show val_main_v20 (F := Ideal) y0 y1 y2 w p b (ix2 l k) = _
  rw [val_main_v20_apply, Fin.sum_univ_three, val_main_cst_1_apply]
  have hi : ∀ n : Fin 3, idx_main_v20 (ix2 l k) n = ix3 l n k := fun n => funext fun a => match a with | ⟨0, _⟩ => rfl | ⟨1, _⟩ => rfl | ⟨2, _⟩ => rfl
  rw [hi, hi, hi, term_ref0, term_ref1, term_ref2]
  refine (congrArg (fun z : EReal => z + _) Ideal.ofBits_zero_f32).trans (zero_add _)

theorem refT_eq : val_main_v22 (F := Ideal) y0 y1 y2 w p b = resT y0 y1 y2 w p b := by
  funext i
  rw [val_main_v22_apply, ref_eq]
  exact congrArg (res y0 y1 y2 w p b) (funext fun a => match a with | ⟨0, _⟩ => rfl | ⟨1, _⟩ => rfl)
end

/-- The kernel's results are the reference's. -/
theorem algebraic : Cert.algebraic_Kernel18Ideal_Reference18Ideal := by
  intro m ρ m' ρ' _ heq
  refine ⟨fun c => res (aA0 m c) (aA1 m c) (aA2 m c) (aA3 m c) (aA4 m c) (aA5 m c), fun c => resT (aA0 m c) (aA1 m c) (aA2 m c) (aA3 m c) (aA4 m c) (aA5 m c), run_values m ρ, (θ_run Cert.Reference18Ideal.defs _ _).mono (fun r h c => ?_) (Cert.Reference18Ideal.Value.run (F := Ideal) m' ρ')⟩
  obtain ⟨h0, h1, hargs⟩ := h c
  obtain ⟨a0, a1, a2, a3, a4, a5⟩ := heq c
  refine ⟨h0.trans ?_, h1.trans ?_, hargs⟩
  · rw [a0, a1, a2, a3, a4, a5, Cert.Reference18Ideal.Read.val_main_v21_eq]
    exact ref_eq _ _ _ _ _ _
  · rw [a0, a1, a2, a3, a4, a5, Cert.Reference18Ideal.Read.val_main_v22_eq]
    exact refT_eq _ _ _ _ _ _

end Cert.Prod.Merge

end
-- ==== Proof.Prod.GluOut.lean ====
module

public import proofs.«01_k».proof.Proof.Prod.Glu
public import proofs.«01_k».proof.Proof.Gen.Kernel15Ideal.Value
public import proofs.«01_k».proof.Proof.Gen.Reference15Ideal.Read

/-!
# The second mixer's output gate

`gelu(y) · sigmoid(gelu(y) · w + b)`, one block of 512 rows at a time. The row's values are those of the gate's gradient.
-/

@[expose] public section

set_option maxRecDepth 16384

noncomputable section

namespace Cert.Prod.GluOut

open Cert.Kernel15Ideal Cert.Kernel15Ideal.Gen Idealize.ShloMosaic Idealize.ShloMosaic.TcCoe Idealize.SL.Sem
open Cert.Prod.Glu (gs yb wb bb bg yA wA bA)
open Cert.Gmlp (gelu)

section
variable (x0 : Vec Ideal S512x1024 .f32) (x1 : Vec Ideal S512x1024 .bf16) (x2 : Vec Ideal S1x1024 .f32) (x3 : Vec Ideal S1x1024x1024 .bf16) (x4 : Vec Ideal S1x1024 .f32)

theorem out_eq5 : out0_5 (F := Ideal) x0 x1 x2 x3 x4 = k0_pay1 (F := Ideal) (k0_pay2 (F := Ideal) x0 x2 x1 x3 x4) := by
  unfold out0_5
  rw [View.canon_unit_zero (by decide), View.ld_unit_zero (S := S512x1024) (by decide), View.ld_unit_zero (S := S512x1024) (by decide),
    View.ld_unit_zero (S := S1x1024) (by decide), View.ld_unit_zero (S := S1x1024) (by decide), View.ld_unit_zero (S := S1x1024x1024) (by decide)]

/-- The block is the gelu and the sigmoid of the gate's gradient, multiplied. -/
theorem pay2_eq : k0_pay2 (F := Ideal) x0 x2 x1 x3 x4 = mulf (bg x0 x1 x2) (Cert.Kernel17Ideal.Gen.k0_pay20 (F := Ideal) (bg x0 x1 x2) x3 x4) := rfl

theorem out_apply (r : Fin 512) (j : Fin 1024) :
    k0_pay1 (F := Ideal) (k0_pay2 (F := Ideal) x0 x2 x1 x3 x4) (ix2 r j) = gelu (yb x0 x1 x2 r j) * gs (yb x0 x1 x2 r) (wb x3) (bb x4) j := by
  rw [pay2_eq]
  exact congrArg₂ (fun u v : EReal => u * v) (Glu.bg_apply x0 x1 x2 r j) (Glu.bs_apply x0 x1 x2 x3 x4 r j)
end

variable (m : (ℓ : Loc nD τ sig) → Buf (Elt Ideal) ℓ) (ρ : Dev nD → PrngReg) (d : Dev nD)

/-- The mixer's output, the projections, the skip's weight, the gate's matrix and its bias. -/
abbrev aY : S4096x1024.Idx → EReal := m ((d : Thread nD τ).loc main_arg0)
abbrev aP : S4096x12288.Idx → EReal := m ((d : Thread nD τ).loc main_arg1)
abbrev aD : S1x1024.Idx → EReal := m ((d : Thread nD τ).loc main_arg2)
abbrev aW : S1024x1024.Idx → EReal := m ((d : Thread nD τ).loc main_arg3)
abbrev aB : S1x1024.Idx → EReal := m ((d : Thread nD τ).loc main_arg4)

theorem index0 : ∀ t : Fin grid0.N, win0_0.index t 0 = t.val ∧ win0_0.index t 1 = 0 := by decide +kernel
theorem index1 : ∀ t : Fin grid0.N, win0_1.index t 0 = t.val ∧ win0_1.index t 1 = 2 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 ∧ win0_3.index t 2 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel

theorem N8 (t : Fin cfg0.N) : t.val < 8 := lt_of_lt_of_eq t.isLt (show cfg0.N = 8 from N_0)

/-- Row `r` of block `n`. -/
abbrev rw' (n : ℕ) (r : Fin 512) : Fin 4096 := md 4096 (512 * n + r.val)

theorem iblk0 (t : Fin cfg0.N) (r : Fin 512) (j : Fin 1024) : (iblk m d 0 t : Vec Ideal S512x1024 .f32) (ix2 r j) = aY m d (ix2 (rw' t.val r) j) := by
  have hi := index0 t
  have ht := N8 t
  unfold iblk
  rw [View.read_apply]
  show V m d main_arg0 _ = _
  rw [V_main_arg0]
  refine congrArg (aY m d) (funext fun x => ?_)
  match x with
  | ⟨0, _⟩ => exact Fin.ext (show win0_0.index t 0 * 512 + 1 * r.val = (512 * t.val + r.val) % 4096 by rw [hi.1]; omega)
  | ⟨1, _⟩ => exact Fin.ext (show win0_0.index t 1 * 1024 + 1 * j.val = j.val by rw [hi.2]; omega)

theorem iblk1 (t : Fin cfg0.N) (r : Fin 512) (j : Fin 1024) : (iblk m d 1 t : Vec Ideal S512x1024 .bf16) (ix2 r j) = aP m d (ix2 (rw' t.val r) (md 12288 (2048 + j.val))) := by
  have hi := index1 t
  have ht := N8 t
  unfold iblk
  rw [View.read_apply]
  show V m d main_arg1 _ = _
  rw [V_main_arg1]
  refine congrArg (aP m d) (funext fun x => ?_)
  match x with
  | ⟨0, _⟩ => exact Fin.ext (show win0_1.index t 0 * 512 + 1 * r.val = (512 * t.val + r.val) % 4096 by rw [hi.1]; omega)
  | ⟨1, _⟩ => exact Fin.ext (show win0_1.index t 1 * 1024 + 1 * j.val = (2048 + j.val) % 12288 by rw [hi.2]; omega)

theorem iblk2 (t : Fin cfg0.N) (j : Fin 1024) : (iblk m d 2 t : Vec Ideal S1x1024 .f32) (ix2 0 j) = aD m d (ix2 0 j) := by
  have hi := index2 t
  unfold iblk
  rw [View.read_apply]
  show V m d main_arg2 _ = _
  rw [V_main_arg2]
  refine congrArg (aD m d) (funext fun x => ?_)
  match x with
  | ⟨0, _⟩ => exact Fin.ext (show win0_2.index t 0 * 1 + 1 * 0 = 0 by rw [hi.1])
  | ⟨1, _⟩ => exact Fin.ext (show win0_2.index t 1 * 1024 + 1 * j.val = j.val by rw [hi.2]; omega)

theorem iblk4 (t : Fin cfg0.N) (j : Fin 1024) : (iblk m d 4 t : Vec Ideal S1x1024 .f32) (ix2 0 j) = aB m d (ix2 0 j) := by
  have hi := index4 t
  unfold iblk
  rw [View.read_apply]
  show V m d main_arg4 _ = _
  rw [V_main_arg4]
  refine congrArg (aB m d) (funext fun x => ?_)
  match x with
  | ⟨0, _⟩ => exact Fin.ext (show win0_4.index t 0 * 1 + 1 * 0 = 0 by rw [hi.1])
  | ⟨1, _⟩ => exact Fin.ext (show win0_4.index t 1 * 1024 + 1 * j.val = j.val by rw [hi.2]; omega)

theorem V1 : V m d main_v1 = broadcastInDim S1x1024x1024 ![1, 2] bcast_S1024x1024_S1x1024x1024_1_2 (truncf (F := Ideal) (s := S1024x1024) (φ := .f32) .bf16 (aW m d) bitsLt_bf16_f32) := by entry_read; rfl

theorem hostW_apply (w : FVec Ideal S1024x1024 .f32) (k j : Fin 1024) :
    broadcastInDim S1x1024x1024 ![1, 2] bcast_S1024x1024_S1x1024x1024_1_2 (truncf (F := Ideal) (s := S1024x1024) (φ := .f32) .bf16 w bitsLt_bf16_f32) (ix3 0 k j) = w (ix2 k j) := by
  pointwise

theorem iblk3 (t : Fin cfg0.N) (k j : Fin 1024) : (iblk m d 3 t : Vec Ideal S1x1024x1024 .bf16) (ix3 0 k j) = aW m d (ix2 k j) := by
  have hi := index3 t
  unfold iblk
  rw [View.read_apply]
  show V m d main_v1 _ = _
  rw [V1]
  refine Eq.trans ?_ (hostW_apply (aW m d) k j)
  refine congrArg (broadcastInDim S1x1024x1024 ![1, 2] bcast_S1024x1024_S1x1024x1024_1_2 (truncf (F := Ideal) (s := S1024x1024) (φ := .f32) .bf16 (aW m d) bitsLt_bf16_f32)) (funext fun x => ?_)
  match x with
  | ⟨0, _⟩ => exact Fin.ext (show win0_3.index t 0 * 1 + 1 * 0 = 0 by rw [hi.1])
  | ⟨1, _⟩ => exact Fin.ext (show win0_3.index t 1 * 1024 + 1 * k.val = k.val by rw [hi.2.1]; omega)
  | ⟨2, _⟩ => exact Fin.ext (show win0_3.index t 2 * 1024 + 1 * j.val = j.val by rw [hi.2.2]; omega)

theorem row_y (t : Fin cfg0.N) (r : Fin 512) : yb (iblk m d 0 t) (iblk m d 1 t) (iblk m d 2 t) r = yA (aY m d) (aP m d) (aD m d) (rw' t.val r) :=
  funext fun j => congrArg₂ (fun u v : EReal => u + v) (iblk0 m d t r j) (congrArg₂ (fun u v : EReal => u * v) (iblk2 m d t j) (iblk1 m d t r j))
theorem row_w (t : Fin cfg0.N) : wb (iblk m d 3 t) = wA (aW m d) := funext fun k => funext fun j => iblk3 m d t k j
theorem row_b (t : Fin cfg0.N) : bb (iblk m d 4 t) = bA (aB m d) := funext fun j => iblk4 m d t j

/-- The result. -/
def res (Y : S4096x1024.Idx → EReal) (P : S4096x12288.Idx → EReal) (D : S1x1024.Idx → EReal) (W : S1024x1024.Idx → EReal) (B : S1x1024.Idx → EReal) :
    S4096x1024.Idx → EReal := fun i => gelu (yA Y P D (i 0) (i 1)) * gs (yA Y P D (i 0)) (wA W) (bA B) (i 1)

theorem block (t : Fin cfg0.N) (r : Fin 512) (j : Fin 1024) :
    k0_pay1 (F := Ideal) (k0_pay2 (F := Ideal) (iblk m d 0 t) (iblk m d 2 t) (iblk m d 1 t) (iblk m d 3 t) (iblk m d 4 t)) (ix2 r j)
      = res (aY m d) (aP m d) (aD m d) (aW m d) (aB m d) (ix2 (rw' t.val r) j) := by
  refine (out_apply _ _ _ _ _ r j).trans ?_
  rw [row_y, row_w, row_b]
  exact rfl

theorem flushedEq5 (t : Fin cfg0.N) (_ : (cfg0.win 5).flush t = true) :
    (dats m 0 d).flushed 5 t = ((cfg0.win 5).blk t).view.read (Elt Ideal) (res (aY m d) (aP m d) (aD m d) (aW m d) (aB m d)) := by
  rw [Value.flushed5, out_eq5]
  have hi := index5 t
  have ht := N8 t
  funext y
  obtain ⟨r, k, rfl⟩ : ∃ (r : Fin 512) (k : Fin 1024), y = ix2 r k := ⟨y 0, y 1, funext fun a => by match a with | ⟨0, _⟩ => rfl | ⟨1, _⟩ => rfl⟩
  rw [View.read_apply]
  refine (block m d t r k).trans (congrArg (res (aY m d) (aP m d) (aD m d) (aW m d) (aB m d)) (funext fun x => ?_))
  match x with
  | ⟨0, _⟩ => exact Fin.ext (show (512 * t.val + r.val) % 4096 = win0_5.index t 0 * 512 + 1 * r.val by rw [hi.1]; omega)
  | ⟨1, _⟩ => exact Fin.ext (show k.val = win0_5.index t 1 * 1024 + 1 * k.val by rw [hi.2]; omega)

theorem final5 : (dats m 0 d).arrAt 5 cfg0.N = res (aY m d) (aP m d) (aD m d) (aW m d) (aB m d) :=
  (dats m 0 d).arrAt_eq_of_cover 5 (res (aY m d) (aP m d) (aD m d) (aW m d) (aB m d)) (flushedEq5 m d) fun i => by
    have h0 : (i 0 : Nat) < 4096 := (i 0).isLt
    have h1 : (i 1 : Nat) < 1024 := (i 1).isLt
    have hN : grid0.N = 8 := N_0
    obtain ⟨t, ht⟩ : ∃ t : Fin cfg0.N, t.val = (i 0 : Nat) / 512 := ⟨⟨_, by show _ < grid0.N; omega⟩, rfl⟩
    have hi := index5 t
    refine ⟨t, flush0_5 t, ?_⟩
    show i ∈ ((View.whole main_v2).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [hi.1]; omega
    | ⟨1, _⟩ =>
      show win0_5.index t 1 * 1024 ≤ (i 1 : Nat) ∧ (i 1 : Nat) < win0_5.index t 1 * 1024 + 1024
      rw [hi.2]; omega

theorem run_values : θ_run defs (onTc (τ := τ) (main (F := Ideal))) ⟨m, fun _ => 0, ρ⟩ fun r => ∀ c : Dev nD,
      r.2.mem ((c : Thread nD τ).loc main_v2) = res (aY m c) (aP m c) (aD m c) (aW m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2⟩) (Value.run_blocks m ρ)

section
open Cert.Reference15Ideal.Read Cert.Prod.GluRun
variable (Y : S4096x1024.Idx → EReal) (P : S4096x12288.Idx → EReal) (D : S1x1024.Idx → EReal) (W : S1024x1024.Idx → EReal) (B : S1x1024.Idx → EReal)

theorem ref_g : val_main_v18 (F := Ideal) Y P D = hg (F := Ideal) (hy (F := Ideal) Y P D) := rfl

theorem ref_s : val_main_v27 (F := Ideal) Y P D W B = hs (F := Ideal) (val_main_v18 (F := Ideal) Y P D) W B := rfl

theorem ref_eq : val_main_v29 (F := Ideal) Y P D W B = res Y P D W B := by
  funext i
  obtain ⟨l, j, rfl⟩ : ∃ (l : Fin 4096) (j : Fin 1024), i = ix2 l j := ⟨i 0, i 1, eq_ix2 i⟩
  rw [val_main_v29_apply, val_main_v28_apply, ref_s, ref_g]
  refine congrArg₂ (fun u v : EReal => u * v) ((hg_apply l j _).trans ?_) ((hs_apply l j _ W B).trans ?_)
  · rw [hy_apply]; rfl
  · unfold gs
    simp only [hg_apply, hy_apply]; rfl
end

/-- The kernel's result is the reference's. -/
theorem algebraic : Cert.algebraic_Kernel15Ideal_Reference15Ideal := by
  intro m ρ m' ρ' _ heq
  refine ⟨fun c => res (aY m c) (aP m c) (aD m c) (aW m c) (aB m c), run_values m ρ,
    (θ_run Cert.Reference15Ideal.defs _ _).mono (fun r h c => ?_) (Cert.Reference15Ideal.Value.run (F := Ideal) m' ρ')⟩
  obtain ⟨h0, hargs⟩ := h c
  obtain ⟨a0, a1, a2, a3, a4⟩ := heq c
  refine ⟨h0.trans ?_, hargs⟩
  rw [Cert.Reference15Ideal.Read.val_main_v29_eq, a0, a1, a2, a3, a4]
  exact ref_eq _ _ _ _ _

end Cert.Prod.GluOut

end
-- ==== Proof.Prod.Norm.lean ====
module

public import proofs.«01_k».proof.Proof.Prod.Rms
public import proofs.«01_k».proof.Proof.Gen.Kernel20Ideal.Value
public import proofs.«01_k».proof.Proof.Gen.Reference20Ideal.Read

/-!
# The norm before the MLP

`x / rms(x) · g`, one block of 256 rows at a time, and its transpose.
-/

@[expose] public section

set_option maxRecDepth 16384

noncomputable section

namespace Cert.Prod.Norm

open Cert.Kernel20Ideal Cert.Kernel20Ideal.Gen Idealize.ShloMosaic Idealize.ShloMosaic.TcCoe Idealize.SL.Sem
open Cert.Prod.Rms (rs ms wid)

section
variable (x0 : Vec Ideal S256x2048 .f32) (x1 : Vec Ideal S1x2048 .f32)

theorem out_eq2 : out0_2 (F := Ideal) x0 x1 = k0_pay2 (F := Ideal) x0 x1 := by
  unfold out0_2
  rw [View.canon_unit_zero (by decide), View.ld_unit_zero (S := S256x2048) (by decide), View.ld_unit_zero (S := S1x2048) (by decide)]

theorem out_eq3 : out0_3 (F := Ideal) x0 x1 = k0_pay3 (F := Ideal) x0 x1 := by
  unfold out0_3
  rw [View.canon_unit_zero (by decide), View.ld_unit_zero (S := S256x2048) (by decide), View.ld_unit_zero (S := S1x2048) (by decide)]

theorem pay1_apply (r : Fin 256) (j : Fin 2048) :
    k0_pay1 (F := Ideal) x0 x1 (ix2 r j) = x0 (ix2 r j) * rs (fun l => x0 (ix2 r l)) * x1 (ix2 0 j) := by
  unfold rs ms wid
  pointwise [k0_pay1]

theorem pay2_apply (r : Fin 256) (j : Fin 2048) :
    k0_pay2 (F := Ideal) x0 x1 (ix2 r j) = x0 (ix2 r j) * rs (fun l => x0 (ix2 r l)) * x1 (ix2 0 j) :=
  pay1_apply x0 x1 r j

theorem pay3_apply (r : Fin 256) (j : Fin 2048) :
    k0_pay3 (F := Ideal) x0 x1 (ix2 j r) = x0 (ix2 r j) * rs (fun l => x0 (ix2 r l)) * x1 (ix2 0 j) := by
  rw [← pay1_apply]
  generalize hy : k0_pay1 (F := Ideal) x0 x1 = y
  simp only [k0_pay3, hy]
  pointwise
end

variable (m : (ℓ : Loc nD τ sig) → Buf (Elt Ideal) ℓ) (ρ : Dev nD → PrngReg) (d : Dev nD)

/-- The stream and the gain. -/
abbrev aX : S4096x2048.Idx → EReal := m ((d : Thread nD τ).loc main_arg0)
abbrev aG : S2048.Idx → EReal := m ((d : Thread nD τ).loc main_arg1)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = t.val := by decide +kernel

theorem N16 (t : Fin cfg0.N) : t.val < 16 := lt_of_lt_of_eq t.isLt (show cfg0.N = 16 from N_0)

/-- Row `r` of block `n`. -/
abbrev rw' (n : ℕ) (r : Fin 256) : Fin 4096 := md 4096 (256 * n + r.val)

theorem V0 : V m d main_v0 = broadcastInDim S1x2048 ![1] bcast_S2048_S1x2048_1 (aG m d) := by entry_read; rfl

theorem hostG_apply (g : S2048.Idx → EReal) (j : Fin 2048) :
    broadcastInDim S1x2048 ![1] bcast_S2048_S1x2048_1 g (ix2 0 j) = g (ix1 j) := by
  pointwise

theorem iblk1 (t : Fin cfg0.N) (j : Fin 2048) : (iblk m d 1 t : Vec Ideal S1x2048 .f32) (ix2 0 j) = aG m d (ix1 j) := by
  have hi := index1 t
  unfold iblk
  rw [View.read_apply]
  show V m d main_v0 _ = _
  rw [V0]
  refine Eq.trans ?_ (hostG_apply (aG m d) j)
  refine congrArg (broadcastInDim S1x2048 ![1] bcast_S2048_S1x2048_1 (aG m d)) (funext fun x => ?_)
  match x with
  | ⟨0, _⟩ => exact Fin.ext (show win0_1.index t 0 * 1 + 1 * 0 = 0 by rw [hi.1])
  | ⟨1, _⟩ => exact Fin.ext (show win0_1.index t 1 * 2048 + 1 * j.val = j.val by rw [hi.2]; omega)

theorem iblk0 (t : Fin cfg0.N) (r : Fin 256) (j : Fin 2048) : (iblk m d 0 t : Vec Ideal S256x2048 .f32) (ix2 r j) = aX m d (ix2 (rw' t.val r) j) := by
  have hi := index0 t
  have ht := N16 t
  unfold iblk
  rw [View.read_apply]
  show V m d main_arg0 _ = _
  rw [V_main_arg0]
  refine congrArg (aX m d) (funext fun x => ?_)
  match x with
  | ⟨0, _⟩ => exact Fin.ext (show win0_0.index t 0 * 256 + 1 * r.val = (256 * t.val + r.val) % 4096 by rw [hi.1]; omega)
  | ⟨1, _⟩ => exact Fin.ext (show win0_0.index t 1 * 2048 + 1 * j.val = j.val by rw [hi.2]; omega)

/-- The results: the normalised stream and its transpose. -/
def res (x : S4096x2048.Idx → EReal) (g : S2048.Idx → EReal) : S4096x2048.Idx → EReal :=
  fun i => x i * rs (fun l => x (ix2 (i 0) l)) * g (ix1 (i 1))

def resT (x : S4096x2048.Idx → EReal) (g : S2048.Idx → EReal) : S2048x4096.Idx → EReal :=
  fun i => res x g (ix2 (i 1) (i 0))

/-- One entry of a block of the result. -/
def nb (x : S256x2048.Idx → EReal) (g : S1x2048.Idx → EReal) (r : Fin 256) (j : Fin 2048) : EReal :=
  x (ix2 r j) * rs (fun l => x (ix2 r l)) * g (ix2 0 j)

theorem block (t : Fin cfg0.N) (r : Fin 256) (j : Fin 2048) :
    nb (iblk m d 0 t) (iblk m d 1 t) r j = res (aX m d) (aG m d) (ix2 (rw' t.val r) j) :=
  congrArg₂ (fun a b : EReal => a * b)
    (congrArg₂ (fun a b : EReal => a * b) (iblk0 m d t r j) (congrArg rs (funext fun l => iblk0 m d t r l))) (iblk1 m d t j)

theorem flushedEq2 (t : Fin cfg0.N) (_ : (cfg0.win 2).flush t = true) :
    (dats m 0 d).flushed 2 t = ((cfg0.win 2).blk t).view.read (Elt Ideal) (res (aX m d) (aG m d)) := by
  rw [Value.flushed2, out_eq2]
  have hi := index2 t
  have ht := N16 t
  funext y
  obtain ⟨r, k, rfl⟩ : ∃ (r : Fin 256) (k : Fin 2048), y = ix2 r k := ⟨y 0, y 1, funext fun a => by match a with | ⟨0, _⟩ => rfl | ⟨1, _⟩ => rfl⟩
  rw [View.read_apply]
  refine (pay2_apply _ _ r k).trans ((block m d t r k).trans (congrArg (res (aX m d) (aG m d)) (funext fun x => ?_)))
  match x with
  | ⟨0, _⟩ => exact Fin.ext (show (256 * t.val + r.val) % 4096 = win0_2.index t 0 * 256 + 1 * r.val by rw [hi.1]; omega)
  | ⟨1, _⟩ => exact Fin.ext (show k.val = win0_2.index t 1 * 2048 + 1 * k.val by rw [hi.2]; omega)

theorem flushedEq3 (t : Fin cfg0.N) (_ : (cfg0.win 3).flush t = true) :
    (dats m 0 d).flushed 3 t = ((cfg0.win 3).blk t).view.read (Elt Ideal) (resT (aX m d) (aG m d)) := by
  rw [Value.flushed3, out_eq3]
  have hi := index3 t
  have ht := N16 t
  funext y
  obtain ⟨k, r, rfl⟩ : ∃ (k : Fin 2048) (r : Fin 256), y = ix2 k r := ⟨y 0, y 1, funext fun a => by match a with | ⟨0, _⟩ => rfl | ⟨1, _⟩ => rfl⟩
  rw [View.read_apply]
  refine (pay3_apply _ _ r k).trans ((block m d t r k).trans (congrArg (resT (aX m d) (aG m d)) (a₁ := ix2 k (rw' t.val r)) (funext fun x => ?_)))
  match x with
  | ⟨0, _⟩ => exact Fin.ext (show k.val = win0_3.index t 0 * 2048 + 1 * k.val by rw [hi.1]; omega)
  | ⟨1, _⟩ => exact Fin.ext (show (256 * t.val + r.val) % 4096 = win0_3.index t 1 * 256 + 1 * r.val by rw [hi.2]; omega)

theorem final2 : (dats m 0 d).arrAt 2 cfg0.N = res (aX m d) (aG m d) :=
  (dats m 0 d).arrAt_eq_of_cover 2 (res (aX m d) (aG m d)) (flushedEq2 m d) fun i => by
    have h0 : (i 0 : Nat) < 4096 := (i 0).isLt
    have h1 : (i 1 : Nat) < 2048 := (i 1).isLt
    have hN : grid0.N = 16 := N_0
    obtain ⟨t, ht⟩ : ∃ t : Fin cfg0.N, t.val = (i 0 : Nat) / 256 := ⟨⟨_, by show _ < grid0.N; omega⟩, rfl⟩
    have hi := index2 t
    refine ⟨t, flush0_2 t, ?_⟩
    show i ∈ ((View.whole main_v1_0).slice (win0_2.rect t)).set
    rw [View.set_slice_whole, Rect.mem_set_unit]
    intro a
    match a with
    | ⟨0, _⟩ =>
      show win0_2.index t 0 * 256 ≤ (i 0 : Nat) ∧ (i 0 : Nat) < win0_2.index t 0 * 256 + 256
      rw [hi.1]; omega
    | ⟨1, _⟩ =>
      show win0_2.index t 1 * 2048 ≤ (i 1 : Nat) ∧ (i 1 : Nat) < win0_2.index t 1 * 2048 + 2048
      rw [hi.2]; omega

theorem final3 : (dats m 0 d).arrAt 3 cfg0.N = resT (aX m d) (aG m d) :=
  (dats m 0 d).arrAt_eq_of_cover 3 (resT (aX m d) (aG m d)) (flushedEq3 m d) fun i => by
    have h0 : (i 0 : Nat) < 2048 := (i 0).isLt
    have h1 : (i 1 : Nat) < 4096 := (i 1).isLt
    have hN : grid0.N = 16 := N_0
    obtain ⟨t, ht⟩ : ∃ t : Fin cfg0.N, t.val = (i 1 : Nat) / 256 := ⟨⟨_, by show _ < grid0.N; omega⟩, rfl⟩
    have hi := index3 t
    refine ⟨t, flush0_3 t, ?_⟩
    show i ∈ ((View.whole main_v1_1).slice (win0_3.rect t)).set
    rw [View.set_slice_whole, Rect.mem_set_unit]
    intro a
    match a with
    | ⟨0, _⟩ =>
      show win0_3.index t 0 * 2048 ≤ (i 0 : Nat) ∧ (i 0 : Nat) < win0_3.index t 0 * 2048 + 2048
      rw [hi.1]; omega
    | ⟨1, _⟩ =>
      show win0_3.index t 1 * 256 ≤ (i 1 : Nat) ∧ (i 1 : Nat) < win0_3.index t 1 * 256 + 256
      rw [hi.2]; omega

theorem run_values : θ_run defs (onTc (τ := τ) (main (F := Ideal))) ⟨m, fun _ => 0, ρ⟩ fun r => ∀ c : Dev nD,
      r.2.mem ((c : Thread nD τ).loc main_v1_0) = res (aX m c) (aG m c)
      ∧ r.2.mem ((c : Thread nD τ).loc main_v1_1) = resT (aX m c) (aG m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2.1.trans (final3 m c), (h c).2.2⟩) (Value.run_blocks m ρ)

section
open Cert.Reference20Ideal.Read
variable (X : S4096x2048.Idx → EReal) (G : S2048.Idx → EReal)

theorem r_v7 (i : Cert.Reference20Ideal.S4096x1.Idx) : val_main_v7 (F := Ideal) X i = rs (fun l => X (ix2 (i 0) l)) := by
  rw [val_main_v7_apply, val_main_v6_apply, val_main_v4_apply, val_main_v5_apply, val_main_v3_apply, val_main_v2_apply, val_main_v1_apply,
    val_main_cst_apply, val_main_cst_0_apply, val_main_cst_1_apply]
  refine congrArg (fun z => Ideal.rsqrt (Ideal.div z wid + Ideal.ofBits .f32 0x358637BD#32)) ?_
  refine (congrArg (· + _) Ideal.ofBits_zero_f32).trans ((zero_add _).trans (Finset.sum_congr rfl fun k _ => ?_))
  exact congrArg (fun x : EReal => x * x) (congrArg X (funext fun a => match a with | ⟨0, _⟩ => rfl | ⟨1, _⟩ => rfl))

theorem ref_12 : val_main_v12 (F := Ideal) X G = res X G := by
  funext i
  rw [val_main_v12_apply, val_main_v9_apply, val_main_v8_apply, r_v7, val_main_v11_apply, val_main_v10_apply]
  exact congrArg (fun z => X i * rs (fun l => X (ix2 (i 0) l)) * G z) (funext fun a => match a with | ⟨0, _⟩ => rfl)

theorem ref_eq : val_main_v13 (F := Ideal) X G = res X G := by
  funext i
  rw [val_main_v13_apply, ref_12]; rfl

theorem refT_eq : val_main_v15 (F := Ideal) X G = resT X G := by
  funext i
  rw [val_main_v15_apply, val_main_v14_apply, ref_12]
  exact congrArg (res X G) (funext fun a => match a with | ⟨0, _⟩ => rfl | ⟨1, _⟩ => rfl)
end

/-- The kernel's results are the reference's. -/
theorem algebraic : Cert.algebraic_Kernel20Ideal_Reference20Ideal := by
  intro m ρ m' ρ' _ heq
  refine ⟨fun c => res (aX m c) (aG m c), fun c => resT (aX m c) (aG m c), run_values m ρ,
    (θ_run Cert.Reference20Ideal.defs _ _).mono (fun r h c => ?_) (Cert.Reference20Ideal.Value.run (F := Ideal) m' ρ')⟩
  obtain ⟨h0, h1, hargs⟩ := h c
  obtain ⟨a0, a1⟩ := heq c
  refine ⟨h0.trans ?_, h1.trans ?_, hargs⟩
  · rw [a0, a1, Cert.Reference20Ideal.Read.val_main_v13_eq]
    exact ref_eq _ _
  · rw [a0, a1, Cert.Reference20Ideal.Read.val_main_v15_eq]
    exact refT_eq _ _

end Cert.Prod.Norm

end
-- ==== Proof.Gmlp.Fwd.lean ====
module

public import proofs.«01_k».proof.Proof.Gmlp.Mix
public import proofs.«01_k».proof.Defs
public import proofs.«01_k».proof.Proof.Gen.Kernel19Ideal.Value
public import proofs.«01_k».proof.Proof.Gen.Reference19Ideal.Run
public import proofs.«01_k».proof.Proof.Gen.Reference19Ideal.Read

/-!
# The gating unit, forwards

One block of 256 rows is written by sixteen tiles. Every tile is the first half times the mixed second half, in the words
of the gradient's proof.
-/

@[expose] public section

set_option maxRecDepth 16384

noncomputable section

namespace Cert.Gmlp.Fwd

open Cert.Kernel19Ideal Cert.Kernel19Ideal.Gen Idealize.ShloMosaic Idealize.ShloMosaic.TcCoe Idealize.SL.Sem
open Cert.Gmlp (gelu uR vR vn rstd mixed brow col grp chX gV wV bV cX gA bA wA crow cut slab scrL kG)

/-- The unit's result at a row of a chunk. -/
def fw (X : Fin 128 → Fin 2048 → EReal) (G : Fin 1024 → EReal) (W : Fin 8 → Fin 128 → Fin 128 → EReal) (B : Fin 8 → Fin 128 → EReal)
    (q : Fin 128) (j : Fin 1024) : EReal := uR (X q) j * mixed X G W B q j

/-- The constant of gelu's cubic term is that of the gradient. -/
theorem k_eq : Named.named (F := Ideal) Cert.Kernel19Ideal.κ "gelu_k" (φ := .f32) 0x3D372713#32 = kG := by
  rw [kG_eq]; simp [Named.named, Cert.Kernel19Ideal.κ]

section Tiles
variable (X0 : Vec Ideal S256x2048 .bf16) (X1 : Vec Ideal S1x1024 .f32)

theorem pay4_apply (r : Fin 256) (j : Fin 2048) : k0_pay4 (F := Ideal) X0 (ix2 r j) = gelu (X0 (ix2 r j)) := by
  pointwise [k0_pay4]
  rw [k_eq]
  rfl

theorem pay5_apply (c : Fin 2) (q : Fin 128) (j : Fin 1024) : k0_pay5 (F := Ideal) X0 (ix2 (brow c q) j) = uR (chX X0 c q) j := by
  pointwise [k0_pay5]
  simp only [pay4_apply]
  rfl

theorem pay6_apply (c : Fin 2) (q : Fin 128) (j : Fin 1024) :
    k0_pay6 (F := Ideal) X0 X1 (ix2 (brow c q) j) = vn (chX X0 c q) (gV X1) j := by
  pointwise [k0_pay6]
  simp only [pay4_apply]
  rfl

/-- The lower triangle of a slab. -/
theorem pay8_apply (w : Vec Ideal S1x128x128 .f32) (t s : Fin 128) :
    k0_pay8 (F := Ideal) w (ix2 t s) = if s.val ≤ t.val then w (ix3 0 t s) else 0 := by
  pointwise [k0_pay8, k0_pay7]
  rw [select_sge]

/-- One tile of the result. -/
def outTile (w : Vec Ideal S1x128x128 .f32) (b : Vec Ideal S1x128x1 .f32) (g : ℕ) (h : g < 8) (c : Fin 2) : FVec Ideal S128x128 .bf16 :=
  truncf .bf16 (mulf (cut (k0_pay5 X0) c g h)
    (addf (matmul dot_S128x128_S128x128_S128x128_1_0_0_1_n_n none (k0_pay8 w) (truncf .bf16 (cut (k0_pay6 X0 X1) c g h) bitsLt_bf16_f32) (constant S128x128 .f32 0x00000000#32))
      (broadcastTo S128x128 (shapeCast S128x1 b shapeCasts_S1x128x1_S128x1) broadcasts_S128x1_S128x128))) bitsLt_bf16_f32

theorem outTile_apply (w : Vec Ideal S1x128x128 .f32) (b : Vec Ideal S1x128x1 .f32) (c : Fin 2) (g : ℕ) (h : g < 8) (q k : Fin 128)
    (W : Fin 8 → Fin 128 → Fin 128 → EReal) (B : Fin 8 → Fin 128 → EReal)
    (hw : ∀ t s, w (ix3 0 t s) = W ⟨g, h⟩ t s) (hb : ∀ t, b (ix3 0 t 0) = B ⟨g, h⟩ t) :
    outTile X0 X1 w b g h c (ix2 q k) = fw (chX X0 c) (gV X1) W B q (col ⟨g, h⟩ k) := by
  unfold outTile
  pointwise
  simp only [cut_apply, pay5_apply, pay6_apply, pay8_apply, hw]
  rw [hb]
  unfold fw mixed
  rw [grp_col]
end Tiles

/-- Sixteen tiles, read back: the array of which every tile is the part at its place. -/
theorem canon_scrL {Val : EltTy → Type} [∀ e, Nonempty (Val e)] {e : EltTy} (f : (g : ℕ) → g < 8 → Fin 2 → (⟨2, ![128, 128]⟩ : Shape).Idx → Val e)
    (G : (⟨2, ![256, 1024]⟩ : Shape).Idx → Val e)
    (hG : ∀ g hg c q k, f g hg c (ix2 q k)
      = G (ix2 (⟨128 * c.val + q.val, by omega⟩ : Fin 256) (⟨128 * g + k.val, by omega⟩ : Fin 1024))) :
    View.canon (scrL f 8 le_rfl) = G := by
  funext y
  refine View.canon_apply_of_pieces G _ (scrL_agree f G hG 8 le_rfl) y ?_
  obtain ⟨a, b, rfl⟩ : ∃ (a : Fin 256) (b : Fin 1024), y = ix2 a b := ⟨y 0, y 1, eq_ix2 y⟩
  obtain ⟨c, q, rfl⟩ := row_split a
  obtain ⟨g, k, rfl⟩ := col_split b
  exact scrL_cover f 8 le_rfl c g.val g.isLt q k g.isLt

section Block
variable (x0 : Vec Ideal S256x2048 .bf16) (x1 : Vec Ideal S1x1024 .f32) (x2 : Vec Ideal S8x128x128 .f32) (x3 : Vec Ideal S8x128x1 .f32)

/-- The tile of every chunk and group. -/
def tiles (g : ℕ) (h : g < 8) (c : Fin 2) : (⟨2, ![128, 128]⟩ : Shape).Idx → Elt Ideal .bf16 :=
  outTile x0 x1 (View.ld x2 (slab 128 g h)) (View.ld x3 (slab 1 g h)) g h c

/-- The block of the result, by chunks. -/
def blockFn : (⟨2, ![256, 1024]⟩ : Shape).Idx → Elt Ideal .bf16 := fun y =>
  byChunk (fun c => fw (chX x0 c) (gV x1) (wV x2) (bV x3)) y

theorem blockFn_apply (c : Fin 2) (q : Fin 128) (j : Fin 1024) :
    blockFn x0 x1 x2 x3 (ix2 (brow c q) j) = fw (chX x0 c) (gV x1) (wV x2) (bV x3) q j :=
  byChunk_apply (fun c => fw (chX x0 c) (gV x1) (wV x2) (bV x3)) c q j

theorem tiles_apply (g : ℕ) (h : g < 8) (c : Fin 2) (q k : Fin 128) :
    tiles x0 x1 x2 x3 g h c (ix2 q k) = blockFn x0 x1 x2 x3 (ix2 (brow c q) (col ⟨g, h⟩ k)) := by
  rw [blockFn_apply]
  exact outTile_apply x0 x1 _ _ c g h q k (wV x2) (bV x3) (fun t s => congrArg x2 (slab_emb h t s)) fun t => congrArg x3 (slab_emb h t 0)

/-- The block's sixteen stores are the list of tiles. -/
theorem out_tiles : out0_4 (F := Ideal) x0 x1 x2 x3
    = View.canon (scrL (tiles (View.ld x0 r0_0) (View.ld x1 r0_1) x2 x3) 8 le_rfl) := rfl

theorem out_apply (c : Fin 2) (q : Fin 128) (j : Fin 1024) :
    out0_4 (F := Ideal) x0 x1 x2 x3 (ix2 (brow c q) j) = fw (chX x0 c) (gV x1) (wV x2) (bV x3) q j := by
  rw [out_tiles, View.ld_unit_zero (S := S256x2048) (by decide), View.ld_unit_zero (S := S1x1024) (by decide),
    canon_scrL _ (blockFn x0 x1 x2 x3) (tiles_apply x0 x1 x2 x3)]
  exact blockFn_apply x0 x1 x2 x3 c q j
end Block

variable (m : (ℓ : Loc nD τ sig) → Buf (Elt Ideal) ℓ) (ρ : Dev nD → PrngReg) (d : Dev nD)

/-- The projections, the gain, the matrices and the biases. -/
abbrev aP : Vec Ideal S4096x12288 .bf16 := m ((d : Thread nD τ).loc main_arg0)
abbrev aG : Vec Ideal S1024 .f32 := m ((d : Thread nD τ).loc main_arg1)
abbrev aW : Vec Ideal S8x128x128 .f32 := m ((d : Thread nD τ).loc main_arg2)
abbrev aB : Vec Ideal S8x128 .f32 := m ((d : Thread nD τ).loc main_arg3)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = 0 ∧ win0_3.index t 1 = 0 ∧ win0_3.index t 2 = 0 := by decide +kernel
theorem index4 : ∀ t : Fin grid0.N, win0_4.index t 0 = t.val ∧ win0_4.index t 1 = 0 := by decide +kernel

theorem N16 (t : Fin cfg0.N) : t.val < 16 := lt_of_lt_of_eq t.isLt (show cfg0.N = 16 from N_0)

theorem iblk0 (t : Fin cfg0.N) (k : Fin 2) : chX (iblk m d 0 t) k = cX (aP m d) (2 * t.val + k.val) := by
  funext q j
  have ht := N16 t
  have hi := index0 t
  unfold chX cX iblk
  rw [View.read_apply]
  show V m d main_arg0 _ = _
  rw [V_main_arg0]
  refine congrArg (aP m d) (funext fun a => ?_)
  match a with
  | ⟨0, _⟩ => exact Fin.ext (show win0_0.index t 0 * 256 + 1 * (128 * k.val + q.val) = (128 * (2 * t.val + k.val) + q.val) % 4096 by rw [hi.1]; omega)
  | ⟨1, _⟩ => exact Fin.ext (show win0_0.index t 1 * 2048 + 1 * j.val = j.val by rw [hi.2]; omega)

theorem iblk2 (t : Fin cfg0.N) : wV (iblk m d 2 t) = wA (aW m d) := by
  funext g a b
  have hi := index2 t
  unfold wV wA iblk
  rw [View.read_apply]
  show V m d main_arg2 _ = _
  rw [V_main_arg2]
  refine congrArg (aW m d) (funext fun x => ?_)
  match x with
  | ⟨0, _⟩ => exact Fin.ext (show win0_2.index t 0 * 8 + 1 * g.val = g.val by rw [hi.1]; omega)
  | ⟨1, _⟩ => exact Fin.ext (show win0_2.index t 1 * 128 + 1 * a.val = a.val by rw [hi.2.1]; omega)
  | ⟨2, _⟩ => exact Fin.ext (show win0_2.index t 2 * 128 + 1 * b.val = b.val by rw [hi.2.2]; omega)

theorem V1 : V m d main_v0 = broadcastInDim S1x1024 ![1] bcast_S1024_S1x1024_1 (aG m d) := by entry_read; rfl
theorem V3 : V m d main_v1 = broadcastInDim S8x128x1 ![0, 1] bcast_S8x128_S8x128x1_0_1 (aB m d) := by entry_read; rfl

theorem iblk1 (t : Fin cfg0.N) : gV (iblk m d 1 t) = gA (aG m d) := by
  funext j
  have hi := index1 t
  unfold gV gA iblk
  rw [View.read_apply]
  show V m d main_v0 _ = _
  rw [V1]
  have e : ((cfg0.win 1).blk t).view.emb (ix2 (0 : Fin 1) j) = (ix2 (0 : Fin 1) j : S1x1024.Idx) := funext fun x => by
    match x with
    | ⟨0, _⟩ => exact Fin.ext (show win0_1.index t 0 * 1 + 1 * 0 = 0 by rw [hi.1])
    | ⟨1, _⟩ => exact Fin.ext (show win0_1.index t 1 * 1024 + 1 * j.val = j.val by rw [hi.2]; omega)
  refine (congrArg (broadcastInDim S1x1024 ![1] bcast_S1024_S1x1024_1 (aG m d)) e).trans ?_
  pointwise
  try rfl

theorem iblk3 (t : Fin cfg0.N) : bV (iblk m d 3 t) = bA (aB m d) := by
  funext g k
  have hi := index3 t
  unfold bV bA iblk
  rw [View.read_apply]
  show V m d main_v1 _ = _
  rw [V3]
  have e : ((cfg0.win 3).blk t).view.emb (ix3 g k (0 : Fin 1)) = (ix3 g k (0 : Fin 1) : S8x128x1.Idx) := funext fun x => by
    match x with
    | ⟨0, _⟩ => exact Fin.ext (show win0_3.index t 0 * 8 + 1 * g.val = g.val by rw [hi.1]; omega)
    | ⟨1, _⟩ => exact Fin.ext (show win0_3.index t 1 * 128 + 1 * k.val = k.val by rw [hi.2.1]; omega)
    | ⟨2, _⟩ => exact Fin.ext (show win0_3.index t 2 * 1 + 1 * 0 = 0 by rw [hi.2.2])
  refine (congrArg (broadcastInDim S8x128x1 ![0, 1] bcast_S8x128_S8x128x1_0_1 (aB m d)) e).trans ?_
  pointwise
  try rfl

/-- The result: row `128 n + q` is row `q` of chunk `n`. -/
def res (P : Vec Ideal S4096x12288 .bf16) (G : Vec Ideal S1024 .f32) (W : Vec Ideal S8x128x128 .f32) (B : Vec Ideal S8x128 .f32) :
    S4096x1024.Idx → EReal := fun i =>
  fw (cX P ((i 0).val / 128)) (gA G) (wA W) (bA B) ⟨(i 0).val % 128, Nat.mod_lt _ (by decide)⟩ (i 1)

theorem res_crow (P : Vec Ideal S4096x12288 .bf16) (G : Vec Ideal S1024 .f32) (W : Vec Ideal S8x128x128 .f32) (B : Vec Ideal S8x128 .f32)
    (n : ℕ) (hn : n < 32) (q : Fin 128) (j : Fin 1024) : res P G W B (ix2 (crow n q) j) = fw (cX P n) (gA G) (wA W) (bA B) q j := by
  have h1 : (crow n q).val / 128 = n := by show (128 * n + q.val) % 4096 / 128 = n; omega
  have h2 : (⟨(crow n q).val % 128, Nat.mod_lt _ (by decide)⟩ : Fin 128) = q :=
    Fin.ext (by show (128 * n + q.val) % 4096 % 128 = q.val; omega)
  show fw (cX P ((crow n q).val / 128)) (gA G) (wA W) (bA B) ⟨(crow n q).val % 128, _⟩ j = _
  rw [h1, h2]

theorem flushedEq4 (t : Fin cfg0.N) (_ : (cfg0.win 4).flush t = true) :
    (dats m 0 d).flushed 4 t = ((cfg0.win 4).blk t).view.read (Elt Ideal) (res (aP m d) (aG m d) (aW m d) (aB m d)) := by
  rw [Value.flushed4]
  have hi := index4 t
  have ht := N16 t
  funext y
  obtain ⟨r, k, rfl⟩ : ∃ (r : Fin 256) (k : Fin 1024), y = ix2 r k := ⟨y 0, y 1, funext fun a => by match a with | ⟨0, _⟩ => rfl | ⟨1, _⟩ => rfl⟩
  obtain ⟨c, q, rfl⟩ := row_split r
  rw [View.read_apply]
  refine ((out_apply _ _ _ _ c q k).trans ?_).trans (congrArg (res (aP m d) (aG m d) (aW m d) (aB m d)) (funext fun x => ?_ :
    (ix2 (crow (2 * t.val + c.val) q) k : S4096x1024.Idx) = _))
  · rw [iblk0, iblk1, iblk2, iblk3, res_crow _ _ _ _ _ (by omega)]
  · match x with
    | ⟨0, _⟩ => exact Fin.ext (show (128 * (2 * t.val + c.val) + q.val) % 4096 = win0_4.index t 0 * 256 + 1 * (128 * c.val + q.val) by rw [hi.1]; omega)
    | ⟨1, _⟩ => exact Fin.ext (show k.val = win0_4.index t 1 * 1024 + 1 * k.val by rw [hi.2]; omega)

theorem final4 : (dats m 0 d).arrAt 4 cfg0.N = res (aP m d) (aG m d) (aW m d) (aB m d) :=
  (dats m 0 d).arrAt_eq_of_cover 4 (res (aP m d) (aG m d) (aW m d) (aB m d)) (flushedEq4 m d) fun i => by
    have h0 : (i 0 : Nat) < 4096 := (i 0).isLt
    have h1 : (i 1 : Nat) < 1024 := (i 1).isLt
    have hN : grid0.N = 16 := N_0
    obtain ⟨t, ht⟩ : ∃ t : Fin cfg0.N, t.val = (i 0 : Nat) / 256 := ⟨⟨_, by show _ < grid0.N; omega⟩, rfl⟩
    have hi := index4 t
    refine ⟨t, flush0_4 t, ?_⟩
    show i ∈ ((View.whole main_v2).slice (win0_4.rect t)).set
    rw [View.set_slice_whole, Rect.mem_set_unit]
    intro a
    match a with
    | ⟨0, _⟩ =>
      show win0_4.index t 0 * 256 ≤ (i 0 : Nat) ∧ (i 0 : Nat) < win0_4.index t 0 * 256 + 256
      rw [hi.1]; omega
    | ⟨1, _⟩ =>
      show win0_4.index t 1 * 1024 ≤ (i 1 : Nat) ∧ (i 1 : Nat) < win0_4.index t 1 * 1024 + 1024
      rw [hi.2]; omega

theorem run_values : θ_run defs (onTc (τ := τ) (main (F := Ideal))) ⟨m, fun _ => 0, ρ⟩ fun r => ∀ c : Dev nD,
      r.2.mem ((c : Thread nD τ).loc main_v2) = res (aP m c) (aG m c) (aW m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2⟩) (Value.run_blocks m ρ)

section
open Cert.Reference19Ideal.Read
variable (P : Vec Ideal S4096x12288 .bf16) (G : Vec Ideal S1024 .f32) (W : Vec Ideal S8x128x128 .f32) (B : Vec Ideal S8x128 .f32)

/-! The reference's forward lines are those of the gradient's reference. -/

theorem ref_u : val_main_v16 (F := Ideal) P = Cert.ReferenceIdeal.Read.val_main_v24 (F := Ideal) P := rfl
theorem ref_mix : val_main_v39 (F := Ideal) P G W B = Cert.ReferenceIdeal.Read.val_main_v50 (F := Ideal) P G W B := rfl

theorem ref_eq : val_main_v41 (F := Ideal) P G W B = res P G W B := by
  funext i
  obtain ⟨l, j, rfl⟩ : ∃ (l : Fin 4096) (j : Fin 1024), i = ix2 l j := ⟨i 0, i 1, eq_ix2 i⟩
  obtain ⟨p, rfl⟩ := rowsEquiv.surjective l
  show val_main_v41 (F := Ideal) P G W B (ix2 (crow p.1.val p.2) j) = res P G W B (ix2 (crow p.1.val p.2) j)
  rw [res_crow _ _ _ _ _ p.1.isLt, val_main_v41_apply, val_main_v40_apply, ref_u, ref_mix]
  exact congrArg₂ (fun u v : EReal => u * v) (r_v24 P p.1.val p.2 j) (r_v50 P G W B p.1 p.2 j)
end

/-- The kernel's result is the reference's. -/
theorem algebraic : Cert.algebraic_Kernel19Ideal_Reference19Ideal := by
  intro m ρ m' ρ' _ heq
  refine ⟨fun c => res (aP m c) (aG m c) (aW m c) (aB m c), run_values m ρ,
    (θ_run Cert.Reference19Ideal.defs _ _).mono (fun r h c => ?_) (Cert.Reference19Ideal.Value.run (F := Ideal) m' ρ')⟩
  obtain ⟨h0, hargs⟩ := h c
  obtain ⟨a0, a1, a2, a3⟩ := heq c
  refine ⟨h0.trans ?_, hargs⟩
  rw [Cert.Reference19Ideal.Read.val_main_v41_eq, a0, a1, a2, a3]
  exact ref_eq _ _ _ _

end Cert.Gmlp.Fwd

end
-- ==== Proof.Gmlp.Final.lean ====
module

public import proofs.«01_k».proof.Proof.Gmlp.Arrays

/-!
# The run of the kernel

The four arrays after the run are the four named results, and the arguments are as launched.
-/

@[expose] public section

set_option maxRecDepth 16384

noncomputable section

namespace Cert.Gmlp

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (d : Dev nD)

theorem flush_last {w : Fin cfg0.W} (h : ∀ t : Fin cfg0.N, (cfg0.win w).flush t = true ↔ t.val % 16 = 15) (t : Fin cfg0.N)
    (hf : (cfg0.win w).flush t = true) : t = t0_15 := by
  have := (h t).mp hf
  have := N16 t
  exact Fin.ext (show t.val = 15 by omega)

theorem last : t0_15.val = 15 := rfl

theorem flushedEq7 (t : Fin cfg0.N) (hf : (cfg0.win 7).flush t = true) :
    (dats m 0 d).flushed 7 t = ((cfg0.win 7).blk t).view.read (Elt Ideal) (res7 m d) := by
  obtain rfl := flush_last flush0_7 t hf
  rw [Value.flushed7]
  have hz' : (fun a => win0_7.index t0_15 a * main_v3_1.ty.shape.size a) = fun _ => 0 := funext fun a => by fin_cases a <;> decide
  refine Eq.trans ?_ (Memref.read_access_unit_zero (Elt Ideal) main_v3_1 hz' (fun a => by rw [congrFun hz' a]; simp) (res7 m d)).symm
  show (outsAt0 m d t0_15.val t0_15.isLt).2.1 = res7 m d
  funext y
  obtain ⟨z, j, rfl⟩ : ∃ (z : Fin 1) (j : Fin 1024), y = ix2 z j := ⟨y 0, y 1, funext fun a => by match a with | ⟨0, _⟩ => rfl | ⟨1, _⟩ => rfl⟩
  obtain rfl : z = 0 := Subsingleton.elim _ _
  exact acc7 m d j t0_15.val t0_15.isLt

theorem flushedEq8 (t : Fin cfg0.N) (hf : (cfg0.win 8).flush t = true) :
    (dats m 0 d).flushed 8 t = ((cfg0.win 8).blk t).view.read (Elt Ideal) (res8 m d) := by
  obtain rfl := flush_last flush0_8 t hf
  rw [Value.flushed8]
  have hz' : (fun a => win0_8.index t0_15 a * main_v3_2.ty.shape.size a) = fun _ => 0 := funext fun a => by fin_cases a <;> decide
  refine Eq.trans ?_ (Memref.read_access_unit_zero (Elt Ideal) main_v3_2 hz' (fun a => by rw [congrFun hz' a]; simp) (res8 m d)).symm
  show (outsAt0 m d t0_15.val t0_15.isLt).2.2.1 = res8 m d
  funext y
  obtain ⟨g, a, b, rfl⟩ : ∃ (g : Fin 8) (a b : Fin 128), y = ix3 g a b :=
    ⟨y 0, y 1, y 2, funext fun a => by match a with | ⟨0, _⟩ => rfl | ⟨1, _⟩ => rfl | ⟨2, _⟩ => rfl⟩
  exact acc8 m d g a b t0_15.val t0_15.isLt

theorem flushedEq9 (t : Fin cfg0.N) (hf : (cfg0.win 9).flush t = true) :
    (dats m 0 d).flushed 9 t = ((cfg0.win 9).blk t).view.read (Elt Ideal) (res9 m d) := by
  obtain rfl := flush_last flush0_9 t hf
  rw [Value.flushed9]
  have hz' : (fun a => win0_9.index t0_15 a * main_v3_3.ty.shape.size a) = fun _ => 0 := funext fun a => by fin_cases a <;> decide
  refine Eq.trans ?_ (Memref.read_access_unit_zero (Elt Ideal) main_v3_3 hz' (fun a => by rw [congrFun hz' a]; simp) (res9 m d)).symm
  show (outsAt0 m d t0_15.val t0_15.isLt).2.2.2 = res9 m d
  funext y
  obtain ⟨g, a, z, rfl⟩ : ∃ (g : Fin 8) (a : Fin 128) (z : Fin 1), y = ix3 g a z :=
    ⟨y 0, y 1, y 2, funext fun a => by match a with | ⟨0, _⟩ => rfl | ⟨1, _⟩ => rfl | ⟨2, _⟩ => rfl⟩
  obtain rfl : z = 0 := Subsingleton.elim _ _
  exact acc9 m d g a t0_15.val t0_15.isLt

theorem flush15 {w : Fin cfg0.W} (h : ∀ t : Fin cfg0.N, (cfg0.win w).flush t = true ↔ t.val % 16 = 15) : (cfg0.win w).flush t0_15 = true :=
  (h t0_15).mpr rfl

theorem final7 : (dats m 0 d).arrAt 7 cfg0.N = res7 m d :=
  (dats m 0 d).arrAt_eq_of_cover 7 (res7 m d) (flushedEq7 m d) fun i =>
    ⟨t0_15, flush15 flush0_7, by
      show i ∈ ((View.whole main_v3_1).slice (win0_7.rect t0_15)).set
      rw [View.set_slice_whole, Rect.mem_set_unit]
      intro a
      have h0 : (i 0 : Nat) < 1 := (i 0).isLt
      have h1 : (i 1 : Nat) < 1024 := (i 1).isLt
      match a with
      | ⟨0, _⟩ => exact ⟨Nat.zero_le _, h0⟩
      | ⟨1, _⟩ => exact ⟨Nat.zero_le _, h1⟩⟩

theorem final8 : (dats m 0 d).arrAt 8 cfg0.N = res8 m d :=
  (dats m 0 d).arrAt_eq_of_cover 8 (res8 m d) (flushedEq8 m d) fun i =>
    ⟨t0_15, flush15 flush0_8, by
      show i ∈ ((View.whole main_v3_2).slice (win0_8.rect t0_15)).set
      rw [View.set_slice_whole, Rect.mem_set_unit]
      intro a
      have h0 : (i 0 : Nat) < 8 := (i 0).isLt
      have h1 : (i 1 : Nat) < 128 := (i 1).isLt
      have h2 : (i 2 : Nat) < 128 := (i 2).isLt
      match a with
      | ⟨0, _⟩ => exact ⟨Nat.zero_le _, h0⟩
      | ⟨1, _⟩ => exact ⟨Nat.zero_le _, h1⟩
      | ⟨2, _⟩ => exact ⟨Nat.zero_le _, h2⟩⟩

theorem final9 : (dats m 0 d).arrAt 9 cfg0.N = res9 m d :=
  (dats m 0 d).arrAt_eq_of_cover 9 (res9 m d) (flushedEq9 m d) fun i =>
    ⟨t0_15, flush15 flush0_9, by
      show i ∈ ((View.whole main_v3_3).slice (win0_9.rect t0_15)).set
      rw [View.set_slice_whole, Rect.mem_set_unit]
      intro a
      have h0 : (i 0 : Nat) < 8 := (i 0).isLt
      have h1 : (i 1 : Nat) < 128 := (i 1).isLt
      have h2 : (i 2 : Nat) < 1 := (i 2).isLt
      match a with
      | ⟨0, _⟩ => exact ⟨Nat.zero_le _, h0⟩
      | ⟨1, _⟩ => exact ⟨Nat.zero_le _, h1⟩
      | ⟨2, _⟩ => exact ⟨Nat.zero_le _, h2⟩⟩

theorem index6 : ∀ t : Fin grid0.N, win0_6.index t 0 = t.val ∧ win0_6.index t 1 = 0 := by decide +kernel
theorem flush6 : ∀ t : Fin grid0.N, win0_6.flush t = true := by decide +kernel

theorem flushedEq6 (t : Fin cfg0.N) :
    (dats m 0 d).flushed 6 t = ((cfg0.win 6).blk t).view.read (Elt Ideal) (res6 m d) := by
  rw [Value.flushed6]
  funext y
  have ht := N16 t
  have hx6 := index6 t
  obtain ⟨r, x, rfl⟩ : ∃ (r : Fin 256) (x : Fin 2048), y = ix2 r x := ⟨y 0, y 1, funext fun a => by match a with | ⟨0, _⟩ => rfl | ⟨1, _⟩ => rfl⟩
  rw [View.read_apply]
  show (outsAt0 m d t.val t.isLt).1 (ix2 r x) = res6 m d _
  have e : ((cfg0.win 6).blk t).view.emb (ix2 r x) = (ix2 (⟨256 * t.val + r.val, by omega⟩ : Fin 4096) x : S4096x2048.Idx) := funext fun a => by
    match a with
    | ⟨0, _⟩ => exact Fin.ext (show win0_6.index t 0 * 256 + 1 * r.val = 256 * t.val + r.val by rw [hx6.1]; omega)
    | ⟨1, _⟩ => exact Fin.ext (show win0_6.index t 1 * 2048 + 1 * x.val = x.val by rw [hx6.2]; omega)
  refine Eq.trans ?_ (congrArg (res6 m d) e).symm
  show _ = duvAt _ _ _ _ _ (⟨256 * t.val + r.val, by omega⟩ : Fin 4096) x
  obtain ⟨k, q, rfl⟩ : ∃ (k : Fin 2) (q : Fin 128), r = brow k q :=
    ⟨⟨r.val / 128, by omega⟩, ⟨r.val % 128, by omega⟩, Fin.ext (by show r.val = 128 * (r.val / 128) + r.val % 128; omega)⟩
  have e1 : (256 * t.val + (brow k q).val) / 128 = 2 * t.val + k.val := by show (256 * t.val + (128 * k.val + q.val)) / 128 = _; omega
  have e2 : ∀ h, (⟨(256 * t.val + (brow k q).val) % 128, h⟩ : Fin 128) = q := fun h =>
    Fin.ext (by show (256 * t.val + (128 * k.val + q.val)) % 128 = q.val; omega)
  unfold duvAt
  by_cases hx : x.val < 1024
  · rw [dif_pos hx]
    simp only [e1, e2]
    exact at6_lo m d t k q ⟨x.val, hx⟩
  · rw [dif_neg hx]
    simp only [e1, e2]
    obtain ⟨j, rfl⟩ : ∃ j : Fin 1024, x = hi j := ⟨⟨x.val - 1024, by omega⟩, Fin.ext (by show x.val = 1024 + (x.val - 1024); omega)⟩
    rw [at6_hi m d t k q j]
    congr 1
    exact Fin.ext (by show j.val = 1024 + j.val - 1024; omega)

theorem final6 : (dats m 0 d).arrAt 6 cfg0.N = res6 m d :=
  (dats m 0 d).arrAt_eq_of_cover 6 (res6 m d) (fun t _ => flushedEq6 m d t) fun i => by
    have h0 : (i 0 : Nat) < 4096 := (i 0).isLt
    have h1 : (i 1 : Nat) < 2048 := (i 1).isLt
    have hN : grid0.N = 16 := N_0
    obtain ⟨t, ht⟩ : ∃ t : Fin cfg0.N, t.val = (i 0 : Nat) / 256 := ⟨⟨(i 0 : Nat) / 256, by show _ < grid0.N; omega⟩, rfl⟩
    have hx6 := index6 t
    refine ⟨t, flush6 t, ?_⟩
    show i ∈ ((View.whole main_v3_0).slice (win0_6.rect t)).set
    rw [View.set_slice_whole, Rect.mem_set_unit]
    intro a
    match a with
    | ⟨0, _⟩ =>
      show win0_6.index t 0 * 256 ≤ (i 0 : Nat) ∧ (i 0 : Nat) < win0_6.index t 0 * 256 + 256
      rw [hx6.1]; omega
    | ⟨1, _⟩ =>
      show win0_6.index t 1 * 2048 ≤ (i 1 : Nat) ∧ (i 1 : Nat) < win0_6.index t 1 * 2048 + 2048
      rw [hx6.2]; omega

/-- The kernel's run: the four results, and the arguments as launched. -/
theorem run_values : θ_run defs (onTc (τ := τ) (main (F := Ideal))) ⟨m, fun _ => 0, ρ⟩ fun r => ∀ c : Dev nD,
      r.2.mem ((c : Thread nD τ).loc main_v3_0) = res6 m c
      ∧ r.2.mem ((c : Thread nD τ).loc main_v3_1) = res7 m c
      ∧ r.2.mem ((c : Thread nD τ).loc main_v3_2) = res8 m c
      ∧ r.2.mem ((c : Thread nD τ).loc main_v3_3) = res9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final6 m c), (h c).2.1.trans (final7 m c), (h c).2.2.1.trans (final8 m c),
    (h c).2.2.2.1.trans (final9 m c), (h c).2.2.2.2⟩) (Value.run_blocks m ρ)

end Cert.Gmlp
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference16Ideal.Run
public import proofs.«01_k».proof.Proof.Gen.Reference18Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel17.Frame
public import proofs.«01_k».proof.Proof.Gen.Kernel17Ideal.Value
public import proofs.«01_k».proof.Proof.Gen.Pre_finite17
public import proofs.«01_k».proof.Proof.Gen.Reference17Ideal
public import proofs.«01_k».proof.Proof.Prod.Frames
public import proofs.«01_k».proof.Proof.Prod.Glu
public import proofs.«01_k».proof.Proof.Prod.Dact
public import proofs.«01_k».proof.Proof.Prod.Gmlpout
public import proofs.«01_k».proof.Proof.Prod.Gmlpin
public import proofs.«01_k».proof.Proof.Prod.Dh2
public import proofs.«01_k».proof.Proof.Prod.Gwin
public import proofs.«01_k».proof.Proof.Prod.Dh
public import proofs.«01_k».proof.Proof.Prod.Mlpout
public import proofs.«01_k».proof.Proof.Prod.Proj
public import proofs.«01_k».proof.Proof.Prod.Mlpin
public import proofs.«01_k».proof.Proof.Prod.Dmerged
public import proofs.«01_k».proof.Proof.Prod.Gwout
public import proofs.«01_k».proof.Proof.Prod.Wout
public import proofs.«01_k».proof.Proof.Prod.Gbranch
public import proofs.«01_k».proof.Proof.Prod.Rms
public import proofs.«01_k».proof.Proof.Prod.Merge
public import proofs.«01_k».proof.Proof.Prod.GluOut
public import proofs.«01_k».proof.Proof.Prod.Norm
public import proofs.«01_k».proof.Proof.Gmlp.Fwd
public import proofs.«01_k».proof.Proof.Gmlp.Final
public import proofs.«01_k».proof.Proof.Gmlp.Finite
public import Idealize.ShloMosaic.Adequacy
public import Idealize.ShloMosaic.Init

@[expose] public section

noncomputable section

namespace Cert.Proof

open Idealize.ShloMosaic Idealize.SL.Sem Cert.Kernel

theorem frame_r (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2.2,
    Idealize.ShloMosaic.sem_eq_zero_of_no_sems (by decide) r.2⟩) (Cert.ReferenceIdeal.Value.run (F := Ideal) m ρ)

/-- The two constants are the numbers that they are named for. -/
theorem preserves : Cert.preserves_Kernel_KernelIdeal :=
  ⟨IdealRules.named_const.statement _ _ _ _ _ rfl, IdealRules.named_const.statement _ _ _ _ _ rfl⟩

/-- The kernel's four results are the reference's. -/
theorem algebraic : Cert.algebraic_KernelIdeal_ReferenceIdeal_pre_finite := by
  intro m ρ m' ρ' hpre heq
  have hf := fun c => Cert.Gmlp.finite_of _ _ _ _ _ (hpre c)
  refine ⟨Cert.Gmlp.res6 m, Cert.Gmlp.res7 m, Cert.Gmlp.res8 m, Cert.Gmlp.res9 m, Cert.Gmlp.run_values m ρ, ?_⟩
  refine (θ_run Cert.ReferenceIdeal.defs _ _).mono (fun r h c => ?_) (Cert.ReferenceIdeal.Value.run (F := Ideal) m' ρ')
  obtain ⟨h0, h1, h2, h3, hargs⟩ := h c
  obtain ⟨a0, a1, a2, a3, a4⟩ := heq c
  obtain ⟨f0, f1, f2, f3, f4⟩ := hf c
  refine ⟨h0.trans ?_, h1.trans ?_, h2.trans ?_, h3.trans ?_, hargs⟩
  · rw [Cert.ReferenceIdeal.Read.val_main_v99_eq]
    funext i
    show Cert.ReferenceIdeal.Read.val_main_v99 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) i = _
    rw [a0, a1, a2, a3, a4]
    exact Cert.Gmlp.res0_eq _ _ _ _ _ f0 f1 f2 f3 f4 i
  · rw [Cert.ReferenceIdeal.Read.val_main_v100_eq]
    funext i
    show Cert.ReferenceIdeal.Read.val_main_v100 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) i = _
    rw [a0, a2, a4]
    exact Cert.Gmlp.res1_eq _ _ _ i
  · rw [Cert.ReferenceIdeal.Read.val_main_v64_eq]
    funext i
    show Cert.ReferenceIdeal.Read.val_main_v64 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) i = _
    rw [a0, a1, a4]
    exact Cert.Gmlp.res2_eq _ _ _ i
  · rw [Cert.ReferenceIdeal.Read.val_main_v101_eq]
    funext i
    show Cert.ReferenceIdeal.Read.val_main_v101 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) i = _
    rw [a0, a4]
    exact Cert.Gmlp.res3_eq _ _ i

theorem frame_r2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_r3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_r4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem frame_r5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem frame_r6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem frame_r7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem frame_r8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem frame_r9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem frame_r10 : Cert.quiescent_Reference10Ideal := fun m ρ _ =>
  (θ_run Cert.Reference10Ideal.defs _ _).mono (fun r h => ⟨fun c => (h c).2.2, Idealize.ShloMosaic.sem_eq_zero_of_no_sems (by decide) r.2⟩)
    (Cert.Reference10Ideal.Value.run (F := Ideal) m ρ)

theorem frame_r11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

theorem frame_r12 : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

theorem frame_r13 : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

theorem frame_r14 : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

theorem frame_r16 : Cert.quiescent_Reference16Ideal := fun m ρ _ =>
  (θ_run Cert.Reference16Ideal.defs _ _).mono (fun r h => ⟨fun c => (h c).2.2.2, Idealize.ShloMosaic.sem_eq_zero_of_no_sems (by decide) r.2⟩)
    (Cert.Reference16Ideal.Value.run (F := Ideal) m ρ)

theorem frame_r18 : Cert.quiescent_Reference18Ideal := fun m ρ _ =>
  (θ_run Cert.Reference18Ideal.defs _ _).mono (fun r h => ⟨fun c => (h c).2.2, Idealize.ShloMosaic.sem_eq_zero_of_no_sems (by decide) r.2⟩)
    (Cert.Reference18Ideal.Value.run (F := Ideal) m ρ)

theorem frame_r15 : Cert.quiescent_Reference15Ideal := fun m ρ _ =>
  (θ_run Cert.Reference15Ideal.defs _ _).mono (fun r h => ⟨fun c => (h c).2, Idealize.ShloMosaic.sem_eq_zero_of_no_sems (by decide) r.2⟩)
    (Cert.Reference15Ideal.Value.run (F := Ideal) m ρ)

theorem frame_r19 : Cert.quiescent_Reference19Ideal := fun m ρ _ =>
  (θ_run Cert.Reference19Ideal.defs _ _).mono (fun r h => ⟨fun c => (h c).2, Idealize.ShloMosaic.sem_eq_zero_of_no_sems (by decide) r.2⟩)
    (Cert.Reference19Ideal.Value.run (F := Ideal) m ρ)

theorem frame_r20 : Cert.quiescent_Reference20Ideal := fun m ρ _ =>
  (θ_run Cert.Reference20Ideal.defs _ _).mono (fun r h => ⟨fun c => (h c).2.2, Idealize.ShloMosaic.sem_eq_zero_of_no_sems (by decide) r.2⟩)
    (Cert.Reference20Ideal.Value.run (F := Ideal) m ρ)

theorem frame_r17 : Cert.quiescent_Reference17Ideal := fun m ρ _ =>
  (θ_run Cert.Reference17Ideal.defs _ _).mono (fun r h => ⟨fun c => (h c).2.2.2.2.2, Idealize.ShloMosaic.sem_eq_zero_of_no_sems (by decide) r.2⟩)
    (Cert.Prod.GluRun.run (F := Ideal) m ρ)

theorem preserves17 : Cert.preserves_Kernel17_Kernel17Ideal :=
  ⟨IdealRules.named_const.statement _ _ _ _ _ rfl, IdealRules.named_const.statement _ _ _ _ _ rfl⟩

theorem preserves15 : Cert.preserves_Kernel15_Kernel15Ideal := IdealRules.named_const.statement _ _ _ _ _ rfl

theorem preserves19 : Cert.preserves_Kernel19_Kernel19Ideal := IdealRules.named_const.statement _ _ _ _ _ rfl

theorem claim : Cert.Claim :=
  ⟨Cert.Kernel.Gen.facts, Cert.KernelIdeal.Gen.facts, Cert.ReferenceIdeal.Gen.facts,
    Cert.Prod.facts2, Cert.Kernel2Ideal.Gen.facts, Cert.Reference2Ideal.Gen.facts,
    Cert.Prod.facts3, Cert.Kernel3Ideal.Gen.facts, Cert.Reference3Ideal.Gen.facts,
    Cert.Prod.facts4, Cert.Kernel4Ideal.Gen.facts, Cert.Reference4Ideal.Gen.facts,
    Cert.Prod.facts5, Cert.Kernel5Ideal.Gen.facts, Cert.Reference5Ideal.Gen.facts,
    Cert.Prod.facts6, Cert.Kernel6Ideal.Gen.facts, Cert.Reference6Ideal.Gen.facts,
    Cert.Prod.facts7, Cert.Kernel7Ideal.Gen.facts, Cert.Reference7Ideal.Gen.facts,
    Cert.Prod.facts8, Cert.Kernel8Ideal.Gen.facts, Cert.Reference8Ideal.Gen.facts,
    Cert.Prod.facts9, Cert.Kernel9Ideal.Gen.facts, Cert.Reference9Ideal.Gen.facts,
    Cert.Prod.facts10, Cert.Kernel10Ideal.Gen.facts, Cert.Reference10Ideal.Gen.facts,
    Cert.Prod.facts11, Cert.Kernel11Ideal.Gen.facts, Cert.Reference11Ideal.Gen.facts,
    Cert.Prod.facts12, Cert.Kernel12Ideal.Gen.facts, Cert.Reference12Ideal.Gen.facts,
    Cert.Prod.facts13, Cert.Kernel13Ideal.Gen.facts, Cert.Reference13Ideal.Gen.facts,
    Cert.Prod.facts14, Cert.Kernel14Ideal.Gen.facts, Cert.Reference14Ideal.Gen.facts,
    Cert.Prod.facts16, Cert.Kernel16Ideal.Gen.facts, Cert.Reference16Ideal.Gen.facts,
    Cert.Kernel17.Gen.facts, Cert.Kernel17Ideal.Gen.facts, Cert.Reference17Ideal.Gen.facts,
    Cert.Prod.facts18, Cert.Kernel18Ideal.Gen.facts, Cert.Reference18Ideal.Gen.facts,
    Cert.Kernel15.Gen.facts, Cert.Kernel15Ideal.Gen.facts, Cert.Reference15Ideal.Gen.facts,
    Cert.Kernel19.Gen.facts, Cert.Kernel19Ideal.Gen.facts, Cert.Reference19Ideal.Gen.facts,
    Cert.Prod.facts20, Cert.Kernel20Ideal.Gen.facts, Cert.Reference20Ideal.Gen.facts,
    Cert.Pre_finite.Gen.facts, Cert.Pre_finite17.Gen.facts,
    fun m ρ _ => Cert.Kernel.Gen.frame m ρ, fun m ρ _ => Cert.KernelIdeal.Gen.frame m ρ, fun m ρ _ => Cert.KernelIdeal.Gen.frame m ρ,
    fun m ρ _ => frame_r m ρ, fun m ρ _ => frame_r m ρ,
    Cert.Prod.frame2, fun m ρ _ => Cert.Kernel2Ideal.Gen.frame m ρ, frame_r2,
    Cert.Prod.frame3, fun m ρ _ => Cert.Kernel3Ideal.Gen.frame m ρ, frame_r3,
    Cert.Prod.frame4, fun m ρ _ => Cert.Kernel4Ideal.Gen.frame m ρ, frame_r4,
    Cert.Prod.frame5, fun m ρ _ => Cert.Kernel5Ideal.Gen.frame m ρ, frame_r5,
    Cert.Prod.frame6, fun m ρ _ => Cert.Kernel6Ideal.Gen.frame m ρ, frame_r6,
    Cert.Prod.frame7, fun m ρ _ => Cert.Kernel7Ideal.Gen.frame m ρ, frame_r7,
    Cert.Prod.frame8, fun m ρ _ => Cert.Kernel8Ideal.Gen.frame m ρ, frame_r8,
    Cert.Prod.frame9, fun m ρ _ => Cert.Kernel9Ideal.Gen.frame m ρ, frame_r9,
    Cert.Prod.frame10, fun m ρ _ => Cert.Kernel10Ideal.Gen.frame m ρ, frame_r10,
    Cert.Prod.frame11, fun m ρ _ => Cert.Kernel11Ideal.Gen.frame m ρ, frame_r11,
    Cert.Prod.frame12, fun m ρ _ => Cert.Kernel12Ideal.Gen.frame m ρ, frame_r12,
    Cert.Prod.frame13, fun m ρ _ => Cert.Kernel13Ideal.Gen.frame m ρ, frame_r13,
    Cert.Prod.frame14, fun m ρ _ => Cert.Kernel14Ideal.Gen.frame m ρ, frame_r14,
    Cert.Prod.frame16, fun m ρ _ => Cert.Kernel16Ideal.Gen.frame m ρ, frame_r16,
    fun m ρ _ => Cert.Kernel17.Gen.frame m ρ, fun m ρ _ => Cert.Kernel17Ideal.Gen.frame m ρ, fun m ρ _ => Cert.Kernel17Ideal.Gen.frame m ρ,
    frame_r17, fun m ρ _ => frame_r17 m ρ trivial,
    Cert.Prod.frame18, fun m ρ _ => Cert.Kernel18Ideal.Gen.frame m ρ, frame_r18,
    fun m ρ _ => Cert.Kernel15.Gen.frame m ρ, fun m ρ _ => Cert.Kernel15Ideal.Gen.frame m ρ, frame_r15,
    fun m ρ _ => Cert.Kernel19.Gen.frame m ρ, fun m ρ _ => Cert.Kernel19Ideal.Gen.frame m ρ, frame_r19,
    Cert.Prod.frame20, fun m ρ _ => Cert.Kernel20Ideal.Gen.frame m ρ, frame_r20,
    preserves, algebraic,
    trivial, Cert.Prod.Dact.algebraic,
    trivial, Cert.Prod.Gmlpout.algebraic,
    trivial, Cert.Prod.Gmlpin.algebraic,
    trivial, Cert.Prod.Dh2.algebraic,
    trivial, Cert.Prod.Gwin.algebraic,
    trivial, Cert.Prod.Dh.algebraic,
    trivial, Cert.Prod.Mlpout.algebraic,
    trivial, Cert.Prod.Proj.algebraic,
    trivial, Cert.Prod.Mlpin.algebraic,
    trivial, Cert.Prod.Dmerged.algebraic,
    trivial, Cert.Prod.Gwout.algebraic,
    trivial, Cert.Prod.Wout.algebraic,
    trivial, Cert.Prod.Gbranch.algebraic,
    trivial, Cert.Prod.Rms.algebraic,
    preserves17, Cert.Prod.Glu.algebraic,
    trivial, Cert.Prod.Merge.algebraic,
    preserves15, Cert.Prod.GluOut.algebraic,
    preserves19, Cert.Gmlp.Fwd.algebraic,
    trivial, Cert.Prod.Norm.algebraic⟩

end Cert.Proof

end
